-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Kernel45Ideal_finite_shares [hPre_finite_shares : Cert.Pre_finite_shares.Facts] (m : (ℓ : Loc Cert.Kernel45Ideal.nD Cert.Kernel45Ideal.τ Cert.Kernel45Ideal.sig) → Buf (Elt Ideal) ℓ) : Prop :=
  ∀ c : Dev Cert.Kernel45Ideal.nD,
    (Cert.Pre_finite_shares.fn (F := Ideal) (m ((c.tc : Thread Cert.Kernel45Ideal.nD Cert.Kernel45Ideal.τ).loc Cert.Kernel45Ideal.main_arg0)) (m ((c.tc : Thread Cert.Kernel45Ideal.nD Cert.Kernel45Ideal.τ).loc Cert.Kernel45Ideal.main_arg1))) = (fun _ => 1#1)

def Pre_Reference45Ideal (m : (ℓ : Loc Cert.Reference45Ideal.nD Cert.Reference45Ideal.τ Cert.Reference45Ideal.sig) → Buf (Elt Ideal) ℓ) : Prop :=
  True

def Pre_Reference45Ideal_finite_shares [hPre_finite_shares : Cert.Pre_finite_shares.Facts] (m : (ℓ : Loc Cert.Reference45Ideal.nD Cert.Reference45Ideal.τ Cert.Reference45Ideal.sig) → Buf (Elt Ideal) ℓ) : Prop :=
  ∀ c : Dev Cert.Reference45Ideal.nD,
    (Cert.Pre_finite_shares.fn (F := Ideal) (m ((c.tc : Thread Cert.Reference45Ideal.nD Cert.Reference45Ideal.τ).loc Cert.Reference45Ideal.main_arg0)) (m ((c.tc : Thread Cert.Reference45Ideal.nD Cert.Reference45Ideal.τ).loc Cert.Reference45Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Kernel45Ideal_pre_finite_shares [hKernel45Ideal : Cert.Kernel45Ideal.Facts] [hPre_finite_shares : Cert.Pre_finite_shares.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal_finite_shares m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Reference45Ideal_pre_finite_shares [hReference45Ideal : Cert.Reference45Ideal.Facts] [hPre_finite_shares : Cert.Pre_finite_shares.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal_finite_shares m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v10) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v72) = v0 c
          ∧ r.2.mem ((c.tc : Thread Cert.Reference6Ideal.nD Cert.Reference6Ideal.τ).loc Cert.Reference6Ideal.main_v62) = v1 c
          ∧ r.2.mem ((c.tc : Thread Cert.Reference6Ideal.nD Cert.Reference6Ideal.τ).loc Cert.Reference6Ideal.main_v56) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)) (v1 : (c : Dev Cert.Kernel8Ideal.nD) → Buf (Elt Ideal) ((c.tc : Thread Cert.Kernel8Ideal.nD Cert.Kernel8Ideal.τ).loc Cert.Kernel8Ideal.main_v6)) (v2 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_v7) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5)) (v1 : (c : Dev Cert.Kernel9Ideal.nD) → Buf (Elt Ideal) ((c.tc : Thread Cert.Kernel9Ideal.nD Cert.Kernel9Ideal.τ).loc Cert.Kernel9Ideal.main_v6)) (v2 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_v6) = v1 c
          ∧ r.2.mem ((c.tc : Thread Cert.Kernel9Ideal.nD Cert.Kernel9Ideal.τ).loc Cert.Kernel9Ideal.main_v7) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v6)) (v2 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v6) = v1 c
          ∧ r.2.mem ((c.tc : Thread Cert.Kernel10Ideal.nD Cert.Kernel10Ideal.τ).loc Cert.Kernel10Ideal.main_v7) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5)) (v1 : (c : Dev Cert.Kernel14Ideal.nD) → Buf (Elt Ideal) ((c.tc : Thread Cert.Kernel14Ideal.nD Cert.Kernel14Ideal.τ).loc Cert.Kernel14Ideal.main_v6)) (v2 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_v6) = v1 c
          ∧ r.2.mem ((c.tc : Thread Cert.Kernel14Ideal.nD Cert.Kernel14Ideal.τ).loc Cert.Kernel14Ideal.main_v7) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5)) (v1 : (c : Dev Cert.Kernel16Ideal.nD) → Buf (Elt Ideal) ((c.tc : Thread Cert.Kernel16Ideal.nD Cert.Kernel16Ideal.τ).loc Cert.Kernel16Ideal.main_v6)) (v2 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_v6) = v1 c
          ∧ r.2.mem ((c.tc : Thread Cert.Kernel16Ideal.nD Cert.Kernel16Ideal.τ).loc Cert.Kernel16Ideal.main_v7) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5)) (v1 : (c : Dev Cert.Kernel17Ideal.nD) → Buf (Elt Ideal) ((c.tc : Thread Cert.Kernel17Ideal.nD Cert.Kernel17Ideal.τ).loc Cert.Kernel17Ideal.main_v6)) (v2 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_v6) = v1 c
          ∧ r.2.mem ((c.tc : Thread Cert.Kernel17Ideal.nD Cert.Kernel17Ideal.τ).loc Cert.Kernel17Ideal.main_v7) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5)) (v1 : (c : Dev Cert.Kernel18Ideal.nD) → Buf (Elt Ideal) ((c.tc : Thread Cert.Kernel18Ideal.nD Cert.Kernel18Ideal.τ).loc Cert.Kernel18Ideal.main_v6)) (v2 : (c : Dev Cert.Kernel18Ideal.nD) → Buf (Elt Ideal) ((c.tc : Thread Cert.Kernel18Ideal.nD Cert.Kernel18Ideal.τ).loc Cert.Kernel18Ideal.main_v7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_v6) = v1 c
          ∧ r.2.mem ((c.tc : Thread Cert.Kernel18Ideal.nD Cert.Kernel18Ideal.τ).loc Cert.Kernel18Ideal.main_v7) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5)) (v1 : (c : Dev Cert.Kernel20Ideal.nD) → Buf (Elt Ideal) ((c.tc : Thread Cert.Kernel20Ideal.nD Cert.Kernel20Ideal.τ).loc Cert.Kernel20Ideal.main_v6)) (v2 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_v6) = v1 c
          ∧ r.2.mem ((c.tc : Thread Cert.Kernel20Ideal.nD Cert.Kernel20Ideal.τ).loc Cert.Kernel20Ideal.main_v7) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v5)) (v1 : (c : Dev Cert.Kernel21Ideal.nD) → Buf (Elt Ideal) ((c.tc : Thread Cert.Kernel21Ideal.nD Cert.Kernel21Ideal.τ).loc Cert.Kernel21Ideal.main_v6)) (v2 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_v6) = v1 c
          ∧ r.2.mem ((c.tc : Thread Cert.Kernel21Ideal.nD Cert.Kernel21Ideal.τ).loc Cert.Kernel21Ideal.main_v7) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v7) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v0) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v0) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)) →
    ∃ (v0 : (c : Dev Cert.Kernel41Ideal.nD) → Buf (Elt Ideal) ((c.tc : Thread Cert.Kernel41Ideal.nD Cert.Kernel41Ideal.τ).loc Cert.Kernel41Ideal.main_v9)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v9) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v2) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v0) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v51) = v0 c
          ∧ r.2.mem ((c.tc : Thread Cert.Reference43Ideal.nD Cert.Reference43Ideal.τ).loc Cert.Reference43Ideal.main_v53) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v16) = v0 c
          ∧ r.2.mem ((c.tc : Thread Cert.Reference44Ideal.nD Cert.Reference44Ideal.τ).loc Cert.Reference44Ideal.main_v17) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal_pre_finite_shares [hKernel45Ideal : Cert.Kernel45Ideal.Facts] [hReference45Ideal : Cert.Reference45Ideal.Facts] [hPre_finite_shares : Cert.Pre_finite_shares.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal_finite_shares m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v15)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v15) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v4) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hPre_finite : Cert.Pre_finite.Facts) (hPre_finite_shares : Cert.Pre_finite_shares.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Kernel45Ideal_pre_finite_shares (hKernel45Ideal := hKernel45Ideal) (hPre_finite_shares := hPre_finite_shares)
    ∧ quiescent_Reference45Ideal (hReference45Ideal := hReference45Ideal)
    ∧ quiescent_Reference45Ideal_pre_finite_shares (hReference45Ideal := hReference45Ideal) (hPre_finite_shares := hPre_finite_shares)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal_pre_finite_shares (hKernel45Ideal := hKernel45Ideal) (hReference45Ideal := hReference45Ideal) (hPre_finite_shares := hPre_finite_shares)
-- ==== Pre_finite.lean ====
abbrev S4608x1024 : Shape := ⟨2, ![4608, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4608x1024 : S_.BroadcastsInDim S4608x1024 (![] : Fin 0 → Fin S4608x1024.rank)
  reducesTo_S4608x1024_S_d0_1 : S4608x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4608x1024 .bf16) (main_v4 : IVec S_ 1) (main_v8 : IVec S_ 1) (main_v12 : IVec S_ 1) (main_v15 : IVec S2816x1024 1) (main_c_5 : IVec S_ 1) : IVec S_ 1 :=
  let main_v16 : IVec S_ 1 := (fun x v => Host.reduce IntOp.andi x v reducesTo_S2816x1024_S_d0_1 h_S_) main_v15 main_c_5
  let main_v17 : FVec F S4608x1024 .f32 := (extf .f32 · bitsLt_bf16_f32) main_arg4
  let main_v18 : FVec F S4608x1024 .f32 := Host.absf main_v17
  let main_cst_6 : FVec F S_ .f32 := constant S_ .f32 0x7F800000#32
  let main_v19 : FVec F S4608x1024 .f32 := broadcastInDim S4608x1024 ![] bcast_S_S4608x1024 main_cst_6
  let main_v20 : IVec S4608x1024 1 := cmpf .olt main_v18 main_v19
  let main_c_7 : IVec S_ 1 := constantI S_ 1 1#1
  let main_v21 : IVec S_ 1 := (fun x v => Host.reduce IntOp.andi x v reducesTo_S4608x1024_S_d0_1 h_S_) main_v20 main_c_7
  let main_v22 : IVec S_ 1 := andi main_v4 main_v8
  let main_v23 : IVec S_ 1 := andi main_v22 main_v12
  let main_v24 : IVec S_ 1 := andi main_v23 main_v16
  let main_v25 : IVec S_ 1 := andi main_v24 main_v21
  main_v25

def fn {F : FTy → Type} [FloatOps F] (main_arg0 : FVec F S4608x1024 .bf16) (main_arg1 : FVec F S1024x2816 .f32) (main_arg2 : FVec F S1024x2816 .f32) (main_arg3 : FVec F S2816x1024 .f32) (main_arg4 : FVec F S4608x1024 .bf16) : IVec S_ 1 :=
  let main_v0 : FVec F S4608x1024 .f32 := (extf .f32 · bitsLt_bf16_f32) main_arg0
  let main_v1 : FVec F S4608x1024 .f32 := Host.absf main_v0
  let main_cst : FVec F S_ .f32 := constant S_ .f32 0x7F800000#32
  let main_v2 : FVec F S4608x1024 .f32 := broadcastInDim S4608x1024 ![] bcast_S_S4608x1024 main_cst
  let main_v3 : IVec S4608x1024 1 := cmpf .olt main_v1 main_v2
  let main_c : IVec S_ 1 := constantI S_ 1 1#1
  let main_v4 : IVec S_ 1 := (fun x v => Host.reduce IntOp.andi x v reducesTo_S4608x1024_S_d0_1 h_S_) main_v3 main_c
  let main_v5 : FVec F S1024x2816 .f32 := Host.absf main_arg1
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_c_1 : IVec S_ 1 := constantI S_ 1 1#1
  let main_v8 : IVec S_ 1 := (fun x v => Host.reduce IntOp.andi x v reducesTo_S1024x2816_S_d0_1 h_S_) main_v7 main_c_1
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : FVec F S2816x1024 .f32 := Host.absf main_arg3
  let main_cst_4 : FVec F S_ .f32 := constant S_ .f32 0x7F800000#32
  let main_v14 : FVec F S2816x1024 .f32 := broadcastInDim S2816x1024 ![] bcast_S_S2816x1024 main_cst_4
  let main_v15 : IVec S2816x1024 1 := cmpf .olt main_v13 main_v14
  let main_c_5 : IVec S_ 1 := constantI S_ 1 1#1
  fn_part1 (F := F) main_arg4 main_v4 main_v8 main_v12 main_v15 main_c_5
-- ==== Pre_finite_shares.lean ====
abbrev S8x784x128 : Shape := ⟨3, ![8, 784, 128]⟩
abbrev S1024 : Shape := ⟨1, ![1024]⟩
abbrev S8x8x128 : Shape := ⟨3, ![8, 8, 128]⟩
abbrev S_ : Shape := ⟨0, ![]⟩

class Facts : Prop where
  slices_S8x784x128_S8x8x128_0_760_0 : S8x784x128.Slices ![0, 760, 0] S8x8x128
  bcast_S_S8x8x128 : S_.BroadcastsInDim S8x8x128 (![] : Fin 0 → Fin S8x8x128.rank)
  reducesTo_S8x8x128_S_d0_1_2 : S8x8x128.ReducesTo [0, 1, 2] S_
  h_S_ : 0 < S_.numel

variable [Facts]

def fn {F : FTy → Type} [FloatOps F] (main_arg0 : FVec F S8x784x128 .f32) (main_arg1 : FVec F S1024 .f32) : IVec S_ 1 :=
  let main_v0 : FVec F S8x8x128 .f32 := (extractStridedSlice S8x8x128 ![0, 760, 0] · slices_S8x784x128_S8x8x128_0_760_0) main_arg0
  let main_v1 : FVec F S8x8x128 .f32 := Host.absf main_v0
  let main_cst : FVec F S_ .f32 := constant S_ .f32 0x7F800000#32
  let main_v2 : FVec F S8x8x128 .f32 := broadcastInDim S8x8x128 ![] bcast_S_S8x8x128 main_cst
  let main_v3 : IVec S8x8x128 1 := cmpf .olt main_v1 main_v2
  let main_c : IVec S_ 1 := constantI S_ 1 1#1
  let main_v4 : IVec S_ 1 := (fun x v => Host.reduce IntOp.andi x v reducesTo_S8x8x128_S_d0_1_2 h_S_) main_v3 main_c
  main_v4
-- ==== Kernel.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S1x2816x1024 : Shape := ⟨3, ![1, 2816, 1024]⟩
abbrev S3x2816x1024 : Shape := ⟨3, ![3, 2816, 1024]⟩
abbrev S512x1024 : Shape := ⟨2, ![512, 1024]⟩
abbrev S512x1408 : Shape := ⟨2, ![512, 1408]⟩
abbrev S1x1408x1024 : Shape := ⟨3, ![1, 1408, 1024]⟩
abbrev S1408x1024 : Shape := ⟨2, ![1408, 1024]⟩
abbrev S512x256 : Shape := ⟨2, ![512, 256]⟩
abbrev S512x128 : Shape := ⟨2, ![512, 128]⟩

abbrev nBuf : Space → Nat
  | .hbm => 24
  | .vmem => 21
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x2816, .f32⟩
  | .hbm, ⟨7, _⟩ => ⟨S4608x2816, .bf16⟩
  | .hbm, ⟨8, _⟩ => ⟨S4608x1024, .f32⟩
  | .hbm, ⟨9, _⟩ => ⟨S4608x2816, .f32⟩
  | .hbm, ⟨10, _⟩ => ⟨S4608x2816, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2816x1024, .bf16⟩
  | .hbm, ⟨16, _⟩ => ⟨S1x2816x1024, .bf16⟩
  | .hbm, ⟨17, _⟩ => ⟨S1x2816x1024, .bf16⟩
  | .hbm, ⟨18, _⟩ => ⟨S1x2816x1024, .bf16⟩
  | .hbm, ⟨19, _⟩ => ⟨S3x2816x1024, .bf16⟩
  | .hbm, ⟨20, _⟩ => ⟨S4608x2816, .bf16⟩
  | .hbm, ⟨21, _⟩ => ⟨S4608x2816, .bf16⟩
  | .hbm, ⟨22, _⟩ => ⟨S4608x2816, .bf16⟩
  | .hbm, ⟨23, _⟩ => ⟨S4608x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 2], ![false, false]⟩

def k0_cond2 (i : grid0.Coords) : BitVec 1 :=
  let arg1 : BitVec 32 := BitVec.ofNat 32 (i 1).val
  let c1_i32 : BitVec 32 := 1#32
  let v204 : BitVec 1 := Scalar.cmpi .eq arg1 c1_i32
  let v205 : BitVec 32 := Scalar.extui v204
  let c0_i32_102 : BitVec 32 := 0#32
  let v206 : BitVec 1 := Scalar.cmpi .ne v205 c0_i32_102
  v206

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S4608x2816, .f32⟩
  | .hbm, ⟨11, _⟩ => ⟨S_, .f32⟩
  | .hbm, ⟨12, _⟩ => ⟨S4608x2816, .f32⟩
  | .hbm, ⟨13, _⟩ => ⟨S4608x2816, .f32⟩
  | .hbm, ⟨14, _⟩ => ⟨S_, .f32⟩
  | .hbm, ⟨15, _⟩ => ⟨S4608x2816, .f32⟩
  | .hbm, ⟨16, _⟩ => ⟨S4608x2816, .f32⟩
  | .hbm, ⟨17, _⟩ => ⟨S_, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S4608x2816, .f32⟩
  | .hbm, ⟨23, _⟩ => ⟨S4608x1024, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S4608x2816, .f32⟩
  | .hbm, ⟨31, _⟩ => ⟨S4608x2816, .f32⟩
  | .hbm, ⟨32, _⟩ => ⟨S4608x2816, .f32⟩
  | .hbm, ⟨33, _⟩ => ⟨S_, .f32⟩
  | .hbm, ⟨34, _⟩ => ⟨S4608x2816, .f32⟩
  | .hbm, ⟨35, _⟩ => ⟨S4608x2816, .f32⟩
  | .hbm, ⟨36, _⟩ => ⟨S_, .f32⟩
  | .hbm, ⟨37, _⟩ => ⟨S4608x2816, .f32⟩
  | .hbm, ⟨38, _⟩ => ⟨S4608x2816, .f32⟩
  | .hbm, ⟨39, _⟩ => ⟨S4608x2816, .f32⟩
  | .hbm, ⟨40, _⟩ => ⟨S4608x2816, .f32⟩
  | .hbm, ⟨41, _⟩ => ⟨S4608x2816, .f32⟩
  | .hbm, ⟨42, _⟩ => ⟨S4608x2816, .f32⟩
  | .hbm, ⟨43, _⟩ => ⟨S4608x2816, .f32⟩
  | .hbm, ⟨44, _⟩ => ⟨S_, .f32⟩
  | .hbm, ⟨45, _⟩ => ⟨S4608x2816, .f32⟩
  | .hbm, ⟨46, _⟩ => ⟨S4608x2816, .f32⟩
  | .hbm, ⟨47, _⟩ => ⟨S_, .f32⟩
  | .hbm, ⟨48, _⟩ => ⟨S4608x2816, .f32⟩
  | .hbm, ⟨49, _⟩ => ⟨S4608x2816, .f32⟩
  | .hbm, ⟨50, _⟩ => ⟨S_, .f32⟩
  | .hbm, ⟨51, _⟩ => ⟨S4608x2816, .f32⟩
  | .hbm, ⟨52, _⟩ => ⟨S4608x2816, .f32⟩
  | .hbm, ⟨53, _⟩ => ⟨S4608x2816, .f32⟩
  | .hbm, ⟨54, _⟩ => ⟨S4608x2816, .f32⟩
  | .hbm, ⟨55, _⟩ => ⟨S4608x2816, .f32⟩
  | .hbm, ⟨56, _⟩ => ⟨S4608x2816, .f32⟩
  | .hbm, ⟨57, _⟩ => ⟨S4608x1024, .f32⟩
  | .hbm, ⟨58, _⟩ => ⟨S4608x2816, .f32⟩
  | .hbm, ⟨59, _⟩ => ⟨S4608x2816, .f32⟩
  | .hbm, ⟨60, _⟩ => ⟨S4608x2816, .f32⟩
  | .hbm, ⟨61, _⟩ => ⟨S4608x1024, .f32⟩
  | .hbm, ⟨62, _⟩ => ⟨S4608x2816, .f32⟩
  | .hbm, ⟨63, _⟩ => ⟨S4608x2816, .f32⟩
  | .hbm, ⟨64, _⟩ => ⟨S4608x2816, .f32⟩
  | .hbm, ⟨65, _⟩ => ⟨S4608x2816, .f32⟩
  | .hbm, ⟨66, _⟩ => ⟨S4608x1024, .f32⟩
  | .hbm, ⟨67, _⟩ => ⟨S4608x1024, .f32⟩
  | .hbm, ⟨68, _⟩ => ⟨S4608x2816, .bf16⟩
  | .hbm, ⟨69, _⟩ => ⟨S4608x2816, .bf16⟩
  | .hbm, ⟨70, _⟩ => ⟨S4608x2816, .bf16⟩
  | .hbm, ⟨71, _⟩ => ⟨S4608x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call3_v0 : Ref sig .tc := ⟨.hbm, 42, rfl⟩
abbrev main_call3_v1 : Ref sig .tc := ⟨.hbm, 43, rfl⟩
abbrev main_call3_cst : Ref sig .tc := ⟨.hbm, 44, rfl⟩
abbrev main_call3_v2 : Ref sig .tc := ⟨.hbm, 45, rfl⟩
abbrev main_call3_v3 : Ref sig .tc := ⟨.hbm, 46, rfl⟩
abbrev main_call3_cst_0 : Ref sig .tc := ⟨.hbm, 47, rfl⟩
abbrev main_call3_v4 : Ref sig .tc := ⟨.hbm, 48, rfl⟩
abbrev main_v14_2 : Ref sig .tc := ⟨.hbm, 49, rfl⟩
abbrev main_call3_cst_1 : Ref sig .tc := ⟨.hbm, 50, rfl⟩
abbrev main_call3_v6 : Ref sig .tc := ⟨.hbm, 51, rfl⟩
abbrev main_call3_v7 : Ref sig .tc := ⟨.hbm, 52, rfl⟩
abbrev main_v14_1 : Ref sig .tc := ⟨.hbm, 53, rfl⟩
abbrev main_v14_0 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩

abbrev nD : Nat := 1
abbrev τ : Topo := Topo.v7x

variable {F : FTy → Type} [FloatOps F]
-- ==== Kernel2.lean ====
abbrev S4608x1024 : Shape := ⟨2, ![4608, 1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S4608x2816 : Shape := ⟨2, ![4608, 2816]⟩
abbrev S768x1024 : Shape := ⟨2, ![768, 1024]⟩
abbrev S1x1408x1024 : Shape := ⟨3, ![1, 1408, 1024]⟩
abbrev S768x1408 : Shape := ⟨2, ![768, 1408]⟩
abbrev S1x256x1024 : Shape := ⟨3, ![1, 256, 1024]⟩
abbrev S256x1024 : Shape := ⟨2, ![256, 1024]⟩
abbrev S768x256 : Shape := ⟨2, ![768, 256]⟩
abbrev S1x128x1024 : Shape := ⟨3, ![1, 128, 1024]⟩
abbrev S128x1024 : Shape := ⟨2, ![128, 1024]⟩
abbrev S768x128 : Shape := ⟨2, ![768, 128]⟩

abbrev nBuf : Space → Nat
  | .hbm => 16
  | .vmem => 15
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S2816x1024, .bf16⟩
  | .hbm, ⟨9, _⟩ => ⟨S1x2816x1024, .bf16⟩
  | .hbm, ⟨10, _⟩ => ⟨S1x2816x1024, .bf16⟩
  | .hbm, ⟨11, _⟩ => ⟨S1x2816x1024, .bf16⟩
  | .hbm, ⟨12, _⟩ => ⟨S3x2816x1024, .bf16⟩
  | .hbm, ⟨13, _⟩ => ⟨S4608x2816, .bf16⟩
  | .hbm, ⟨14, _⟩ => ⟨S4608x2816, .bf16⟩
  | .hbm, ⟨15, _⟩ => ⟨S4608x1024, .bf16⟩
  | .local _ .vmem, ⟨0, _⟩ => ⟨S768x1024, .bf16⟩
  | .local _ .vmem, ⟨1, _⟩ => ⟨S768x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | .local _ .vmem, ⟨12, _⟩ => ⟨S768x1024, .bf16⟩
  | .local _ .vmem, ⟨13, _⟩ => ⟨S768x1024, .bf16⟩
  | .local _ .vmem, ⟨14, _⟩ => ⟨S768x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 2], ![false, false]⟩

def k0_cond2 (i : grid0.Coords) : BitVec 1 :=
  let arg1 : BitVec 32 := BitVec.ofNat 32 (i 1).val
  let c1_i32 : BitVec 32 := 1#32
  let v147 : BitVec 1 := Scalar.cmpi .eq arg1 c1_i32
  let v148 : BitVec 32 := Scalar.extui v147
  let c0_i32_110 : BitVec 32 := 0#32
  let v149 : BitVec 1 := Scalar.cmpi .ne v148 c0_i32_110
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .f32⟩
  | .hbm, ⟨5, _⟩ => ⟨S4608x2816, .f32⟩
  | .hbm, ⟨6, _⟩ => ⟨S4608x2816, .bf16⟩
  | .hbm, ⟨7, _⟩ => ⟨S4608x2816, .f32⟩
  | .hbm, ⟨8, _⟩ => ⟨S4608x2816, .bf16⟩
  | .hbm, ⟨9, _⟩ => ⟨S4608x2816, .f32⟩
  | .hbm, ⟨10, _⟩ => ⟨S4608x2816, .f32⟩
  | .hbm, ⟨11, _⟩ => ⟨S4608x2816, .f32⟩
  | .hbm, ⟨12, _⟩ => ⟨S_, .f32⟩
  | .hbm, ⟨13, _⟩ => ⟨S4608x2816, .f32⟩
  | .hbm, ⟨14, _⟩ => ⟨S4608x2816, .f32⟩
  | .hbm, ⟨15, _⟩ => ⟨S_, .f32⟩
  | .hbm, ⟨16, _⟩ => ⟨S4608x2816, .f32⟩
  | .hbm, ⟨17, _⟩ => ⟨S4608x2816, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x1024, .f32⟩
  | .hbm, ⟨22, _⟩ => ⟨S4608x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩
abbrev S2304x1408 : Shape := ⟨2, ![2304, 1408]⟩
abbrev S2304x1024 : Shape := ⟨2, ![2304, 1024]⟩
abbrev S1408x1024 : Shape := ⟨2, ![1408, 1024]⟩

abbrev nBuf : Space → Nat
  | .hbm => 45
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S4608x2816, .f32⟩
  | .hbm, ⟨11, _⟩ => ⟨S_, .f32⟩
  | .hbm, ⟨12, _⟩ => ⟨S4608x2816, .f32⟩
  | .hbm, ⟨13, _⟩ => ⟨S4608x2816, .f32⟩
  | .hbm, ⟨14, _⟩ => ⟨S_, .f32⟩
  | .hbm, ⟨15, _⟩ => ⟨S4608x2816, .f32⟩
  | .hbm, ⟨16, _⟩ => ⟨S4608x2816, .f32⟩
  | .hbm, ⟨17, _⟩ => ⟨S_, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S4608x2816, .f32⟩
  | .hbm, ⟨23, _⟩ => ⟨S4608x1024, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S4608x2816, .f32⟩
  | .hbm, ⟨31, _⟩ => ⟨S4608x2816, .bf16⟩
  | .hbm, ⟨32, _⟩ => ⟨S4608x2816, .bf16⟩
  | .hbm, ⟨33, _⟩ => ⟨S4608x2816, .f32⟩
  | .hbm, ⟨34, _⟩ => ⟨S4608x2816, .f32⟩
  | .hbm, ⟨35, _⟩ => ⟨S_, .f32⟩
  | .hbm, ⟨36, _⟩ => ⟨S4608x2816, .f32⟩
  | .hbm, ⟨37, _⟩ => ⟨S4608x2816, .f32⟩
  | .hbm, ⟨38, _⟩ => ⟨S_, .f32⟩
  | .hbm, ⟨39, _⟩ => ⟨S4608x2816, .f32⟩
  | .hbm, ⟨40, _⟩ => ⟨S4608x2816, .f32⟩
  | .hbm, ⟨41, _⟩ => ⟨S4608x2816, .f32⟩
  | .hbm, ⟨42, _⟩ => ⟨S4608x2816, .f32⟩
  | .hbm, ⟨43, _⟩ => ⟨S4608x2816, .bf16⟩
  | .hbm, ⟨44, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S2304x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S_, .f32⟩
  | .hbm, ⟨11, _⟩ => ⟨S4608x2816, .f32⟩
  | .hbm, ⟨12, _⟩ => ⟨S4608x2816, .f32⟩
  | .hbm, ⟨13, _⟩ => ⟨S_, .f32⟩
  | .hbm, ⟨14, _⟩ => ⟨S4608x2816, .f32⟩
  | .hbm, ⟨15, _⟩ => ⟨S4608x2816, .f32⟩
  | .hbm, ⟨16, _⟩ => ⟨S_, .f32⟩
  | .hbm, ⟨17, _⟩ => ⟨S4608x2816, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S4608x2816, .f32⟩
  | .hbm, ⟨23, _⟩ => ⟨S4608x1024, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S2816x1024, .f32⟩
  | .hbm, ⟨31, _⟩ => ⟨S1024x2816, .f32⟩
  | .hbm, ⟨32, _⟩ => ⟨S2816x1024, .f32⟩
  | .hbm, ⟨33, _⟩ => ⟨S2816x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Kernel4.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩
abbrev S2304x1408 : Shape := ⟨2, ![2304, 1408]⟩
abbrev S2304x1024 : Shape := ⟨2, ![2304, 1024]⟩
abbrev S1408x1024 : Shape := ⟨2, ![1408, 1024]⟩

abbrev nBuf : Space → Nat
  | .hbm => 45
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S4608x2816, .f32⟩
  | .hbm, ⟨11, _⟩ => ⟨S_, .f32⟩
  | .hbm, ⟨12, _⟩ => ⟨S4608x2816, .f32⟩
  | .hbm, ⟨13, _⟩ => ⟨S4608x2816, .f32⟩
  | .hbm, ⟨14, _⟩ => ⟨S_, .f32⟩
  | .hbm, ⟨15, _⟩ => ⟨S4608x2816, .f32⟩
  | .hbm, ⟨16, _⟩ => ⟨S4608x2816, .f32⟩
  | .hbm, ⟨17, _⟩ => ⟨S_, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S4608x2816, .f32⟩
  | .hbm, ⟨23, _⟩ => ⟨S4608x1024, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S4608x2816, .f32⟩
  | .hbm, ⟨31, _⟩ => ⟨S4608x2816, .bf16⟩
  | .hbm, ⟨32, _⟩ => ⟨S4608x2816, .bf16⟩
  | .hbm, ⟨33, _⟩ => ⟨S4608x2816, .f32⟩
  | .hbm, ⟨34, _⟩ => ⟨S4608x2816, .f32⟩
  | .hbm, ⟨35, _⟩ => ⟨S_, .f32⟩
  | .hbm, ⟨36, _⟩ => ⟨S4608x2816, .f32⟩
  | .hbm, ⟨37, _⟩ => ⟨S4608x2816, .f32⟩
  | .hbm, ⟨38, _⟩ => ⟨S_, .f32⟩
  | .hbm, ⟨39, _⟩ => ⟨S4608x2816, .f32⟩
  | .hbm, ⟨40, _⟩ => ⟨S4608x2816, .f32⟩
  | .hbm, ⟨41, _⟩ => ⟨S4608x2816, .f32⟩
  | .hbm, ⟨42, _⟩ => ⟨S4608x2816, .f32⟩
  | .hbm, ⟨43, _⟩ => ⟨S4608x2816, .bf16⟩
  | .hbm, ⟨44, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S2304x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S_, .f32⟩
  | .hbm, ⟨11, _⟩ => ⟨S4608x2816, .f32⟩
  | .hbm, ⟨12, _⟩ => ⟨S4608x2816, .f32⟩
  | .hbm, ⟨13, _⟩ => ⟨S_, .f32⟩
  | .hbm, ⟨14, _⟩ => ⟨S4608x2816, .f32⟩
  | .hbm, ⟨15, _⟩ => ⟨S4608x2816, .f32⟩
  | .hbm, ⟨16, _⟩ => ⟨S4608x2816, .f32⟩
  | .hbm, ⟨17, _⟩ => ⟨S4608x2816, .f32⟩
  | .hbm, ⟨18, _⟩ => ⟨S4608x2816, .f32⟩
  | .hbm, ⟨19, _⟩ => ⟨S4608x1024, .f32⟩
  | .hbm, ⟨20, _⟩ => ⟨S4608x2816, .f32⟩
  | .hbm, ⟨21, _⟩ => ⟨S4608x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Kernel5.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩
abbrev S2304x1408 : Shape := ⟨2, ![2304, 1408]⟩
abbrev S2304x1024 : Shape := ⟨2, ![2304, 1024]⟩
abbrev S1408x1024 : Shape := ⟨2, ![1408, 1024]⟩

abbrev nBuf : Space → Nat
  | .hbm => 45
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S4608x2816, .f32⟩
  | .hbm, ⟨11, _⟩ => ⟨S_, .f32⟩
  | .hbm, ⟨12, _⟩ => ⟨S4608x2816, .f32⟩
  | .hbm, ⟨13, _⟩ => ⟨S4608x2816, .f32⟩
  | .hbm, ⟨14, _⟩ => ⟨S_, .f32⟩
  | .hbm, ⟨15, _⟩ => ⟨S4608x2816, .f32⟩
  | .hbm, ⟨16, _⟩ => ⟨S4608x2816, .f32⟩
  | .hbm, ⟨17, _⟩ => ⟨S_, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S4608x2816, .f32⟩
  | .hbm, ⟨23, _⟩ => ⟨S4608x1024, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S4608x2816, .f32⟩
  | .hbm, ⟨31, _⟩ => ⟨S4608x2816, .bf16⟩
  | .hbm, ⟨32, _⟩ => ⟨S4608x2816, .bf16⟩
  | .hbm, ⟨33, _⟩ => ⟨S4608x2816, .f32⟩
  | .hbm, ⟨34, _⟩ => ⟨S4608x2816, .f32⟩
  | .hbm, ⟨35, _⟩ => ⟨S_, .f32⟩
  | .hbm, ⟨36, _⟩ => ⟨S4608x2816, .f32⟩
  | .hbm, ⟨37, _⟩ => ⟨S4608x2816, .f32⟩
  | .hbm, ⟨38, _⟩ => ⟨S_, .f32⟩
  | .hbm, ⟨39, _⟩ => ⟨S4608x2816, .f32⟩
  | .hbm, ⟨40, _⟩ => ⟨S4608x2816, .f32⟩
  | .hbm, ⟨41, _⟩ => ⟨S4608x2816, .f32⟩
  | .hbm, ⟨42, _⟩ => ⟨S4608x2816, .f32⟩
  | .hbm, ⟨43, _⟩ => ⟨S4608x2816, .bf16⟩
  | .hbm, ⟨44, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S2304x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4608x1024 : Shape := ⟨2, ![4608, 1024]⟩
abbrev S1024x2816 : Shape := ⟨2, ![1024, 2816]⟩
abbrev S2816x1024 : Shape := ⟨2, ![2816, 1024]⟩
abbrev S4608x2816 : Shape := ⟨2, ![4608, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4608x1024, .bf16⟩
  | .hbm, ⟨5, _⟩ => ⟨S4608x1024, .f32⟩
  | .hbm, ⟨6, _⟩ => ⟨S4608x1024, .f32⟩
  | .hbm, ⟨7, _⟩ => ⟨S4608x2816, .f32⟩
  | .hbm, ⟨8, _⟩ => ⟨S4608x2816, .f32⟩
  | .hbm, ⟨9, _⟩ => ⟨S4608x2816, .f32⟩
  | .hbm, ⟨10, _⟩ => ⟨S_, .f32⟩
  | .hbm, ⟨11, _⟩ => ⟨S4608x2816, .f32⟩
  | .hbm, ⟨12, _⟩ => ⟨S4608x2816, .f32⟩
  | .hbm, ⟨13, _⟩ => ⟨S_, .f32⟩
  | .hbm, ⟨14, _⟩ => ⟨S4608x2816, .f32⟩
  | .hbm, ⟨15, _⟩ => ⟨S4608x2816, .f32⟩
  | .hbm, ⟨16, _⟩ => ⟨S4608x2816, .f32⟩
  | .hbm, ⟨17, _⟩ => ⟨S4608x2816, .f32⟩
  | .hbm, ⟨18, _⟩ => ⟨S4608x2816, .f32⟩
  | .hbm, ⟨19, _⟩ => ⟨S4608x1024, .f32⟩
  | .hbm, ⟨20, _⟩ => ⟨S1024x2816, .f32⟩
  | .hbm, ⟨21, _⟩ => ⟨S2816x1024, .f32⟩
  | .hbm, ⟨22, _⟩ => ⟨S2816x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel6.lean ====
abbrev S4608x1280 : Shape := ⟨2, ![4608, 1280]⟩
abbrev S4x128x128 : Shape := ⟨3, ![4, 128, 128]⟩
abbrev S1x512 : Shape := ⟨2, ![1, 512]⟩
abbrev S4608x1024 : Shape := ⟨2, ![4608, 1024]⟩
abbrev S4096x512 : Shape := ⟨2, ![4096, 512]⟩
abbrev S2048x128 : Shape := ⟨2, ![2048, 128]⟩
abbrev S2048x512 : Shape := ⟨2, ![2048, 512]⟩
abbrev S2048x1 : Shape := ⟨2, ![2048, 1]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 7
  | .vmem => 16
  | .smem => 0
  | _ => 0

abbrev bufTy : (tb : Table) → Fin (tcTables nBuf tb) → BufTy
  | .hbm, ⟨0, _⟩ => ⟨S4608x1280, .bf16⟩
  | .hbm, ⟨1, _⟩ => ⟨S4x128x128, .f32⟩
  | .hbm, ⟨2, _⟩ => ⟨S1x512, .f32⟩
  | .hbm, ⟨3, _⟩ => ⟨S4608x1024, .bf16⟩
  | .hbm, ⟨4, _⟩ => ⟨S4096x512, .bf16⟩
  | .hbm, ⟨5, _⟩ => ⟨S4x128x128, .f32⟩
  | .hbm, ⟨6, _⟩ => ⟨S1x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S4x128x128, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S4x128x128, .f32⟩
  | .local _ .vmem, ⟨15, _⟩ => ⟨S1x512, .f32⟩
  | _, _ => ⟨S4608x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c6_i32 : BitVec 32 := 6#32
  let c0_i32_0 : BitVec 32 := 0#32
  ![v0.toNat, c6_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c7_i32 : BitVec 32 := 7#32
  let c0_i32_0 : BitVec 32 := 0#32
  ![v0.toNat, c7_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c8_i32 : BitVec 32 := 8#32
  let c0_i32_0 : BitVec 32 := 0#32
  ![v0.toNat, c8_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c9_i32 : BitVec 32 := 9#32
  let c0_i32_0 : BitVec 32 := 0#32
  ![v0.toNat, c9_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4608x1280 : Shape := ⟨2, ![4608, 1280]⟩
abbrev S4x128x128 : Shape := ⟨3, ![4, 128, 128]⟩
abbrev S1x512 : Shape := ⟨2, ![1, 512]⟩
abbrev S4608x1024 : Shape := ⟨2, ![4608, 1024]⟩
abbrev S4 : Shape := ⟨1, ![4]⟩
abbrev S4096x512 : Shape := ⟨2, ![4096, 512]⟩
abbrev S2x2048x512 : Shape := ⟨3, ![2, 2048, 512]⟩
abbrev S2048 : Shape := ⟨1, ![2048]⟩
abbrev S4x1 : Shape := ⟨2, ![4, 1]⟩
abbrev S1x2048 : Shape := ⟨2, ![1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S4x2048x2048 : Shape := ⟨3, ![4, 2048, 2048]⟩
abbrev S2x2048x4x128 : Shape := ⟨4, ![2, 2048, 4, 128]⟩
abbrev S4x2x128x2048 : Shape := ⟨4, ![4, 2, 128, 2048]⟩
abbrev S2048x4 : Shape := ⟨2, ![2048, 4]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S512 : Shape := ⟨1, ![512]⟩
abbrev S4x2x2048x128 : Shape := ⟨4, ![4, 2, 2048, 128]⟩

abbrev nBuf : Space → Nat
  | .hbm => 83
  | .vmem => 0
  | .smem => 0
  | _ => 0

abbrev bufTy : (tb : Table) → Fin (tcTables nBuf tb) → BufTy
  | .hbm, ⟨0, _⟩ => ⟨S4608x1280, .bf16⟩
  | .hbm, ⟨1, _⟩ => ⟨S4x128x128, .f32⟩
  | .hbm, ⟨2, _⟩ => ⟨S1x512, .f32⟩
  | .hbm, ⟨3, _⟩ => ⟨S4608x1024, .bf16⟩
  | .hbm, ⟨4, _⟩ => ⟨S4, .i32⟩
  | .hbm, ⟨5, _⟩ => ⟨S4096x512, .bf16⟩
  | .hbm, ⟨6, _⟩ => ⟨S4096x512, .f32⟩
  | .hbm, ⟨7, _⟩ => ⟨S2x2048x512, .f32⟩
  | .hbm, ⟨8, _⟩ => ⟨S4096x512, .bf16⟩
  | .hbm, ⟨9, _⟩ => ⟨S4096x512, .f32⟩
  | .hbm, ⟨10, _⟩ => ⟨S2x2048x512, .f32⟩
  | .hbm, ⟨11, _⟩ => ⟨S2048, .i32⟩
  | .hbm, ⟨12, _⟩ => ⟨S4x1, .i32⟩
  | .hbm, ⟨13, _⟩ => ⟨S1x2048, .i32⟩
  | .hbm, ⟨14, _⟩ => ⟨S4x2048, .i32⟩
  | .hbm, ⟨15, _⟩ => ⟨S4x2048, .i32⟩
  | .hbm, ⟨16, _⟩ => ⟨S4x2048, .i32⟩
  | .hbm, ⟨17, _⟩ => ⟨S_, .i32⟩
  | .hbm, ⟨18, _⟩ => ⟨S4x2048, .i32⟩
  | .hbm, ⟨19, _⟩ => ⟨S4x2048, .i32⟩
  | .hbm, ⟨20, _⟩ => ⟨S1x2048, .i32⟩
  | .hbm, ⟨21, _⟩ => ⟨S4x2048, .i32⟩
  | .hbm, ⟨22, _⟩ => ⟨S4x2048, .i32⟩
  | .hbm, ⟨23, _⟩ => ⟨S4x2048, .i32⟩
  | .hbm, ⟨24, _⟩ => ⟨S_, .i32⟩
  | .hbm, ⟨25, _⟩ => ⟨S4x2048, .i32⟩
  | .hbm, ⟨26, _⟩ => ⟨S4x2048, .i32⟩
  | .hbm, ⟨27, _⟩ => ⟨S_, .i32⟩
  | .hbm, ⟨28, _⟩ => ⟨S4x2048, .i32⟩
  | .hbm, ⟨29, _⟩ => ⟨S4x2048, .i32⟩
  | .hbm, ⟨30, _⟩ => ⟨S4x2048x1, .i32⟩
  | .hbm, ⟨31, _⟩ => ⟨S1x1x2048, .i32⟩
  | .hbm, ⟨32, _⟩ => ⟨S4x2048x2048, .i32⟩
  | .hbm, ⟨33, _⟩ => ⟨S4x2048x2048, .i32⟩
  | .hbm, ⟨34, _⟩ => ⟨S4x2048x2048, .i1⟩
  | .hbm, ⟨35, _⟩ => ⟨S4x2048x1, .i32⟩
  | .hbm, ⟨36, _⟩ => ⟨S1x1x2048, .i32⟩
  | .hbm, ⟨37, _⟩ => ⟨S4x2048x2048, .i32⟩
  | .hbm, ⟨38, _⟩ => ⟨S4x2048x2048, .i32⟩
  | .hbm, ⟨39, _⟩ => ⟨S4x2048x2048, .i1⟩
  | .hbm, ⟨40, _⟩ => ⟨S4x2048x2048, .i1⟩
  | .hbm, ⟨41, _⟩ => ⟨S4x2048x2048, .f32⟩
  | .hbm, ⟨42, _⟩ => ⟨S2x2048x4x128, .f32⟩
  | .hbm, ⟨43, _⟩ => ⟨S4x2x128x2048, .f32⟩
  | .hbm, ⟨44, _⟩ => ⟨S2x2048x4x128, .f32⟩
  | .hbm, ⟨45, _⟩ => ⟨S4x2048, .i32⟩
  | .hbm, ⟨46, _⟩ => ⟨S2048x4, .i32⟩
  | .hbm, ⟨47, _⟩ => ⟨S2048x4, .f32⟩
  | .hbm, ⟨48, _⟩ => ⟨S1x2048x4x1, .f32⟩
  | .hbm, ⟨49, _⟩ => ⟨S2x2048x4x128, .f32⟩
  | .hbm, ⟨50, _⟩ => ⟨S2x2048x4x128, .f32⟩
  | .hbm, ⟨51, _⟩ => ⟨S2x2048x4x128, .f32⟩
  | .hbm, ⟨52, _⟩ => ⟨S4x128x2x2048, .f32⟩
  | .hbm, ⟨53, _⟩ => ⟨S2x2048x4x128, .f32⟩
  | .hbm, ⟨54, _⟩ => ⟨S2x2048x512, .f32⟩
  | .hbm, ⟨55, _⟩ => ⟨S1x1x512, .f32⟩
  | .hbm, ⟨56, _⟩ => ⟨S2x2048x512, .f32⟩
  | .hbm, ⟨57, _⟩ => ⟨S2x2048x512, .f32⟩
  | .hbm, ⟨58, _⟩ => ⟨S2x2048x512, .f32⟩
  | .hbm, ⟨59, _⟩ => ⟨S_, .f32⟩
  | .hbm, ⟨60, _⟩ => ⟨S512, .f32⟩
  | .hbm, ⟨61, _⟩ => ⟨S1x1x512, .f32⟩
  | .hbm, ⟨62, _⟩ => ⟨S2x2048x512, .f32⟩
  | .hbm, ⟨63, _⟩ => ⟨S2x2048x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S2x2048x4x128, .f32⟩
  | .hbm, ⟨68, _⟩ => ⟨S4x128x2x2048, .f32⟩
  | .hbm, ⟨69, _⟩ => ⟨S4x2x2048x128, .f32⟩
  | .hbm, ⟨70, _⟩ => ⟨S2x2048x4x128, .f32⟩
  | .hbm, ⟨71, _⟩ => ⟨S4x128x128, .f32⟩
  | .hbm, ⟨72, _⟩ => ⟨S4x128x128, .f32⟩
  | .hbm, ⟨73, _⟩ => ⟨S2x2048x4x128, .f32⟩
  | .hbm, ⟨74, _⟩ => ⟨S2x2048x4x128, .f32⟩
  | .hbm, ⟨75, _⟩ => ⟨S2x2048x4x128, .f32⟩
  | .hbm, ⟨76, _⟩ => ⟨S4x2x128x2048, .f32⟩
  | .hbm, ⟨77, _⟩ => ⟨S4x2x128x2048, .f32⟩
  | .hbm, ⟨78, _⟩ => ⟨S2x2048x4x128, .f32⟩
  | .hbm, ⟨79, _⟩ => ⟨S2x2048x4x128, .f32⟩
  | .hbm, ⟨80, _⟩ => ⟨S2x2048x512, .f32⟩
  | .hbm, ⟨81, _⟩ => ⟨S4096x512, .f32⟩
  | .hbm, ⟨82, _⟩ => ⟨S4096x512, .bf16⟩
  | _, _ => ⟨S4608x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩

abbrev nD : Nat := 1
abbrev τ : Topo := Topo.v7x

variable {F : FTy → Type} [FloatOps F]
-- ==== Kernel7.lean ====
abbrev S2x1024x1152 : Shape := ⟨3, ![2, 1024, 1152]⟩
abbrev S8x128 : Shape := ⟨2, ![8, 128]⟩
abbrev S1x256x1152 : Shape := ⟨3, ![1, 256, 1152]⟩
abbrev S256x1152 : Shape := ⟨2, ![256, 1152]⟩

abbrev nBuf : Space → Nat
  | .hbm => 8
  | .vmem => 14
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S8x128, .f32⟩
  | .hbm, ⟨5, _⟩ => ⟨S2x1024x1152, .f32⟩
  | .hbm, ⟨6, _⟩ => ⟨S2x1024x1152, .f32⟩
  | .hbm, ⟨7, _⟩ => ⟨S2x1024x1152, .f32⟩
  | .local _ .vmem, ⟨0, _⟩ => ⟨S1x256x1152, .f32⟩
  | .local _ .vmem, ⟨1, _⟩ => ⟨S1x256x1152, .f32⟩
  | .local _ .vmem, ⟨2, _⟩ => ⟨S1x256x1152, .f32⟩
  | .local _ .vmem, ⟨3, _⟩ => ⟨S1x256x1152, .f32⟩
  | .local _ .vmem, ⟨4, _⟩ => ⟨S1x256x1152, .f32⟩
  | .local _ .vmem, ⟨5, _⟩ => ⟨S1x256x1152, .f32⟩
  | .local _ .vmem, ⟨6, _⟩ => ⟨S1x256x1152, .f32⟩
  | .local _ .vmem, ⟨7, _⟩ => ⟨S1x256x1152, .f32⟩
  | .local _ .vmem, ⟨8, _⟩ => ⟨S1x256x1152, .f32⟩
  | .local _ .vmem, ⟨9, _⟩ => ⟨S1x256x1152, .f32⟩
  | .local _ .vmem, ⟨10, _⟩ => ⟨S1x256x1152, .f32⟩
  | .local _ .vmem, ⟨11, _⟩ => ⟨S1x256x1152, .f32⟩
  | .local _ .vmem, ⟨12, _⟩ => ⟨S1x256x1152, .f32⟩
  | .local _ .vmem, ⟨13, _⟩ => ⟨S1x256x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7Ideal.lean ====
abbrev S2x1024x1152 : Shape := ⟨3, ![2, 1024, 1152]⟩
abbrev S8x128 : Shape := ⟨2, ![8, 128]⟩
abbrev S1x256x1152 : Shape := ⟨3, ![1, 256, 1152]⟩
abbrev S256x1152 : Shape := ⟨2, ![256, 1152]⟩

abbrev nBuf : Space → Nat
  | .hbm => 8
  | .vmem => 14
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S8x128, .f32⟩
  | .hbm, ⟨5, _⟩ => ⟨S2x1024x1152, .f32⟩
  | .hbm, ⟨6, _⟩ => ⟨S2x1024x1152, .f32⟩
  | .hbm, ⟨7, _⟩ => ⟨S2x1024x1152, .f32⟩
  | .local _ .vmem, ⟨0, _⟩ => ⟨S1x256x1152, .f32⟩
  | .local _ .vmem, ⟨1, _⟩ => ⟨S1x256x1152, .f32⟩
  | .local _ .vmem, ⟨2, _⟩ => ⟨S1x256x1152, .f32⟩
  | .local _ .vmem, ⟨3, _⟩ => ⟨S1x256x1152, .f32⟩
  | .local _ .vmem, ⟨4, _⟩ => ⟨S1x256x1152, .f32⟩
  | .local _ .vmem, ⟨5, _⟩ => ⟨S1x256x1152, .f32⟩
  | .local _ .vmem, ⟨6, _⟩ => ⟨S1x256x1152, .f32⟩
  | .local _ .vmem, ⟨7, _⟩ => ⟨S1x256x1152, .f32⟩
  | .local _ .vmem, ⟨8, _⟩ => ⟨S1x256x1152, .f32⟩
  | .local _ .vmem, ⟨9, _⟩ => ⟨S1x256x1152, .f32⟩
  | .local _ .vmem, ⟨10, _⟩ => ⟨S1x256x1152, .f32⟩
  | .local _ .vmem, ⟨11, _⟩ => ⟨S1x256x1152, .f32⟩
  | .local _ .vmem, ⟨12, _⟩ => ⟨S1x256x1152, .f32⟩
  | .local _ .vmem, ⟨13, _⟩ => ⟨S1x256x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x1024x1152 : Shape := ⟨3, ![2, 1024, 1152]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .f32⟩
  | .hbm, ⟨4, _⟩ => ⟨S8x128, .f32⟩
  | .hbm, ⟨5, _⟩ => ⟨S_, .f32⟩
  | .hbm, ⟨6, _⟩ => ⟨S2x1024x1152, .f32⟩
  | .hbm, ⟨7, _⟩ => ⟨S2x1024x1152, .f32⟩
  | .hbm, ⟨8, _⟩ => ⟨S_, .f32⟩
  | .hbm, ⟨9, _⟩ => ⟨S2x1024x1152, .f32⟩
  | .hbm, ⟨10, _⟩ => ⟨S2x1024x1152, .f32⟩
  | .hbm, ⟨11, _⟩ => ⟨S2x1024x1152, .f32⟩
  | .hbm, ⟨12, _⟩ => ⟨S_, .f32⟩
  | .hbm, ⟨13, _⟩ => ⟨S2x1024x1152, .f32⟩
  | .hbm, ⟨14, _⟩ => ⟨S2x1024x1152, .f32⟩
  | .hbm, ⟨15, _⟩ => ⟨S2x1024x1152, .f32⟩
  | .hbm, ⟨16, _⟩ => ⟨S_, .f32⟩
  | .hbm, ⟨17, _⟩ => ⟨S2x1024x1152, .f32⟩
  | .hbm, ⟨18, _⟩ => ⟨S2x1024x1152, .f32⟩
  | .hbm, ⟨19, _⟩ => ⟨S2x1024x1152, .f32⟩
  | .hbm, ⟨20, _⟩ => ⟨S_, .f32⟩
  | .hbm, ⟨21, _⟩ => ⟨S2x1024x1152, .f32⟩
  | .hbm, ⟨22, _⟩ => ⟨S2x1024x1152, .f32⟩
  | .hbm, ⟨23, _⟩ => ⟨S_, .f32⟩
  | .hbm, ⟨24, _⟩ => ⟨S2x1024x1152, .f32⟩
  | .hbm, ⟨25, _⟩ => ⟨S2x1024x1152, .f32⟩
  | .hbm, ⟨26, _⟩ => ⟨S2x1024x1152, .f32⟩
  | .hbm, ⟨27, _⟩ => ⟨S_, .f32⟩
  | .hbm, ⟨28, _⟩ => ⟨S2x1024x1152, .f32⟩
  | .hbm, ⟨29, _⟩ => ⟨S2x1024x1152, .f32⟩
  | .hbm, ⟨30, _⟩ => ⟨S2x1024x1152, .f32⟩
  | .hbm, ⟨31, _⟩ => ⟨S_, .f32⟩
  | .hbm, ⟨32, _⟩ => ⟨S2x1024x1152, .f32⟩
  | .hbm, ⟨33, _⟩ => ⟨S2x1024x1152, .f32⟩
  | .hbm, ⟨34, _⟩ => ⟨S2x1024x1152, .f32⟩
  | .hbm, ⟨35, _⟩ => ⟨S_, .f32⟩
  | .hbm, ⟨36, _⟩ => ⟨S2x1024x1152, .f32⟩
  | .hbm, ⟨37, _⟩ => ⟨S2x1024x1152, .f32⟩
  | _, _ => ⟨S2x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel8.lean ====
abbrev S2x9216 : Shape := ⟨2, ![2, 9216]⟩
abbrev S8x128 : Shape := ⟨2, ![8, 128]⟩
abbrev S1x2x9216 : Shape := ⟨3, ![1, 2, 9216]⟩

abbrev nBuf : Space → Nat
  | .hbm => 15
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S8x128, .f32⟩
  | .hbm, ⟨5, _⟩ => ⟨S1x2x9216, .f32⟩
  | .hbm, ⟨6, _⟩ => ⟨S1x2x9216, .f32⟩
  | .hbm, ⟨7, _⟩ => ⟨S1x2x9216, .f32⟩
  | .hbm, ⟨8, _⟩ => ⟨S1x2x9216, .f32⟩
  | .hbm, ⟨9, _⟩ => ⟨S1x2x9216, .f32⟩
  | .hbm, ⟨10, _⟩ => ⟨S1x2x9216, .f32⟩
  | .hbm, ⟨11, _⟩ => ⟨S1x2x9216, .f32⟩
  | .hbm, ⟨12, _⟩ => ⟨S2x9216, .f32⟩
  | .hbm, ⟨13, _⟩ => ⟨S2x9216, .f32⟩
  | .hbm, ⟨14, _⟩ => ⟨S2x9216, .f32⟩
  | .local _ .vmem, ⟨0, _⟩ => ⟨S1x2x9216, .f32⟩
  | .local _ .vmem, ⟨1, _⟩ => ⟨S1x2x9216, .f32⟩
  | .local _ .vmem, ⟨2, _⟩ => ⟨S1x2x9216, .f32⟩
  | .local _ .vmem, ⟨3, _⟩ => ⟨S1x2x9216, .f32⟩
  | .local _ .vmem, ⟨4, _⟩ => ⟨S1x2x9216, .f32⟩
  | .local _ .vmem, ⟨5, _⟩ => ⟨S1x2x9216, .f32⟩
  | .local _ .vmem, ⟨6, _⟩ => ⟨S1x2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel8Ideal.lean ====
abbrev S2x9216 : Shape := ⟨2, ![2, 9216]⟩
abbrev S8x128 : Shape := ⟨2, ![8, 128]⟩
abbrev S1x2x9216 : Shape := ⟨3, ![1, 2, 9216]⟩

abbrev nBuf : Space → Nat
  | .hbm => 15
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S8x128, .f32⟩
  | .hbm, ⟨5, _⟩ => ⟨S1x2x9216, .f32⟩
  | .hbm, ⟨6, _⟩ => ⟨S1x2x9216, .f32⟩
  | .hbm, ⟨7, _⟩ => ⟨S1x2x9216, .f32⟩
  | .hbm, ⟨8, _⟩ => ⟨S1x2x9216, .f32⟩
  | .hbm, ⟨9, _⟩ => ⟨S1x2x9216, .f32⟩
  | .hbm, ⟨10, _⟩ => ⟨S1x2x9216, .f32⟩
  | .hbm, ⟨11, _⟩ => ⟨S1x2x9216, .f32⟩
  | .hbm, ⟨12, _⟩ => ⟨S2x9216, .f32⟩
  | .hbm, ⟨13, _⟩ => ⟨S2x9216, .f32⟩
  | .hbm, ⟨14, _⟩ => ⟨S2x9216, .f32⟩
  | .local _ .vmem, ⟨0, _⟩ => ⟨S1x2x9216, .f32⟩
  | .local _ .vmem, ⟨1, _⟩ => ⟨S1x2x9216, .f32⟩
  | .local _ .vmem, ⟨2, _⟩ => ⟨S1x2x9216, .f32⟩
  | .local _ .vmem, ⟨3, _⟩ => ⟨S1x2x9216, .f32⟩
  | .local _ .vmem, ⟨4, _⟩ => ⟨S1x2x9216, .f32⟩
  | .local _ .vmem, ⟨5, _⟩ => ⟨S1x2x9216, .f32⟩
  | .local _ .vmem, ⟨6, _⟩ => ⟨S1x2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference8Ideal.lean ====
abbrev S2x9216 : Shape := ⟨2, ![2, 9216]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S8x128, .f32⟩
  | .hbm, ⟨5, _⟩ => ⟨S_, .f32⟩
  | .hbm, ⟨6, _⟩ => ⟨S2x9216, .f32⟩
  | .hbm, ⟨7, _⟩ => ⟨S2x9216, .f32⟩
  | .hbm, ⟨8, _⟩ => ⟨S_, .f32⟩
  | .hbm, ⟨9, _⟩ => ⟨S2x9216, .f32⟩
  | .hbm, ⟨10, _⟩ => ⟨S2x9216, .f32⟩
  | .hbm, ⟨11, _⟩ => ⟨S2x9216, .f32⟩
  | .hbm, ⟨12, _⟩ => ⟨S_, .f32⟩
  | .hbm, ⟨13, _⟩ => ⟨S2x9216, .f32⟩
  | .hbm, ⟨14, _⟩ => ⟨S2x9216, .f32⟩
  | .hbm, ⟨15, _⟩ => ⟨S2x9216, .f32⟩
  | .hbm, ⟨16, _⟩ => ⟨S_, .f32⟩
  | .hbm, ⟨17, _⟩ => ⟨S2x9216, .f32⟩
  | .hbm, ⟨18, _⟩ => ⟨S2x9216, .f32⟩
  | .hbm, ⟨19, _⟩ => ⟨S2x9216, .f32⟩
  | .hbm, ⟨20, _⟩ => ⟨S_, .f32⟩
  | .hbm, ⟨21, _⟩ => ⟨S2x9216, .f32⟩
  | .hbm, ⟨22, _⟩ => ⟨S2x9216, .f32⟩
  | .hbm, ⟨23, _⟩ => ⟨S_, .f32⟩
  | .hbm, ⟨24, _⟩ => ⟨S2x9216, .f32⟩
  | .hbm, ⟨25, _⟩ => ⟨S2x9216, .f32⟩
  | .hbm, ⟨26, _⟩ => ⟨S2x9216, .f32⟩
  | .hbm, ⟨27, _⟩ => ⟨S_, .f32⟩
  | .hbm, ⟨28, _⟩ => ⟨S2x9216, .f32⟩
  | .hbm, ⟨29, _⟩ => ⟨S2x9216, .f32⟩
  | .hbm, ⟨30, _⟩ => ⟨S2x9216, .f32⟩
  | .hbm, ⟨31, _⟩ => ⟨S_, .f32⟩
  | .hbm, ⟨32, _⟩ => ⟨S2x9216, .f32⟩
  | .hbm, ⟨33, _⟩ => ⟨S2x9216, .f32⟩
  | .hbm, ⟨34, _⟩ => ⟨S2x9216, .f32⟩
  | .hbm, ⟨35, _⟩ => ⟨S_, .f32⟩
  | .hbm, ⟨36, _⟩ => ⟨S2x9216, .f32⟩
  | .hbm, ⟨37, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel9.lean ====
abbrev S2x2x1024x352 : Shape := ⟨4, ![2, 2, 1024, 352]⟩
abbrev S8x128 : Shape := ⟨2, ![8, 128]⟩
abbrev S4x1024x352 : Shape := ⟨3, ![4, 1024, 352]⟩
abbrev S1x1024x352 : Shape := ⟨3, ![1, 1024, 352]⟩
abbrev S1024x352 : Shape := ⟨2, ![1024, 352]⟩

abbrev nBuf : Space → Nat
  | .hbm => 15
  | .vmem => 14
  | .smem => 0
  | _ => 0

abbrev bufTy : (tb : Table) → Fin (tcTables nBuf tb) → BufTy
  | .hbm, ⟨0, _⟩ => ⟨S2x2x1024x352, .f32⟩
  | .hbm, ⟨1, _⟩ => ⟨S2x2x1024x352, .f32⟩
  | .hbm, ⟨2, _⟩ => ⟨S2x2x1024x352, .f32⟩
  | .hbm, ⟨3, _⟩ => ⟨S2x2x1024x352, .f32⟩
  | .hbm, ⟨4, _⟩ => ⟨S8x128, .f32⟩
  | .hbm, ⟨5, _⟩ => ⟨S4x1024x352, .f32⟩
  | .hbm, ⟨6, _⟩ => ⟨S4x1024x352, .f32⟩
  | .hbm, ⟨7, _⟩ => ⟨S4x1024x352, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S4x1024x352, .f32⟩
  | .hbm, ⟨12, _⟩ => ⟨S2x2x1024x352, .f32⟩
  | .hbm, ⟨13, _⟩ => ⟨S2x2x1024x352, .f32⟩
  | .hbm, ⟨14, _⟩ => ⟨S2x2x1024x352, .f32⟩
  | .local _ .vmem, ⟨0, _⟩ => ⟨S1x1024x352, .f32⟩
  | .local _ .vmem, ⟨1, _⟩ => ⟨S1x1024x352, .f32⟩
  | .local _ .vmem, ⟨2, _⟩ => ⟨S1x1024x352, .f32⟩
  | .local _ .vmem, ⟨3, _⟩ => ⟨S1x1024x352, .f32⟩
  | .local _ .vmem, ⟨4, _⟩ => ⟨S1x1024x352, .f32⟩
  | .local _ .vmem, ⟨5, _⟩ => ⟨S1x1024x352, .f32⟩
  | .local _ .vmem, ⟨6, _⟩ => ⟨S1x1024x352, .f32⟩
  | .local _ .vmem, ⟨7, _⟩ => ⟨S1x1024x352, .f32⟩
  | .local _ .vmem, ⟨8, _⟩ => ⟨S1x1024x352, .f32⟩
  | .local _ .vmem, ⟨9, _⟩ => ⟨S1x1024x352, .f32⟩
  | .local _ .vmem, ⟨10, _⟩ => ⟨S1x1024x352, .f32⟩
  | .local _ .vmem, ⟨11, _⟩ => ⟨S1x1024x352, .f32⟩
  | .local _ .vmem, ⟨12, _⟩ => ⟨S1x1024x352, .f32⟩
  | .local _ .vmem, ⟨13, _⟩ => ⟨S1x1024x352, .f32⟩
  | _, _ => ⟨S2x2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel9Ideal.lean ====
abbrev S2x2x1024x352 : Shape := ⟨4, ![2, 2, 1024, 352]⟩
abbrev S8x128 : Shape := ⟨2, ![8, 128]⟩
abbrev S4x1024x352 : Shape := ⟨3, ![4, 1024, 352]⟩
abbrev S1x1024x352 : Shape := ⟨3, ![1, 1024, 352]⟩
abbrev S1024x352 : Shape := ⟨2, ![1024, 352]⟩

abbrev nBuf : Space → Nat
  | .hbm => 15
  | .vmem => 14
  | .smem => 0
  | _ => 0

abbrev bufTy : (tb : Table) → Fin (tcTables nBuf tb) → BufTy
  | .hbm, ⟨0, _⟩ => ⟨S2x2x1024x352, .f32⟩
  | .hbm, ⟨1, _⟩ => ⟨S2x2x1024x352, .f32⟩
  | .hbm, ⟨2, _⟩ => ⟨S2x2x1024x352, .f32⟩
  | .hbm, ⟨3, _⟩ => ⟨S2x2x1024x352, .f32⟩
  | .hbm, ⟨4, _⟩ => ⟨S8x128, .f32⟩
  | .hbm, ⟨5, _⟩ => ⟨S4x1024x352, .f32⟩
  | .hbm, ⟨6, _⟩ => ⟨S4x1024x352, .f32⟩
  | .hbm, ⟨7, _⟩ => ⟨S4x1024x352, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S4x1024x352, .f32⟩
  | .hbm, ⟨12, _⟩ => ⟨S2x2x1024x352, .f32⟩
  | .hbm, ⟨13, _⟩ => ⟨S2x2x1024x352, .f32⟩
  | .hbm, ⟨14, _⟩ => ⟨S2x2x1024x352, .f32⟩
  | .local _ .vmem, ⟨0, _⟩ => ⟨S1x1024x352, .f32⟩
  | .local _ .vmem, ⟨1, _⟩ => ⟨S1x1024x352, .f32⟩
  | .local _ .vmem, ⟨2, _⟩ => ⟨S1x1024x352, .f32⟩
  | .local _ .vmem, ⟨3, _⟩ => ⟨S1x1024x352, .f32⟩
  | .local _ .vmem, ⟨4, _⟩ => ⟨S1x1024x352, .f32⟩
  | .local _ .vmem, ⟨5, _⟩ => ⟨S1x1024x352, .f32⟩
  | .local _ .vmem, ⟨6, _⟩ => ⟨S1x1024x352, .f32⟩
  | .local _ .vmem, ⟨7, _⟩ => ⟨S1x1024x352, .f32⟩
  | .local _ .vmem, ⟨8, _⟩ => ⟨S1x1024x352, .f32⟩
  | .local _ .vmem, ⟨9, _⟩ => ⟨S1x1024x352, .f32⟩
  | .local _ .vmem, ⟨10, _⟩ => ⟨S1x1024x352, .f32⟩
  | .local _ .vmem, ⟨11, _⟩ => ⟨S1x1024x352, .f32⟩
  | .local _ .vmem, ⟨12, _⟩ => ⟨S1x1024x352, .f32⟩
  | .local _ .vmem, ⟨13, _⟩ => ⟨S1x1024x352, .f32⟩
  | _, _ => ⟨S2x2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S2x2x1024x352 : Shape := ⟨4, ![2, 2, 1024, 352]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x2x1024x352, .f32⟩
  | .hbm, ⟨1, _⟩ => ⟨S2x2x1024x352, .f32⟩
  | .hbm, ⟨2, _⟩ => ⟨S2x2x1024x352, .f32⟩
  | .hbm, ⟨3, _⟩ => ⟨S2x2x1024x352, .f32⟩
  | .hbm, ⟨4, _⟩ => ⟨S8x128, .f32⟩
  | .hbm, ⟨5, _⟩ => ⟨S_, .f32⟩
  | .hbm, ⟨6, _⟩ => ⟨S2x2x1024x352, .f32⟩
  | .hbm, ⟨7, _⟩ => ⟨S2x2x1024x352, .f32⟩
  | .hbm, ⟨8, _⟩ => ⟨S_, .f32⟩
  | .hbm, ⟨9, _⟩ => ⟨S2x2x1024x352, .f32⟩
  | .hbm, ⟨10, _⟩ => ⟨S2x2x1024x352, .f32⟩
  | .hbm, ⟨11, _⟩ => ⟨S2x2x1024x352, .f32⟩
  | .hbm, ⟨12, _⟩ => ⟨S_, .f32⟩
  | .hbm, ⟨13, _⟩ => ⟨S2x2x1024x352, .f32⟩
  | .hbm, ⟨14, _⟩ => ⟨S2x2x1024x352, .f32⟩
  | .hbm, ⟨15, _⟩ => ⟨S2x2x1024x352, .f32⟩
  | .hbm, ⟨16, _⟩ => ⟨S_, .f32⟩
  | .hbm, ⟨17, _⟩ => ⟨S2x2x1024x352, .f32⟩
  | .hbm, ⟨18, _⟩ => ⟨S2x2x1024x352, .f32⟩
  | .hbm, ⟨19, _⟩ => ⟨S2x2x1024x352, .f32⟩
  | .hbm, ⟨20, _⟩ => ⟨S_, .f32⟩
  | .hbm, ⟨21, _⟩ => ⟨S2x2x1024x352, .f32⟩
  | .hbm, ⟨22, _⟩ => ⟨S2x2x1024x352, .f32⟩
  | .hbm, ⟨23, _⟩ => ⟨S_, .f32⟩
  | .hbm, ⟨24, _⟩ => ⟨S2x2x1024x352, .f32⟩
  | .hbm, ⟨25, _⟩ => ⟨S2x2x1024x352, .f32⟩
  | .hbm, ⟨26, _⟩ => ⟨S2x2x1024x352, .f32⟩
  | .hbm, ⟨27, _⟩ => ⟨S_, .f32⟩
  | .hbm, ⟨28, _⟩ => ⟨S2x2x1024x352, .f32⟩
  | .hbm, ⟨29, _⟩ => ⟨S2x2x1024x352, .f32⟩
  | .hbm, ⟨30, _⟩ => ⟨S2x2x1024x352, .f32⟩
  | .hbm, ⟨31, _⟩ => ⟨S_, .f32⟩
  | .hbm, ⟨32, _⟩ => ⟨S2x2x1024x352, .f32⟩
  | .hbm, ⟨33, _⟩ => ⟨S2x2x1024x352, .f32⟩
  | .hbm, ⟨34, _⟩ => ⟨S2x2x1024x352, .f32⟩
  | .hbm, ⟨35, _⟩ => ⟨S_, .f32⟩
  | .hbm, ⟨36, _⟩ => ⟨S2x2x1024x352, .f32⟩
  | .hbm, ⟨37, _⟩ => ⟨S2x2x1024x352, .f32⟩
  | _, _ => ⟨S2x2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel10.lean ====
abbrev S2x2x352x1024 : Shape := ⟨4, ![2, 2, 352, 1024]⟩
abbrev S8x128 : Shape := ⟨2, ![8, 128]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x2x352x1024, .f32⟩
  | .hbm, ⟨1, _⟩ => ⟨S2x2x352x1024, .f32⟩
  | .hbm, ⟨2, _⟩ => ⟨S2x2x352x1024, .f32⟩
  | .hbm, ⟨3, _⟩ => ⟨S2x2x352x1024, .f32⟩
  | .hbm, ⟨4, _⟩ => ⟨S8x128, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S2x2x352x1024, .f32⟩
  | .hbm, ⟨13, _⟩ => ⟨S2x2x352x1024, .f32⟩
  | .hbm, ⟨14, _⟩ => ⟨S2x2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel10Ideal.lean ====
abbrev S2x2x352x1024 : Shape := ⟨4, ![2, 2, 352, 1024]⟩
abbrev S8x128 : Shape := ⟨2, ![8, 128]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x2x352x1024, .f32⟩
  | .hbm, ⟨1, _⟩ => ⟨S2x2x352x1024, .f32⟩
  | .hbm, ⟨2, _⟩ => ⟨S2x2x352x1024, .f32⟩
  | .hbm, ⟨3, _⟩ => ⟨S2x2x352x1024, .f32⟩
  | .hbm, ⟨4, _⟩ => ⟨S8x128, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S2x2x352x1024, .f32⟩
  | .hbm, ⟨13, _⟩ => ⟨S2x2x352x1024, .f32⟩
  | .hbm, ⟨14, _⟩ => ⟨S2x2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S2x2x352x1024 : Shape := ⟨4, ![2, 2, 352, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x2x352x1024, .f32⟩
  | .hbm, ⟨1, _⟩ => ⟨S2x2x352x1024, .f32⟩
  | .hbm, ⟨2, _⟩ => ⟨S2x2x352x1024, .f32⟩
  | .hbm, ⟨3, _⟩ => ⟨S2x2x352x1024, .f32⟩
  | .hbm, ⟨4, _⟩ => ⟨S8x128, .f32⟩
  | .hbm, ⟨5, _⟩ => ⟨S_, .f32⟩
  | .hbm, ⟨6, _⟩ => ⟨S2x2x352x1024, .f32⟩
  | .hbm, ⟨7, _⟩ => ⟨S2x2x352x1024, .f32⟩
  | .hbm, ⟨8, _⟩ => ⟨S_, .f32⟩
  | .hbm, ⟨9, _⟩ => ⟨S2x2x352x1024, .f32⟩
  | .hbm, ⟨10, _⟩ => ⟨S2x2x352x1024, .f32⟩
  | .hbm, ⟨11, _⟩ => ⟨S2x2x352x1024, .f32⟩
  | .hbm, ⟨12, _⟩ => ⟨S_, .f32⟩
  | .hbm, ⟨13, _⟩ => ⟨S2x2x352x1024, .f32⟩
  | .hbm, ⟨14, _⟩ => ⟨S2x2x352x1024, .f32⟩
  | .hbm, ⟨15, _⟩ => ⟨S2x2x352x1024, .f32⟩
  | .hbm, ⟨16, _⟩ => ⟨S_, .f32⟩
  | .hbm, ⟨17, _⟩ => ⟨S2x2x352x1024, .f32⟩
  | .hbm, ⟨18, _⟩ => ⟨S2x2x352x1024, .f32⟩
  | .hbm, ⟨19, _⟩ => ⟨S2x2x352x1024, .f32⟩
  | .hbm, ⟨20, _⟩ => ⟨S_, .f32⟩
  | .hbm, ⟨21, _⟩ => ⟨S2x2x352x1024, .f32⟩
  | .hbm, ⟨22, _⟩ => ⟨S2x2x352x1024, .f32⟩
  | .hbm, ⟨23, _⟩ => ⟨S_, .f32⟩
  | .hbm, ⟨24, _⟩ => ⟨S2x2x352x1024, .f32⟩
  | .hbm, ⟨25, _⟩ => ⟨S2x2x352x1024, .f32⟩
  | .hbm, ⟨26, _⟩ => ⟨S2x2x352x1024, .f32⟩
  | .hbm, ⟨27, _⟩ => ⟨S_, .f32⟩
  | .hbm, ⟨28, _⟩ => ⟨S2x2x352x1024, .f32⟩
  | .hbm, ⟨29, _⟩ => ⟨S2x2x352x1024, .f32⟩
  | .hbm, ⟨30, _⟩ => ⟨S2x2x352x1024, .f32⟩
  | .hbm, ⟨31, _⟩ => ⟨S_, .f32⟩
  | .hbm, ⟨32, _⟩ => ⟨S2x2x352x1024, .f32⟩
  | .hbm, ⟨33, _⟩ => ⟨S2x2x352x1024, .f32⟩
  | .hbm, ⟨34, _⟩ => ⟨S2x2x352x1024, .f32⟩
  | .hbm, ⟨35, _⟩ => ⟨S_, .f32⟩
  | .hbm, ⟨36, _⟩ => ⟨S2x2x352x1024, .f32⟩
  | .hbm, ⟨37, _⟩ => ⟨S2x2x352x1024, .f32⟩
  | _, _ => ⟨S2x2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel11.lean ====
abbrev S1x1024x160 : Shape := ⟨3, ![1, 1024, 160]⟩
abbrev S8x128 : Shape := ⟨2, ![8, 128]⟩
abbrev S1024x160 : Shape := ⟨2, ![1024, 160]⟩

abbrev nBuf : Space → Nat
  | .hbm => 8
  | .vmem => 7
  | .smem => 0
  | _ => 0

abbrev bufTy : (tb : Table) → Fin (tcTables nBuf tb) → BufTy
  | .hbm, ⟨0, _⟩ => ⟨S1x1024x160, .f32⟩
  | .hbm, ⟨1, _⟩ => ⟨S1x1024x160, .f32⟩
  | .hbm, ⟨2, _⟩ => ⟨S1x1024x160, .f32⟩
  | .hbm, ⟨3, _⟩ => ⟨S1x1024x160, .f32⟩
  | .hbm, ⟨4, _⟩ => ⟨S8x128, .f32⟩
  | .hbm, ⟨5, _⟩ => ⟨S1x1024x160, .f32⟩
  | .hbm, ⟨6, _⟩ => ⟨S1x1024x160, .f32⟩
  | .hbm, ⟨7, _⟩ => ⟨S1x1024x160, .f32⟩
  | .local _ .vmem, ⟨0, _⟩ => ⟨S1x1024x160, .f32⟩
  | .local _ .vmem, ⟨1, _⟩ => ⟨S1x1024x160, .f32⟩
  | .local _ .vmem, ⟨2, _⟩ => ⟨S1x1024x160, .f32⟩
  | .local _ .vmem, ⟨3, _⟩ => ⟨S1x1024x160, .f32⟩
  | .local _ .vmem, ⟨4, _⟩ => ⟨S1x1024x160, .f32⟩
  | .local _ .vmem, ⟨5, _⟩ => ⟨S1x1024x160, .f32⟩
  | .local _ .vmem, ⟨6, _⟩ => ⟨S1x1024x160, .f32⟩
  | _, _ => ⟨S1x1024x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel11Ideal.lean ====
abbrev S1x1024x160 : Shape := ⟨3, ![1, 1024, 160]⟩
abbrev S8x128 : Shape := ⟨2, ![8, 128]⟩
abbrev S1024x160 : Shape := ⟨2, ![1024, 160]⟩

abbrev nBuf : Space → Nat
  | .hbm => 8
  | .vmem => 7
  | .smem => 0
  | _ => 0

abbrev bufTy : (tb : Table) → Fin (tcTables nBuf tb) → BufTy
  | .hbm, ⟨0, _⟩ => ⟨S1x1024x160, .f32⟩
  | .hbm, ⟨1, _⟩ => ⟨S1x1024x160, .f32⟩
  | .hbm, ⟨2, _⟩ => ⟨S1x1024x160, .f32⟩
  | .hbm, ⟨3, _⟩ => ⟨S1x1024x160, .f32⟩
  | .hbm, ⟨4, _⟩ => ⟨S8x128, .f32⟩
  | .hbm, ⟨5, _⟩ => ⟨S1x1024x160, .f32⟩
  | .hbm, ⟨6, _⟩ => ⟨S1x1024x160, .f32⟩
  | .hbm, ⟨7, _⟩ => ⟨S1x1024x160, .f32⟩
  | .local _ .vmem, ⟨0, _⟩ => ⟨S1x1024x160, .f32⟩
  | .local _ .vmem, ⟨1, _⟩ => ⟨S1x1024x160, .f32⟩
  | .local _ .vmem, ⟨2, _⟩ => ⟨S1x1024x160, .f32⟩
  | .local _ .vmem, ⟨3, _⟩ => ⟨S1x1024x160, .f32⟩
  | .local _ .vmem, ⟨4, _⟩ => ⟨S1x1024x160, .f32⟩
  | .local _ .vmem, ⟨5, _⟩ => ⟨S1x1024x160, .f32⟩
  | .local _ .vmem, ⟨6, _⟩ => ⟨S1x1024x160, .f32⟩
  | _, _ => ⟨S1x1024x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference11Ideal.lean ====
abbrev S1x1024x160 : Shape := ⟨3, ![1, 1024, 160]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x160, .f32⟩
  | .hbm, ⟨1, _⟩ => ⟨S1x1024x160, .f32⟩
  | .hbm, ⟨2, _⟩ => ⟨S1x1024x160, .f32⟩
  | .hbm, ⟨3, _⟩ => ⟨S1x1024x160, .f32⟩
  | .hbm, ⟨4, _⟩ => ⟨S8x128, .f32⟩
  | .hbm, ⟨5, _⟩ => ⟨S_, .f32⟩
  | .hbm, ⟨6, _⟩ => ⟨S1x1024x160, .f32⟩
  | .hbm, ⟨7, _⟩ => ⟨S1x1024x160, .f32⟩
  | .hbm, ⟨8, _⟩ => ⟨S_, .f32⟩
  | .hbm, ⟨9, _⟩ => ⟨S1x1024x160, .f32⟩
  | .hbm, ⟨10, _⟩ => ⟨S1x1024x160, .f32⟩
  | .hbm, ⟨11, _⟩ => ⟨S1x1024x160, .f32⟩
  | .hbm, ⟨12, _⟩ => ⟨S_, .f32⟩
  | .hbm, ⟨13, _⟩ => ⟨S1x1024x160, .f32⟩
  | .hbm, ⟨14, _⟩ => ⟨S1x1024x160, .f32⟩
  | .hbm, ⟨15, _⟩ => ⟨S1x1024x160, .f32⟩
  | .hbm, ⟨16, _⟩ => ⟨S_, .f32⟩
  | .hbm, ⟨17, _⟩ => ⟨S1x1024x160, .f32⟩
  | .hbm, ⟨18, _⟩ => ⟨S1x1024x160, .f32⟩
  | .hbm, ⟨19, _⟩ => ⟨S1x1024x160, .f32⟩
  | .hbm, ⟨20, _⟩ => ⟨S_, .f32⟩
  | .hbm, ⟨21, _⟩ => ⟨S1x1024x160, .f32⟩
  | .hbm, ⟨22, _⟩ => ⟨S1x1024x160, .f32⟩
  | .hbm, ⟨23, _⟩ => ⟨S_, .f32⟩
  | .hbm, ⟨24, _⟩ => ⟨S1x1024x160, .f32⟩
  | .hbm, ⟨25, _⟩ => ⟨S1x1024x160, .f32⟩
  | .hbm, ⟨26, _⟩ => ⟨S1x1024x160, .f32⟩
  | .hbm, ⟨27, _⟩ => ⟨S_, .f32⟩
  | .hbm, ⟨28, _⟩ => ⟨S1x1024x160, .f32⟩
  | .hbm, ⟨29, _⟩ => ⟨S1x1024x160, .f32⟩
  | .hbm, ⟨30, _⟩ => ⟨S1x1024x160, .f32⟩
  | .hbm, ⟨31, _⟩ => ⟨S_, .f32⟩
  | .hbm, ⟨32, _⟩ => ⟨S1x1024x160, .f32⟩
  | .hbm, ⟨33, _⟩ => ⟨S1x1024x160, .f32⟩
  | .hbm, ⟨34, _⟩ => ⟨S1x1024x160, .f32⟩
  | .hbm, ⟨35, _⟩ => ⟨S_, .f32⟩
  | .hbm, ⟨36, _⟩ => ⟨S1x1024x160, .f32⟩
  | .hbm, ⟨37, _⟩ => ⟨S1x1024x160, .f32⟩
  | _, _ => ⟨S1x1024x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel12.lean ====
abbrev S1x128x1024 : Shape := ⟨3, ![1, 128, 1024]⟩
abbrev S8x128 : Shape := ⟨2, ![8, 128]⟩
abbrev S128x1024 : Shape := ⟨2, ![128, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel12Ideal.lean ====
abbrev S1x128x1024 : Shape := ⟨3, ![1, 128, 1024]⟩
abbrev S8x128 : Shape := ⟨2, ![8, 128]⟩
abbrev S128x1024 : Shape := ⟨2, ![128, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference12Ideal.lean ====
abbrev S1x128x1024 : Shape := ⟨3, ![1, 128, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128, .f32⟩
  | .hbm, ⟨5, _⟩ => ⟨S_, .f32⟩
  | .hbm, ⟨6, _⟩ => ⟨S1x128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel13.lean ====
abbrev S1x1024x256 : Shape := ⟨3, ![1, 1024, 256]⟩
abbrev S8x128 : Shape := ⟨2, ![8, 128]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x128, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference13Ideal.lean ====
abbrev S1x1024x256 : Shape := ⟨3, ![1, 1024, 256]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x128, .f32⟩
  | .hbm, ⟨5, _⟩ => ⟨S_, .f32⟩
  | .hbm, ⟨6, _⟩ => ⟨S1x1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S1x1024x256, .f32⟩
  | .hbm, ⟨12, _⟩ => ⟨S_, .f32⟩
  | .hbm, ⟨13, _⟩ => ⟨S1x1024x256, .f32⟩
  | .hbm, ⟨14, _⟩ => ⟨S1x1024x256, .f32⟩
  | .hbm, ⟨15, _⟩ => ⟨S1x1024x256, .f32⟩
  | .hbm, ⟨16, _⟩ => ⟨S_, .f32⟩
  | .hbm, ⟨17, _⟩ => ⟨S1x1024x256, .f32⟩
  | .hbm, ⟨18, _⟩ => ⟨S1x1024x256, .f32⟩
  | .hbm, ⟨19, _⟩ => ⟨S1x1024x256, .f32⟩
  | .hbm, ⟨20, _⟩ => ⟨S_, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S1x1024x256, .f32⟩
  | .hbm, ⟨27, _⟩ => ⟨S_, .f32⟩
  | .hbm, ⟨28, _⟩ => ⟨S1x1024x256, .f32⟩
  | .hbm, ⟨29, _⟩ => ⟨S1x1024x256, .f32⟩
  | .hbm, ⟨30, _⟩ => ⟨S1x1024x256, .f32⟩
  | .hbm, ⟨31, _⟩ => ⟨S_, .f32⟩
  | .hbm, ⟨32, _⟩ => ⟨S1x1024x256, .f32⟩
  | .hbm, ⟨33, _⟩ => ⟨S1x1024x256, .f32⟩
  | .hbm, ⟨34, _⟩ => ⟨S1x1024x256, .f32⟩
  | .hbm, ⟨35, _⟩ => ⟨S_, .f32⟩
  | .hbm, ⟨36, _⟩ => ⟨S1x1024x256, .f32⟩
  | .hbm, ⟨37, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel14.lean ====
abbrev S1024 : Shape := ⟨1, ![1024]⟩
abbrev S1x1x1024 : Shape := ⟨3, ![1, 1, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1024, .f32⟩
  | .hbm, ⟨12, _⟩ => ⟨S1024, .f32⟩
  | .hbm, ⟨13, _⟩ => ⟨S1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel14Ideal.lean ====
abbrev S1024 : Shape := ⟨1, ![1024]⟩
abbrev S1x1x1024 : Shape := ⟨3, ![1, 1, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1024, .f32⟩
  | .hbm, ⟨12, _⟩ => ⟨S1024, .f32⟩
  | .hbm, ⟨13, _⟩ => ⟨S1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference14Ideal.lean ====
abbrev S1024 : Shape := ⟨1, ![1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x3x128 : Shape := ⟨3, ![2, 3, 128]⟩
abbrev S1x3x128 : Shape := ⟨3, ![1, 3, 128]⟩
abbrev S3x128 : Shape := ⟨2, ![3, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S2x3x128, .f32⟩
  | .hbm, ⟨5, _⟩ => ⟨S2x3x128, .f32⟩
  | .hbm, ⟨6, _⟩ => ⟨S2x3x128, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | .local _ .vmem, ⟨8, _⟩ => ⟨S1x3x128, .f32⟩
  | .local _ .vmem, ⟨9, _⟩ => ⟨S1x3x128, .f32⟩
  | .local _ .vmem, ⟨10, _⟩ => ⟨S1x3x128, .f32⟩
  | .local _ .vmem, ⟨11, _⟩ => ⟨S1x3x128, .f32⟩
  | .local _ .vmem, ⟨12, _⟩ => ⟨S1x3x128, .f32⟩
  | .local _ .vmem, ⟨13, _⟩ => ⟨S1x3x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel15Ideal.lean ====
abbrev S2x3x128 : Shape := ⟨3, ![2, 3, 128]⟩
abbrev S1x3x128 : Shape := ⟨3, ![1, 3, 128]⟩
abbrev S3x128 : Shape := ⟨2, ![3, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S2x3x128, .f32⟩
  | .hbm, ⟨5, _⟩ => ⟨S2x3x128, .f32⟩
  | .hbm, ⟨6, _⟩ => ⟨S2x3x128, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | .local _ .vmem, ⟨8, _⟩ => ⟨S1x3x128, .f32⟩
  | .local _ .vmem, ⟨9, _⟩ => ⟨S1x3x128, .f32⟩
  | .local _ .vmem, ⟨10, _⟩ => ⟨S1x3x128, .f32⟩
  | .local _ .vmem, ⟨11, _⟩ => ⟨S1x3x128, .f32⟩
  | .local _ .vmem, ⟨12, _⟩ => ⟨S1x3x128, .f32⟩
  | .local _ .vmem, ⟨13, _⟩ => ⟨S1x3x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x3x128 : Shape := ⟨3, ![2, 3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S_, .f32⟩
  | .hbm, ⟨5, _⟩ => ⟨S2x3x128, .f32⟩
  | .hbm, ⟨6, _⟩ => ⟨S2x3x128, .f32⟩
  | .hbm, ⟨7, _⟩ => ⟨S_, .f32⟩
  | .hbm, ⟨8, _⟩ => ⟨S2x3x128, .f32⟩
  | .hbm, ⟨9, _⟩ => ⟨S2x3x128, .f32⟩
  | .hbm, ⟨10, _⟩ => ⟨S2x3x128, .f32⟩
  | .hbm, ⟨11, _⟩ => ⟨S_, .f32⟩
  | .hbm, ⟨12, _⟩ => ⟨S2x3x128, .f32⟩
  | .hbm, ⟨13, _⟩ => ⟨S2x3x128, .f32⟩
  | .hbm, ⟨14, _⟩ => ⟨S2x3x128, .f32⟩
  | .hbm, ⟨15, _⟩ => ⟨S_, .f32⟩
  | .hbm, ⟨16, _⟩ => ⟨S2x3x128, .f32⟩
  | .hbm, ⟨17, _⟩ => ⟨S2x3x128, .f32⟩
  | .hbm, ⟨18, _⟩ => ⟨S2x3x128, .f32⟩
  | .hbm, ⟨19, _⟩ => ⟨S_, .f32⟩
  | .hbm, ⟨20, _⟩ => ⟨S2x3x128, .f32⟩
  | .hbm, ⟨21, _⟩ => ⟨S2x3x128, .f32⟩
  | .hbm, ⟨22, _⟩ => ⟨S_, .f32⟩
  | .hbm, ⟨23, _⟩ => ⟨S2x3x128, .f32⟩
  | .hbm, ⟨24, _⟩ => ⟨S2x3x128, .f32⟩
  | .hbm, ⟨25, _⟩ => ⟨S2x3x128, .f32⟩
  | .hbm, ⟨26, _⟩ => ⟨S_, .f32⟩
  | .hbm, ⟨27, _⟩ => ⟨S2x3x128, .f32⟩
  | .hbm, ⟨28, _⟩ => ⟨S2x3x128, .f32⟩
  | .hbm, ⟨29, _⟩ => ⟨S2x3x128, .f32⟩
  | .hbm, ⟨30, _⟩ => ⟨S_, .f32⟩
  | .hbm, ⟨31, _⟩ => ⟨S2x3x128, .f32⟩
  | .hbm, ⟨32, _⟩ => ⟨S2x3x128, .f32⟩
  | .hbm, ⟨33, _⟩ => ⟨S2x3x128, .f32⟩
  | .hbm, ⟨34, _⟩ => ⟨S_, .f32⟩
  | .hbm, ⟨35, _⟩ => ⟨S2x3x128, .f32⟩
  | .hbm, ⟨36, _⟩ => ⟨S2x3x128, .f32⟩
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1x8 : Shape := ⟨2, ![1, 8]⟩
abbrev S1x1x8 : Shape := ⟨3, ![1, 1, 8]⟩

abbrev nBuf : Space → Nat
  | .hbm => 14
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x1x8, .f32⟩
  | .hbm, ⟨5, _⟩ => ⟨S1x1x8, .f32⟩
  | .hbm, ⟨6, _⟩ => ⟨S1x1x8, .f32⟩
  | .hbm, ⟨7, _⟩ => ⟨S1x1x8, .f32⟩
  | .hbm, ⟨8, _⟩ => ⟨S1x1x8, .f32⟩
  | .hbm, ⟨9, _⟩ => ⟨S1x1x8, .f32⟩
  | .hbm, ⟨10, _⟩ => ⟨S1x1x8, .f32⟩
  | .hbm, ⟨11, _⟩ => ⟨S1x8, .f32⟩
  | .hbm, ⟨12, _⟩ => ⟨S1x8, .f32⟩
  | .hbm, ⟨13, _⟩ => ⟨S1x8, .f32⟩
  | .local _ .vmem, ⟨0, _⟩ => ⟨S1x1x8, .f32⟩
  | .local _ .vmem, ⟨1, _⟩ => ⟨S1x1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel16Ideal.lean ====
abbrev S1x8 : Shape := ⟨2, ![1, 8]⟩
abbrev S1x1x8 : Shape := ⟨3, ![1, 1, 8]⟩

abbrev nBuf : Space → Nat
  | .hbm => 14
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x1x8, .f32⟩
  | .hbm, ⟨5, _⟩ => ⟨S1x1x8, .f32⟩
  | .hbm, ⟨6, _⟩ => ⟨S1x1x8, .f32⟩
  | .hbm, ⟨7, _⟩ => ⟨S1x1x8, .f32⟩
  | .hbm, ⟨8, _⟩ => ⟨S1x1x8, .f32⟩
  | .hbm, ⟨9, _⟩ => ⟨S1x1x8, .f32⟩
  | .hbm, ⟨10, _⟩ => ⟨S1x1x8, .f32⟩
  | .hbm, ⟨11, _⟩ => ⟨S1x8, .f32⟩
  | .hbm, ⟨12, _⟩ => ⟨S1x8, .f32⟩
  | .hbm, ⟨13, _⟩ => ⟨S1x8, .f32⟩
  | .local _ .vmem, ⟨0, _⟩ => ⟨S1x1x8, .f32⟩
  | .local _ .vmem, ⟨1, _⟩ => ⟨S1x1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference16Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x128, .f32⟩
  | .hbm, ⟨10, _⟩ => ⟨S4x128x128, .f32⟩
  | .hbm, ⟨11, _⟩ => ⟨S1x4x128x128, .f32⟩
  | .hbm, ⟨12, _⟩ => ⟨S1x4x128x128, .f32⟩
  | .hbm, ⟨13, _⟩ => ⟨S1x4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel17Ideal.lean ====
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x128, .f32⟩
  | .hbm, ⟨10, _⟩ => ⟨S4x128x128, .f32⟩
  | .hbm, ⟨11, _⟩ => ⟨S1x4x128x128, .f32⟩
  | .hbm, ⟨12, _⟩ => ⟨S1x4x128x128, .f32⟩
  | .hbm, ⟨13, _⟩ => ⟨S1x4x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | _, _ => ⟨S1x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S1x4x128x128 : Shape := ⟨4, ![1, 4, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x128x128, .f32⟩
  | .hbm, ⟨1, _⟩ => ⟨S1x4x128x128, .f32⟩
  | .hbm, ⟨2, _⟩ => ⟨S1x4x128x128, .f32⟩
  | .hbm, ⟨3, _⟩ => ⟨S1x4x128x128, .f32⟩
  | .hbm, ⟨4, _⟩ => ⟨S_, .f32⟩
  | .hbm, ⟨5, _⟩ => ⟨S1x4x128x128, .f32⟩
  | .hbm, ⟨6, _⟩ => ⟨S1x4x128x128, .f32⟩
  | .hbm, ⟨7, _⟩ => ⟨S_, .f32⟩
  | .hbm, ⟨8, _⟩ => ⟨S1x4x128x128, .f32⟩
  | .hbm, ⟨9, _⟩ => ⟨S1x4x128x128, .f32⟩
  | .hbm, ⟨10, _⟩ => ⟨S1x4x128x128, .f32⟩
  | .hbm, ⟨11, _⟩ => ⟨S_, .f32⟩
  | .hbm, ⟨12, _⟩ => ⟨S1x4x128x128, .f32⟩
  | .hbm, ⟨13, _⟩ => ⟨S1x4x128x128, .f32⟩
  | .hbm, ⟨14, _⟩ => ⟨S1x4x128x128, .f32⟩
  | .hbm, ⟨15, _⟩ => ⟨S_, .f32⟩
  | .hbm, ⟨16, _⟩ => ⟨S1x4x128x128, .f32⟩
  | .hbm, ⟨17, _⟩ => ⟨S1x4x128x128, .f32⟩
  | .hbm, ⟨18, _⟩ => ⟨S1x4x128x128, .f32⟩
  | .hbm, ⟨19, _⟩ => ⟨S_, .f32⟩
  | .hbm, ⟨20, _⟩ => ⟨S1x4x128x128, .f32⟩
  | .hbm, ⟨21, _⟩ => ⟨S1x4x128x128, .f32⟩
  | .hbm, ⟨22, _⟩ => ⟨S_, .f32⟩
  | .hbm, ⟨23, _⟩ => ⟨S1x4x128x128, .f32⟩
  | .hbm, ⟨24, _⟩ => ⟨S1x4x128x128, .f32⟩
  | .hbm, ⟨25, _⟩ => ⟨S1x4x128x128, .f32⟩
  | .hbm, ⟨26, _⟩ => ⟨S_, .f32⟩
  | .hbm, ⟨27, _⟩ => ⟨S1x4x128x128, .f32⟩
  | .hbm, ⟨28, _⟩ => ⟨S1x4x128x128, .f32⟩
  | .hbm, ⟨29, _⟩ => ⟨S1x4x128x128, .f32⟩
  | .hbm, ⟨30, _⟩ => ⟨S_, .f32⟩
  | .hbm, ⟨31, _⟩ => ⟨S1x4x128x128, .f32⟩
  | .hbm, ⟨32, _⟩ => ⟨S1x4x128x128, .f32⟩
  | .hbm, ⟨33, _⟩ => ⟨S1x4x128x128, .f32⟩
  | .hbm, ⟨34, _⟩ => ⟨S_, .f32⟩
  | .hbm, ⟨35, _⟩ => ⟨S1x4x128x128, .f32⟩
  | .hbm, ⟨36, _⟩ => ⟨S1x4x128x128, .f32⟩
  | _, _ => ⟨S1x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x512 : Shape := ⟨2, ![1, 512]⟩
abbrev S1x1x512 : Shape := ⟨3, ![1, 1, 512]⟩

abbrev nBuf : Space → Nat
  | .hbm => 14
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .hbm, ⟨8, _⟩ => ⟨S1x1x512, .f32⟩
  | .hbm, ⟨9, _⟩ => ⟨S1x1x512, .f32⟩
  | .hbm, ⟨10, _⟩ => ⟨S1x1x512, .f32⟩
  | .hbm, ⟨11, _⟩ => ⟨S1x512, .f32⟩
  | .hbm, ⟨12, _⟩ => ⟨S1x512, .f32⟩
  | .hbm, ⟨13, _⟩ => ⟨S1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel18Ideal.lean ====
abbrev S1x512 : Shape := ⟨2, ![1, 512]⟩
abbrev S1x1x512 : Shape := ⟨3, ![1, 1, 512]⟩

abbrev nBuf : Space → Nat
  | .hbm => 14
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .hbm, ⟨8, _⟩ => ⟨S1x1x512, .f32⟩
  | .hbm, ⟨9, _⟩ => ⟨S1x1x512, .f32⟩
  | .hbm, ⟨10, _⟩ => ⟨S1x1x512, .f32⟩
  | .hbm, ⟨11, _⟩ => ⟨S1x512, .f32⟩
  | .hbm, ⟨12, _⟩ => ⟨S1x512, .f32⟩
  | .hbm, ⟨13, _⟩ => ⟨S1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference18Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x4x128 : Shape := ⟨3, ![1, 4, 128]⟩
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S1x4x128, .f32⟩
  | .hbm, ⟨5, _⟩ => ⟨S1x4x128, .f32⟩
  | .hbm, ⟨6, _⟩ => ⟨S1x4x128, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel19Ideal.lean ====
abbrev S1x4x128 : Shape := ⟨3, ![1, 4, 128]⟩
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S1x4x128, .f32⟩
  | .hbm, ⟨5, _⟩ => ⟨S1x4x128, .f32⟩
  | .hbm, ⟨6, _⟩ => ⟨S1x4x128, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | _, _ => ⟨S1x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference19Ideal.lean ====
abbrev S1x4x128 : Shape := ⟨3, ![1, 4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x128, .f32⟩
  | .hbm, ⟨1, _⟩ => ⟨S1x4x128, .f32⟩
  | .hbm, ⟨2, _⟩ => ⟨S1x4x128, .f32⟩
  | .hbm, ⟨3, _⟩ => ⟨S1x4x128, .f32⟩
  | .hbm, ⟨4, _⟩ => ⟨S_, .f32⟩
  | .hbm, ⟨5, _⟩ => ⟨S1x4x128, .f32⟩
  | .hbm, ⟨6, _⟩ => ⟨S1x4x128, .f32⟩
  | .hbm, ⟨7, _⟩ => ⟨S_, .f32⟩
  | .hbm, ⟨8, _⟩ => ⟨S1x4x128, .f32⟩
  | .hbm, ⟨9, _⟩ => ⟨S1x4x128, .f32⟩
  | .hbm, ⟨10, _⟩ => ⟨S1x4x128, .f32⟩
  | .hbm, ⟨11, _⟩ => ⟨S_, .f32⟩
  | .hbm, ⟨12, _⟩ => ⟨S1x4x128, .f32⟩
  | .hbm, ⟨13, _⟩ => ⟨S1x4x128, .f32⟩
  | .hbm, ⟨14, _⟩ => ⟨S1x4x128, .f32⟩
  | .hbm, ⟨15, _⟩ => ⟨S_, .f32⟩
  | .hbm, ⟨16, _⟩ => ⟨S1x4x128, .f32⟩
  | .hbm, ⟨17, _⟩ => ⟨S1x4x128, .f32⟩
  | .hbm, ⟨18, _⟩ => ⟨S1x4x128, .f32⟩
  | .hbm, ⟨19, _⟩ => ⟨S_, .f32⟩
  | .hbm, ⟨20, _⟩ => ⟨S1x4x128, .f32⟩
  | .hbm, ⟨21, _⟩ => ⟨S1x4x128, .f32⟩
  | .hbm, ⟨22, _⟩ => ⟨S_, .f32⟩
  | .hbm, ⟨23, _⟩ => ⟨S1x4x128, .f32⟩
  | .hbm, ⟨24, _⟩ => ⟨S1x4x128, .f32⟩
  | .hbm, ⟨25, _⟩ => ⟨S1x4x128, .f32⟩
  | .hbm, ⟨26, _⟩ => ⟨S_, .f32⟩
  | .hbm, ⟨27, _⟩ => ⟨S1x4x128, .f32⟩
  | .hbm, ⟨28, _⟩ => ⟨S1x4x128, .f32⟩
  | .hbm, ⟨29, _⟩ => ⟨S1x4x128, .f32⟩
  | .hbm, ⟨30, _⟩ => ⟨S_, .f32⟩
  | .hbm, ⟨31, _⟩ => ⟨S1x4x128, .f32⟩
  | .hbm, ⟨32, _⟩ => ⟨S1x4x128, .f32⟩
  | .hbm, ⟨33, _⟩ => ⟨S1x4x128, .f32⟩
  | .hbm, ⟨34, _⟩ => ⟨S_, .f32⟩
  | .hbm, ⟨35, _⟩ => ⟨S1x4x128, .f32⟩
  | .hbm, ⟨36, _⟩ => ⟨S1x4x128, .f32⟩
  | _, _ => ⟨S1x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x128 : Shape := ⟨2, ![1, 128]⟩
abbrev S1x1x128 : Shape := ⟨3, ![1, 1, 128]⟩

abbrev nBuf : Space → Nat
  | .hbm => 14
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x1x128, .f32⟩
  | .hbm, ⟨5, _⟩ => ⟨S1x1x128, .f32⟩
  | .hbm, ⟨6, _⟩ => ⟨S1x1x128, .f32⟩
  | .hbm, ⟨7, _⟩ => ⟨S1x1x128, .f32⟩
  | .hbm, ⟨8, _⟩ => ⟨S1x1x128, .f32⟩
  | .hbm, ⟨9, _⟩ => ⟨S1x1x128, .f32⟩
  | .hbm, ⟨10, _⟩ => ⟨S1x1x128, .f32⟩
  | .hbm, ⟨11, _⟩ => ⟨S1x128, .f32⟩
  | .hbm, ⟨12, _⟩ => ⟨S1x128, .f32⟩
  | .hbm, ⟨13, _⟩ => ⟨S1x128, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel20Ideal.lean ====
abbrev S1x128 : Shape := ⟨2, ![1, 128]⟩
abbrev S1x1x128 : Shape := ⟨3, ![1, 1, 128]⟩

abbrev nBuf : Space → Nat
  | .hbm => 14
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x1x128, .f32⟩
  | .hbm, ⟨5, _⟩ => ⟨S1x1x128, .f32⟩
  | .hbm, ⟨6, _⟩ => ⟨S1x1x128, .f32⟩
  | .hbm, ⟨7, _⟩ => ⟨S1x1x128, .f32⟩
  | .hbm, ⟨8, _⟩ => ⟨S1x1x128, .f32⟩
  | .hbm, ⟨9, _⟩ => ⟨S1x1x128, .f32⟩
  | .hbm, ⟨10, _⟩ => ⟨S1x1x128, .f32⟩
  | .hbm, ⟨11, _⟩ => ⟨S1x128, .f32⟩
  | .hbm, ⟨12, _⟩ => ⟨S1x128, .f32⟩
  | .hbm, ⟨13, _⟩ => ⟨S1x128, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference20Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x2x8x128x128 : Shape := ⟨5, ![1, 2, 8, 128, 128]⟩
abbrev S16x128x128 : Shape := ⟨3, ![16, 128, 128]⟩
abbrev S1x128x128 : Shape := ⟨3, ![1, 128, 128]⟩
abbrev S128x128 : Shape := ⟨2, ![128, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x2x8x128x128, .f32⟩
  | .hbm, ⟨1, _⟩ => ⟨S1x2x8x128x128, .f32⟩
  | .hbm, ⟨2, _⟩ => ⟨S1x2x8x128x128, .f32⟩
  | .hbm, ⟨3, _⟩ => ⟨S1x2x8x128x128, .f32⟩
  | .hbm, ⟨4, _⟩ => ⟨S16x128x128, .f32⟩
  | .hbm, ⟨5, _⟩ => ⟨S16x128x128, .f32⟩
  | .hbm, ⟨6, _⟩ => ⟨S16x128x128, .f32⟩
  | .hbm, ⟨7, _⟩ => ⟨S16x128x128, .f32⟩
  | .hbm, ⟨8, _⟩ => ⟨S16x128x128, .f32⟩
  | .hbm, ⟨9, _⟩ => ⟨S16x128x128, .f32⟩
  | .hbm, ⟨10, _⟩ => ⟨S16x128x128, .f32⟩
  | .hbm, ⟨11, _⟩ => ⟨S1x2x8x128x128, .f32⟩
  | .hbm, ⟨12, _⟩ => ⟨S1x2x8x128x128, .f32⟩
  | .hbm, ⟨13, _⟩ => ⟨S1x2x8x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | _, _ => ⟨S1x2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
abbrev S1x2x8x128x128 : Shape := ⟨5, ![1, 2, 8, 128, 128]⟩
abbrev S16x128x128 : Shape := ⟨3, ![16, 128, 128]⟩
abbrev S1x128x128 : Shape := ⟨3, ![1, 128, 128]⟩
abbrev S128x128 : Shape := ⟨2, ![128, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x2x8x128x128, .f32⟩
  | .hbm, ⟨1, _⟩ => ⟨S1x2x8x128x128, .f32⟩
  | .hbm, ⟨2, _⟩ => ⟨S1x2x8x128x128, .f32⟩
  | .hbm, ⟨3, _⟩ => ⟨S1x2x8x128x128, .f32⟩
  | .hbm, ⟨4, _⟩ => ⟨S16x128x128, .f32⟩
  | .hbm, ⟨5, _⟩ => ⟨S16x128x128, .f32⟩
  | .hbm, ⟨6, _⟩ => ⟨S16x128x128, .f32⟩
  | .hbm, ⟨7, _⟩ => ⟨S16x128x128, .f32⟩
  | .hbm, ⟨8, _⟩ => ⟨S16x128x128, .f32⟩
  | .hbm, ⟨9, _⟩ => ⟨S16x128x128, .f32⟩
  | .hbm, ⟨10, _⟩ => ⟨S16x128x128, .f32⟩
  | .hbm, ⟨11, _⟩ => ⟨S1x2x8x128x128, .f32⟩
  | .hbm, ⟨12, _⟩ => ⟨S1x2x8x128x128, .f32⟩
  | .hbm, ⟨13, _⟩ => ⟨S1x2x8x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | _, _ => ⟨S1x2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S1x2x8x128x128 : Shape := ⟨5, ![1, 2, 8, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x8x128x128, .f32⟩
  | .hbm, ⟨1, _⟩ => ⟨S1x2x8x128x128, .f32⟩
  | .hbm, ⟨2, _⟩ => ⟨S1x2x8x128x128, .f32⟩
  | .hbm, ⟨3, _⟩ => ⟨S1x2x8x128x128, .f32⟩
  | .hbm, ⟨4, _⟩ => ⟨S_, .f32⟩
  | .hbm, ⟨5, _⟩ => ⟨S1x2x8x128x128, .f32⟩
  | .hbm, ⟨6, _⟩ => ⟨S1x2x8x128x128, .f32⟩
  | .hbm, ⟨7, _⟩ => ⟨S_, .f32⟩
  | .hbm, ⟨8, _⟩ => ⟨S1x2x8x128x128, .f32⟩
  | .hbm, ⟨9, _⟩ => ⟨S1x2x8x128x128, .f32⟩
  | .hbm, ⟨10, _⟩ => ⟨S1x2x8x128x128, .f32⟩
  | .hbm, ⟨11, _⟩ => ⟨S_, .f32⟩
  | .hbm, ⟨12, _⟩ => ⟨S1x2x8x128x128, .f32⟩
  | .hbm, ⟨13, _⟩ => ⟨S1x2x8x128x128, .f32⟩
  | .hbm, ⟨14, _⟩ => ⟨S1x2x8x128x128, .f32⟩
  | .hbm, ⟨15, _⟩ => ⟨S_, .f32⟩
  | .hbm, ⟨16, _⟩ => ⟨S1x2x8x128x128, .f32⟩
  | .hbm, ⟨17, _⟩ => ⟨S1x2x8x128x128, .f32⟩
  | .hbm, ⟨18, _⟩ => ⟨S1x2x8x128x128, .f32⟩
  | .hbm, ⟨19, _⟩ => ⟨S_, .f32⟩
  | .hbm, ⟨20, _⟩ => ⟨S1x2x8x128x128, .f32⟩
  | .hbm, ⟨21, _⟩ => ⟨S1x2x8x128x128, .f32⟩
  | .hbm, ⟨22, _⟩ => ⟨S_, .f32⟩
  | .hbm, ⟨23, _⟩ => ⟨S1x2x8x128x128, .f32⟩
  | .hbm, ⟨24, _⟩ => ⟨S1x2x8x128x128, .f32⟩
  | .hbm, ⟨25, _⟩ => ⟨S1x2x8x128x128, .f32⟩
  | .hbm, ⟨26, _⟩ => ⟨S_, .f32⟩
  | .hbm, ⟨27, _⟩ => ⟨S1x2x8x128x128, .f32⟩
  | .hbm, ⟨28, _⟩ => ⟨S1x2x8x128x128, .f32⟩
  | .hbm, ⟨29, _⟩ => ⟨S1x2x8x128x128, .f32⟩
  | .hbm, ⟨30, _⟩ => ⟨S_, .f32⟩
  | .hbm, ⟨31, _⟩ => ⟨S1x2x8x128x128, .f32⟩
  | .hbm, ⟨32, _⟩ => ⟨S1x2x8x128x128, .f32⟩
  | .hbm, ⟨33, _⟩ => ⟨S1x2x8x128x128, .f32⟩
  | .hbm, ⟨34, _⟩ => ⟨S_, .f32⟩
  | .hbm, ⟨35, _⟩ => ⟨S1x2x8x128x128, .f32⟩
  | .hbm, ⟨36, _⟩ => ⟨S1x2x8x128x128, .f32⟩
  | _, _ => ⟨S1x2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x2x128 : Shape := ⟨3, ![1, 2, 128]⟩
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | _, _ => ⟨S1x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference22Ideal.lean ====
abbrev S1x2x128 : Shape := ⟨3, ![1, 2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S_, .f32⟩
  | .hbm, ⟨5, _⟩ => ⟨S1x2x128, .f32⟩
  | .hbm, ⟨6, _⟩ => ⟨S1x2x128, .f32⟩
  | .hbm, ⟨7, _⟩ => ⟨S_, .f32⟩
  | .hbm, ⟨8, _⟩ => ⟨S1x2x128, .f32⟩
  | .hbm, ⟨9, _⟩ => ⟨S1x2x128, .f32⟩
  | .hbm, ⟨10, _⟩ => ⟨S1x2x128, .f32⟩
  | .hbm, ⟨11, _⟩ => ⟨S_, .f32⟩
  | .hbm, ⟨12, _⟩ => ⟨S1x2x128, .f32⟩
  | .hbm, ⟨13, _⟩ => ⟨S1x2x128, .f32⟩
  | .hbm, ⟨14, _⟩ => ⟨S1x2x128, .f32⟩
  | .hbm, ⟨15, _⟩ => ⟨S_, .f32⟩
  | .hbm, ⟨16, _⟩ => ⟨S1x2x128, .f32⟩
  | .hbm, ⟨17, _⟩ => ⟨S1x2x128, .f32⟩
  | .hbm, ⟨18, _⟩ => ⟨S1x2x128, .f32⟩
  | .hbm, ⟨19, _⟩ => ⟨S_, .f32⟩
  | .hbm, ⟨20, _⟩ => ⟨S1x2x128, .f32⟩
  | .hbm, ⟨21, _⟩ => ⟨S1x2x128, .f32⟩
  | .hbm, ⟨22, _⟩ => ⟨S_, .f32⟩
  | .hbm, ⟨23, _⟩ => ⟨S1x2x128, .f32⟩
  | .hbm, ⟨24, _⟩ => ⟨S1x2x128, .f32⟩
  | .hbm, ⟨25, _⟩ => ⟨S1x2x128, .f32⟩
  | .hbm, ⟨26, _⟩ => ⟨S_, .f32⟩
  | .hbm, ⟨27, _⟩ => ⟨S1x2x128, .f32⟩
  | .hbm, ⟨28, _⟩ => ⟨S1x2x128, .f32⟩
  | .hbm, ⟨29, _⟩ => ⟨S1x2x128, .f32⟩
  | .hbm, ⟨30, _⟩ => ⟨S_, .f32⟩
  | .hbm, ⟨31, _⟩ => ⟨S1x2x128, .f32⟩
  | .hbm, ⟨32, _⟩ => ⟨S1x2x128, .f32⟩
  | .hbm, ⟨33, _⟩ => ⟨S1x2x128, .f32⟩
  | .hbm, ⟨34, _⟩ => ⟨S_, .f32⟩
  | .hbm, ⟨35, _⟩ => ⟨S1x2x128, .f32⟩
  | .hbm, ⟨36, _⟩ => ⟨S1x2x128, .f32⟩
  | _, _ => ⟨S1x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4608x1024 : Shape := ⟨2, ![4608, 1024]⟩
abbrev S1024x1280 : Shape := ⟨2, ![1024, 1280]⟩
abbrev S1280x1024 : Shape := ⟨2, ![1280, 1024]⟩
abbrev S4608x1280 : Shape := ⟨2, ![4608, 1280]⟩
abbrev S1536x1024 : Shape := ⟨2, ![1536, 1024]⟩
abbrev S1536x1280 : Shape := ⟨2, ![1536, 1280]⟩

abbrev nBuf : Space → Nat
  | .hbm => 5
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S1024x1280, .f32⟩
  | .hbm, ⟨2, _⟩ => ⟨S1280x1024, .f32⟩
  | .hbm, ⟨3, _⟩ => ⟨S1280x1024, .bf16⟩
  | .hbm, ⟨4, _⟩ => ⟨S4608x1280, .bf16⟩
  | .local _ .vmem, ⟨0, _⟩ => ⟨S1536x1024, .bf16⟩
  | .local _ .vmem, ⟨1, _⟩ => ⟨S1536x1024, .bf16⟩
  | .local _ .vmem, ⟨2, _⟩ => ⟨S1280x1024, .bf16⟩
  | .local _ .vmem, ⟨3, _⟩ => ⟨S1536x1280, .bf16⟩
  | .local _ .vmem, ⟨4, _⟩ => ⟨S1536x1280, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S4608x1024 : Shape := ⟨2, ![4608, 1024]⟩
abbrev S1024x1280 : Shape := ⟨2, ![1024, 1280]⟩
abbrev S1280x1024 : Shape := ⟨2, ![1280, 1024]⟩
abbrev S4608x1280 : Shape := ⟨2, ![4608, 1280]⟩
abbrev S1536x1024 : Shape := ⟨2, ![1536, 1024]⟩
abbrev S1536x1280 : Shape := ⟨2, ![1536, 1280]⟩

abbrev nBuf : Space → Nat
  | .hbm => 5
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S1024x1280, .f32⟩
  | .hbm, ⟨2, _⟩ => ⟨S1280x1024, .f32⟩
  | .hbm, ⟨3, _⟩ => ⟨S1280x1024, .bf16⟩
  | .hbm, ⟨4, _⟩ => ⟨S4608x1280, .bf16⟩
  | .local _ .vmem, ⟨0, _⟩ => ⟨S1536x1024, .bf16⟩
  | .local _ .vmem, ⟨1, _⟩ => ⟨S1536x1024, .bf16⟩
  | .local _ .vmem, ⟨2, _⟩ => ⟨S1280x1024, .bf16⟩
  | .local _ .vmem, ⟨3, _⟩ => ⟨S1536x1280, .bf16⟩
  | .local _ .vmem, ⟨4, _⟩ => ⟨S1536x1280, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4608x1024 : Shape := ⟨2, ![4608, 1024]⟩
abbrev S1024x1280 : Shape := ⟨2, ![1024, 1280]⟩
abbrev S4608x1280 : Shape := ⟨2, ![4608, 1280]⟩

abbrev nBuf : Space → Nat
  | .hbm => 5
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1280, .f32⟩
  | .hbm, ⟨2, _⟩ => ⟨S4608x1024, .f32⟩
  | .hbm, ⟨3, _⟩ => ⟨S4608x1280, .f32⟩
  | .hbm, ⟨4, _⟩ => ⟨S4608x1280, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S4608x1024 : Shape := ⟨2, ![4608, 1024]⟩
abbrev S1024x2048 : Shape := ⟨2, ![1024, 2048]⟩
abbrev S2048x1024 : Shape := ⟨2, ![2048, 1024]⟩
abbrev S4608x2048 : Shape := ⟨2, ![4608, 2048]⟩
abbrev S1536x1024 : Shape := ⟨2, ![1536, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S4608x2048, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4608x1024 : Shape := ⟨2, ![4608, 1024]⟩
abbrev S1024x2048 : Shape := ⟨2, ![1024, 2048]⟩
abbrev S4608x2048 : Shape := ⟨2, ![4608, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x2048, .f32⟩
  | .hbm, ⟨2, _⟩ => ⟨S4608x1024, .f32⟩
  | .hbm, ⟨3, _⟩ => ⟨S4608x2048, .f32⟩
  | .hbm, ⟨4, _⟩ => ⟨S4608x2048, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel25.lean ====
abbrev S4608x1024 : Shape := ⟨2, ![4608, 1024]⟩
abbrev S1024x1024 : Shape := ⟨2, ![1024, 1024]⟩
abbrev S1536x1024 : Shape := ⟨2, ![1536, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .f32⟩
  | .hbm, ⟨2, _⟩ => ⟨S1024x1024, .bf16⟩
  | .hbm, ⟨3, _⟩ => ⟨S4608x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .bf16⟩
  | .local _ .vmem, ⟨4, _⟩ => ⟨S1536x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4608x1024 : Shape := ⟨2, ![4608, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .f32⟩
  | .hbm, ⟨2, _⟩ => ⟨S4608x1024, .f32⟩
  | .hbm, ⟨3, _⟩ => ⟨S4608x1024, .f32⟩
  | .hbm, ⟨4, _⟩ => ⟨S4608x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S4608x1024 : Shape := ⟨2, ![4608, 1024]⟩
abbrev S1024x1024 : Shape := ⟨2, ![1024, 1024]⟩
abbrev S1536x1024 : Shape := ⟨2, ![1536, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .f32⟩
  | .hbm, ⟨2, _⟩ => ⟨S1024x1024, .bf16⟩
  | .hbm, ⟨3, _⟩ => ⟨S4608x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .bf16⟩
  | .local _ .vmem, ⟨4, _⟩ => ⟨S1536x1024, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4608x1024 : Shape := ⟨2, ![4608, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .f32⟩
  | .hbm, ⟨2, _⟩ => ⟨S_, .f32⟩
  | .hbm, ⟨3, _⟩ => ⟨S4608x1024, .f32⟩
  | .hbm, ⟨4, _⟩ => ⟨S4608x1024, .f32⟩
  | .hbm, ⟨5, _⟩ => ⟨S4608x1024, .f32⟩
  | .hbm, ⟨6, _⟩ => ⟨S4608x1024, .f32⟩
  | .hbm, ⟨7, _⟩ => ⟨S4608x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S4608x1280 : Shape := ⟨2, ![4608, 1280]⟩
abbrev S1024x1280 : Shape := ⟨2, ![1024, 1280]⟩
abbrev S1280x1024 : Shape := ⟨2, ![1280, 1024]⟩
abbrev S4608x1024 : Shape := ⟨2, ![4608, 1024]⟩
abbrev S1536x640 : Shape := ⟨2, ![1536, 640]⟩
abbrev S640x1024 : Shape := ⟨2, ![640, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4608x1280, .bf16⟩
  | .hbm, ⟨1, _⟩ => ⟨S1024x1280, .f32⟩
  | .hbm, ⟨2, _⟩ => ⟨S1280x1024, .f32⟩
  | .hbm, ⟨3, _⟩ => ⟨S1280x1024, .bf16⟩
  | .hbm, ⟨4, _⟩ => ⟨S4608x1024, .bf16⟩
  | .local _ .vmem, ⟨0, _⟩ => ⟨S1536x640, .bf16⟩
  | .local _ .vmem, ⟨1, _⟩ => ⟨S1536x640, .bf16⟩
  | .local _ .vmem, ⟨2, _⟩ => ⟨S640x1024, .bf16⟩
  | .local _ .vmem, ⟨3, _⟩ => ⟨S640x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4608x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S4608x1280 : Shape := ⟨2, ![4608, 1280]⟩
abbrev S1024x1280 : Shape := ⟨2, ![1024, 1280]⟩
abbrev S1280x1024 : Shape := ⟨2, ![1280, 1024]⟩
abbrev S4608x1024 : Shape := ⟨2, ![4608, 1024]⟩
abbrev S1536x640 : Shape := ⟨2, ![1536, 640]⟩
abbrev S640x1024 : Shape := ⟨2, ![640, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4608x1280, .bf16⟩
  | .hbm, ⟨1, _⟩ => ⟨S1024x1280, .f32⟩
  | .hbm, ⟨2, _⟩ => ⟨S1280x1024, .f32⟩
  | .hbm, ⟨3, _⟩ => ⟨S1280x1024, .bf16⟩
  | .hbm, ⟨4, _⟩ => ⟨S4608x1024, .bf16⟩
  | .local _ .vmem, ⟨0, _⟩ => ⟨S1536x640, .bf16⟩
  | .local _ .vmem, ⟨1, _⟩ => ⟨S1536x640, .bf16⟩
  | .local _ .vmem, ⟨2, _⟩ => ⟨S640x1024, .bf16⟩
  | .local _ .vmem, ⟨3, _⟩ => ⟨S640x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4608x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4608x1280 : Shape := ⟨2, ![4608, 1280]⟩
abbrev S1024x1280 : Shape := ⟨2, ![1024, 1280]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4608x1280, .bf16⟩
  | .hbm, ⟨1, _⟩ => ⟨S1024x1280, .f32⟩
  | .hbm, ⟨2, _⟩ => ⟨S_, .f32⟩
  | .hbm, ⟨3, _⟩ => ⟨S4608x1024, .f32⟩
  | .hbm, ⟨4, _⟩ => ⟨S4608x1280, .f32⟩
  | .hbm, ⟨5, _⟩ => ⟨S4608x1280, .f32⟩
  | .hbm, ⟨6, _⟩ => ⟨S4608x1024, .f32⟩
  | .hbm, ⟨7, _⟩ => ⟨S4608x1024, .bf16⟩
  | _, _ => ⟨S4608x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S4608x2048 : Shape := ⟨2, ![4608, 2048]⟩
abbrev S1024x2048 : Shape := ⟨2, ![1024, 2048]⟩
abbrev S2048x1024 : Shape := ⟨2, ![2048, 1024]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4608x2048, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S4608x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4608x2048 : Shape := ⟨2, ![4608, 2048]⟩
abbrev S1024x2048 : Shape := ⟨2, ![1024, 2048]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S1024x2048, .f32⟩
  | .hbm, ⟨2, _⟩ => ⟨S_, .f32⟩
  | .hbm, ⟨3, _⟩ => ⟨S4608x1024, .f32⟩
  | .hbm, ⟨4, _⟩ => ⟨S4608x2048, .f32⟩
  | .hbm, ⟨5, _⟩ => ⟨S4608x2048, .f32⟩
  | .hbm, ⟨6, _⟩ => ⟨S4608x1024, .f32⟩
  | .hbm, ⟨7, _⟩ => ⟨S4608x1024, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel29.lean ====
abbrev S4608x1024 : Shape := ⟨2, ![4608, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S1024x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S4608x1024 : Shape := ⟨2, ![4608, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S_, .f32⟩
  | .hbm, ⟨3, _⟩ => ⟨S1024x1024, .f32⟩
  | .hbm, ⟨4, _⟩ => ⟨S4608x1024, .f32⟩
  | .hbm, ⟨5, _⟩ => ⟨S4608x1024, .f32⟩
  | .hbm, ⟨6, _⟩ => ⟨S4608x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S4608x1024 : Shape := ⟨2, ![4608, 1024]⟩
abbrev S4608x1280 : Shape := ⟨2, ![4608, 1280]⟩
abbrev S1280x1024 : Shape := ⟨2, ![1280, 1024]⟩
abbrev S768x1280 : Shape := ⟨2, ![768, 1280]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S4608x1280, .bf16⟩
  | .hbm, ⟨2, _⟩ => ⟨S1280x1024, .bf16⟩
  | .local _ .vmem, ⟨0, _⟩ => ⟨S768x1280, .bf16⟩
  | .local _ .vmem, ⟨1, _⟩ => ⟨S768x1280, .bf16⟩
  | .local _ .vmem, ⟨2, _⟩ => ⟨S768x1024, .bf16⟩
  | .local _ .vmem, ⟨3, _⟩ => ⟨S768x1024, .bf16⟩
  | .local _ .vmem, ⟨4, _⟩ => ⟨S1280x1024, .bf16⟩
  | .local _ .vmem, ⟨5, _⟩ => ⟨S1280x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S4608x1024 : Shape := ⟨2, ![4608, 1024]⟩
abbrev S4608x1280 : Shape := ⟨2, ![4608, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1280, .bf16⟩
  | .hbm, ⟨2, _⟩ => ⟨S_, .f32⟩
  | .hbm, ⟨3, _⟩ => ⟨S1024x1280, .f32⟩
  | .hbm, ⟨4, _⟩ => ⟨S4608x1024, .f32⟩
  | .hbm, ⟨5, _⟩ => ⟨S4608x1280, .f32⟩
  | .hbm, ⟨6, _⟩ => ⟨S4608x1280, .f32⟩
  | .hbm, ⟨7, _⟩ => ⟨S1280x1024, .f32⟩
  | .hbm, ⟨8, _⟩ => ⟨S1024x1280, .f32⟩
  | .hbm, ⟨9, _⟩ => ⟨S1280x1024, .f32⟩
  | .hbm, ⟨10, _⟩ => ⟨S1280x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel31.lean ====
abbrev S4608x1024 : Shape := ⟨2, ![4608, 1024]⟩
abbrev S4608x2048 : Shape := ⟨2, ![4608, 2048]⟩
abbrev S2048x1024 : Shape := ⟨2, ![2048, 1024]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S4608x2048, .bf16⟩
  | .hbm, ⟨2, _⟩ => ⟨S2048x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4608x1024 : Shape := ⟨2, ![4608, 1024]⟩
abbrev S4608x2048 : Shape := ⟨2, ![4608, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x2048, .bf16⟩
  | .hbm, ⟨2, _⟩ => ⟨S_, .f32⟩
  | .hbm, ⟨3, _⟩ => ⟨S1024x2048, .f32⟩
  | .hbm, ⟨4, _⟩ => ⟨S4608x1024, .f32⟩
  | .hbm, ⟨5, _⟩ => ⟨S4608x2048, .f32⟩
  | .hbm, ⟨6, _⟩ => ⟨S4608x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel32.lean ====
abbrev S32x1024 : Shape := ⟨2, ![32, 1024]⟩
abbrev S1024x1152 : Shape := ⟨2, ![1024, 1152]⟩
abbrev S32x1152 : Shape := ⟨2, ![32, 1152]⟩

abbrev nBuf : Space → Nat
  | .hbm => 3
  | .vmem => 3
  | .smem => 0
  | _ => 0

abbrev bufTy : (tb : Table) → Fin (tcTables nBuf tb) → BufTy
  | .hbm, ⟨0, _⟩ => ⟨S32x1024, .bf16⟩
  | .hbm, ⟨1, _⟩ => ⟨S1024x1152, .f32⟩
  | .hbm, ⟨2, _⟩ => ⟨S32x1152, .f32⟩
  | .local _ .vmem, ⟨0, _⟩ => ⟨S32x1024, .bf16⟩
  | .local _ .vmem, ⟨1, _⟩ => ⟨S1024x1152, .f32⟩
  | .local _ .vmem, ⟨2, _⟩ => ⟨S32x1152, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S32x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S32x1024 : Shape := ⟨2, ![32, 1024]⟩
abbrev S1024x1152 : Shape := ⟨2, ![1024, 1152]⟩
abbrev S32x1152 : Shape := ⟨2, ![32, 1152]⟩

abbrev nBuf : Space → Nat
  | .hbm => 4
  | .vmem => 0
  | .smem => 0
  | _ => 0

abbrev bufTy : (tb : Table) → Fin (tcTables nBuf tb) → BufTy
  | .hbm, ⟨0, _⟩ => ⟨S32x1024, .bf16⟩
  | .hbm, ⟨1, _⟩ => ⟨S1024x1152, .f32⟩
  | .hbm, ⟨2, _⟩ => ⟨S32x1024, .f32⟩
  | .hbm, ⟨3, _⟩ => ⟨S32x1152, .f32⟩
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel33.lean ====
abbrev S32x1024 : Shape := ⟨2, ![32, 1024]⟩
abbrev S32x1152 : Shape := ⟨2, ![32, 1152]⟩
abbrev S1024x1152 : Shape := ⟨2, ![1024, 1152]⟩

abbrev nBuf : Space → Nat
  | .hbm => 3
  | .vmem => 3
  | .smem => 0
  | _ => 0

abbrev bufTy : (tb : Table) → Fin (tcTables nBuf tb) → BufTy
  | .hbm, ⟨0, _⟩ => ⟨S32x1024, .bf16⟩
  | .hbm, ⟨1, _⟩ => ⟨S32x1152, .bf16⟩
  | .hbm, ⟨2, _⟩ => ⟨S1024x1152, .f32⟩
  | .local _ .vmem, ⟨0, _⟩ => ⟨S32x1024, .bf16⟩
  | .local _ .vmem, ⟨1, _⟩ => ⟨S32x1152, .bf16⟩
  | .local _ .vmem, ⟨2, _⟩ => ⟨S1024x1152, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S32x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference33Ideal.lean ====
abbrev S32x1024 : Shape := ⟨2, ![32, 1024]⟩
abbrev S32x1152 : Shape := ⟨2, ![32, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .bf16⟩
  | .hbm, ⟨1, _⟩ => ⟨S32x1152, .bf16⟩
  | .hbm, ⟨2, _⟩ => ⟨S_, .f32⟩
  | .hbm, ⟨3, _⟩ => ⟨S1024x1152, .f32⟩
  | .hbm, ⟨4, _⟩ => ⟨S32x1024, .f32⟩
  | .hbm, ⟨5, _⟩ => ⟨S32x1152, .f32⟩
  | .hbm, ⟨6, _⟩ => ⟨S32x1152, .f32⟩
  | .hbm, ⟨7, _⟩ => ⟨S1152x1024, .f32⟩
  | .hbm, ⟨8, _⟩ => ⟨S1024x1152, .f32⟩
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel34.lean ====
abbrev S16x1152 : Shape := ⟨2, ![16, 1152]⟩
abbrev S1024x1152 : Shape := ⟨2, ![1024, 1152]⟩
abbrev S16x1024 : Shape := ⟨2, ![16, 1024]⟩

abbrev nBuf : Space → Nat
  | .hbm => 3
  | .vmem => 3
  | .smem => 0
  | _ => 0

abbrev bufTy : (tb : Table) → Fin (tcTables nBuf tb) → BufTy
  | .hbm, ⟨0, _⟩ => ⟨S16x1152, .bf16⟩
  | .hbm, ⟨1, _⟩ => ⟨S1024x1152, .f32⟩
  | .hbm, ⟨2, _⟩ => ⟨S16x1024, .f32⟩
  | .local _ .vmem, ⟨0, _⟩ => ⟨S16x1152, .bf16⟩
  | .local _ .vmem, ⟨1, _⟩ => ⟨S1024x1152, .f32⟩
  | .local _ .vmem, ⟨2, _⟩ => ⟨S16x1024, .f32⟩
  | _, _ => ⟨S16x1152, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference34Ideal.lean ====
abbrev S16x1152 : Shape := ⟨2, ![16, 1152]⟩
abbrev S1024x1152 : Shape := ⟨2, ![1024, 1152]⟩
abbrev S_ : Shape := ⟨0, ![]⟩
abbrev S16x1024 : Shape := ⟨2, ![16, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1152, .bf16⟩
  | .hbm, ⟨1, _⟩ => ⟨S1024x1152, .f32⟩
  | .hbm, ⟨2, _⟩ => ⟨S_, .f32⟩
  | .hbm, ⟨3, _⟩ => ⟨S16x1024, .f32⟩
  | .hbm, ⟨4, _⟩ => ⟨S16x1152, .f32⟩
  | .hbm, ⟨5, _⟩ => ⟨S16x1152, .f32⟩
  | .hbm, ⟨6, _⟩ => ⟨S16x1024, .f32⟩
  | _, _ => ⟨S16x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel35.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel35Ideal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference35Ideal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel36.lean ====
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x160x1024, .bf16⟩
  | .hbm, ⟨1, _⟩ => ⟨S160x1024, .f32⟩
  | .local _ .vmem, ⟨0, _⟩ => ⟨S8x160x1024, .bf16⟩
  | .local _ .vmem, ⟨1, _⟩ => ⟨S160x1024, .f32⟩
  | _, _ => ⟨S8x160x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel36Ideal.lean ====
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x160x1024, .bf16⟩
  | .hbm, ⟨1, _⟩ => ⟨S160x1024, .f32⟩
  | .local _ .vmem, ⟨0, _⟩ => ⟨S8x160x1024, .bf16⟩
  | .local _ .vmem, ⟨1, _⟩ => ⟨S160x1024, .f32⟩
  | _, _ => ⟨S8x160x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference36Ideal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x160x1024, .bf16⟩
  | .hbm, ⟨1, _⟩ => ⟨S8x160x1024, .f32⟩
  | .hbm, ⟨2, _⟩ => ⟨S_, .f32⟩
  | .hbm, ⟨3, _⟩ => ⟨S160x1024, .f32⟩
  | _, _ => ⟨S8x160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel37.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel37Ideal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference37Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel38.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel38Ideal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference38Ideal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel39.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .local _ .vmem, ⟨0, _⟩ => ⟨S8x32x1024, .f32⟩
  | .local _ .vmem, ⟨1, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel39Ideal.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .f32⟩
  | .hbm, ⟨1, _⟩ => ⟨S32x1024, .f32⟩
  | .local _ .vmem, ⟨0, _⟩ => ⟨S8x32x1024, .f32⟩
  | .local _ .vmem, ⟨1, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference39Ideal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel40.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel40Ideal.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference40Ideal.lean ====
abbrev S8x8x1024 : Shape := ⟨3, ![8, 8, 1024]⟩
abbrev S_ : Shape := ⟨0, ![]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel41.lean ====
abbrev S8x432x128 : Shape := ⟨3, ![8, 432, 128]⟩
abbrev S432x128 : Shape := ⟨2, ![432, 128]⟩
abbrev S1x432x128 : Shape := ⟨3, ![1, 432, 128]⟩
abbrev S2x3x9216 : Shape := ⟨3, ![2, 3, 9216]⟩
abbrev S2x1x9216 : Shape := ⟨3, ![2, 1, 9216]⟩
abbrev S2x9216 : Shape := ⟨2, ![2, 9216]⟩

abbrev nBuf : Space → Nat
  | .hbm => 11
  | .vmem => 2
  | .smem => 0
  | _ => 0

abbrev bufTy : (tb : Table) → Fin (tcTables nBuf tb) → BufTy
  | .hbm, ⟨0, _⟩ => ⟨S8x432x128, .f32⟩
  | .hbm, ⟨1, _⟩ => ⟨S432x128, .f32⟩
  | .hbm, ⟨2, _⟩ => ⟨S2x3x9216, .f32⟩
  | .hbm, ⟨3, _⟩ => ⟨S2x1x9216, .f32⟩
  | .hbm, ⟨4, _⟩ => ⟨S2x9216, .f32⟩
  | .hbm, ⟨5, _⟩ => ⟨S2x1x9216, .f32⟩
  | .hbm, ⟨6, _⟩ => ⟨S2x9216, .f32⟩
  | .hbm, ⟨7, _⟩ => ⟨S2x9216, .f32⟩
  | .hbm, ⟨8, _⟩ => ⟨S2x1x9216, .f32⟩
  | .hbm, ⟨9, _⟩ => ⟨S2x9216, .f32⟩
  | .hbm, ⟨10, _⟩ => ⟨S2x9216, .f32⟩
  | .local _ .vmem, ⟨0, _⟩ => ⟨S8x432x128, .f32⟩
  | .local _ .vmem, ⟨1, _⟩ => ⟨S432x128, .f32⟩
  | _, _ => ⟨S8x432x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x432x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S432x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference41Ideal.lean ====
abbrev S8x432x128 : Shape := ⟨3, ![8, 432, 128]⟩
abbrev S_ : Shape := ⟨0, ![]⟩
abbrev S432x128 : Shape := ⟨2, ![432, 128]⟩
abbrev S2x3x9216 : Shape := ⟨3, ![2, 3, 9216]⟩
abbrev S2x9216 : Shape := ⟨2, ![2, 9216]⟩

abbrev nBuf : Space → Nat
  | .hbm => 6
  | .vmem => 0
  | .smem => 0
  | _ => 0

abbrev bufTy : (tb : Table) → Fin (tcTables nBuf tb) → BufTy
  | .hbm, ⟨0, _⟩ => ⟨S8x432x128, .f32⟩
  | .hbm, ⟨1, _⟩ => ⟨S_, .f32⟩
  | .hbm, ⟨2, _⟩ => ⟨S432x128, .f32⟩
  | .hbm, ⟨3, _⟩ => ⟨S2x3x9216, .f32⟩
  | .hbm, ⟨4, _⟩ => ⟨S_, .f32⟩
  | .hbm, ⟨5, _⟩ => ⟨S2x9216, .f32⟩
  | _, _ => ⟨S8x432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel42.lean ====
abbrev S8x784x128 : Shape := ⟨3, ![8, 784, 128]⟩
abbrev S784x128 : Shape := ⟨2, ![784, 128]⟩
abbrev S1x784x128 : Shape := ⟨3, ![1, 784, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x784x128, .f32⟩
  | .hbm, ⟨1, _⟩ => ⟨S784x128, .f32⟩
  | .local _ .vmem, ⟨0, _⟩ => ⟨S8x784x128, .f32⟩
  | .local _ .vmem, ⟨1, _⟩ => ⟨S784x128, .f32⟩
  | _, _ => ⟨S8x784x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x784x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S784x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference42Ideal.lean ====
abbrev S8x784x128 : Shape := ⟨3, ![8, 784, 128]⟩
abbrev S_ : Shape := ⟨0, ![]⟩
abbrev S784x128 : Shape := ⟨2, ![784, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x784x128, .f32⟩
  | .hbm, ⟨1, _⟩ => ⟨S_, .f32⟩
  | .hbm, ⟨2, _⟩ => ⟨S784x128, .f32⟩
  | _, _ => ⟨S8x784x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel43.lean ====
abbrev S4608x1024 : Shape := ⟨2, ![4608, 1024]⟩
abbrev S3x9x1024 : Shape := ⟨3, ![3, 9, 1024]⟩
abbrev S4096x1024 : Shape := ⟨2, ![4096, 1024]⟩
abbrev S3x8x1024 : Shape := ⟨3, ![3, 8, 1024]⟩
abbrev S512x1024 : Shape := ⟨2, ![512, 1024]⟩
abbrev S1x9x1024 : Shape := ⟨3, ![1, 9, 1024]⟩
abbrev S1x8x1024 : Shape := ⟨3, ![1, 8, 1024]⟩
abbrev S8x1024 : Shape := ⟨2, ![8, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S4608x1024, .f32⟩
  | .hbm, ⟨1, _⟩ => ⟨S4608x1024, .bf16⟩
  | .hbm, ⟨2, _⟩ => ⟨S4608x1024, .f32⟩
  | .hbm, ⟨3, _⟩ => ⟨S3x9x1024, .f32⟩
  | .hbm, ⟨4, _⟩ => ⟨S4096x1024, .f32⟩
  | .hbm, ⟨5, _⟩ => ⟨S3x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x9x1024, .f32⟩
  | .local _ .vmem, ⟨7, _⟩ => ⟨S1x9x1024, .f32⟩
  | .local _ .vmem, ⟨8, _⟩ => ⟨S512x1024, .f32⟩
  | .local _ .vmem, ⟨9, _⟩ => ⟨S512x1024, .f32⟩
  | .local _ .vmem, ⟨10, _⟩ => ⟨S1x8x1024, .f32⟩
  | .local _ .vmem, ⟨11, _⟩ => ⟨S1x8x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32_9 : BitVec 32 := 8#32
  let v20 : BitVec 1 := Scalar.cmpi .slt arg0 c8_i32_9
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference43Ideal.lean ====
abbrev S4608x1024 : Shape := ⟨2, ![4608, 1024]⟩
abbrev S3x9x1024 : Shape := ⟨3, ![3, 9, 1024]⟩
abbrev S3x1x1024 : Shape := ⟨3, ![3, 1, 1024]⟩
abbrev S3x1024 : Shape := ⟨2, ![3, 1024]⟩
abbrev S4096x1024 : Shape := ⟨2, ![4096, 1024]⟩
abbrev S2x2048x1024 : Shape := ⟨3, ![2, 2048, 1024]⟩
abbrev S2x1024 : Shape := ⟨2, ![2, 1024]⟩
abbrev S2x1x1024 : Shape := ⟨3, ![2, 1, 1024]⟩
abbrev S_ : Shape := ⟨0, ![]⟩
abbrev S512x1024 : Shape := ⟨2, ![512, 1024]⟩
abbrev S1x512x1024 : Shape := ⟨3, ![1, 512, 1024]⟩
abbrev S1x1024 : Shape := ⟨2, ![1, 1024]⟩
abbrev S1x1x1024 : Shape := ⟨3, ![1, 1, 1024]⟩
abbrev S3x2x1024 : Shape := ⟨3, ![3, 2, 1024]⟩
abbrev S3x8x1024 : Shape := ⟨3, ![3, 8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .bf16⟩
  | .hbm, ⟨2, _⟩ => ⟨S4608x1024, .f32⟩
  | .hbm, ⟨3, _⟩ => ⟨S3x9x1024, .f32⟩
  | .hbm, ⟨4, _⟩ => ⟨S3x1x1024, .f32⟩
  | .hbm, ⟨5, _⟩ => ⟨S3x1024, .f32⟩
  | .hbm, ⟨6, _⟩ => ⟨S3x1x1024, .f32⟩
  | .hbm, ⟨7, _⟩ => ⟨S3x1024, .f32⟩
  | .hbm, ⟨8, _⟩ => ⟨S4608x1024, .f32⟩
  | .hbm, ⟨9, _⟩ => ⟨S4096x1024, .f32⟩
  | .hbm, ⟨10, _⟩ => ⟨S4096x1024, .f32⟩
  | .hbm, ⟨11, _⟩ => ⟨S2x2048x1024, .f32⟩
  | .hbm, ⟨12, _⟩ => ⟨S2x2048x1024, .f32⟩
  | .hbm, ⟨13, _⟩ => ⟨S2x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1024, .f32⟩
  | .hbm, ⟨26, _⟩ => ⟨S2x1x1024, .f32⟩
  | .hbm, ⟨27, _⟩ => ⟨S2x2048x1024, .f32⟩
  | .hbm, ⟨28, _⟩ => ⟨S_, .f32⟩
  | .hbm, ⟨29, _⟩ => ⟨S2x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S512x1024, .f32⟩
  | .hbm, ⟨34, _⟩ => ⟨S512x1024, .f32⟩
  | .hbm, ⟨35, _⟩ => ⟨S1x512x1024, .f32⟩
  | .hbm, ⟨36, _⟩ => ⟨S1x512x1024, .f32⟩
  | .hbm, ⟨37, _⟩ => ⟨S1x1024, .f32⟩
  | .hbm, ⟨38, _⟩ => ⟨S1x1x1024, .f32⟩
  | .hbm, ⟨39, _⟩ => ⟨S1x1024, .f32⟩
  | .hbm, ⟨40, _⟩ => ⟨S1x1x1024, .f32⟩
  | .hbm, ⟨41, _⟩ => ⟨S_, .f32⟩
  | .hbm, ⟨42, _⟩ => ⟨S1x1x1024, .f32⟩
  | .hbm, ⟨43, _⟩ => ⟨S1x1x1024, .f32⟩
  | .hbm, ⟨44, _⟩ => ⟨S1x512x1024, .f32⟩
  | .hbm, ⟨45, _⟩ => ⟨S1x512x1024, .f32⟩
  | .hbm, ⟨46, _⟩ => ⟨S1x512x1024, .f32⟩
  | .hbm, ⟨47, _⟩ => ⟨S1x512x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x512x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x512x1024, .f32⟩
  | .hbm, ⟨56, _⟩ => ⟨S1x512x1024, .f32⟩
  | .hbm, ⟨57, _⟩ => ⟨S3x1x1024, .f32⟩
  | .hbm, ⟨58, _⟩ => ⟨S3x1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S3x2x1024, .f32⟩
  | .hbm, ⟨63, _⟩ => ⟨S_, .i32⟩
  | .hbm, ⟨64, _⟩ => ⟨S_, .f32⟩
  | .hbm, ⟨65, _⟩ => ⟨S3x8x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c : Ref sig .tc := ⟨.hbm, 63, rfl⟩
abbrev main_call0_v0 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel44.lean ====
abbrev S4608x1024 : Shape := ⟨2, ![4608, 1024]⟩
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S4096x1024, .f32⟩
  | .hbm, ⟨2, _⟩ => ⟨S4608x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference44Ideal.lean ====
abbrev S4608x1024 : Shape := ⟨2, ![4608, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 29
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4608x1024, .f32⟩
  | .hbm, ⟨28, _⟩ => ⟨S8x128, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel45.lean ====
abbrev S8x784x128 : Shape := ⟨3, ![8, 784, 128]⟩
abbrev S1024 : Shape := ⟨1, ![1024]⟩
abbrev S784x128 : Shape := ⟨2, ![784, 128]⟩
abbrev S1x784x128 : Shape := ⟨3, ![1, 784, 128]⟩
abbrev S_ : Shape := ⟨0, ![]⟩
abbrev S8x128 : Shape := ⟨2, ![8, 128]⟩

abbrev nBuf : Space → Nat
  | .hbm => 22
  | .vmem => 2
  | .smem => 0
  | _ => 0

abbrev bufTy : (tb : Table) → Fin (tcTables nBuf tb) → BufTy
  | .hbm, ⟨0, _⟩ => ⟨S8x784x128, .f32⟩
  | .hbm, ⟨1, _⟩ => ⟨S1024, .f32⟩
  | .hbm, ⟨2, _⟩ => ⟨S784x128, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S8x128, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .local _ .vmem, ⟨0, _⟩ => ⟨S8x784x128, .f32⟩
  | .local _ .vmem, ⟨1, _⟩ => ⟨S784x128, .f32⟩
  | _, _ => ⟨S8x784x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x784x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S784x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference45Ideal.lean ====
abbrev S8x784x128 : Shape := ⟨3, ![8, 784, 128]⟩
abbrev S1024 : Shape := ⟨1, ![1024]⟩
abbrev S_ : Shape := ⟨0, ![]⟩
abbrev S784x128 : Shape := ⟨2, ![784, 128]⟩
abbrev S8x128 : Shape := ⟨2, ![8, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x784x128, .f32⟩
  | .hbm, ⟨1, _⟩ => ⟨S1024, .f32⟩
  | .hbm, ⟨2, _⟩ => ⟨S_, .f32⟩
  | .hbm, ⟨3, _⟩ => ⟨S784x128, .f32⟩
  | .hbm, ⟨4, _⟩ => ⟨S8x128, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | _, _ => ⟨S8x784x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Proof.PoolK.lean ====
/-
  The backward call of the multi-scale pool: its stored values. A window sum that the kernel builds by doubling shifts is the sum over the
  rows at most `r` away, and its reciprocal count is one over the number of those rows.
-/
module

public import proofs.«01_k».proof.Defs
public import proofs.«01_k».proof.Proof.Gen.Kernel6Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic
@[expose] public section
set_option maxRecDepth 16384
noncomputable section
namespace Cert.Kernel6Ideal.Value
open Cert.Kernel6Ideal Cert.Kernel6Ideal.Gen Idealize.ShloMosaic Idealize.ShloMosaic.TcCoe Idealize.SL.Sem

/-- The rows moved down by `k`, zero where there is none. -/
def dn (k : ℕ) (X : FVec Ideal S2048x128 .f32) : FVec Ideal S2048x128 .f32 :=
  fun i => if h : k ≤ (i 0).val then X (ix2 ⟨(i 0).val - k, lt_of_le_of_lt (Nat.sub_le _ _) (i 0).isLt⟩ (i 1)) else 0
/-- The rows moved up by `k`, zero where there is none. -/
def up (k : ℕ) (X : FVec Ideal S2048x128 .f32) : FVec Ideal S2048x128 .f32 :=
  fun i => if h : (i 0).val + k < 2048 then X (ix2 ⟨(i 0).val + k, h⟩ (i 1)) else 0

theorem dn_apply (k : ℕ) (X : FVec Ideal S2048x128 .f32) (t : Fin 2048) (j : Fin 128) :
    dn k X (ix2 t j) = ∑ s : Fin 2048, if s.val + k = t.val then X (ix2 s j) else 0 := by
  show (if h : k ≤ t.val then X (ix2 ⟨t.val - k, _⟩ j) else 0) = _
  split_ifs with h
  · rw [Finset.sum_eq_single (⟨t.val - k, by omega⟩ : Fin 2048)]
    · rw [if_pos (by show t.val - k + k = t.val; omega)]
    · intro b _ hb
      rw [if_neg]
      intro e; apply hb; ext; show b.val = t.val - k; omega
    · simp
  · rw [Finset.sum_eq_zero]
    intro s _
    rw [if_neg (by omega)]

theorem up_apply (k : ℕ) (X : FVec Ideal S2048x128 .f32) (t : Fin 2048) (j : Fin 128) :
    up k X (ix2 t j) = ∑ s : Fin 2048, if s.val = t.val + k then X (ix2 s j) else 0 := by
  show (if h : t.val + k < 2048 then X (ix2 ⟨t.val + k, _⟩ j) else 0) = _
  split_ifs with h
  · rw [Finset.sum_eq_single (⟨t.val + k, h⟩ : Fin 2048)]
    · rw [if_pos rfl]
    · intro b _ hb
      rw [if_neg]
      intro e; apply hb; ext; exact e
    · simp
  · rw [Finset.sum_eq_zero]
    intro s _
    rw [if_neg (by omega)]

theorem dn_add (k : ℕ) (A B : FVec Ideal S2048x128 .f32) : dn k (addf A B) = addf (dn k A) (dn k B) := by
  funext i
  idx_vars i
  pointwise
  unfold dn
  pointwise
  split_ifs <;> simp

theorem up_add (k : ℕ) (A B : FVec Ideal S2048x128 .f32) : up k (addf A B) = addf (up k A) (up k B) := by
  funext i
  idx_vars i
  pointwise
  unfold up
  pointwise
  split_ifs <;> simp

theorem dn_dn (k l : ℕ) (A : FVec Ideal S2048x128 .f32) : dn k (dn l A) = dn (l + k) A := by
  funext i
  idx_vars i
  show (if h : k ≤ i0.val then (if h' : l ≤ i0.val - k then A (ix2 ⟨i0.val - k - l, _⟩ i1) else 0) else 0)
    = (if h : l + k ≤ i0.val then A (ix2 ⟨i0.val - (l + k), _⟩ i1) else 0)
  split_ifs with h1 h2 h3 h4 h5
  · congr 3; omega
  · omega
  · omega
  · rfl
  · omega
  · rfl
theorem up_up (k l : ℕ) (A : FVec Ideal S2048x128 .f32) : up k (up l A) = up (l + k) A := by
  funext i
  idx_vars i
  show (if h : i0.val + k < 2048 then (if h' : i0.val + k + l < 2048 then A (ix2 ⟨i0.val + k + l, _⟩ i1) else 0) else 0)
    = (if h : i0.val + (l + k) < 2048 then A (ix2 ⟨i0.val + (l + k), _⟩ i1) else 0)
  split_ifs with h1 h2 h3 h4 h5
  · congr 3; omega
  · omega
  · omega
  · rfl
  · omega
  · rfl

theorem sel_dn (X : FVec Ideal S2048x128 .f32) (k : ℕ) (hk : k < 2048) (c : BitVec 1) (t : Fin 2048) (j : Fin 128) (p)
    (hc : c = if k ≤ t.val then 1#1 else 0#1) :
    Scalar.select c (X (ix2 ⟨(t.val + 2048 - k) % 2048, p⟩ j)) 0 = dn k X (ix2 t j) := by
  subst hc
  show _ = (if h : k ≤ t.val then X (ix2 ⟨t.val - k, _⟩ j) else 0)
  by_cases h : k ≤ t.val
  · simp only [if_pos h, dif_pos h]
    show X _ = X _
    congr 3
    omega
  · simp only [if_neg h, dif_neg h]
    rfl
theorem sel_up (X : FVec Ideal S2048x128 .f32) (k : ℕ) (hk : k < 2048) (c : BitVec 1) (t : Fin 2048) (j : Fin 128) (n : ℕ) (hn : n + k = 2048) (p)
    (hc : c = if t.val + k < 2048 then 1#1 else 0#1) :
    Scalar.select c (X (ix2 ⟨(t.val + 2048 - n) % 2048, p⟩ j)) 0 = up k X (ix2 t j) := by
  subst hc
  show _ = (if h : t.val + k < 2048 then X (ix2 ⟨t.val + k, _⟩ j) else 0)
  by_cases h : t.val + k < 2048
  · simp only [if_pos h, dif_pos h]
    show X _ = X _
    congr 3
    omega
  · simp only [if_neg h, dif_neg h]
    rfl

theorem sel_dn1 (X : FVec Ideal S2048x128 .f32) :
    select (broadcastTo S2048x128 (shapeCast S2048x1 (cmpi .sge (iota .tc S2048x1 32 ([0] : List (Fin 2)) iota_S2048x1_d0_w32) (broadcast S2048x1 1#32)) shapeCasts_S2048x1_S2048x1) broadcasts_S2048x1_S2048x128)
      (dynamicRotate 0 1#32 (none : Option (ℕ × Fin 2)) X rotates_S2048x128_d0) (broadcast S2048x128 (FloatOps.ofBits .f32 0#32)) = dn 1 X := by
  funext i
  idx_vars i
  pointwise
  exact sel_dn X 1 (by omega) _ i0 i1 _
    ((by decide +kernel : ∀ t : Fin 2048, IntOp.cmpi CmpIPredicate.sge (BitVec.ofNat 32 t.val) 1#32 = if 1 ≤ t.val then 1#1 else 0#1) i0)

theorem sel_dn2 (X : FVec Ideal S2048x128 .f32) :
    select (broadcastTo S2048x128 (shapeCast S2048x1 (cmpi .sge (iota .tc S2048x1 32 ([0] : List (Fin 2)) iota_S2048x1_d0_w32) (broadcast S2048x1 2#32)) shapeCasts_S2048x1_S2048x1) broadcasts_S2048x1_S2048x128)
      (dynamicRotate 0 2#32 (none : Option (ℕ × Fin 2)) X rotates_S2048x128_d0) (broadcast S2048x128 (FloatOps.ofBits .f32 0#32)) = dn 2 X := by
  funext i
  idx_vars i
  pointwise
  exact sel_dn X 2 (by omega) _ i0 i1 _
    ((by decide +kernel : ∀ t : Fin 2048, IntOp.cmpi CmpIPredicate.sge (BitVec.ofNat 32 t.val) 2#32 = if 2 ≤ t.val then 1#1 else 0#1) i0)

theorem sel_dn4 (X : FVec Ideal S2048x128 .f32) :
    select (broadcastTo S2048x128 (shapeCast S2048x1 (cmpi .sge (iota .tc S2048x1 32 ([0] : List (Fin 2)) iota_S2048x1_d0_w32) (broadcast S2048x1 4#32)) shapeCasts_S2048x1_S2048x1) broadcasts_S2048x1_S2048x128)
      (dynamicRotate 0 4#32 (none : Option (ℕ × Fin 2)) X rotates_S2048x128_d0) (broadcast S2048x128 (FloatOps.ofBits .f32 0#32)) = dn 4 X := by
  funext i
  idx_vars i
  pointwise
  exact sel_dn X 4 (by omega) _ i0 i1 _
    ((by decide +kernel : ∀ t : Fin 2048, IntOp.cmpi CmpIPredicate.sge (BitVec.ofNat 32 t.val) 4#32 = if 4 ≤ t.val then 1#1 else 0#1) i0)

theorem sel_dn8 (X : FVec Ideal S2048x128 .f32) :
    select (broadcastTo S2048x128 (shapeCast S2048x1 (cmpi .sge (iota .tc S2048x1 32 ([0] : List (Fin 2)) iota_S2048x1_d0_w32) (broadcast S2048x1 8#32)) shapeCasts_S2048x1_S2048x1) broadcasts_S2048x1_S2048x128)
      (dynamicRotate 0 8#32 (none : Option (ℕ × Fin 2)) X rotates_S2048x128_d0) (broadcast S2048x128 (FloatOps.ofBits .f32 0#32)) = dn 8 X := by
  funext i
  idx_vars i
  pointwise
  exact sel_dn X 8 (by omega) _ i0 i1 _
    ((by decide +kernel : ∀ t : Fin 2048, IntOp.cmpi CmpIPredicate.sge (BitVec.ofNat 32 t.val) 8#32 = if 8 ≤ t.val then 1#1 else 0#1) i0)

theorem sel_up1 (X : FVec Ideal S2048x128 .f32) :
    select (broadcastTo S2048x128 (shapeCast S2048x1 (cmpi .slt (iota .tc S2048x1 32 ([0] : List (Fin 2)) iota_S2048x1_d0_w32) (broadcast S2048x1 2047#32)) shapeCasts_S2048x1_S2048x1) broadcasts_S2048x1_S2048x128)
      (dynamicRotate 0 2047#32 (none : Option (ℕ × Fin 2)) X rotates_S2048x128_d0) (broadcast S2048x128 (FloatOps.ofBits .f32 0#32)) = up 1 X := by
  funext i
  idx_vars i
  pointwise
  exact sel_up X 1 (by omega) _ i0 i1 2047 rfl _
    ((by decide +kernel : ∀ t : Fin 2048, IntOp.cmpi CmpIPredicate.slt (BitVec.ofNat 32 t.val) 2047#32 = if t.val + 1 < 2048 then 1#1 else 0#1) i0)

theorem sel_up2 (X : FVec Ideal S2048x128 .f32) :
    select (broadcastTo S2048x128 (shapeCast S2048x1 (cmpi .slt (iota .tc S2048x1 32 ([0] : List (Fin 2)) iota_S2048x1_d0_w32) (broadcast S2048x1 2046#32)) shapeCasts_S2048x1_S2048x1) broadcasts_S2048x1_S2048x128)
      (dynamicRotate 0 2046#32 (none : Option (ℕ × Fin 2)) X rotates_S2048x128_d0) (broadcast S2048x128 (FloatOps.ofBits .f32 0#32)) = up 2 X := by
  funext i
  idx_vars i
  pointwise
  exact sel_up X 2 (by omega) _ i0 i1 2046 rfl _
    ((by decide +kernel : ∀ t : Fin 2048, IntOp.cmpi CmpIPredicate.slt (BitVec.ofNat 32 t.val) 2046#32 = if t.val + 2 < 2048 then 1#1 else 0#1) i0)

theorem sel_up4 (X : FVec Ideal S2048x128 .f32) :
    select (broadcastTo S2048x128 (shapeCast S2048x1 (cmpi .slt (iota .tc S2048x1 32 ([0] : List (Fin 2)) iota_S2048x1_d0_w32) (broadcast S2048x1 2044#32)) shapeCasts_S2048x1_S2048x1) broadcasts_S2048x1_S2048x128)
      (dynamicRotate 0 2044#32 (none : Option (ℕ × Fin 2)) X rotates_S2048x128_d0) (broadcast S2048x128 (FloatOps.ofBits .f32 0#32)) = up 4 X := by
  funext i
  idx_vars i
  pointwise
  exact sel_up X 4 (by omega) _ i0 i1 2044 rfl _
    ((by decide +kernel : ∀ t : Fin 2048, IntOp.cmpi CmpIPredicate.slt (BitVec.ofNat 32 t.val) 2044#32 = if t.val + 4 < 2048 then 1#1 else 0#1) i0)

/-- Whether two rows are at most `r` apart. -/
abbrev nearby (r : ℕ) (t s : Fin 2048) : Prop := s.val ≤ t.val + r ∧ t.val ≤ s.val + r
/-- How many rows are at most `r` away from row `t`. -/
def count (r : ℕ) (t : Fin 2048) : ℕ := min (t.val + r) 2047 + 1 - (t.val - r)
/-- The sum over the rows at most `r` away. -/
def near (r : ℕ) (f : Fin 2048 → EReal) (t : Fin 2048) : EReal := ∑ s : Fin 2048, if nearby r t s then f s else 0
/-- One over the number of rows at most `r` away. -/
def recip (r : ℕ) (t : Fin 2048) : EReal := Ideal.div 1 (((count r t : ℕ) : ℝ) : EReal)
/-- A column's window means less the column itself. -/
def centred (r : ℕ) (f : Fin 2048 → EReal) (t : Fin 2048) : EReal := near r f t * recip r t - f t
/-- The transpose of `centred`. -/
def centredT (r : ℕ) (f : Fin 2048 → EReal) (t : Fin 2048) : EReal := near r (fun s => f s * recip r s) t - f t

def nearV (r : ℕ) (X : FVec Ideal S2048x128 .f32) : FVec Ideal S2048x128 .f32 := fun i => near r (fun s => X (ix2 s (i 1))) (i 0)
def recipV (r : ℕ) : FVec Ideal S2048x1 .f32 := fun i => recip r (i 0)
def centredV (r : ℕ) (X : FVec Ideal S2048x128 .f32) : FVec Ideal S2048x128 .f32 := fun i => centred r (fun s => X (ix2 s (i 1))) (i 0)
def centredTV (r : ℕ) (X : FVec Ideal S2048x128 .f32) : FVec Ideal S2048x128 .f32 := fun i => centredT r (fun s => X (ix2 s (i 1))) (i 0)

theorem sum_below (r : ℕ) (f : Fin 2048 → EReal) (t s : Fin 2048) :
    (∑ d ∈ Finset.range (r + 1), if s.val + d = t.val then f s else 0) = if s.val ≤ t.val ∧ t.val ≤ s.val + r then f s else 0 := by
  by_cases h : s.val ≤ t.val ∧ t.val ≤ s.val + r
  · rw [if_pos h, Finset.sum_eq_single (t.val - s.val)]
    · rw [if_pos (by omega)]
    · intro b _ hb; rw [if_neg (by omega)]
    · intro hn; exact absurd (Finset.mem_range.mpr (by omega)) hn
  · rw [if_neg h]
    refine Finset.sum_eq_zero fun d hd => ?_
    have := Finset.mem_range.mp hd
    rw [if_neg (by omega)]
theorem sum_above (r : ℕ) (f : Fin 2048 → EReal) (t s : Fin 2048) :
    (∑ d ∈ Finset.range r, if s.val = t.val + (d + 1) then f s else 0) = if t.val < s.val ∧ s.val ≤ t.val + r then f s else 0 := by
  by_cases h : t.val < s.val ∧ s.val ≤ t.val + r
  · rw [if_pos h, Finset.sum_eq_single (s.val - t.val - 1)]
    · rw [if_pos (by omega)]
    · intro b _ hb; rw [if_neg (by omega)]
    · intro hn; exact absurd (Finset.mem_range.mpr (by omega)) hn
  · rw [if_neg h]
    refine Finset.sum_eq_zero fun d hd => ?_
    have := Finset.mem_range.mp hd
    rw [if_neg (by omega)]

theorem nearV_apply (r : ℕ) (X : FVec Ideal S2048x128 .f32) (t : Fin 2048) (j : Fin 128) :
    nearV r X (ix2 t j) = (∑ d ∈ Finset.range (r + 1), dn d X (ix2 t j)) + ∑ d ∈ Finset.range r, up (d + 1) X (ix2 t j) := by
  simp only [dn_apply, up_apply]
  rw [Finset.sum_comm, Finset.sum_comm (s := Finset.range r), ← Finset.sum_add_distrib]
  show (∑ s : Fin 2048, if nearby r t s then X (ix2 s j) else 0) = _
  refine Finset.sum_congr rfl fun s _ => ?_
  rw [sum_below r (fun s => X (ix2 s j)) t s, sum_above r (fun s => X (ix2 s j)) t s]
  unfold nearby
  split_ifs <;> first | omega | simp

theorem dn_zero (X : FVec Ideal S2048x128 .f32) (t : Fin 2048) (j : Fin 128) : dn 0 X (ix2 t j) = X (ix2 t j) := by
  show (if h : 0 ≤ t.val then X (ix2 ⟨t.val - 0, _⟩ j) else 0) = _
  rw [dif_pos (Nat.zero_le _)]
  rfl

theorem recip1 :
    divf (broadcast S2048x1 (FloatOps.ofBits .f32 1065353216#32))
            (sitofp .f32
              (subi
                (addi
                  (minsi (addi (iota .tc S2048x1 32 ([0] : List (Fin 2)) iota_S2048x1_d0_w32) (broadcast S2048x1 1#32))
                    (broadcast S2048x1 2047#32))
                  (broadcast S2048x1 1#32))
                (maxsi (subi (iota .tc S2048x1 32 ([0] : List (Fin 2)) iota_S2048x1_d0_w32) (broadcast S2048x1 1#32))
                  (broadcast S2048x1 0#32)))) = recipV 1 := by
  funext i
  idx_vars i
  pointwise
  show Ideal.div 1 ((((IntOp.subi (IntOp.addi (IntOp.minsi (IntOp.addi (BitVec.ofNat 32 i0.val) 1#32) 2047#32) 1#32)
          (IntOp.maxsi (IntOp.subi (BitVec.ofNat 32 i0.val) 1#32) 0#32)).toInt : ℝ)) : EReal) = recip 1 i0
  rw [(by decide +kernel : ∀ t : Fin 2048, (IntOp.subi (IntOp.addi (IntOp.minsi (IntOp.addi (BitVec.ofNat 32 t.val) 1#32) 2047#32) 1#32)
          (IntOp.maxsi (IntOp.subi (BitVec.ofNat 32 t.val) 1#32) 0#32)).toInt = (count 1 t : ℤ)) i0, Int.cast_natCast]
  rfl

theorem recip2 :
    divf (broadcast S2048x1 (FloatOps.ofBits .f32 1065353216#32))
            (sitofp .f32
              (subi
                (addi
                  (minsi (addi (iota .tc S2048x1 32 ([0] : List (Fin 2)) iota_S2048x1_d0_w32) (broadcast S2048x1 2#32))
                    (broadcast S2048x1 2047#32))
                  (broadcast S2048x1 1#32))
                (maxsi (subi (iota .tc S2048x1 32 ([0] : List (Fin 2)) iota_S2048x1_d0_w32) (broadcast S2048x1 2#32))
                  (broadcast S2048x1 0#32)))) = recipV 2 := by
  funext i
  idx_vars i
  pointwise
  show Ideal.div 1 ((((IntOp.subi (IntOp.addi (IntOp.minsi (IntOp.addi (BitVec.ofNat 32 i0.val) 2#32) 2047#32) 1#32)
          (IntOp.maxsi (IntOp.subi (BitVec.ofNat 32 i0.val) 2#32) 0#32)).toInt : ℝ)) : EReal) = recip 2 i0
  rw [(by decide +kernel : ∀ t : Fin 2048, (IntOp.subi (IntOp.addi (IntOp.minsi (IntOp.addi (BitVec.ofNat 32 t.val) 2#32) 2047#32) 1#32)
          (IntOp.maxsi (IntOp.subi (BitVec.ofNat 32 t.val) 2#32) 0#32)).toInt = (count 2 t : ℤ)) i0, Int.cast_natCast]
  rfl

theorem recip4 :
    divf (broadcast S2048x1 (FloatOps.ofBits .f32 1065353216#32))
            (sitofp .f32
              (subi
                (addi
                  (minsi (addi (iota .tc S2048x1 32 ([0] : List (Fin 2)) iota_S2048x1_d0_w32) (broadcast S2048x1 4#32))
                    (broadcast S2048x1 2047#32))
                  (broadcast S2048x1 1#32))
                (maxsi (subi (iota .tc S2048x1 32 ([0] : List (Fin 2)) iota_S2048x1_d0_w32) (broadcast S2048x1 4#32))
                  (broadcast S2048x1 0#32)))) = recipV 4 := by
  funext i
  idx_vars i
  pointwise
  show Ideal.div 1 ((((IntOp.subi (IntOp.addi (IntOp.minsi (IntOp.addi (BitVec.ofNat 32 i0.val) 4#32) 2047#32) 1#32)
          (IntOp.maxsi (IntOp.subi (BitVec.ofNat 32 i0.val) 4#32) 0#32)).toInt : ℝ)) : EReal) = recip 4 i0
  rw [(by decide +kernel : ∀ t : Fin 2048, (IntOp.subi (IntOp.addi (IntOp.minsi (IntOp.addi (BitVec.ofNat 32 t.val) 4#32) 2047#32) 1#32)
          (IntOp.maxsi (IntOp.subi (BitVec.ofNat 32 t.val) 4#32) 0#32)).toInt = (count 4 t : ℤ)) i0, Int.cast_natCast]
  rfl

theorem recip8 :
    divf (broadcast S2048x1 (FloatOps.ofBits .f32 1065353216#32))
            (sitofp .f32
              (subi
                (addi
                  (minsi (addi (iota .tc S2048x1 32 ([0] : List (Fin 2)) iota_S2048x1_d0_w32) (broadcast S2048x1 8#32))
                    (broadcast S2048x1 2047#32))
                  (broadcast S2048x1 1#32))
                (maxsi (subi (iota .tc S2048x1 32 ([0] : List (Fin 2)) iota_S2048x1_d0_w32) (broadcast S2048x1 8#32))
                  (broadcast S2048x1 0#32)))) = recipV 8 := by
  funext i
  idx_vars i
  pointwise
  show Ideal.div 1 ((((IntOp.subi (IntOp.addi (IntOp.minsi (IntOp.addi (BitVec.ofNat 32 i0.val) 8#32) 2047#32) 1#32)
          (IntOp.maxsi (IntOp.subi (BitVec.ofNat 32 i0.val) 8#32) 0#32)).toInt : ℝ)) : EReal) = recip 8 i0
  rw [(by decide +kernel : ∀ t : Fin 2048, (IntOp.subi (IntOp.addi (IntOp.minsi (IntOp.addi (BitVec.ofNat 32 t.val) 8#32) 2047#32) 1#32)
          (IntOp.maxsi (IntOp.subi (BitVec.ofNat 32 t.val) 8#32) 0#32)).toInt = (count 8 t : ℤ)) i0, Int.cast_natCast]
  rfl

theorem pay5_eq (X : Vec Ideal S2048x128 .bf16) :
    k0_pay5 X = centredV 1 (extf .f32 X bitsLt_bf16_f32) := by
  unfold_payloads
  simp only [sel_dn1, sel_dn2, sel_dn4, sel_dn8, sel_up1, sel_up2, sel_up4, dn_add, up_add, dn_dn, up_up, recip1]
  generalize (extf .f32 X bitsLt_bf16_f32 : FVec Ideal S2048x128 .f32) = Y
  funext i
  idx_vars i
  pointwise
  show _ = nearV 1 Y (ix2 i0 i1) * recip 1 i0 - Y (ix2 i0 i1)
  rw [nearV_apply]
  simp only [Finset.sum_range_succ, Finset.sum_range_zero, dn_zero, zero_add, Nat.reduceAdd]
  refine congrArg₂ (· - ·) (congrArg (· * recip 1 i0) ?_) rfl
  abel

theorem pay17_eq (X : Vec Ideal S2048x128 .bf16) :
    k0_pay17 (iota .tc S2048x1 32 ([0] : List (Fin 2)) iota_S2048x1_d0_w32) (k0_pay14 X) (k0_pay15 (iota .tc S2048x1 32 ([0] : List (Fin 2)) iota_S2048x1_d0_w32)) (k0_pay16 (iota .tc S2048x1 32 ([0] : List (Fin 2)) iota_S2048x1_d0_w32) X) 2047#32 = centredV 2 (extf .f32 X bitsLt_bf16_f32) := by
  unfold_payloads
  simp only [sel_dn1, sel_dn2, sel_dn4, sel_dn8, sel_up1, sel_up2, sel_up4, dn_add, up_add, dn_dn, up_up, recip2]
  generalize (extf .f32 X bitsLt_bf16_f32 : FVec Ideal S2048x128 .f32) = Y
  funext i
  idx_vars i
  pointwise
  show _ = nearV 2 Y (ix2 i0 i1) * recip 2 i0 - Y (ix2 i0 i1)
  rw [nearV_apply]
  simp only [Finset.sum_range_succ, Finset.sum_range_zero, dn_zero, zero_add, Nat.reduceAdd]
  refine congrArg₂ (· - ·) (congrArg (· * recip 2 i0) ?_) rfl
  abel

theorem pay31_eq (X : Vec Ideal S2048x128 .bf16) :
    k0_pay31 (iota .tc S2048x1 32 ([0] : List (Fin 2)) iota_S2048x1_d0_w32) (k0_pay28 X) (k0_pay29 (iota .tc S2048x1 32 ([0] : List (Fin 2)) iota_S2048x1_d0_w32)) (k0_pay30 (iota .tc S2048x1 32 ([0] : List (Fin 2)) iota_S2048x1_d0_w32) X) 2047#32 = centredV 4 (extf .f32 X bitsLt_bf16_f32) := by
  unfold_payloads
  simp only [sel_dn1, sel_dn2, sel_dn4, sel_dn8, sel_up1, sel_up2, sel_up4, dn_add, up_add, dn_dn, up_up, recip4]
  generalize (extf .f32 X bitsLt_bf16_f32 : FVec Ideal S2048x128 .f32) = Y
  funext i
  idx_vars i
  pointwise
  show _ = nearV 4 Y (ix2 i0 i1) * recip 4 i0 - Y (ix2 i0 i1)
  rw [nearV_apply]
  simp only [Finset.sum_range_succ, Finset.sum_range_zero, dn_zero, zero_add, Nat.reduceAdd]
  refine congrArg₂ (· - ·) (congrArg (· * recip 4 i0) ?_) rfl
  abel

theorem pay51_eq (X : Vec Ideal S2048x128 .bf16) :
    k0_pay51 (k0_pay44 X) (k0_pay45 (iota .tc S2048x1 32 ([0] : List (Fin 2)) iota_S2048x1_d0_w32))
      (k0_pay50 (iota .tc S2048x1 32 ([0] : List (Fin 2)) iota_S2048x1_d0_w32) (k0_pay44 X) (k0_pay46 (iota .tc S2048x1 32 ([0] : List (Fin 2)) iota_S2048x1_d0_w32) X) (k0_pay47 (iota .tc S2048x1 32 ([0] : List (Fin 2)) iota_S2048x1_d0_w32) X) (k0_pay48 (iota .tc S2048x1 32 ([0] : List (Fin 2)) iota_S2048x1_d0_w32)) (k0_pay49 (iota .tc S2048x1 32 ([0] : List (Fin 2)) iota_S2048x1_d0_w32) X) (FloatOps.ofBits .f32 0#32)) = centredV 8 (extf .f32 X bitsLt_bf16_f32) := by
  unfold_payloads
  simp only [sel_dn1, sel_dn2, sel_dn4, sel_dn8, sel_up1, sel_up2, sel_up4, dn_add, up_add, dn_dn, up_up, recip8]
  generalize (extf .f32 X bitsLt_bf16_f32 : FVec Ideal S2048x128 .f32) = Y
  funext i
  idx_vars i
  pointwise
  show _ = nearV 8 Y (ix2 i0 i1) * recip 8 i0 - Y (ix2 i0 i1)
  rw [nearV_apply]
  simp only [Finset.sum_range_succ, Finset.sum_range_zero, dn_zero, zero_add, Nat.reduceAdd]
  refine congrArg₂ (· - ·) (congrArg (· * recip 8 i0) ?_) rfl
  abel

theorem pay13_eq (y : Vec Ideal S2048x128 .bf16) (s : Vec Ideal S1x128 .f32) (w : Vec Ideal S1x128x128 .f32) :
    k0_pay13 (iota .tc S2048x1 32 ([0] : List (Fin 2)) iota_S2048x1_d0_w32) (k0_pay10 y s w) (k0_pay11 k0_pay4 y s w) (k0_pay12 (iota .tc S2048x1 32 ([0] : List (Fin 2)) iota_S2048x1_d0_w32)) 1#32 = truncf .bf16 (centredTV 1 (k0_pay10 y s w)) bitsLt_bf16_f32 := by
  unfold k0_pay13 k0_pay12 k0_pay11 k0_pay4
  generalize k0_pay10 y s w = Y
  simp only [sel_dn1, sel_dn2, sel_dn4, sel_dn8, sel_up1, sel_up2, sel_up4, dn_add, up_add, dn_dn, up_up, recip1]
  obtain ⟨Z, hZ⟩ : ∃ Z, Z = mulf Y (broadcastTo S2048x128 (recipV 1) broadcasts_S2048x1_S2048x128) := ⟨_, rfl⟩
  rw [← hZ]
  have hz : ∀ (t : Fin 2048) (j : Fin 128), Y (ix2 t j) * recip 1 t = Z (ix2 t j) := by
    intro t j
    rw [hZ]
    pointwise
    rfl
  funext i
  idx_vars i
  pointwise
  show _ = near 1 (fun s => Y (ix2 s i1) * recip 1 s) i0 - Y (ix2 i0 i1)
  simp only [hz]
  show _ = nearV 1 Z (ix2 i0 i1) - Y (ix2 i0 i1)
  rw [nearV_apply]
  simp only [Finset.sum_range_succ, Finset.sum_range_zero, dn_zero, zero_add, Nat.reduceAdd]

theorem pay27_eq (y : Vec Ideal S2048x128 .bf16) (s : Vec Ideal S1x128 .f32) (w : Vec Ideal S1x128x128 .f32) :
    k0_pay27 (iota .tc S2048x1 32 ([0] : List (Fin 2)) iota_S2048x1_d0_w32) (k0_pay22 (k0_pay18 y) s w) (k0_pay23 (k0_pay15 (iota .tc S2048x1 32 ([0] : List (Fin 2)) iota_S2048x1_d0_w32)) (k0_pay18 y) s w)
      (k0_pay24 (iota .tc S2048x1 32 ([0] : List (Fin 2)) iota_S2048x1_d0_w32) (k0_pay15 (iota .tc S2048x1 32 ([0] : List (Fin 2)) iota_S2048x1_d0_w32)) (k0_pay18 y) s w) (k0_pay25 (iota .tc S2048x1 32 ([0] : List (Fin 2)) iota_S2048x1_d0_w32) (k0_pay15 (iota .tc S2048x1 32 ([0] : List (Fin 2)) iota_S2048x1_d0_w32)) (k0_pay18 y) s w) (k0_pay26 (iota .tc S2048x1 32 ([0] : List (Fin 2)) iota_S2048x1_d0_w32)) 2#32 = truncf .bf16 (centredTV 2 (k0_pay22 (k0_pay18 y) s w)) bitsLt_bf16_f32 := by
  unfold k0_pay27 k0_pay26 k0_pay25 k0_pay24 k0_pay23 k0_pay15
  generalize k0_pay22 (k0_pay18 y) s w = Y
  simp only [sel_dn1, sel_dn2, sel_dn4, sel_dn8, sel_up1, sel_up2, sel_up4, dn_add, up_add, dn_dn, up_up, recip2]
  obtain ⟨Z, hZ⟩ : ∃ Z, Z = mulf Y (broadcastTo S2048x128 (recipV 2) broadcasts_S2048x1_S2048x128) := ⟨_, rfl⟩
  rw [← hZ]
  have hz : ∀ (t : Fin 2048) (j : Fin 128), Y (ix2 t j) * recip 2 t = Z (ix2 t j) := by
    intro t j
    rw [hZ]
    pointwise
    rfl
  funext i
  idx_vars i
  pointwise
  show _ = near 2 (fun s => Y (ix2 s i1) * recip 2 s) i0 - Y (ix2 i0 i1)
  simp only [hz]
  show _ = nearV 2 Z (ix2 i0 i1) - Y (ix2 i0 i1)
  rw [nearV_apply]
  simp only [Finset.sum_range_succ, Finset.sum_range_zero, dn_zero, zero_add, Nat.reduceAdd]

theorem pay43_eq (y : Vec Ideal S2048x128 .bf16) (s : Vec Ideal S1x128 .f32) (w : Vec Ideal S1x128x128 .f32) :
    k0_pay43 (k0_pay36 y s w) (k0_pay39 (iota .tc S2048x1 32 ([0] : List (Fin 2)) iota_S2048x1_d0_w32) (k0_pay37 (k0_pay29 (iota .tc S2048x1 32 ([0] : List (Fin 2)) iota_S2048x1_d0_w32)) y s w) (k0_pay38 (iota .tc S2048x1 32 ([0] : List (Fin 2)) iota_S2048x1_d0_w32)) 1#32)
      (k0_pay40 (iota .tc S2048x1 32 ([0] : List (Fin 2)) iota_S2048x1_d0_w32) (k0_pay37 (k0_pay29 (iota .tc S2048x1 32 ([0] : List (Fin 2)) iota_S2048x1_d0_w32)) y s w)) (k0_pay41 (iota .tc S2048x1 32 ([0] : List (Fin 2)) iota_S2048x1_d0_w32)) k0_pay42 = truncf .bf16 (centredTV 4 (k0_pay36 y s w)) bitsLt_bf16_f32 := by
  unfold k0_pay43 k0_pay42 k0_pay41 k0_pay40 k0_pay39 k0_pay38 k0_pay37 k0_pay29
  generalize k0_pay36 y s w = Y
  simp only [sel_dn1, sel_dn2, sel_dn4, sel_dn8, sel_up1, sel_up2, sel_up4, dn_add, up_add, dn_dn, up_up, recip4]
  obtain ⟨Z, hZ⟩ : ∃ Z, Z = mulf Y (broadcastTo S2048x128 (recipV 4) broadcasts_S2048x1_S2048x128) := ⟨_, rfl⟩
  rw [← hZ]
  have hz : ∀ (t : Fin 2048) (j : Fin 128), Y (ix2 t j) * recip 4 t = Z (ix2 t j) := by
    intro t j
    rw [hZ]
    pointwise
    rfl
  funext i
  idx_vars i
  pointwise
  show _ = near 4 (fun s => Y (ix2 s i1) * recip 4 s) i0 - Y (ix2 i0 i1)
  simp only [hz]
  show _ = nearV 4 Z (ix2 i0 i1) - Y (ix2 i0 i1)
  rw [nearV_apply]
  simp only [Finset.sum_range_succ, Finset.sum_range_zero, dn_zero, zero_add, Nat.reduceAdd]
  refine congrArg₂ (· - ·) ?_ rfl
  abel

theorem pay1_eq (y : Vec Ideal S2048x128 .bf16) (s : Vec Ideal S1x128 .f32) (w : Vec Ideal S1x128x128 .f32) :
    k0_pay1 (iota .tc S2048x1 32 ([0] : List (Fin 2)) iota_S2048x1_d0_w32) (k0_pay56 y s w) (k0_pay57 (k0_pay45 (iota .tc S2048x1 32 ([0] : List (Fin 2)) iota_S2048x1_d0_w32)) (k0_pay56 y s w))
      (k0_pay58 (iota .tc S2048x1 32 ([0] : List (Fin 2)) iota_S2048x1_d0_w32) (k0_pay45 (iota .tc S2048x1 32 ([0] : List (Fin 2)) iota_S2048x1_d0_w32)) (k0_pay56 y s w)) (k0_pay59 (iota .tc S2048x1 32 ([0] : List (Fin 2)) iota_S2048x1_d0_w32) (k0_pay45 (iota .tc S2048x1 32 ([0] : List (Fin 2)) iota_S2048x1_d0_w32)) (k0_pay56 y s w)) (k0_pay60 (iota .tc S2048x1 32 ([0] : List (Fin 2)) iota_S2048x1_d0_w32)) = truncf .bf16 (centredTV 8 (k0_pay56 y s w)) bitsLt_bf16_f32 := by
  unfold k0_pay1 k0_pay60 k0_pay59 k0_pay58 k0_pay57 k0_pay45
  generalize k0_pay56 y s w = Y
  simp only [sel_dn1, sel_dn2, sel_dn4, sel_dn8, sel_up1, sel_up2, sel_up4, dn_add, up_add, dn_dn, up_up, recip8]
  obtain ⟨Z, hZ⟩ : ∃ Z, Z = mulf Y (broadcastTo S2048x128 (recipV 8) broadcasts_S2048x1_S2048x128) := ⟨_, rfl⟩
  rw [← hZ]
  have hz : ∀ (t : Fin 2048) (j : Fin 128), Y (ix2 t j) * recip 8 t = Z (ix2 t j) := by
    intro t j
    rw [hZ]
    pointwise
    rfl
  funext i
  idx_vars i
  pointwise
  show _ = near 8 (fun s => Y (ix2 s i1) * recip 8 s) i0 - Y (ix2 i0 i1)
  simp only [hz]
  show _ = nearV 8 Z (ix2 i0 i1) - Y (ix2 i0 i1)
  rw [nearV_apply]
  simp only [Finset.sum_range_succ, Finset.sum_range_zero, dn_zero, zero_add, Nat.reduceAdd]
  refine congrArg₂ (· - ·) ?_ rfl
  abel

theorem pay9_apply (D : FVec Ideal S2048x128 .f32) (y : Vec Ideal S2048x128 .bf16) (s : Vec Ideal S1x128 .f32) (w : Vec Ideal S1x128x128 .f32) (a : Fin 1) (c e : Fin 128) :
    k0_pay9 D y s w (ix3 a c e) = w (ix3 0 c e) + ∑ t : Fin 2048, D (ix2 t c) * (y (ix2 t e) * s (ix2 0 e)) := by
  unfold_payloads
  pointwise

theorem pay21_apply (D : FVec Ideal S2048x128 .f32) (y : Vec Ideal S2048x128 .bf16) (s : Vec Ideal S1x128 .f32) (w : Vec Ideal S1x128x128 .f32) (a : Fin 1) (c e : Fin 128) :
    k0_pay21 D (k0_pay18 y) s w (ix3 a c e) = w (ix3 0 c e) + ∑ t : Fin 2048, D (ix2 t c) * (y (ix2 t e) * s (ix2 0 e)) := by
  unfold_payloads
  pointwise

theorem pay35_apply (D : FVec Ideal S2048x128 .f32) (y : Vec Ideal S2048x128 .bf16) (s : Vec Ideal S1x128 .f32) (w : Vec Ideal S1x128x128 .f32) (a : Fin 1) (c e : Fin 128) :
    k0_pay35 D y s w (ix3 a c e) = w (ix3 0 c e) + ∑ t : Fin 2048, D (ix2 t c) * (y (ix2 t e) * s (ix2 0 e)) := by
  unfold_payloads
  pointwise

theorem pay7_apply (D : FVec Ideal S2048x128 .f32) (y : Vec Ideal S2048x128 .bf16) (s : Vec Ideal S1x128 .f32) (w : Vec Ideal S1x128x128 .f32) (a : Fin 1) (e : Fin 128) :
    k0_pay7 D y s w (ix2 a e) = s (ix2 a e) + ∑ t : Fin 2048, y (ix2 t e) * ∑ c : Fin 128, D (ix2 t c) * w (ix3 0 c e) := by
  unfold_payloads
  pointwise

theorem pay33_apply (D : FVec Ideal S2048x128 .f32) (y : Vec Ideal S2048x128 .bf16) (s : Vec Ideal S1x128 .f32) (w : Vec Ideal S1x128x128 .f32) (a : Fin 1) (e : Fin 128) :
    k0_pay33 D y s w (ix2 a e) = s (ix2 a e) + ∑ t : Fin 2048, y (ix2 t e) * ∑ c : Fin 128, D (ix2 t c) * w (ix3 0 c e) := by
  unfold_payloads
  pointwise

theorem pay10_apply (y : Vec Ideal S2048x128 .bf16) (s : Vec Ideal S1x128 .f32) (w : Vec Ideal S1x128x128 .f32) (t : Fin 2048) (c : Fin 128) :
    k0_pay10 y s w (ix2 t c) = ∑ e : Fin 128, y (ix2 t e) * s (ix2 0 e) * w (ix3 0 c e) := by
  unfold_payloads
  pointwise

theorem pay22_apply (y : Vec Ideal S2048x128 .bf16) (s : Vec Ideal S1x128 .f32) (w : Vec Ideal S1x128x128 .f32) (t : Fin 2048) (c : Fin 128) :
    k0_pay22 (k0_pay18 y) s w (ix2 t c) = ∑ e : Fin 128, y (ix2 t e) * s (ix2 0 e) * w (ix3 0 c e) := by
  unfold_payloads
  pointwise

theorem pay36_apply (y : Vec Ideal S2048x128 .bf16) (s : Vec Ideal S1x128 .f32) (w : Vec Ideal S1x128x128 .f32) (t : Fin 2048) (c : Fin 128) :
    k0_pay36 y s w (ix2 t c) = ∑ e : Fin 128, y (ix2 t e) * s (ix2 0 e) * w (ix3 0 c e) := by
  unfold_payloads
  pointwise

theorem pay56_apply (y : Vec Ideal S2048x128 .bf16) (s : Vec Ideal S1x128 .f32) (w : Vec Ideal S1x128x128 .f32) (t : Fin 2048) (c : Fin 128) :
    k0_pay56 y s w (ix2 t c) = ∑ e : Fin 128, y (ix2 t e) * s (ix2 0 e) * w (ix3 0 c e) := by
  unfold_payloads
  pointwise

theorem pay19_apply (X : Vec Ideal S2048x128 .bf16) (y : Vec Ideal S2048x128 .bf16) (s : Vec Ideal S1x128 .f32) (w : Vec Ideal S1x128x128 .f32) (a : Fin 1) (e : Fin 128) :
    k0_pay19 (iota .tc S2048x1 32 ([0] : List (Fin 2)) iota_S2048x1_d0_w32) (k0_pay14 X) (k0_pay15 (iota .tc S2048x1 32 ([0] : List (Fin 2)) iota_S2048x1_d0_w32)) (k0_pay16 (iota .tc S2048x1 32 ([0] : List (Fin 2)) iota_S2048x1_d0_w32) X) 2047#32 y s w (ix2 a e)
      = s (ix2 a e) + ∑ t : Fin 2048, y (ix2 t e) * ∑ c : Fin 128, centredV 2 (extf .f32 X bitsLt_bf16_f32) (ix2 t c) * w (ix3 0 c e) := by
  unfold k0_pay19
  rw [pay17_eq]
  generalize centredV 2 (extf .f32 X bitsLt_bf16_f32) = D
  unfold_payloads
  pointwise

theorem pay53_apply (X : Vec Ideal S2048x128 .bf16) (y : Vec Ideal S2048x128 .bf16) (s : Vec Ideal S1x128 .f32) (w : Vec Ideal S1x128x128 .f32) (a : Fin 1) (e : Fin 128) :
    k0_pay53 (k0_pay44 X) (k0_pay45 (iota .tc S2048x1 32 ([0] : List (Fin 2)) iota_S2048x1_d0_w32))
      (k0_pay50 (iota .tc S2048x1 32 ([0] : List (Fin 2)) iota_S2048x1_d0_w32) (k0_pay44 X) (k0_pay46 (iota .tc S2048x1 32 ([0] : List (Fin 2)) iota_S2048x1_d0_w32) X) (k0_pay47 (iota .tc S2048x1 32 ([0] : List (Fin 2)) iota_S2048x1_d0_w32) X) (k0_pay48 (iota .tc S2048x1 32 ([0] : List (Fin 2)) iota_S2048x1_d0_w32)) (k0_pay49 (iota .tc S2048x1 32 ([0] : List (Fin 2)) iota_S2048x1_d0_w32) X) (FloatOps.ofBits .f32 0#32)) y s w (ix2 a e)
      = s (ix2 a e) + ∑ t : Fin 2048, y (ix2 t e) * ∑ c : Fin 128, centredV 8 (extf .f32 X bitsLt_bf16_f32) (ix2 t c) * w (ix3 0 c e) := by
  unfold k0_pay53
  rw [pay51_eq]
  generalize centredV 8 (extf .f32 X bitsLt_bf16_f32) = D
  unfold_payloads
  pointwise

theorem pay55_apply (X : Vec Ideal S2048x128 .bf16) (y : Vec Ideal S2048x128 .bf16) (s : Vec Ideal S1x128 .f32) (w : Vec Ideal S1x128x128 .f32) (a : Fin 1) (c e : Fin 128) :
    k0_pay55 (k0_pay44 X) (k0_pay45 (iota .tc S2048x1 32 ([0] : List (Fin 2)) iota_S2048x1_d0_w32))
      (k0_pay50 (iota .tc S2048x1 32 ([0] : List (Fin 2)) iota_S2048x1_d0_w32) (k0_pay44 X) (k0_pay46 (iota .tc S2048x1 32 ([0] : List (Fin 2)) iota_S2048x1_d0_w32) X) (k0_pay47 (iota .tc S2048x1 32 ([0] : List (Fin 2)) iota_S2048x1_d0_w32) X) (k0_pay48 (iota .tc S2048x1 32 ([0] : List (Fin 2)) iota_S2048x1_d0_w32)) (k0_pay49 (iota .tc S2048x1 32 ([0] : List (Fin 2)) iota_S2048x1_d0_w32) X) (FloatOps.ofBits .f32 0#32)) y s w (ix3 a c e)
      = w (ix3 0 c e) + ∑ t : Fin 2048, centredV 8 (extf .f32 X bitsLt_bf16_f32) (ix2 t c) * (y (ix2 t e) * s (ix2 0 e)) := by
  unfold k0_pay55
  rw [pay51_eq]
  generalize centredV 8 (extf .f32 X bitsLt_bf16_f32) = D
  unfold_payloads
  pointwise

theorem pay2_apply (i : S4x128x128.Idx) : (k0_pay2 : FVec Ideal S4x128x128 .f32) i = 0 := by
  idx_vars i
  unfold_payloads
  pointwise
theorem pay3_apply (i : S1x512.Idx) : (k0_pay3 : FVec Ideal S1x512 .f32) i = 0 := by
  idx_vars i
  unfold_payloads
  pointwise

end Cert.Kernel6Ideal.Value
end
-- ==== Proof.PoolV.lean ====
/-
  The backward call of the multi-scale pool: its three result arrays, entry by entry.
-/
module

public import proofs.«01_k».proof.Proof.PoolK

@[expose] public section

set_option maxRecDepth 16384

noncomputable section

namespace Cert.Kernel6Ideal.Value

open Cert.Kernel6Ideal Cert.Kernel6Ideal.Gen Idealize.ShloMosaic Idealize.ShloMosaic.TcCoe Idealize.SL.Sem

/-- How far a group's window reaches on either side. -/
def reach : Fin 4 → ℕ := ![1, 2, 4, 8]
/-- The column of a group's lane among all the columns. -/
def lane (g : Fin 4) (j : Fin 128) : Fin 512 := ⟨128 * g.val + j.val, by omega⟩

/-- A sequence's part of the derivative with respect to a group's weight. -/
def poolDw (r : ℕ) (u y : Fin 2048 → Fin 128 → EReal) (s : Fin 128 → EReal) (c e : Fin 128) : EReal :=
  ∑ t : Fin 2048, centred r (fun q => u q c) t * (y t e * s e)
/-- A sequence's part of the derivative with respect to a group's scale. -/
def poolDs (r : ℕ) (u y : Fin 2048 → Fin 128 → EReal) (w : Fin 128 → Fin 128 → EReal) (e : Fin 128) : EReal :=
  ∑ t : Fin 2048, y t e * ∑ c : Fin 128, centred r (fun q => u q c) t * w c e
/-- The derivative with respect to a group's columns of a sequence. -/
def poolDu (r : ℕ) (y : Fin 2048 → Fin 128 → EReal) (s : Fin 128 → EReal) (w : Fin 128 → Fin 128 → EReal) (t : Fin 2048) (c : Fin 128) : EReal :=
  centredT r (fun q => ∑ e : Fin 128, y q e * s e * w c e) t

/-- Earlier stores do not show where later ones cover. -/
theorem canon_append_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_cover L' L y ?_
      obtain ⟨q, hq, hyq⟩ := hy
      rcases List.mem_cons.mp hq with rfl | hq'
      · exact absurd hyq hm
      · exact ⟨q, hq', hyq⟩

variable (m : (ℓ : Loc nD τ sig) → Buf (Elt Ideal) ℓ) (c : Dev nD) (t : Fin cfg0.N)

/-- A group's columns of the block a grid point reads. -/
def uBlk (g : Fin 4) : Vec Ideal S2048x128 .bf16 := ![X0_0 m c t, X0_1 m c t, X0_2 m c t, X0_3 m c t] g
/-- The weights, as a grid point reads them. -/
abbrev wBlk : Vec Ideal S4x128x128 .f32 := iblk m c 4 t
/-- The scales, as a grid point reads them. -/
abbrev sBlk : Vec Ideal S1x512 .f32 := iblk m c 5 t
/-- The block of the result's derivative a grid point reads. -/
abbrev yBlk : Vec Ideal S2048x512 .bf16 := X0_6 m c t

def dwTile (g : Fin 4) (a e : Fin 128) : EReal :=
  poolDw (reach g) (fun q j => uBlk m c t g (ix2 q j)) (fun q j => yBlk m c t (ix2 q (lane g j))) (fun j => sBlk m c t (ix2 0 (lane g j))) a e
def dsTile (g : Fin 4) (e : Fin 128) : EReal :=
  poolDs (reach g) (fun q j => uBlk m c t g (ix2 q j)) (fun q j => yBlk m c t (ix2 q (lane g j))) (fun a b => wBlk m c t (ix3 g a b)) e
def duTile (g : Fin 4) (q : Fin 2048) (a : Fin 128) : EReal :=
  poolDu (reach g) (fun q j => yBlk m c t (ix2 q (lane g j))) (fun j => sBlk m c t (ix2 0 (lane g j))) (fun a b => wBlk m c t (ix3 g a b)) q a

theorem lane0 (j : Fin 128) : lane 0 j = ⟨j.val, by omega⟩ := Fin.ext (by show 128 * 0 + j.val = j.val; omega)
theorem lane1 (j : Fin 128) : lane 1 j = ⟨128 + j.val, by omega⟩ := rfl
theorem lane2 (j : Fin 128) : lane 2 j = ⟨256 + j.val, by omega⟩ := rfl
theorem lane3 (j : Fin 128) : lane 3 j = ⟨384 + j.val, by omega⟩ := rfl

theorem dw_B (h : ¬t.val % 2 = 0) (g : Fin 4) (a e : Fin 128) :
    (outsAt0 m c t.val t.isLt).2.1 (ix3 g a e) = (outsAt0 m c (t.val - 1) (Nat.lt_of_le_of_lt (Nat.sub_le _ _) t.isLt)).2.1 (ix3 g a e) + dwTile m c t g a e := by
  rw [outsAt0_B m c t h]
  frame_out
  canon_tiles x hx using (View.cover_of_tiledBy _ ![1, 128, 128] (by sl_kernel_rfl) _)
  · idx_vars x
    obtain rfl : a = _ := Fin.ext hx1
    obtain rfl : e = _ := Fin.ext hx2
    obtain rfl : g = 3 := Fin.ext (by show g.val = 3; omega)
    simp (discharger := decide) only [pay5_eq, pay17_eq, pay31_eq, pay55_apply, pay9_apply, pay21_apply, pay35_apply]
    pointwise
    simp only [dwTile, poolDw, lane3]
    rfl
  · idx_vars x
    obtain rfl : a = _ := Fin.ext hx1
    obtain rfl : e = _ := Fin.ext hx2
    obtain rfl : g = 2 := Fin.ext (by show g.val = 2; omega)
    simp (discharger := decide) only [pay5_eq, pay17_eq, pay31_eq, pay55_apply, pay9_apply, pay21_apply, pay35_apply]
    pointwise
    simp only [dwTile, poolDw, lane2]
    rfl
  · idx_vars x
    obtain rfl : a = _ := Fin.ext hx1
    obtain rfl : e = _ := Fin.ext hx2
    obtain rfl : g = 1 := Fin.ext (by show g.val = 1; omega)
    simp (discharger := decide) only [pay5_eq, pay17_eq, pay31_eq, pay55_apply, pay9_apply, pay21_apply, pay35_apply]
    pointwise
    simp only [dwTile, poolDw, lane1]
    rfl
  · idx_vars x
    obtain rfl : a = _ := Fin.ext hx1
    obtain rfl : e = _ := Fin.ext hx2
    obtain rfl : g = 0 := Fin.ext (by show g.val = 0; omega)
    simp (discharger := decide) only [pay5_eq, pay17_eq, pay31_eq, pay55_apply, pay9_apply, pay21_apply, pay35_apply]
    pointwise
    simp only [dwTile, poolDw, lane0]
    rfl

theorem dw_A (h : t.val % 2 = 0) (g : Fin 4) (a e : Fin 128) :
    (outsAt0 m c t.val t.isLt).2.1 (ix3 g a e) = 0 + dwTile m c t g a e := by
  rw [outsAt0_A m c t h]
  frame_out
  refine (canon_append_cover [_] [_, _, _, _] _ (View.cover_of_tiledBy _ ![1, 128, 128] (by sl_kernel_rfl) _)).trans ?_
  canon_tiles x hx using (View.cover_of_tiledBy _ ![1, 128, 128] (by sl_kernel_rfl) _)
  · idx_vars x
    obtain rfl : a = _ := Fin.ext hx1
    obtain rfl : e = _ := Fin.ext hx2
    obtain rfl : g = 3 := Fin.ext (by show g.val = 3; omega)
    simp (discharger := decide) only [View.readCov_skip, View.readCov_fill, pay5_eq, pay17_eq, pay31_eq, pay55_apply, pay9_apply, pay21_apply, pay35_apply]
    pointwise
    simp only [dwTile, poolDw, lane3, pay2_apply]
    exact zero_add _
  · idx_vars x
    obtain rfl : a = _ := Fin.ext hx1
    obtain rfl : e = _ := Fin.ext hx2
    obtain rfl : g = 2 := Fin.ext (by show g.val = 2; omega)
    simp (discharger := decide) only [View.readCov_skip, View.readCov_fill, pay5_eq, pay17_eq, pay31_eq, pay55_apply, pay9_apply, pay21_apply, pay35_apply]
    pointwise
    simp only [dwTile, poolDw, lane2, pay2_apply]
    exact zero_add _
  · idx_vars x
    obtain rfl : a = _ := Fin.ext hx1
    obtain rfl : e = _ := Fin.ext hx2
    obtain rfl : g = 1 := Fin.ext (by show g.val = 1; omega)
    simp (discharger := decide) only [View.readCov_skip, View.readCov_fill, pay5_eq, pay17_eq, pay31_eq, pay55_apply, pay9_apply, pay21_apply, pay35_apply]
    pointwise
    simp only [dwTile, poolDw, lane1, pay2_apply]
    exact zero_add _
  · idx_vars x
    obtain rfl : a = _ := Fin.ext hx1
    obtain rfl : e = _ := Fin.ext hx2
    obtain rfl : g = 0 := Fin.ext (by show g.val = 0; omega)
    simp (discharger := decide) only [View.readCov_skip, View.readCov_fill, pay5_eq, pay17_eq, pay31_eq, pay55_apply, pay9_apply, pay21_apply, pay35_apply]
    pointwise
    simp only [dwTile, poolDw, lane0, pay2_apply]
    exact zero_add _

theorem ds_B (h : ¬t.val % 2 = 0) (g : Fin 4) (e : Fin 128) :
    (outsAt0 m c t.val t.isLt).2.2 (ix2 0 (lane g e)) = (outsAt0 m c (t.val - 1) (Nat.lt_of_le_of_lt (Nat.sub_le _ _) t.isLt)).2.2 (ix2 0 (lane g e)) + dsTile m c t g e := by
  rw [outsAt0_B m c t h]
  frame_out
  canon_tiles x hx using (View.cover_of_tiledBy _ ![1, 128] (by sl_kernel_rfl) _)
  · idx_vars x
    have hv : g.val = 3 ∧ e.val = x1.val := by
      simp only [lane] at hx1; have := e.isLt; have := g.isLt; omega
    obtain rfl : g = 3 := Fin.ext hv.1
    obtain rfl : e = _ := Fin.ext hv.2
    obtain rfl : x0 = 0 := Subsingleton.elim _ _
    simp (discharger := decide) only [pay5_eq, pay31_eq, pay7_apply, pay19_apply, pay33_apply, pay53_apply]
    pointwise
    simp only [dsTile, poolDs, lane3]
    rfl
  · idx_vars x
    have hv : g.val = 2 ∧ e.val = x1.val := by
      simp only [lane] at hx1; have := e.isLt; have := g.isLt; omega
    obtain rfl : g = 2 := Fin.ext hv.1
    obtain rfl : e = _ := Fin.ext hv.2
    obtain rfl : x0 = 0 := Subsingleton.elim _ _
    simp (discharger := decide) only [pay5_eq, pay31_eq, pay7_apply, pay19_apply, pay33_apply, pay53_apply]
    pointwise
    simp only [dsTile, poolDs, lane2]
    rfl
  · idx_vars x
    have hv : g.val = 1 ∧ e.val = x1.val := by
      simp only [lane] at hx1; have := e.isLt; have := g.isLt; omega
    obtain rfl : g = 1 := Fin.ext hv.1
    obtain rfl : e = _ := Fin.ext hv.2
    obtain rfl : x0 = 0 := Subsingleton.elim _ _
    simp (discharger := decide) only [pay5_eq, pay31_eq, pay7_apply, pay19_apply, pay33_apply, pay53_apply]
    pointwise
    simp only [dsTile, poolDs, lane1]
    rfl
  · idx_vars x
    have hv : g.val = 0 ∧ e.val = x1.val := by
      simp only [lane] at hx1; have := e.isLt; have := g.isLt; omega
    obtain rfl : g = 0 := Fin.ext hv.1
    obtain rfl : e = _ := Fin.ext hv.2
    obtain rfl : x0 = 0 := Subsingleton.elim _ _
    simp (discharger := decide) only [pay5_eq, pay31_eq, pay7_apply, pay19_apply, pay33_apply, pay53_apply]
    pointwise
    simp only [dsTile, poolDs, lane0]
    rfl
theorem ds_A (h : t.val % 2 = 0) (g : Fin 4) (e : Fin 128) :
    (outsAt0 m c t.val t.isLt).2.2 (ix2 0 (lane g e)) = 0 + dsTile m c t g e := by
  rw [outsAt0_A m c t h]
  frame_out
  refine (canon_append_cover [_] [_, _, _, _] _ (View.cover_of_tiledBy _ ![1, 128] (by sl_kernel_rfl) _)).trans ?_
  canon_tiles x hx using (View.cover_of_tiledBy _ ![1, 128] (by sl_kernel_rfl) _)
  · idx_vars x
    have hv : g.val = 3 ∧ e.val = x1.val := by
      simp only [lane] at hx1; have := e.isLt; have := g.isLt; omega
    obtain rfl : g = 3 := Fin.ext hv.1
    obtain rfl : e = _ := Fin.ext hv.2
    obtain rfl : x0 = 0 := Subsingleton.elim _ _
    simp (discharger := decide) only [View.readCov_skip, View.readCov_fill, pay5_eq, pay31_eq, pay7_apply, pay19_apply, pay33_apply, pay53_apply]
    pointwise
    simp only [dsTile, poolDs, lane3, pay3_apply]
    exact zero_add _
  · idx_vars x
    have hv : g.val = 2 ∧ e.val = x1.val := by
      simp only [lane] at hx1; have := e.isLt; have := g.isLt; omega
    obtain rfl : g = 2 := Fin.ext hv.1
    obtain rfl : e = _ := Fin.ext hv.2
    obtain rfl : x0 = 0 := Subsingleton.elim _ _
    simp (discharger := decide) only [View.readCov_skip, View.readCov_fill, pay5_eq, pay31_eq, pay7_apply, pay19_apply, pay33_apply, pay53_apply]
    pointwise
    simp only [dsTile, poolDs, lane2, pay3_apply]
    exact zero_add _
  · idx_vars x
    have hv : g.val = 1 ∧ e.val = x1.val := by
      simp only [lane] at hx1; have := e.isLt; have := g.isLt; omega
    obtain rfl : g = 1 := Fin.ext hv.1
    obtain rfl : e = _ := Fin.ext hv.2
    obtain rfl : x0 = 0 := Subsingleton.elim _ _
    simp (discharger := decide) only [View.readCov_skip, View.readCov_fill, pay5_eq, pay31_eq, pay7_apply, pay19_apply, pay33_apply, pay53_apply]
    pointwise
    simp only [dsTile, poolDs, lane1, pay3_apply]
    exact zero_add _
  · idx_vars x
    have hv : g.val = 0 ∧ e.val = x1.val := by
      simp only [lane] at hx1; have := e.isLt; have := g.isLt; omega
    obtain rfl : g = 0 := Fin.ext hv.1
    obtain rfl : e = _ := Fin.ext hv.2
    obtain rfl : x0 = 0 := Subsingleton.elim _ _
    simp (discharger := decide) only [View.readCov_skip, View.readCov_fill, pay5_eq, pay31_eq, pay7_apply, pay19_apply, pay33_apply, pay53_apply]
    pointwise
    simp only [dsTile, poolDs, lane0, pay3_apply]
    exact zero_add _

theorem du_A (h : t.val % 2 = 0) (g : Fin 4) (q : Fin 2048) (a : Fin 128) :
    (outsAt0 m c t.val t.isLt).1 (ix2 q (lane g a)) = duTile m c t g q a := by
  rw [outsAt0_A m c t h]
  frame_out
  canon_tiles x hx using (View.cover_of_tiledBy _ ![2048, 128] (by sl_kernel_rfl) _)
  · idx_vars x
    have hv : g.val = 3 ∧ a.val = x1.val := by
      simp only [lane] at hx1; have := a.isLt; have := g.isLt; omega
    obtain rfl : g = 3 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane3]
    congr 1
    funext s
    simp only [pay10_apply, pay22_apply, pay36_apply, pay56_apply]
    pointwise
  · idx_vars x
    have hv : g.val = 2 ∧ a.val = x1.val := by
      simp only [lane] at hx1; have := a.isLt; have := g.isLt; omega
    obtain rfl : g = 2 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane2]
    congr 1
    funext s
    simp only [pay10_apply, pay22_apply, pay36_apply, pay56_apply]
    pointwise
  · idx_vars x
    have hv : g.val = 1 ∧ a.val = x1.val := by
      simp only [lane] at hx1; have := a.isLt; have := g.isLt; omega
    obtain rfl : g = 1 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane1]
    congr 1
    funext s
    simp only [pay10_apply, pay22_apply, pay36_apply, pay56_apply]
    pointwise
  · idx_vars x
    have hv : g.val = 0 ∧ a.val = x1.val := by
      simp only [lane] at hx1; have := a.isLt; have := g.isLt; omega
    obtain rfl : g = 0 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane0]
    congr 1
    funext s
    simp only [pay10_apply, pay22_apply, pay36_apply, pay56_apply]
    pointwise

theorem du_B (h : ¬t.val % 2 = 0) (g : Fin 4) (q : Fin 2048) (a : Fin 128) :
    (outsAt0 m c t.val t.isLt).1 (ix2 q (lane g a)) = duTile m c t g q a := by
  rw [outsAt0_B m c t h]
  frame_out
  canon_tiles x hx using (View.cover_of_tiledBy _ ![2048, 128] (by sl_kernel_rfl) _)
  · idx_vars x
    have hv : g.val = 3 ∧ a.val = x1.val := by
      simp only [lane] at hx1; have := a.isLt; have := g.isLt; omega
    obtain rfl : g = 3 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane3]
    congr 1
    funext s
    simp only [pay10_apply, pay22_apply, pay36_apply, pay56_apply]
    pointwise
  · idx_vars x
    have hv : g.val = 2 ∧ a.val = x1.val := by
      simp only [lane] at hx1; have := a.isLt; have := g.isLt; omega
    obtain rfl : g = 2 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane2]
    congr 1
    funext s
    simp only [pay10_apply, pay22_apply, pay36_apply, pay56_apply]
    pointwise
  · idx_vars x
    have hv : g.val = 1 ∧ a.val = x1.val := by
      simp only [lane] at hx1; have := a.isLt; have := g.isLt; omega
    obtain rfl : g = 1 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane1]
    congr 1
    funext s
    simp only [pay10_apply, pay22_apply, pay36_apply, pay56_apply]
    pointwise
  · idx_vars x
    have hv : g.val = 0 ∧ a.val = x1.val := by
      simp only [lane] at hx1; have := a.isLt; have := g.isLt; omega
    obtain rfl : g = 0 := Fin.ext hv.1
    obtain rfl : a = _ := Fin.ext hv.2
    obtain rfl : q = _ := Fin.ext hx0
    simp only [pay13_eq, pay27_eq, pay43_eq, pay1_eq, truncf_apply, centredTV, pay10_apply, pay22_apply, pay36_apply, pay56_apply]
    pointwise
    simp only [duTile, poolDu, lane0]
    congr 1
    funext s
    simp only [pay10_apply, pay22_apply, pay36_apply, pay56_apply]
    pointwise

end Cert.Kernel6Ideal.Value

end
-- ==== Proof.PoolA.lean ====
/-
  The backward call of the multi-scale pool: its results in terms of its arguments.
-/
module

public import proofs.«01_k».proof.Proof.PoolV

@[expose] public section

set_option maxRecDepth 16384

noncomputable section

namespace Cert.Kernel6Ideal.Value

open Cert.Kernel6Ideal Cert.Kernel6Ideal.Gen Idealize.ShloMosaic Idealize.ShloMosaic.TcCoe Idealize.SL.Sem

/-- A sequence's columns of a group, off the mixer's projection. -/
def seqU (p : Vec Ideal S4608x1280 .bf16) (b : Fin 2) (g : Fin 4) (q : Fin 2048) (a : Fin 128) : EReal :=
  p (ix2 ⟨2048 * b.val + q.val, by omega⟩ ⟨768 + (128 * g.val + a.val), by omega⟩)
/-- A sequence's columns of a group, off the derivative of the mixer's output. -/
def seqY (y : Vec Ideal S4608x1024 .bf16) (b : Fin 2) (g : Fin 4) (q : Fin 2048) (a : Fin 128) : EReal :=
  y (ix2 ⟨2048 * b.val + q.val, by omega⟩ ⟨512 + (128 * g.val + a.val), by omega⟩)

/-- The derivative with respect to the weights. -/
def dwOf (p : Vec Ideal S4608x1280 .bf16) (s : Vec Ideal S1x512 .f32) (y : Vec Ideal S4608x1024 .bf16) (g : Fin 4) (a e : Fin 128) : EReal :=
  poolDw (reach g) (seqU p 0 g) (seqY y 0 g) (fun j => s (ix2 0 (lane g j))) a e
    + poolDw (reach g) (seqU p 1 g) (seqY y 1 g) (fun j => s (ix2 0 (lane g j))) a e
/-- The derivative with respect to the scales. -/
def dsOf (p : Vec Ideal S4608x1280 .bf16) (w : Vec Ideal S4x128x128 .f32) (y : Vec Ideal S4608x1024 .bf16) (g : Fin 4) (e : Fin 128) : EReal :=
  poolDs (reach g) (seqU p 0 g) (seqY y 0 g) (fun a j => w (ix3 g a j)) e
    + poolDs (reach g) (seqU p 1 g) (seqY y 1 g) (fun a j => w (ix3 g a j)) e
/-- The derivative with respect to the columns. -/
def duOf (w : Vec Ideal S4x128x128 .f32) (s : Vec Ideal S1x512 .f32) (y : Vec Ideal S4608x1024 .bf16) (b : Fin 2) (g : Fin 4) (q : Fin 2048) (a : Fin 128) : EReal :=
  poolDu (reach g) (seqY y b g) (fun j => s (ix2 0 (lane g j))) (fun a j => w (ix3 g a j)) q a

/-- The group a column belongs to. -/
def groupOf (j : Fin 512) : Fin 4 := ⟨j.val / 128, by omega⟩
/-- A column's place in its group. -/
def placeOf (j : Fin 512) : Fin 128 := ⟨j.val % 128, by omega⟩
theorem lane_groupOf (j : Fin 512) : lane (groupOf j) (placeOf j) = j := Fin.ext (by show 128 * (j.val / 128) + j.val % 128 = j.val; omega)
/-- The sequence a row belongs to. -/
def seqOf (i : Fin 4096) : Fin 2 := ⟨i.val / 2048, by omega⟩
/-- A row's place in its sequence. -/
def posOf (i : Fin 4096) : Fin 2048 := ⟨i.val % 2048, by omega⟩

variable (m : (ℓ : Loc nD τ sig) → Buf (Elt Ideal) ℓ) (c : Dev nD) (t : Fin cfg0.N)

abbrev ps : Vec Ideal S4608x1280 .bf16 := m ((c.tc : Thread nD τ).loc main_arg0)
abbrev ws : Vec Ideal S4x128x128 .f32 := m ((c.tc : Thread nD τ).loc main_arg1)
abbrev ss : Vec Ideal S1x512 .f32 := m ((c.tc : Thread nD τ).loc main_arg2)
abbrev ys : Vec Ideal S4608x1024 .bf16 := m ((c.tc : Thread nD τ).loc main_arg3)

/-- The block indices of the windows at a grid point: point `t` takes sequence `t`. -/
theorem idx : ∀ t : Fin cfg0.N, win0_0.index t = ![t.val, 6] ∧ win0_1.index t = ![t.val, 7]
    ∧ win0_2.index t = ![t.val, 8] ∧ win0_3.index t = ![t.val, 9] ∧ win0_4.index t = ![0, 0, 0]
    ∧ win0_5.index t = ![0, 0] ∧ win0_6.index t = ![t.val, 1] ∧ win0_7.index t = ![t.val, 0]
    ∧ win0_8.index t = ![0, 0, 0] ∧ win0_9.index t = ![0, 0] :=
  (by decide +kernel : ∀ t : Fin grid0.N, _)

/-- The sequence a grid point stands for. -/
def seqAt : Fin 2 := ⟨t.val, lt_of_lt_of_eq t.isLt N_0⟩

theorem X0_0_apply (q : Fin 2048) (a : Fin 128) : X0_0 m c t (ix2 q a) = seqU (ps m c) (seqAt t) 0 q a := by
  obtain ⟨e, _, _, _, _, _, _, _, _, _⟩ := idx t
  unfold ps
  rw [← V_main_arg0 m c]
  unfold X0_0 Pipeline.Window.fill
  rw [dif_pos (moved0_0 t _)]
  unfold seqU seqAt
  blk_ext [iblk, e]

theorem X0_1_apply (q : Fin 2048) (a : Fin 128) : X0_1 m c t (ix2 q a) = seqU (ps m c) (seqAt t) 1 q a := by
  obtain ⟨_, e, _, _, _, _, _, _, _, _⟩ := idx t
  unfold ps
  rw [← V_main_arg0 m c]
  unfold X0_1 Pipeline.Window.fill
  rw [dif_pos (moved0_1 t _)]
  unfold seqU seqAt
  blk_ext [iblk, e]

theorem X0_2_apply (q : Fin 2048) (a : Fin 128) : X0_2 m c t (ix2 q a) = seqU (ps m c) (seqAt t) 2 q a := by
  obtain ⟨_, _, e, _, _, _, _, _, _, _⟩ := idx t
  unfold ps
  rw [← V_main_arg0 m c]
  unfold X0_2 Pipeline.Window.fill
  rw [dif_pos (moved0_2 t _)]
  unfold seqU seqAt
  blk_ext [iblk, e]

theorem X0_3_apply (q : Fin 2048) (a : Fin 128) : X0_3 m c t (ix2 q a) = seqU (ps m c) (seqAt t) 3 q a := by
  obtain ⟨_, _, _, e, _, _, _, _, _, _⟩ := idx t
  unfold ps
  rw [← V_main_arg0 m c]
  unfold X0_3 Pipeline.Window.fill
  rw [dif_pos (moved0_3 t _)]
  unfold seqU seqAt
  blk_ext [iblk, e]

theorem uBlk_apply (g : Fin 4) (q : Fin 2048) (a : Fin 128) : uBlk m c t g (ix2 q a) = seqU (ps m c) (seqAt t) g q a := by
  match g with
  | ⟨0, _⟩ => exact X0_0_apply m c t q a
  | ⟨1, _⟩ => exact X0_1_apply m c t q a
  | ⟨2, _⟩ => exact X0_2_apply m c t q a
  | ⟨3, _⟩ => exact X0_3_apply m c t q a

theorem yBlk_apply (g : Fin 4) (q : Fin 2048) (a : Fin 128) : yBlk m c t (ix2 q (lane g a)) = seqY (ys m c) (seqAt t) g q a := by
  obtain ⟨_, _, _, _, _, _, e, _, _, _⟩ := idx t
  unfold ys
  rw [← V_main_arg3 m c]
  unfold yBlk X0_6 Pipeline.Window.fill
  rw [dif_pos (moved0_6 t _)]
  unfold seqY seqAt lane
  blk_ext [iblk, e]

theorem wBlk_apply (g : Fin 4) (a e' : Fin 128) : wBlk m c t (ix3 g a e') = ws m c (ix3 g a e') := by
  obtain ⟨_, _, _, _, e, _, _, _, _, _⟩ := idx t
  unfold ws
  rw [← V_main_arg1 m c]
  blk_ext [wBlk, iblk, e]

theorem sBlk_apply (j : Fin 512) : sBlk m c t (ix2 0 j) = ss m c (ix2 0 j) := by
  obtain ⟨_, _, _, _, _, e, _, _, _, _⟩ := idx t
  unfold ss
  rw [← V_main_arg2 m c]
  blk_ext [sBlk, iblk, e]

theorem dwTile_eq (g : Fin 4) (a e : Fin 128) :
    dwTile m c t g a e = poolDw (reach g) (seqU (ps m c) (seqAt t) g) (seqY (ys m c) (seqAt t) g) (fun j => ss m c (ix2 0 (lane g j))) a e := by
  simp only [dwTile, uBlk_apply, yBlk_apply, sBlk_apply]

theorem dsTile_eq (g : Fin 4) (e : Fin 128) :
    dsTile m c t g e = poolDs (reach g) (seqU (ps m c) (seqAt t) g) (seqY (ys m c) (seqAt t) g) (fun a j => ws m c (ix3 g a j)) e := by
  simp only [dsTile, uBlk_apply, yBlk_apply, wBlk_apply]

theorem duTile_eq (g : Fin 4) (q : Fin 2048) (a : Fin 128) :
    duTile m c t g q a = duOf (ws m c) (ss m c) (ys m c) (seqAt t) g q a := by
  simp only [duTile, duOf, yBlk_apply, sBlk_apply, wBlk_apply]

theorem dw_last (h : 1 < cfg0.N) (g : Fin 4) (a e : Fin 128) :
    (outsAt0 m c 1 h).2.1 (ix3 g a e) = dwOf (ps m c) (ss m c) (ys m c) g a e := by
  refine (dw_B m c ⟨1, h⟩ (by dsimp only; omega) g a e).trans ?_
  rw [dwTile_eq]
  refine congrArg₂ (· + ·) ?_ rfl
  refine (dw_A m c ⟨0, Nat.zero_lt_of_lt h⟩ (rfl) g a e).trans ?_
  rw [zero_add, dwTile_eq]
  rfl

theorem ds_last (h : 1 < cfg0.N) (j : Fin 512) :
    (outsAt0 m c 1 h).2.2 (ix2 0 j) = dsOf (ps m c) (ws m c) (ys m c) (groupOf j) (placeOf j) := by
  conv_lhs => rw [← lane_groupOf j]
  refine (ds_B m c ⟨1, h⟩ (by dsimp only; omega) _ _).trans ?_
  rw [dsTile_eq]
  refine congrArg₂ (· + ·) ?_ rfl
  refine (ds_A m c ⟨0, Nat.zero_lt_of_lt h⟩ rfl _ _).trans ?_
  rw [zero_add, dsTile_eq]
  rfl

theorem du_any (q : Fin 2048) (j : Fin 512) :
    (outsAt0 m c t.val t.isLt).1 (ix2 q j) = duOf (ws m c) (ss m c) (ys m c) (seqAt t) (groupOf j) q (placeOf j) := by
  conv_lhs => rw [← lane_groupOf j]
  rw [← duTile_eq]
  by_cases h : t.val % 2 = 0
  · exact du_A m c t h _ _ _
  · exact du_B m c t h _ _ _

/-- The first result array. -/
theorem arr7 : (dats m 0 c).arrAt 7 cfg0.N
    = fun i : S4096x512.Idx => duOf (ws m c) (ss m c) (ys m c) (seqOf (i 0)) (groupOf (i 1)) (posOf (i 0)) (placeOf (i 1)) := by
  refine (dats m 0 c).arrAt_eq_of_covers 7 _ (by decide +kernel) fun t hf y => ?_
  obtain ⟨_, _, _, _, _, _, _, e, _, _⟩ := idx t
  obtain ⟨y, rfl⟩ : ∃ z : S2048x512.Idx, z = y := ⟨y, rfl⟩
  have h0 : ((win0_7.blk t).view.emb y 0).val = t.val * 2048 + (y 0).val := by blk_simp [e]
  have h1 : ((win0_7.blk t).view.emb y 1).val = (y 1).val := by blk_simp [e]
  blk_simp
  rw [after0_7]
  generalize (win0_7.blk t).view.emb y = z at h0 h1 ⊢
  idx_vars y
  refine (du_any m c t y0 y1).trans ?_
  have e1 : y1 = z 1 := Fin.ext h1.symm
  have hy : y0.val < 2048 := y0.isLt
  have h0' : (z 0).val = t.val * 2048 + y0.val := h0
  have e0 : seqAt t = seqOf (z 0) := Fin.ext (by show t.val = (z 0).val / 2048; omega)
  have e2 : y0 = posOf (z 0) := Fin.ext (by show y0.val = (z 0).val % 2048; omega)
  rw [e0, e2, e1]

/-- The second result array. -/
theorem arr8 : (dats m 0 c).arrAt 8 cfg0.N
    = fun i : S4x128x128.Idx => dwOf (ps m c) (ss m c) (ys m c) (i 0) (i 1) (i 2) := by
  refine (dats m 0 c).arrAt_eq_of_covers 8 _ (by decide +kernel) fun t hf y => ?_
  obtain ⟨_, _, _, _, _, _, _, _, e, _⟩ := idx t
  have ht := (flush0_8 t).mp hf
  obtain ⟨y, rfl⟩ : ∃ z : S4x128x128.Idx, z = y := ⟨y, rfl⟩
  have h0 : (win0_8.blk t).view.emb y = y := by blk_ext [e]
  blk_simp
  rw [after0_8, h0]
  have hN : t.val < 2 := lt_of_lt_of_eq t.isLt N_0
  have h1 : 1 < cfg0.N := lt_of_lt_of_eq (by decide) N_0.symm
  obtain rfl : t = ⟨1, h1⟩ := Fin.ext (by dsimp only; omega)
  idx_vars y
  exact dw_last m c _ y0 y1 y2

/-- The third result array. -/
theorem arr9 : (dats m 0 c).arrAt 9 cfg0.N
    = fun i : S1x512.Idx => dsOf (ps m c) (ws m c) (ys m c) (groupOf (i 1)) (placeOf (i 1)) := by
  refine (dats m 0 c).arrAt_eq_of_covers 9 _ (by decide +kernel) fun t hf y => ?_
  obtain ⟨_, _, _, _, _, _, _, _, _, e⟩ := idx t
  have ht := (flush0_9 t).mp hf
  obtain ⟨y, rfl⟩ : ∃ z : S1x512.Idx, z = y := ⟨y, rfl⟩
  have h0 : (win0_9.blk t).view.emb y = y := by blk_ext [e]
  blk_simp
  rw [after0_9, h0]
  have hN : t.val < 2 := lt_of_lt_of_eq t.isLt N_0
  have h1 : 1 < cfg0.N := lt_of_lt_of_eq (by decide) N_0.symm
  obtain rfl : t = ⟨1, h1⟩ := Fin.ext (by dsimp only; omega)
  idx_vars y
  obtain rfl : y0 = 0 := Subsingleton.elim _ _
  exact ds_last m c _ y1

/-- The call ends with its three results at the derivatives' entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S4096x512.Idx => duOf (ws m c) (ss m c) (ys m c) (seqOf (i 0)) (groupOf (i 1)) (posOf (i 0)) (placeOf (i 1)))
      ∧ r.2.mem ((c.tc : Thread nD τ).loc main_v0_1) = (fun i : S4x128x128.Idx => dwOf (ps m c) (ss m c) (ys m c) (i 0) (i 1) (i 2))
      ∧ r.2.mem ((c.tc : Thread nD τ).loc main_v0_2) = (fun i : S1x512.Idx => dsOf (ps m c) (ws m c) (ys m c) (groupOf (i 1)) (placeOf (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (arr7 m c), (h c).2.1.trans (arr8 m c), (h c).2.2.1.trans (arr9 m c), (h c).2.2.2⟩)
    (run_blocks m ρ)

end Cert.Kernel6Ideal.Value

end
-- ==== Proof.PoolR.lean ====
/-
  The reference of the multi-scale pool's backward pass, entry by entry.
-/
module

public import proofs.«01_k».proof.Proof.PoolA
public import proofs.«01_k».proof.Proof.Gen.Reference6Ideal.Run

@[expose] public section

set_option maxRecDepth 16384

noncomputable section

namespace Cert.Reference6Ideal.Value

open Cert.Reference6Ideal Cert.Reference6Ideal.Gen Idealize.ShloMosaic Idealize.ShloMosaic.TcCoe Idealize.SL.Sem
open Cert.Kernel6Ideal.Value (reach lane nearby count near recip centred centredT poolDw poolDs poolDu seqU seqY dwOf dsOf duOf groupOf placeOf lane_groupOf seqOf posOf)

/-- The first position of each token's window, for each group. -/
def loA : Vec Ideal S4x2048 .i32 :=
  maxsi (subi (broadcastInDim S4x2048 ![0, 1] bcast_S1x2048_S4x2048_0_1 (broadcastInDim S1x2048 ![1] bcast_S2048_S1x2048_1 (iotaInDim S2048 32 0))) (broadcastInDim S4x2048 ![0, 1] bcast_S4x1_S4x2048_0_1 (broadcastInDim S4x1 ![0] bcast_S4_S4x1_0 (fun i => lit0 (S4.rowMajor i))))) (broadcastInDim S4x2048 ![] bcast_S_S4x2048 (constantI S_ 32 0#32))
/-- One past the last position of each token's window. -/
def hiA : Vec Ideal S4x2048 .i32 :=
  addi (minsi (addi (broadcastInDim S4x2048 ![0, 1] bcast_S1x2048_S4x2048_0_1 (broadcastInDim S1x2048 ![1] bcast_S2048_S1x2048_1 (iotaInDim S2048 32 0))) (broadcastInDim S4x2048 ![0, 1] bcast_S4x1_S4x2048_0_1 (broadcastInDim S4x1 ![0] bcast_S4_S4x1_0 (fun i => lit0 (S4.rowMajor i))))) (broadcastInDim S4x2048 ![] bcast_S_S4x2048 (constantI S_ 32 2047#32))) (broadcastInDim S4x2048 ![] bcast_S_S4x2048 (constantI S_ 32 1#32))
/-- One where a position is in a token's window, zero elsewhere. -/
def nearA : FVec Ideal S4x2048x2048 .f32 :=
  uitofp .f32 (andi (cmpi .sge (broadcastInDim S4x2048x2048 ![0, 1, 2] bcast_S1x1x2048_S4x2048x2048_0_1_2 (broadcastInDim S1x1x2048 ![2] bcast_S2048_S1x1x2048_2 (iotaInDim S2048 32 0))) (broadcastInDim S4x2048x2048 ![0, 1, 2] bcast_S4x2048x1_S4x2048x2048_0_1_2 (broadcastInDim S4x2048x1 ![0, 1] bcast_S4x2048_S4x2048x1_0_1 loA))) (cmpi .slt (broadcastInDim S4x2048x2048 ![0, 1, 2] bcast_S1x1x2048_S4x2048x2048_0_1_2 (broadcastInDim S1x1x2048 ![2] bcast_S2048_S1x1x2048_2 (iotaInDim S2048 32 0))) (broadcastInDim S4x2048x2048 ![0, 1, 2] bcast_S4x2048x1_S4x2048x2048_0_1_2 (broadcastInDim S4x2048x1 ![0, 1] bcast_S4x2048_S4x2048x1_0_1 hiA))))
/-- How many positions a token's window holds. -/
def cntA : FVec Ideal S1x2048x4x1 .f32 :=
  broadcastInDim S1x2048x4x1 ![1, 2] bcast_S2048x4_S1x2048x4x1_1_2 (sitofp .f32 (transpose S2048x4 [1, 0] (subi hiA loA) transposes_S4x2048_S2048x4_1_0))
/-- The pool's input by sequence, position, group and column. -/
def uA (p : Vec Ideal S4608x1280 .bf16) : FVec Ideal S2x2048x4x128 .f32 :=
  shapeCast _ (shapeCast _ (extf .f32 (extractStridedSlice S4096x512 ![0, 768] p slices_S4608x1280_S4096x512_0_768) bitsLt_bf16_f32) shapeCasts_S4096x512_S2x2048x512) shapeCasts_S2x2048x512_S2x2048x4x128
/-- The window's mean minus the token. -/
def dA (p : Vec Ideal S4608x1280 .bf16) : FVec Ideal S2x2048x4x128 .f32 :=
  subf (Host.divf (transpose S2x2048x4x128 [1, 3, 0, 2] (Host.dotGeneral dot_S2x2048x4x128_S4x2048x2048_S4x2x128x2048_1_2_03_1_2_0 none (uA p) nearA) transposes_S4x2x128x2048_S2x2048x4x128_1_3_0_2) (broadcastInDim S2x2048x4x128 ![0, 1, 2, 3] bcast_S1x2048x4x1_S2x2048x4x128_0_1_2_3 cntA)) (uA p)
/-- The cotangent times the scale. -/
def dypA (s : Vec Ideal S1x512 .f32) (y : Vec Ideal S4608x1024 .bf16) : FVec Ideal S4x128x2x2048 .f32 :=
  transpose S4x128x2x2048 [2, 3, 0, 1] (shapeCast _ (mulf (shapeCast _ (extf .f32 (extractStridedSlice S4096x512 ![0, 512] y slices_S4608x1024_S4096x512_0_512) bitsLt_bf16_f32) shapeCasts_S4096x512_S2x2048x512) (broadcastInDim S2x2048x512 ![0, 1, 2] bcast_S1x1x512_S2x2048x512_0_1_2 (broadcastInDim S1x1x512 ![1, 2] bcast_S1x512_S1x1x512_1_2 s))) shapeCasts_S2x2048x512_S2x2048x4x128) transposes_S2x2048x4x128_S4x128x2x2048_2_3_0_1
/-- The cotangent of the centred mean. -/
def ddA (w : FVec Ideal S4x128x128 .f32) (s : Vec Ideal S1x512 .f32) (y : Vec Ideal S4608x1024 .bf16) : FVec Ideal S2x2048x4x128 .f32 :=
  transpose S2x2048x4x128 [1, 2, 0, 3] (Host.dotGeneral dot_S4x128x2x2048_S4x128x128_S4x2x2048x128_1_2_23_1_0_0 none (dypA s y) (w : FVec Ideal S4x128x128 .f32)) transposes_S4x2x2048x128_S2x2048x4x128_1_2_0_3
/-- The centred mean times the group's weights. -/
def oA (p : Vec Ideal S4608x1280 .bf16) (w : FVec Ideal S4x128x128 .f32) : FVec Ideal S4x128x2x2048 .f32 :=
  Host.dotGeneral dot_S4x128x128_S2x2048x4x128_S4x128x2x2048_1_3_2_01_0_2 none (w : FVec Ideal S4x128x128 .f32) (dA p)
/-- The scale's gradient before its axes of length one. -/
def rA (p : Vec Ideal S4608x1280 .bf16) (w : FVec Ideal S4x128x128 .f32) (y : Vec Ideal S4608x1024 .bf16) : FVec Ideal S512 .f32 :=
  Host.reduceAdd (mulf (shapeCast _ (transpose S2x2048x4x128 [2, 3, 0, 1] (oA p w) transposes_S4x128x2x2048_S2x2048x4x128_2_3_0_1) shapeCasts_S2x2048x4x128_S2x2048x512) (shapeCast _ (extf .f32 (extractStridedSlice S4096x512 ![0, 512] y slices_S4608x1024_S4096x512_0_512) bitsLt_bf16_f32) shapeCasts_S4096x512_S2x2048x512)) (constant S_ .f32 0x00000000#32) reducesTo_S2x2048x512_S512_d0_1 h_S_
/-- The input's gradient. -/
def duA (w : FVec Ideal S4x128x128 .f32) (s : Vec Ideal S1x512 .f32) (y : Vec Ideal S4608x1024 .bf16) : FVec Ideal S4096x512 .bf16 :=
  truncf .bf16 (shapeCast _ (shapeCast _ (addf (Host.negf (ddA w s y)) (transpose S2x2048x4x128 [1, 3, 0, 2] (Host.dotGeneral dot_S4x2x128x2048_S4x2048x2048_S4x2x128x2048_3_1_12_2_0_0 none (transpose S4x2x128x2048 [2, 0, 3, 1] (Host.divf (ddA w s y) (broadcastInDim S2x2048x4x128 ![0, 1, 2, 3] bcast_S1x2048x4x1_S2x2048x4x128_0_1_2_3 cntA)) transposes_S2x2048x4x128_S4x2x128x2048_2_0_3_1) nearA) transposes_S4x2x128x2048_S2x2048x4x128_1_3_0_2)) shapeCasts_S2x2048x4x128_S2x2048x512) shapeCasts_S2x2048x512_S4096x512) bitsLt_bf16_f32
/-- The weights' gradient. -/
def dwA (p : Vec Ideal S4608x1280 .bf16) (s : Vec Ideal S1x512 .f32) (y : Vec Ideal S4608x1024 .bf16) : FVec Ideal S4x128x128 .f32 :=
  transpose S4x128x128 [0, 2, 1] (Host.dotGeneral dot_S4x128x2x2048_S2x2048x4x128_S4x128x128_23_01_1_3_0_2 none (dypA s y) (dA p)) transposes_S4x128x128_S4x128x128_0_2_1
/-- The scale's gradient. -/
def dsA (p : Vec Ideal S4608x1280 .bf16) (w : FVec Ideal S4x128x128 .f32) (y : Vec Ideal S4608x1024 .bf16) : FVec Ideal S1x512 .f32 :=
  broadcastInDim S1x512 ![1] bcast_S512_S1x512_1 (Host.reduceAdd (shapeCast _ (rA p w y) shapeCasts_S512_S1x1x512) (constant S_ .f32 0x00000000#32) reducesTo_S1x1x512_S512_d0_1 h_S_)

/-- The reference's word arithmetic for the window's ends and its size, at every group and position. -/
theorem lo_words : ∀ (g : Fin 4) (t : Fin 2048), IntOp.maxsi (IntOp.subi (BitVec.ofNat 32 t.val) (lit0 (S4.rowMajor (ix1 g)))) 0#32 = BitVec.ofNat 32 (t.val - reach g) := by
  decide +kernel
theorem hi_words : ∀ (g : Fin 4) (t : Fin 2048), IntOp.addi (IntOp.minsi (IntOp.addi (BitVec.ofNat 32 t.val) (lit0 (S4.rowMajor (ix1 g)))) 2047#32) 1#32 = BitVec.ofNat 32 (min (t.val + reach g) 2047 + 1) := by
  decide +kernel
theorem count_words : ∀ (g : Fin 4) (t : Fin 2048), (IntOp.subi (BitVec.ofNat 32 (min (t.val + reach g) 2047 + 1)) (BitVec.ofNat 32 (t.val - reach g))).toInt = (count (reach g) t : ℕ) := by
  decide +kernel

theorem reach_le : ∀ g : Fin 4, reach g ≤ 8 := by decide
theorem count_pos (r : ℕ) (t : Fin 2048) : 0 < count r t := by
  unfold Cert.Kernel6Ideal.Value.count
  have := t.isLt
  omega

theorem loA_apply (g : Fin 4) (t : Fin 2048) : loA (ix2 g t) = BitVec.ofNat 32 (t.val - reach g) := by
  unfold loA
  pointwise
  exact lo_words g t
theorem hiA_apply (g : Fin 4) (t : Fin 2048) : hiA (ix2 g t) = BitVec.ofNat 32 (min (t.val + reach g) 2047 + 1) := by
  unfold hiA
  pointwise
  exact hi_words g t

/-- Two truth values joined and read as a number. -/
theorem mask (a b : Bool) : (FloatOps.uitofp .f32 (IntOp.andi (BitVec.ofBool a) (BitVec.ofBool b)) : Ideal .f32) = (if a = true ∧ b = true then 1 else 0 : EReal) := by
  have h (w : BitVec 1) : (FloatOps.uitofp .f32 w : Ideal .f32) = ((w.toNat : ℝ) : EReal) := rfl
  rw [h]
  cases a <;> cases b <;> norm_num [IntOp.andi] <;> rfl

theorem nearA_apply (g : Fin 4) (t s : Fin 2048) : nearA (ix3 g t s) = if nearby (reach g) t s then 1 else 0 := by
  unfold nearA
  pointwise
  have hr := reach_le g
  have ht := t.isLt
  have hs := s.isLt
  rw [loA_apply, hiA_apply, WordCmp.cmpi_sge_ofNat (by norm_num; omega) (by norm_num; omega), WordCmp.cmpi_slt_ofNat (by norm_num; omega) (by norm_num; omega), mask]
  refine if_congr ?_ rfl rfl
  simp only [decide_eq_true_eq]
  omega

theorem cntA_apply (g : Fin 4) (t : Fin 2048) : cntA (ix4 0 t g 0) = (((count (reach g) t : ℕ) : ℝ) : EReal) := by
  unfold cntA
  pointwise
  rw [loA_apply, hiA_apply]
  show (((IntOp.subi (BitVec.ofNat 32 (min (t.val + reach g) 2047 + 1)) (BitVec.ofNat 32 (t.val - reach g))).toInt : ℝ) : EReal) = _
  rw [count_words]
  norm_cast

/-- Dividing by the count is multiplying by one over it. -/
theorem div_count (x : EReal) (r : ℕ) (t : Fin 2048) : Ideal.div x (((count r t : ℕ) : ℝ) : EReal) = x * recip r t := by
  refine (Ideal.mul_one_div ?_).symm
  have := count_pos r t
  exact_mod_cast this.ne'

theorem mul_mask (x : EReal) (P : Prop) [Decidable P] : x * (if P then 1 else 0) = if P then x else 0 := by
  split <;> simp

/-- A sum over the two leading axes of three. -/
theorem reduce_a01 {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  refine (Finset.sum_filter_eq_sum_of_fiber _ (fun k : Fin n0 × Fin n1 => (ix3 k.1 k.2 j : (⟨3, ![n0, n1, n2]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

variable (p : Vec Ideal S4608x1280 .bf16) (w : Vec Ideal S4x128x128 .f32) (s : Vec Ideal S1x512 .f32) (y : Vec Ideal S4608x1024 .bf16)
theorem uA_apply (b : Fin 2) (t : Fin 2048) (g : Fin 4) (a : Fin 128) : uA p (ix4 b t g a) = seqU p b g t a := by
  unfold uA seqU
  pointwise
  refine congrArg p (congrArg₂ ix2 (Fin.ext ?_) (Fin.ext ?_)) <;> dsimp only <;> omega
theorem dA_apply (b : Fin 2) (t : Fin 2048) (g : Fin 4) (a : Fin 128) : dA p (ix4 b t g a) = centred (reach g) (fun q => seqU p b g q a) t := by
  unfold dA centred near
  pointwise
  simp only [uA_apply, nearA_apply, cntA_apply, div_count, mul_mask]
theorem lane_eq (g : Fin 4) (a : Fin 128) (h : g.val * 128 + a.val < 512) : (⟨g.val * 128 + a.val, h⟩ : Fin 512) = lane g a :=
  Fin.ext (by unfold lane; dsimp only; omega)
theorem dypA_apply (b : Fin 2) (t : Fin 2048) (g : Fin 4) (a : Fin 128) : dypA s y (ix4 g a b t) = seqY y b g t a * s (ix2 0 (lane g a)) := by
  unfold dypA seqY
  pointwise
  refine congrArg₂ (· * ·) (congrArg y (congrArg₂ ix2 (Fin.ext ?_) (Fin.ext ?_))) (congrArg s (congrArg (ix2 0) (lane_eq g a _))) <;> dsimp only <;> omega
theorem ddA_apply (b : Fin 2) (t : Fin 2048) (g : Fin 4) (a : Fin 128) : ddA w s y (ix4 b t g a) = ∑ e : Fin 128, seqY y b g t e * s (ix2 0 (lane g e)) * w (ix3 g a e) := by
  unfold ddA
  pointwise
  simp only [dypA_apply]
theorem oA_apply (b : Fin 2) (t : Fin 2048) (g : Fin 4) (e : Fin 128) : oA p w (ix4 g e b t) = ∑ a : Fin 128, centred (reach g) (fun q => seqU p b g q a) t * w (ix3 g a e) := by
  unfold oA
  pointwise
  simp only [dA_apply]
  exact Finset.sum_congr rfl fun a _ => mul_comm _ _
theorem duA_apply (i : Fin 4096) (j : Fin 512) : duA w s y (ix2 i j) = duOf w s y (seqOf i) (groupOf j) (posOf i) (placeOf j) := by
  unfold duA duOf poolDu centredT near
  pointwise
  simp only [ddA_apply, nearA_apply, cntA_apply, div_count, mul_mask]
  refine (add_comm _ _).trans ((congrArg₂ (· + ·) ?_ rfl).trans (sub_eq_add_neg _ _).symm)
  exact Finset.sum_congr rfl fun q _ => if_congr (by rw [nearby, nearby, and_comm]; rfl) rfl rfl
theorem dwA_apply (g : Fin 4) (a e : Fin 128) : dwA p s y (ix3 g a e) = dwOf p s y g a e := by
  unfold dwA dwOf poolDw
  pointwise
  simp only [dypA_apply, dA_apply, Fin.sum_univ_two]
  exact congrArg₂ (· + ·) (Finset.sum_congr rfl fun a _ => mul_comm _ _) (Finset.sum_congr rfl fun a _ => mul_comm _ _)
theorem seqY_eq (b : Fin 2) (t : Fin 2048) (j : Fin 512) (h : b.val * 2048 + t.val < 4608) (h' : 512 + j.val < 1024) :
    y (ix2 ⟨b.val * 2048 + t.val, h⟩ ⟨512 + j.val, h'⟩) = seqY y b (groupOf j) t (placeOf j) := by
  unfold seqY groupOf placeOf
  refine congrArg y (congrArg₂ ix2 (Fin.ext ?_) (Fin.ext ?_)) <;> dsimp only <;> omega
theorem rA_apply (j : Fin 512) : rA p w y (ix1 j) = dsOf p w y (groupOf j) (placeOf j) := by
  unfold rA dsOf poolDs
  pointwise
  refine (reduce_a01 _ _ _ _).trans ?_
  pointwise
  refine (Fin.sum_univ_two _).trans ?_
  refine congrArg₂ (· + ·) (Finset.sum_congr rfl fun q _ => ?_) (Finset.sum_congr rfl fun q _ => ?_) <;>
  · refine (mul_comm _ _).trans (congrArg₂ (· * ·) ?_ ?_)
    · exact seqY_eq y _ _ _ _ _
    · exact oA_apply p w _ _ _ _
theorem dsA_apply (j : Fin 512) : dsA p w y (ix2 0 j) = dsOf p w y (groupOf j) (placeOf j) := by
  unfold dsA
  pointwise
  refine (reduce_a01 _ _ _ _).trans ?_
  pointwise
  refine (Fin.sum_univ_one _).trans ((Fin.sum_univ_one _).trans ?_)
  exact rA_apply p w y j

variable (m : (ℓ : Loc nD τ sig) → Buf (Elt Ideal) ℓ) (ρ : Dev nD → PrngReg)

/-- The reference ends with its three results at the derivatives' entries and its arguments unchanged. -/
theorem run_entries : θ_run defs (onTc (τ := τ) (main (F := Ideal))) ⟨m, fun _ => 0, ρ⟩ fun r => ∀ c : Dev nD,
      r.2.mem ((c.tc : Thread nD τ).loc main_v72) = (fun i : S4096x512.Idx => duOf (m ((c.tc : Thread nD τ).loc main_arg1)) (m ((c.tc : Thread nD τ).loc main_arg2)) (m ((c.tc : Thread nD τ).loc main_arg3)) (seqOf (i 0)) (groupOf (i 1)) (posOf (i 0)) (placeOf (i 1)))
      ∧ r.2.mem ((c.tc : Thread nD τ).loc main_v62) = (fun i : S4x128x128.Idx => dwOf (m ((c.tc : Thread nD τ).loc main_arg0)) (m ((c.tc : Thread nD τ).loc main_arg2)) (m ((c.tc : Thread nD τ).loc main_arg3)) (i 0) (i 1) (i 2))
      ∧ r.2.mem ((c.tc : Thread nD τ).loc main_v56) = (fun i : S1x512.Idx => dsOf (m ((c.tc : Thread nD τ).loc main_arg0)) (m ((c.tc : Thread nD τ).loc main_arg1)) (m ((c.tc : Thread nD τ).loc main_arg3)) (groupOf (i 1)) (placeOf (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h0, h1, h2, hk⟩ := h c
  refine ⟨h0.trans ?_, h1.trans ?_, h2.trans ?_, hk⟩
  · funext q
    idx_vars q
    exact duA_apply _ _ _ q0 q1
  · funext q
    idx_vars q
    exact dwA_apply _ _ _ q0 q1 q2
  · funext q
    idx_vars q
    obtain rfl : q0 = 0 := Subsingleton.elim _ _
    exact dsA_apply _ _ _ q1

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference6Ideal.Value

end
-- ==== Proof.Pool.lean ====
/-
  The backward call of the multi-scale pool and its reference compute one set of derivatives.
-/
module

public import proofs.«01_k».proof.Defs
public import proofs.«01_k».proof.Proof.Gen.Kernel6.Frame
public import proofs.«01_k».proof.Proof.PoolR

@[expose] public section

/-- The call and the reference compute one set of derivatives: from equal arguments they end with equal results. -/
theorem Cert.algebraic6 : Cert.algebraic_Kernel6Ideal_Reference6Ideal := by
  intro m g m' g' _ hagree
  refine ⟨_, _, _, Cert.Kernel6Ideal.Value.run_entries m g, ?_⟩
  refine (Idealize.ShloMosaic.θ_run _ _ _).mono (fun r h c => ?_) (Cert.Reference6Ideal.Value.run_entries m' g')
  obtain ⟨e0, e1, e2, e3⟩ := hagree c
  have := h c
  simp only [e0, e1, e2, e3] at this ⊢
  exact this

end
-- ==== Proof.Gated.lean ====
/-
  The gated feed-forward layer and its derivatives over the extended reals, entry by entry: what the five certificates'
  kernels and references are both shown to compute.
-/
module

public import Idealize.ShloMosaic.Lib.Pointwise
public import Idealize.ShloMosaic.Lib.IdealHost

@[expose] public section

noncomputable section

namespace Cert.Gated

open Idealize.ShloMosaic

/-- The entries of an array with two axes. -/
abbrev mat {a b : ℕ} {α : Type} (v : (⟨2, ![a, b]⟩ : Shape).Idx → α) (i : Fin a) (j : Fin b) : α := v (ix2 i j)

/-- The logistic function as the reference spells it. -/
def logi (z : EReal) : EReal := Ideal.div 1 (1 + Ideal.exp (-z))

variable (x : Fin 4608 → Fin 1024 → EReal) (wg wu : Fin 1024 → Fin 2816 → EReal) (wd : Fin 2816 → Fin 1024 → EReal)
  (dy : Fin 4608 → Fin 1024 → EReal)

/-- A projection of the tokens: the gate's or the other factor's value before the gate. -/
def proj (w : Fin 1024 → Fin 2816 → EReal) (t : Fin 4608) (f : Fin 2816) : EReal := ∑ d, x t d * w d f

/-- The gated activation. -/
def act (t : Fin 4608) (f : Fin 2816) : EReal := proj x wg t f * logi (proj x wg t f) * proj x wu t f

/-- The layer's output. -/
def out (t : Fin 4608) (d : Fin 1024) : EReal := ∑ f, act x wg wu t f * wd f d

/-- The derivative with respect to the activation. -/
def dact (t : Fin 4608) (f : Fin 2816) : EReal := ∑ d, dy t d * wd f d

/-- The derivative with respect to the gate's projection. -/
def dgate (t : Fin 4608) (f : Fin 2816) : EReal :=
  dact wd dy t f * proj x wu t f * logi (proj x wg t f)
    + proj x wg t f * (dact wd dy t f * proj x wu t f) * (logi (proj x wg t f) * (1 - logi (proj x wg t f)))

/-- The derivative with respect to the other projection. -/
def dup (t : Fin 4608) (f : Fin 2816) : EReal := proj x wg t f * logi (proj x wg t f) * dact wd dy t f

/-- The derivative with respect to the layer's input. -/
def dx (t : Fin 4608) (d : Fin 1024) : EReal :=
  ∑ f, dup x wg wd dy t f * wu d f + ∑ f, dgate x wg wu wd dy t f * wg d f

/-- A weight's gradient: the derivative with respect to the product, summed over the tokens. -/
def dweight {a b : ℕ} (l : Fin 4608 → Fin a → EReal) (r : Fin 4608 → Fin b → EReal) (i : Fin a) (j : Fin b) : EReal :=
  ∑ t, l t i * r t j

/-- The word the kernels spell one half by. -/
theorem ofBits_half : Ideal.ofBits .f32 0x3F000000#32 = (((1 : ℝ) / 2 : ℝ) : EReal) := by
  simp [Ideal.ofBits, Ideal.ieee, -EReal.coe_mul]; norm_num

/-- The logistic function at a real number. -/
theorem logi_coe (r : ℝ) : logi (r : EReal) = ((1 + Real.exp (-r))⁻¹ : ℝ) := by
  have h : (1 + Real.exp (-r) : ℝ) ≠ 0 := by positivity
  show Ideal.div 1 (1 + ((Real.exp (-r) : ℝ) : EReal)) = _
  rw [show (1 : EReal) = ((1 : ℝ) : EReal) from rfl, ← EReal.coe_add]
  unfold Ideal.div
  rw [if_neg (by exact_mod_cast h), ← EReal.coe_inv, ← EReal.coe_mul, one_mul]

/-- The logistic function at minus infinity. -/
theorem logi_bot : logi ⊥ = 0 := by
  show Ideal.div 1 (1 + ⊤) = 0
  rw [show (1 : EReal) = ((1 : ℝ) : EReal) from rfl, EReal.coe_add_top]
  simp [Ideal.div]

/-- The logistic function at infinity. -/
theorem logi_top : logi ⊤ = 1 := by
  show Ideal.div 1 (1 + 0) = 1
  simp [Ideal.div]

/-- The logistic function as the kernels spell it, by the hyperbolic tangent, is the reference's: also at the
    infinities. -/
theorem half_tanh (z : EReal) :
    Ideal.ofBits .f32 0x3F000000#32 * Ideal.tanh (Ideal.ofBits .f32 0x3F000000#32 * z) + Ideal.ofBits .f32 0x3F000000#32 = logi z := by
  rw [ofBits_half]
  induction z with
  | bot =>
    rw [EReal.coe_mul_bot_of_pos (by norm_num), logi_bot]
    show _ * (((-1 : ℝ)) : EReal) + _ = ((0 : ℝ) : EReal)
    rw [← EReal.coe_mul, ← EReal.coe_add]
    norm_num
  | top =>
    rw [EReal.coe_mul_top_of_pos (by norm_num), logi_top]
    show _ * (((1 : ℝ)) : EReal) + _ = ((1 : ℝ) : EReal)
    rw [← EReal.coe_mul, ← EReal.coe_add]
    norm_num
  | coe r =>
    rw [← EReal.coe_mul, logi_coe]
    show _ * ((Real.tanh (1 / 2 * r) : ℝ) : EReal) + _ = _
    rw [← EReal.coe_mul, ← EReal.coe_add]
    congr 1
    rw [Real.tanh_eq_sinh_div_cosh, Real.sinh_eq, Real.cosh_eq, Real.exp_neg (1 / 2 * r),
      show -r = -(1 / 2 * r) + -(1 / 2 * r) by ring, Real.exp_add, Real.exp_neg]
    have := Real.exp_pos (1 / 2 * r)
    field_simp
    ring

/-- A sum over a half row's 1408 places, in the kernel's six stretches. -/
theorem sum_stretches (f : Fin 1408 → EReal) :
    (∑ k : Fin 256, f ⟨k.val, by omega⟩) + (∑ k : Fin 256, f ⟨256 + k.val, by omega⟩) + (∑ k : Fin 256, f ⟨512 + k.val, by omega⟩)
      + (∑ k : Fin 256, f ⟨768 + k.val, by omega⟩) + (∑ k : Fin 256, f ⟨1024 + k.val, by omega⟩) + (∑ k : Fin 128, f ⟨1280 + k.val, by omega⟩)
      = ∑ k, f k := by
  rw [Fin.sum_univ_two_halves 1280 128 rfl f, Fin.sum_univ_two_halves 1024 256 rfl (fun k : Fin 1280 => f ⟨k.val, by omega⟩),
    Fin.sum_univ_two_halves 768 256 rfl (fun k : Fin 1024 => f ⟨k.val, by omega⟩),
    Fin.sum_univ_two_halves 512 256 rfl (fun k : Fin 768 => f ⟨k.val, by omega⟩),
    Fin.sum_univ_two_halves 256 256 rfl (fun k : Fin 512 => f ⟨k.val, by omega⟩)]

/-- A sum of products is the gradient's entry where its factors are the gradient's. -/
theorem sum_eq_dweight {a b : ℕ} {l : Fin 4608 → Fin a → EReal} {r : Fin 4608 → Fin b → EReal} {i : Fin a} {j : Fin b}
    {p q : Fin 4608 → EReal} (hp : ∀ t, p t = l t i) (hq : ∀ t, q t = r t j) : ∑ t, p t * q t = dweight l r i j :=
  Finset.sum_congr rfl fun t _ => by rw [hp, hq]

/-- An extended real that is a real number. -/
def IsReal (v : EReal) : Prop := ∃ r : ℝ, v = (r : EReal)

/-- What the precondition's test at an entry says of it. -/
theorem isReal_of_abs_lt {v : EReal} (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  induction v with
  | bot => simp [Ideal.cmp] at h
  | top => simp [Ideal.cmp] at h
  | coe r => exact ⟨r, rfl⟩

/-- A sum of products of real numbers is real. -/
theorem IsReal.sum_mul {n : ℕ} {p q : Fin n → EReal} (hp : ∀ k, IsReal (p k)) (hq : ∀ k, IsReal (q k)) : IsReal (∑ k, p k * q k) := by
  refine Finset.sum_induction _ IsReal ?_ ⟨0, rfl⟩ fun k _ => ?_
  · rintro _ _ ⟨a, rfl⟩ ⟨b, rfl⟩
    exact ⟨a + b, rfl⟩
  · obtain ⟨a, ha⟩ := hp k
    obtain ⟨b, hb⟩ := hq k
    exact ⟨a * b, by rw [ha, hb, EReal.coe_mul]⟩

/-- The kernel's spelling of the gate's derivative is the reference's where the numbers are real. -/
theorem gate_factored {a u g : EReal} (ha : IsReal a) (hu : IsReal u) (hg : IsReal g) :
    a * u * (logi g * (1 + g * (1 - logi g))) = a * u * logi g + g * (a * u) * (logi g * (1 - logi g)) := by
  obtain ⟨a, rfl⟩ := ha
  obtain ⟨u, rfl⟩ := hu
  obtain ⟨g, rfl⟩ := hg
  rw [logi_coe, show (1 : EReal) = ((1 : ℝ) : EReal) from rfl]
  norm_cast
  ring

end Cert.Gated

end
-- ==== Proof.B.lean ====
/-
  The backward call of the feed-forward layer: its four result arrays, entry by entry, and the reference's.
-/
module

public import proofs.«01_k».proof.Defs
public import proofs.«01_k».proof.Proof.Gated
public import proofs.«01_k».proof.Proof.Gen.KernelIdeal.Value
public import proofs.«01_k».proof.Proof.Gen.ReferenceIdeal.Run
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic
public import Idealize.ShloMosaic.Lib.ReduceAll

@[expose] public section

set_option maxRecDepth 16384

noncomputable section

namespace Cert.KernelIdeal.Value

open Cert.Gated Cert.KernelIdeal Cert.KernelIdeal.Gen Idealize.ShloMosaic Idealize.ShloMosaic.TcCoe Idealize.SL.Sem

variable (m : (ℓ : Loc nD τ sig) → Buf (Elt Ideal) ℓ)

/-- The block of the result's derivative a grid point reads. -/
abbrev yBlk (c : Dev nD) (t : Fin cfg0.N) : Vec Ideal S512x1024 .bf16 := iblk m c 0 t
/-- The gate projection's block a grid point reads. -/
abbrev gBlk (c : Dev nD) (t : Fin cfg0.N) : Vec Ideal S512x1408 .bf16 := iblk m c 1 t
/-- The other projection's block a grid point reads. -/
abbrev uBlk (c : Dev nD) (t : Fin cfg0.N) : Vec Ideal S512x1408 .bf16 := iblk m c 2 t
/-- The gate weight's block a grid point reads. -/
abbrev wgBlk (c : Dev nD) (t : Fin cfg0.N) : Vec Ideal S1x1408x1024 .bf16 := iblk m c 3 t
/-- The other weight's block a grid point reads. -/
abbrev wuBlk (c : Dev nD) (t : Fin cfg0.N) : Vec Ideal S1x1408x1024 .bf16 := iblk m c 4 t
/-- The output weight's block a grid point reads. -/
abbrev wdBlk (c : Dev nD) (t : Fin cfg0.N) : Vec Ideal S1x1408x1024 .bf16 := iblk m c 5 t

variable (c : Dev nD) (t : Fin cfg0.N)

/-- The derivative with respect to the activation, on a grid point's block. -/
def daTile (a : Fin 512) (f : Fin 1408) : EReal := ∑ d : Fin 1024, yBlk m c t (ix2 a d) * wdBlk m c t (ix3 0 f d)
/-- The activation, on a grid point's block. -/
def actTile (a : Fin 512) (f : Fin 1408) : EReal :=
  gBlk m c t (ix2 a f) * logi (gBlk m c t (ix2 a f)) * uBlk m c t (ix2 a f)
/-- The derivative with respect to the other projection, on a grid point's block. -/
def duTile (a : Fin 512) (f : Fin 1408) : EReal :=
  daTile m c t a f * (gBlk m c t (ix2 a f) * logi (gBlk m c t (ix2 a f)))
/-- The derivative with respect to the gate's projection, on a grid point's block, as the kernel spells it. -/
def dgTile (a : Fin 512) (f : Fin 1408) : EReal :=
  daTile m c t a f * uBlk m c t (ix2 a f)
    * (logi (gBlk m c t (ix2 a f)) * (1 + gBlk m c t (ix2 a f) * (1 - logi (gBlk m c t (ix2 a f)))))
/-- A grid point's part of the derivative with respect to the layer's input. -/
def dxTile (a : Fin 512) (d : Fin 1024) : EReal :=
  ∑ f, dgTile m c t a f * wgBlk m c t (ix3 0 f d) + ∑ f, duTile m c t a f * wuBlk m c t (ix3 0 f d)

/-- The activation's block as either grid point writes it back. -/
theorem act_any (a : Fin 512) (b : Fin 1408) :
    (outsAt0 m c t.val t.isLt).2.2.1 (ix2 a b) = actTile m c t a b := by
  rcases Nat.mod_two_eq_zero_or_one t.val with h | h
  · rw [outsAt0_A m c t h (by omega)]
    frame_out
    canon_tiles x hx using (View.cover_of_tiledBy _ ![512, 128] (by sl_kernel_rfl) _)
    all_goals
      idx_vars x
      open_payloads
      pointwise
      try simp only [half_tanh]
      obtain ⟨a, _⟩ := a
      obtain ⟨b, _⟩ := b
      obtain rfl : a = _ := hx0
      obtain rfl : b = _ := hx1
      rfl
  · rw [outsAt0_B m c t (by omega) h]
    frame_out
    canon_tiles x hx using (View.cover_of_tiledBy _ ![512, 128] (by sl_kernel_rfl) _)
    all_goals
      idx_vars x
      open_payloads
      pointwise
      try simp only [half_tanh]
      obtain ⟨a, _⟩ := a
      obtain ⟨b, _⟩ := b
      obtain rfl : a = _ := hx0
      obtain rfl : b = _ := hx1
      rfl

/-- The other projection's derivative as either grid point writes it back. -/
theorem du_any (a : Fin 512) (b : Fin 1408) :
    (outsAt0 m c t.val t.isLt).2.1 (ix2 a b) = duTile m c t a b := by
  rcases Nat.mod_two_eq_zero_or_one t.val with h | h
  · rw [outsAt0_A m c t h (by omega)]
    frame_out
    canon_tiles x hx using (View.cover_of_tiledBy _ ![512, 128] (by sl_kernel_rfl) _)
    all_goals
      idx_vars x
      open_payloads
      pointwise
      try simp only [half_tanh]
      obtain ⟨a, _⟩ := a
      obtain ⟨b, _⟩ := b
      obtain rfl : a = _ := hx0
      obtain rfl : b = _ := hx1
      rfl
  · rw [outsAt0_B m c t (by omega) h]
    frame_out
    canon_tiles x hx using (View.cover_of_tiledBy _ ![512, 128] (by sl_kernel_rfl) _)
    all_goals
      idx_vars x
      open_payloads
      pointwise
      try simp only [half_tanh]
      obtain ⟨a, _⟩ := a
      obtain ⟨b, _⟩ := b
      obtain rfl : a = _ := hx0
      obtain rfl : b = _ := hx1
      rfl

/-- The gate projection's derivative as either grid point writes it back. -/
theorem dg_any (a : Fin 512) (b : Fin 1408) :
    (outsAt0 m c t.val t.isLt).1 (ix2 a b) = dgTile m c t a b := by
  rcases Nat.mod_two_eq_zero_or_one t.val with h | h
  · rw [outsAt0_A m c t h (by omega)]
    frame_out
    canon_tiles x hx using (View.cover_of_tiledBy _ ![512, 128] (by sl_kernel_rfl) _)
    all_goals
      idx_vars x
      open_payloads
      pointwise
      try simp only [half_tanh]
      obtain ⟨a, _⟩ := a
      obtain ⟨b, _⟩ := b
      obtain rfl : a = _ := hx0
      obtain rfl : b = _ := hx1
      rfl
  · rw [outsAt0_B m c t (by omega) h]
    frame_out
    canon_tiles x hx using (View.cover_of_tiledBy _ ![512, 128] (by sl_kernel_rfl) _)
    all_goals
      idx_vars x
      open_payloads
      pointwise
      try simp only [half_tanh]
      obtain ⟨a, _⟩ := a
      obtain ⟨b, _⟩ := b
      obtain rfl : a = _ := hx0
      obtain rfl : b = _ := hx1
      rfl

/-- A load of the whole block reads what the stores left in it. -/
theorem readCov_block {sig' : RefSig} {κ : Kind} {sp : Space} (v : View sig' κ sp S512x1408 .bf16) (L : List (View.Piece (Elt Ideal) S512x1408 .bf16))
    (inb : ∀ a, (![0, 0] : Fin S512x1408.rank → ℕ) a + S512x1408.size a ≤ S512x1408.size a) :
    v.readCov L (Rect.unit ![0, 0] ![512, 1408] inb).toLoadRect = View.canon L :=
  (View.readCov_eq_canon' v L _).trans (View.ld_unit_lit inb (View.canon L) (by decide))

/-- What the first of a block's two grid points leaves in the accumulator, of the blocks it has just written. -/
theorem scratch_A' (h0 : t.val % 2 = 0) (h2 : ¬t.val % 2 = 1) :
    (outsAt0 m c t.val t.isLt).2.2.2.2
      = k0_pay3 (outsAt0 m c t.val t.isLt).1 (wgBlk m c t) (outsAt0 m c t.val t.isLt).2.1 (wuBlk m c t) := by
  rw [outsAt0_A m c t h0 h2]
  frame_out
  simp only [readCov_block]

/-- The second of a block's two grid points writes back the accumulator and its own part. -/
theorem dx_B' (h0 : ¬t.val % 2 = 0) (h2 : t.val % 2 = 1) :
    (outsAt0 m c t.val t.isLt).2.2.2.1
      = k0_pay4 (outsAt0 m c t.val t.isLt).1 (wgBlk m c t) (outsAt0 m c t.val t.isLt).2.1 (wuBlk m c t)
        (outsAt0 m c (t.val - 1) (Nat.lt_of_le_of_lt (Nat.sub_le _ _) t.isLt)).2.2.2.2 := by
  rw [outsAt0_B m c t h0 h2]
  frame_out
  simp only [readCov_block, read_unread_whole]

/-- What the first of a block's two grid points leaves in the accumulator, entry by entry. -/
theorem scratch_A (h0 : t.val % 2 = 0) (h2 : ¬t.val % 2 = 1) (a : Fin 512) (b : Fin 1024) :
    (outsAt0 m c t.val t.isLt).2.2.2.2 (ix2 a b) = dxTile m c t a b := by
  rw [scratch_A' m c t h0 h2]
  have hg := dg_any m c t
  have hu := du_any m c t
  generalize (outsAt0 m c t.val t.isLt).1 = X at hg ⊢
  generalize (outsAt0 m c t.val t.isLt).2.1 = Y at hu ⊢
  unfold_payloads
  pointwise
  unfold dxTile
  simp only [← hg, ← hu]

/-- What the second of a block's two grid points writes back, entry by entry. -/
theorem dx_B (h0 : ¬t.val % 2 = 0) (h2 : t.val % 2 = 1) (a : Fin 512) (b : Fin 1024) :
    (outsAt0 m c t.val t.isLt).2.2.2.1 (ix2 a b)
      = (outsAt0 m c (t.val - 1) (Nat.lt_of_le_of_lt (Nat.sub_le _ _) t.isLt)).2.2.2.2 (ix2 a b) + dxTile m c t a b := by
  rw [dx_B' m c t h0 h2]
  have hg := dg_any m c t
  have hu := du_any m c t
  generalize (outsAt0 m c t.val t.isLt).1 = X at hg ⊢
  generalize (outsAt0 m c t.val t.isLt).2.1 = Y at hu ⊢
  generalize (outsAt0 m c (t.val - 1) (Nat.lt_of_le_of_lt (Nat.sub_le _ _) t.isLt)).2.2.2.2 = Z
  unfold_payloads
  pointwise
  unfold dxTile
  simp only [← hg, ← hu]

/-- The three weights as the region finds them, stacked. -/
abbrev weights : Vec Ideal S3x2816x1024 .bf16 := V m c main_v14
/-- The gate projection as the region finds it. -/
abbrev gates : Vec Ideal S4608x2816 .bf16 := V m c main_v2
/-- The other projection as the region finds it. -/
abbrev ups : Vec Ideal S4608x2816 .bf16 := V m c main_v5
/-- The result's derivative as the region finds it. -/
abbrev dys : Vec Ideal S4608x1024 .bf16 := V m c main_arg4

/-- The block indices of the six input windows at a grid point: point `t` takes block row `t / 2` of the token arrays and
    half `t % 2` of the inner width. -/
theorem idx : ∀ t : Fin cfg0.N, win0_0.index t = ![t.val / 2, 0] ∧ win0_1.index t = ![t.val / 2, t.val % 2]
    ∧ win0_2.index t = ![t.val / 2, t.val % 2] ∧ win0_3.index t = ![0, t.val % 2, 0] ∧ win0_4.index t = ![1, t.val % 2, 0]
    ∧ win0_5.index t = ![2, t.val % 2, 0] :=
  (by decide +kernel : ∀ t : Fin grid0.N, _)

theorem point_lt : t.val < 18 := lt_of_lt_of_eq t.isLt N_0

/-- The token a block's row stands for. -/
abbrev row (a : Fin 512) : Fin 4608 := ⟨t.val / 2 * 512 + a.val, by have := point_lt t; omega⟩
/-- The inner position a block's column stands for. -/
abbrev col (f : Fin 1408) : Fin 2816 := ⟨t.val % 2 * 1408 + f.val, by omega⟩

/-- The block of the result's derivative, off the array. -/
theorem yBlk_apply (a : Fin 512) (d : Fin 1024) : yBlk m c t (ix2 a d) = dys m c (ix2 (row t a) d) := by
  obtain ⟨e, _, _, _, _, _⟩ := idx t
  blk_ext [yBlk, iblk, e]

/-- The gate projection's block, off the array. -/
theorem gBlk_apply (a : Fin 512) (f : Fin 1408) : gBlk m c t (ix2 a f) = gates m c (ix2 (row t a) (col t f)) := by
  obtain ⟨_, e, _, _, _, _⟩ := idx t
  blk_ext [gBlk, iblk, e]

/-- The other projection's block, off the array. -/
theorem uBlk_apply (a : Fin 512) (f : Fin 1408) : uBlk m c t (ix2 a f) = ups m c (ix2 (row t a) (col t f)) := by
  obtain ⟨_, _, e, _, _, _⟩ := idx t
  blk_ext [uBlk, iblk, e]

/-- The gate weight's block, off the array. -/
theorem wgBlk_apply (f : Fin 1408) (d : Fin 1024) : wgBlk m c t (ix3 0 f d) = weights m c (ix3 0 (col t f) d) := by
  obtain ⟨_, _, _, e, _, _⟩ := idx t
  blk_ext [wgBlk, iblk, e]

/-- The other weight's block, off the array. -/
theorem wuBlk_apply (f : Fin 1408) (d : Fin 1024) : wuBlk m c t (ix3 0 f d) = weights m c (ix3 1 (col t f) d) := by
  obtain ⟨_, _, _, _, e, _⟩ := idx t
  blk_ext [wuBlk, iblk, e]

/-- The output weight's block, off the array. -/
theorem wdBlk_apply (f : Fin 1408) (d : Fin 1024) : wdBlk m c t (ix3 0 f d) = weights m c (ix3 2 (col t f) d) := by
  obtain ⟨_, _, _, _, _, e⟩ := idx t
  blk_ext [wdBlk, iblk, e]

/-- The first of the stacked weights is the gate weight, transposed. -/
theorem weights_gate (f : Fin 2816) (d : Fin 1024) : weights m c (ix3 0 f d) = (mat (m ((c.tc : Thread nD τ).loc main_arg1))) d f := by
  unfold weights V
  after_reads_at
  after_reads_at

/-- The second of the stacked weights is the other weight, transposed. -/
theorem weights_up (f : Fin 2816) (d : Fin 1024) : weights m c (ix3 1 f d) = (mat (m ((c.tc : Thread nD τ).loc main_arg2))) d f := by
  unfold weights V
  after_reads_at
  after_reads_at

/-- The third of the stacked weights is the output weight. -/
theorem weights_down (f : Fin 2816) (d : Fin 1024) : weights m c (ix3 2 f d) = (mat (m ((c.tc : Thread nD τ).loc main_arg3))) f d := by
  unfold weights V
  after_reads_at
  after_reads_at

/-- The gate projection that the region finds is the tokens' with the gate weight. -/
theorem gates_apply (i : Fin 4608) (f : Fin 2816) : gates m c (ix2 i f) = proj (mat (m ((c.tc : Thread nD τ).loc main_arg0))) (mat (m ((c.tc : Thread nD τ).loc main_arg1))) i f := by
  unfold gates V
  after_reads_at
  rfl

/-- The other projection that the region finds is the tokens' with the other weight. -/
theorem ups_apply (i : Fin 4608) (f : Fin 2816) : ups m c (ix2 i f) = proj (mat (m ((c.tc : Thread nD τ).loc main_arg0))) (mat (m ((c.tc : Thread nD τ).loc main_arg2))) i f := by
  unfold ups V
  after_reads_at
  rfl

/-- The gate projection's block is the layer's. -/
theorem gBlk_eq (a : Fin 512) (f : Fin 1408) : gBlk m c t (ix2 a f) = proj (mat (m ((c.tc : Thread nD τ).loc main_arg0))) (mat (m ((c.tc : Thread nD τ).loc main_arg1))) (row t a) (col t f) := by
  rw [gBlk_apply, gates_apply]

/-- The other projection's block is the layer's. -/
theorem uBlk_eq (a : Fin 512) (f : Fin 1408) : uBlk m c t (ix2 a f) = proj (mat (m ((c.tc : Thread nD τ).loc main_arg0))) (mat (m ((c.tc : Thread nD τ).loc main_arg2))) (row t a) (col t f) := by
  rw [uBlk_apply, ups_apply]

/-- The gate weight's block is the layer's. -/
theorem wgBlk_eq (f : Fin 1408) (d : Fin 1024) : wgBlk m c t (ix3 0 f d) = (mat (m ((c.tc : Thread nD τ).loc main_arg1))) d (col t f) := by
  rw [wgBlk_apply, weights_gate]

/-- The other weight's block is the layer's. -/
theorem wuBlk_eq (f : Fin 1408) (d : Fin 1024) : wuBlk m c t (ix3 0 f d) = (mat (m ((c.tc : Thread nD τ).loc main_arg2))) d (col t f) := by
  rw [wuBlk_apply, weights_up]

/-- The derivative with respect to the activation, on a block, is the layer's. -/
theorem daTile_eq (a : Fin 512) (f : Fin 1408) : daTile m c t a f = dact (mat (m ((c.tc : Thread nD τ).loc main_arg3))) (mat (m ((c.tc : Thread nD τ).loc main_arg4))) (row t a) (col t f) := by
  refine Finset.sum_congr rfl fun d _ => ?_
  rw [yBlk_apply, wdBlk_apply, weights_down, dys, V_main_arg4]

/-- The activation, on a block, is the layer's. -/
theorem actTile_eq (a : Fin 512) (f : Fin 1408) : actTile m c t a f = act (mat (m ((c.tc : Thread nD τ).loc main_arg0))) (mat (m ((c.tc : Thread nD τ).loc main_arg1))) (mat (m ((c.tc : Thread nD τ).loc main_arg2))) (row t a) (col t f) := by
  unfold actTile
  rw [gBlk_eq, uBlk_eq]
  rfl

/-- The other projection's derivative, on a block, is the layer's. -/
theorem duTile_eq (a : Fin 512) (f : Fin 1408) : duTile m c t a f = dup (mat (m ((c.tc : Thread nD τ).loc main_arg0))) (mat (m ((c.tc : Thread nD τ).loc main_arg1))) (mat (m ((c.tc : Thread nD τ).loc main_arg3))) (mat (m ((c.tc : Thread nD τ).loc main_arg4))) (row t a) (col t f) := by
  unfold duTile
  rw [gBlk_eq, daTile_eq]
  exact mul_comm _ _

/-- Every entry of every argument is a real number. -/
structure RealArgs : Prop where
  x : ∀ i d, IsReal ((mat (m ((c.tc : Thread nD τ).loc main_arg0))) i d)
  wg : ∀ d f, IsReal ((mat (m ((c.tc : Thread nD τ).loc main_arg1))) d f)
  wu : ∀ d f, IsReal ((mat (m ((c.tc : Thread nD τ).loc main_arg2))) d f)
  wd : ∀ f d, IsReal ((mat (m ((c.tc : Thread nD τ).loc main_arg3))) f d)
  dy : ∀ i d, IsReal ((mat (m ((c.tc : Thread nD τ).loc main_arg4))) i d)

/-- The gate projection's derivative, on a block, is the layer's where the arguments are real. -/
theorem dgTile_eq (hr : RealArgs m c) (a : Fin 512) (f : Fin 1408) :
    dgTile m c t a f = dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (row t a) (col t f) := by
  unfold dgTile
  rw [gBlk_eq, uBlk_eq, daTile_eq]
  exact gate_factored (IsReal.sum_mul (fun d => hr.dy _ d) fun d => hr.wd _ d)
    (IsReal.sum_mul (fun d => hr.x _ d) fun d => hr.wu d _) (IsReal.sum_mul (fun d => hr.x _ d) fun d => hr.wg d _)

/-- The first result array: the gate projection's derivative. -/
theorem G6_apply (hr : RealArgs m c) (i : Fin 4608) (j : Fin 2816) : G6 m c (ix2 i j) = dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) i j := by
  have hp : pt6Of (ix2 i j) = 2 * (i.val / 512) + j.val / 1408 := by
    show 2 * (i.val / 512 - 0) + 1 * (j.val / 1408 - 0) = _
    omega
  have h : pt6Of (ix2 i j) < cfg0.N := by rw [hp, show cfg0.N = 18 from N_0]; omega
  have hl : loc6Of (ix2 i j) = ix2 ⟨i.val % 512, by omega⟩ ⟨j.val % 1408, by omega⟩ := by
    funext a
    match a with
    | ⟨0, _⟩ => rfl
    | ⟨1, _⟩ => rfl
  unfold G6
  rw [dif_pos h, ← outsAt0_sweep, hl]
  refine (dg_any m c ⟨_, h⟩ _ _).trans ?_
  rw [dgTile_eq m c _ hr]
  congr 1 <;> (apply Fin.ext; dsimp only; omega)

/-- The second result array: the other projection's derivative. -/
theorem G7_apply (i : Fin 4608) (j : Fin 2816) : G7 m c (ix2 i j) = dup (mat (m ((c.tc : Thread nD τ).loc main_arg0))) (mat (m ((c.tc : Thread nD τ).loc main_arg1))) (mat (m ((c.tc : Thread nD τ).loc main_arg3))) (mat (m ((c.tc : Thread nD τ).loc main_arg4))) i j := by
  have hp : pt7Of (ix2 i j) = 2 * (i.val / 512) + j.val / 1408 := by
    show 2 * (i.val / 512 - 0) + 1 * (j.val / 1408 - 0) = _
    omega
  have h : pt7Of (ix2 i j) < cfg0.N := by rw [hp, show cfg0.N = 18 from N_0]; omega
  have hl : loc7Of (ix2 i j) = ix2 ⟨i.val % 512, by omega⟩ ⟨j.val % 1408, by omega⟩ := by
    funext a
    match a with
    | ⟨0, _⟩ => rfl
    | ⟨1, _⟩ => rfl
  unfold G7
  rw [dif_pos h, ← outsAt0_sweep, hl]
  refine (du_any m c ⟨_, h⟩ _ _).trans ?_
  rw [duTile_eq]
  congr 1 <;> (apply Fin.ext; dsimp only; omega)

/-- The third result array: the activation. -/
theorem G8_apply (i : Fin 4608) (j : Fin 2816) : G8 m c (ix2 i j) = act (mat (m ((c.tc : Thread nD τ).loc main_arg0))) (mat (m ((c.tc : Thread nD τ).loc main_arg1))) (mat (m ((c.tc : Thread nD τ).loc main_arg2))) i j := by
  have hp : pt8Of (ix2 i j) = 2 * (i.val / 512) + j.val / 1408 := by
    show 2 * (i.val / 512 - 0) + 1 * (j.val / 1408 - 0) = _
    omega
  have h : pt8Of (ix2 i j) < cfg0.N := by rw [hp, show cfg0.N = 18 from N_0]; omega
  have hl : loc8Of (ix2 i j) = ix2 ⟨i.val % 512, by omega⟩ ⟨j.val % 1408, by omega⟩ := by
    funext a
    match a with
    | ⟨0, _⟩ => rfl
    | ⟨1, _⟩ => rfl
  unfold G8
  rw [dif_pos h, ← outsAt0_sweep, hl]
  refine (act_any m c ⟨_, h⟩ _ _).trans ?_
  rw [actTile_eq]
  congr 1 <;> (apply Fin.ext; dsimp only; omega)

/-- The fourth result array: the derivative with respect to the layer's input. -/
theorem G9_apply (hr : RealArgs m c) (i : Fin 4608) (j : Fin 1024) : G9 m c (ix2 i j) = dx (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) i j := by
  have hp : pt9Of (ix2 i j) = 2 * (i.val / 512) + 1 := by
    show 2 * (1 * (i.val / 512 - 0) + 1 * (j.val / 1024 - 0)) + 1 = _
    omega
  have h : pt9Of (ix2 i j) < cfg0.N := by rw [hp, show cfg0.N = 18 from N_0]; omega
  have hl : loc9Of (ix2 i j) = ix2 ⟨i.val % 512, by omega⟩ j := by
    funext a
    match a with
    | ⟨0, _⟩ => rfl
    | ⟨1, _⟩ => exact Fin.ext (Nat.mod_eq_of_lt j.isLt)
  unfold G9
  rw [dif_pos h, ← outsAt0_sweep, hl]
  refine (dx_B m c ⟨_, h⟩ (by dsimp only; omega) (by dsimp only; omega) _ _).trans ?_
  rw [scratch_A m c ⟨pt9Of (ix2 i j) - 1, by omega⟩ (by dsimp only; omega) (by dsimp only; omega)]
  unfold dxTile
  simp only [dgTile_eq m c _ hr, duTile_eq, wgBlk_eq, wuBlk_eq]
  unfold dx
  rw [Fin.sum_univ_two_halves 1408 1408 rfl, Fin.sum_univ_two_halves 1408 1408 rfl]
  have r0 : row ⟨pt9Of (ix2 i j) - 1, by omega⟩ ⟨i.val % 512, by omega⟩ = i := Fin.ext (by dsimp only; omega)
  have r1 : row ⟨pt9Of (ix2 i j), h⟩ ⟨i.val % 512, by omega⟩ = i := Fin.ext (by dsimp only; omega)
  have c0 : ∀ f, col ⟨pt9Of (ix2 i j) - 1, by omega⟩ f = ⟨f.val, by omega⟩ := fun f => Fin.ext (by dsimp only; omega)
  have c1 : ∀ f, col ⟨pt9Of (ix2 i j), h⟩ f = ⟨1408 + f.val, by omega⟩ := fun f => Fin.ext (by dsimp only; omega)
  simp only [r0, r1, c0, c1]
  rw [add_add_add_comm, add_comm]

/-- What the precondition says of the arguments. -/
theorem realArgs [Cert.Pre_finite.Facts] (h : Cert.Pre_KernelIdeal_finite m) : RealArgs m c := by
  have h := congrFun (h c) (fun a => a.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_finite.S_.Idx := ⟨fun _ _ => funext fun a => a.elim0⟩
  exact ⟨fun i d => isReal_of_abs_lt (Host.reduce_andi_all _ _ _ _ _ h0 (ix2 i d)),
    fun i d => isReal_of_abs_lt (Host.reduce_andi_all _ _ _ _ _ h1 (ix2 i d)),
    fun i d => isReal_of_abs_lt (Host.reduce_andi_all _ _ _ _ _ h2 (ix2 i d)),
    fun i d => isReal_of_abs_lt (Host.reduce_andi_all _ _ _ _ _ h3 (ix2 i d)),
    fun i d => isReal_of_abs_lt (Host.reduce_andi_all _ _ _ _ _ h4 (ix2 i d))⟩

omit c t in
/-- The kernel ends with its four results at the layer's derivatives and its arguments unchanged, where the arguments are
    real. -/
theorem run_entries (hr : ∀ c, RealArgs m c) (ρ : Dev nD → PrngReg) : θ_run defs (onTc (τ := τ) (main (F := Ideal))) ⟨m, fun _ => 0, ρ⟩ fun r => ∀ c : Dev nD,
      r.2.mem ((c.tc : Thread nD τ).loc main_v15_0) = (fun q => dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (q 0) (q 1))
      ∧ r.2.mem ((c.tc : Thread nD τ).loc main_v15_1) = (fun q => dup (mat (m ((c.tc : Thread nD τ).loc main_arg0))) (mat (m ((c.tc : Thread nD τ).loc main_arg1))) (mat (m ((c.tc : Thread nD τ).loc main_arg3))) (mat (m ((c.tc : Thread nD τ).loc main_arg4))) (q 0) (q 1))
      ∧ r.2.mem ((c.tc : Thread nD τ).loc main_v15_2) = (fun q => act (mat (m ((c.tc : Thread nD τ).loc main_arg0))) (mat (m ((c.tc : Thread nD τ).loc main_arg1))) (mat (m ((c.tc : Thread nD τ).loc main_arg2))) (q 0) (q 1))
      ∧ r.2.mem ((c.tc : Thread nD τ).loc main_v15_3) = (fun q => dx (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext q; idx_vars q; exact G6_apply m c (hr c) q0 q1),
    (h c).2.1.trans (by funext q; idx_vars q; exact G7_apply m c q0 q1),
    (h c).2.2.1.trans (by funext q; idx_vars q; exact G8_apply m c q0 q1),
    (h c).2.2.2.1.trans (by funext q; idx_vars q; exact G9_apply m c (hr c) q0 q1), (h c).2.2.2.2⟩) (run m ρ)

end Cert.KernelIdeal.Value

namespace Cert.ReferenceIdeal.Value

open Cert.Gated Cert.ReferenceIdeal Cert.ReferenceIdeal.Gen Idealize.ShloMosaic Idealize.ShloMosaic.TcCoe Idealize.SL.Sem
variable (m : (ℓ : Loc nD τ sig) → Buf (Elt Ideal) ℓ)

/-- The reference ends with its four results at the layer's derivatives and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v25) = (fun q => dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (q 0) (q 1))
      ∧ r.2.mem ((c.tc : Thread nD τ).loc main_v26) = (fun q => dup (mat (m ((c.tc : Thread nD τ).loc main_arg0))) (mat (m ((c.tc : Thread nD τ).loc main_arg1))) (mat (m ((c.tc : Thread nD τ).loc main_arg3))) (mat (m ((c.tc : Thread nD τ).loc main_arg4))) (q 0) (q 1))
      ∧ r.2.mem ((c.tc : Thread nD τ).loc main_v27) = (fun q => act (mat (m ((c.tc : Thread nD τ).loc main_arg0))) (mat (m ((c.tc : Thread nD τ).loc main_arg1))) (mat (m ((c.tc : Thread nD τ).loc main_arg2))) (q 0) (q 1))
      ∧ r.2.mem ((c.tc : Thread nD τ).loc main_v28) = (fun q => dx (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext q; idx_vars q; pointwise; rfl),
    (h c).2.1.trans (by funext q; idx_vars q; pointwise; rfl),
    (h c).2.2.1.trans (by funext q; idx_vars q; pointwise; rfl),
    (h c).2.2.2.1.trans (by funext q; idx_vars q; pointwise; rfl), (h c).2.2.2.2⟩) (run m ρ)

/-- The reference's run, its arguments kept and every counter at zero. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, sem_eq_zero_of_no_sems rfl r.2⟩) (run m ρ)

end Cert.ReferenceIdeal.Value

/-- The backward call and the reference compute one layer's derivatives: from equal real arguments they end with equal
    results. -/
theorem Cert.algebraic1 [Cert.Pre_finite.Facts] : Cert.algebraic_KernelIdeal_ReferenceIdeal_pre_finite := by
  intro m g m' g' hpre hagree
  refine ⟨_, _, _, _, Cert.KernelIdeal.Value.run_entries m (fun c => Cert.KernelIdeal.Value.realArgs m c hpre) g, ?_⟩
  refine (Idealize.ShloMosaic.θ_run _ _ _).mono (fun r h c => ?_) (Cert.ReferenceIdeal.Value.run_entries m' g')
  obtain ⟨e0, e1, e2, e3, e4⟩ := hagree c
  have := h c
  simp only [e0, e1, e2, e3, e4] at this ⊢
  exact this

end
-- ==== Proof.F.lean ====
/-
  The forward call of the feed-forward layer: its three result arrays, entry by entry, and the reference's.
-/
module

public import proofs.«01_k».proof.Defs
public import proofs.«01_k».proof.Proof.Gated
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel2Ideal.Value

open Cert.Gated Cert.Kernel2Ideal Cert.Kernel2Ideal.Gen Idealize.ShloMosaic Idealize.ShloMosaic.TcCoe Idealize.SL.Sem

variable (m : (ℓ : Loc nD τ sig) → Buf (Elt Ideal) ℓ)

/-- The tokens' block a grid point reads. -/
abbrev xBlk (c : Dev nD) (t : Fin cfg0.N) : Vec Ideal S768x1024 .bf16 := iblk m c 0 t
/-- The gate projection's block a grid point reads. -/
abbrev gBlk (c : Dev nD) (t : Fin cfg0.N) : Vec Ideal S1x1408x1024 .bf16 := iblk m c 1 t
/-- The other projection's block a grid point reads. -/
abbrev uBlk (c : Dev nD) (t : Fin cfg0.N) : Vec Ideal S1x1408x1024 .bf16 := iblk m c 2 t
/-- The output projection's block a grid point reads. -/
abbrev dBlk (c : Dev nD) (t : Fin cfg0.N) : Vec Ideal S1x1408x1024 .bf16 := iblk m c 3 t

/-- The gate projection of a block's tokens. -/
def gTile (c : Dev nD) (t : Fin cfg0.N) (a : Fin 768) (f : Fin 1408) : EReal := ∑ d : Fin 1024, xBlk m c t (ix2 a d) * gBlk m c t (ix3 0 f d)
/-- The other projection of a block's tokens. -/
def uTile (c : Dev nD) (t : Fin cfg0.N) (a : Fin 768) (f : Fin 1408) : EReal := ∑ d : Fin 1024, xBlk m c t (ix2 a d) * uBlk m c t (ix3 0 f d)
/-- A grid point's part of the layer's output. -/
def yTile (c : Dev nD) (t : Fin cfg0.N) (a : Fin 768) (b : Fin 1024) : EReal :=
  ∑ f : Fin 1408, gTile m c t a f * logi (gTile m c t a f) * uTile m c t a f * dBlk m c t (ix3 0 f b)

/-- What the first of a block's two grid points leaves in the accumulator. -/
theorem scratch_A (c : Dev nD) (t : Fin cfg0.N) (h0 : t.val % 2 = 0) (h2 : ¬t.val % 2 = 1) (a : Fin 768) (b : Fin 1024) :
    (outsAt0 m c t.val t.isLt).2.2.2 (ix2 a b) = yTile m c t a b := by
  rw [outsAt0_A m c t h0 h2]
  frame_out
  unfold_payloads
  pointwise
  simp only [half_tanh]
  exact sum_stretches fun f => gTile m c t a f * logi (gTile m c t a f) * uTile m c t a f * dBlk m c t (ix3 0 f b)

/-- What the second of a block's two grid points writes back: the accumulator and its own part. -/
theorem y_B (c : Dev nD) (t : Fin cfg0.N) (h0 : ¬t.val % 2 = 0) (h2 : t.val % 2 = 1) (a : Fin 768) (b : Fin 1024) :
    (outsAt0 m c t.val t.isLt).2.2.1 (ix2 a b)
      = (outsAt0 m c (t.val - 1) (Nat.lt_of_le_of_lt (Nat.sub_le _ _) t.isLt)).2.2.2 (ix2 a b) + yTile m c t a b := by
  rw [outsAt0_B m c t h0 h2]
  frame_out
  simp only [read_unread_whole]
  unfold_payloads
  pointwise
  simp only [half_tanh]
  exact congrArg _ (sum_stretches fun f => gTile m c t a f * logi (gTile m c t a f) * uTile m c t a f * dBlk m c t (ix3 0 f b))

/-- The gate projection's block as either grid point writes it back. -/
theorem g_any (c : Dev nD) (t : Fin cfg0.N) (a : Fin 768) (b : Fin 1408) :
    (outsAt0 m c t.val t.isLt).1 (ix2 a b) = gTile m c t a b := by
  rcases Nat.mod_two_eq_zero_or_one t.val with h | h
  · rw [outsAt0_A m c t h (by omega)]
    frame_out
    canon_tiles x hx using (View.cover_of_tiledBy _ ![768, 128] (by sl_kernel_rfl) _)
    all_goals
      idx_vars x
      open_payloads
      pointwise
      obtain ⟨a, _⟩ := a
      obtain ⟨b, _⟩ := b
      obtain rfl : a = _ := hx0
      obtain rfl : b = _ := hx1
      rfl
  · rw [outsAt0_B m c t (by omega) h]
    frame_out
    canon_tiles x hx using (View.cover_of_tiledBy _ ![768, 128] (by sl_kernel_rfl) _)
    all_goals
      idx_vars x
      open_payloads
      pointwise
      obtain ⟨a, _⟩ := a
      obtain ⟨b, _⟩ := b
      obtain rfl : a = _ := hx0
      obtain rfl : b = _ := hx1
      rfl

/-- The other projection's block as either grid point writes it back. -/
theorem u_any (c : Dev nD) (t : Fin cfg0.N) (a : Fin 768) (b : Fin 1408) :
    (outsAt0 m c t.val t.isLt).2.1 (ix2 a b) = uTile m c t a b := by
  rcases Nat.mod_two_eq_zero_or_one t.val with h | h
  · rw [outsAt0_A m c t h (by omega)]
    frame_out
    canon_tiles x hx using (View.cover_of_tiledBy _ ![768, 128] (by sl_kernel_rfl) _)
    all_goals
      idx_vars x
      open_payloads
      pointwise
      obtain ⟨a, _⟩ := a
      obtain ⟨b, _⟩ := b
      obtain rfl : a = _ := hx0
      obtain rfl : b = _ := hx1
      rfl
  · rw [outsAt0_B m c t (by omega) h]
    frame_out
    canon_tiles x hx using (View.cover_of_tiledBy _ ![768, 128] (by sl_kernel_rfl) _)
    all_goals
      idx_vars x
      open_payloads
      pointwise
      obtain ⟨a, _⟩ := a
      obtain ⟨b, _⟩ := b
      obtain rfl : a = _ := hx0
      obtain rfl : b = _ := hx1
      rfl

/-- The three weights as the region finds them, stacked. -/
abbrev weights (c : Dev nD) : Vec Ideal S3x2816x1024 .bf16 := V m c main_v8
/-- The tokens as the region finds them. -/
abbrev tokens (c : Dev nD) : Vec Ideal S4608x1024 .bf16 := V m c main_arg0

/-- The block indices of the four input windows at a grid point: point `t` takes the tokens' block `t / 2` and half `t % 2`
    of each weight. -/
theorem idx : ∀ t : Fin cfg0.N, win0_0.index t = ![t.val / 2, 0] ∧ win0_1.index t = ![0, t.val % 2, 0]
    ∧ win0_2.index t = ![1, t.val % 2, 0] ∧ win0_3.index t = ![2, t.val % 2, 0] :=
  (by decide +kernel : ∀ t : Fin grid0.N, _)

theorem point_lt (t : Fin cfg0.N) : t.val < 12 := lt_of_lt_of_eq t.isLt N_0

/-- The token a block's row stands for. -/
abbrev row (t : Fin cfg0.N) (a : Fin 768) : Fin 4608 := ⟨t.val / 2 * 768 + a.val, by have := point_lt t; omega⟩
/-- The inner position a block's column stands for. -/
abbrev col (t : Fin cfg0.N) (f : Fin 1408) : Fin 2816 := ⟨t.val % 2 * 1408 + f.val, by omega⟩

/-- The tokens' block, off the array. -/
theorem xBlk_apply (c : Dev nD) (t : Fin cfg0.N) (a : Fin 768) (d : Fin 1024) :
    xBlk m c t (ix2 a d) = tokens m c (ix2 (row t a) d) := by
  obtain ⟨e, _, _, _⟩ := idx t
  blk_ext [xBlk, iblk, e]

/-- The gate projection's block, off the array. -/
theorem gBlk_apply (c : Dev nD) (t : Fin cfg0.N) (f : Fin 1408) (d : Fin 1024) :
    gBlk m c t (ix3 0 f d) = weights m c (ix3 0 (col t f) d) := by
  obtain ⟨_, e, _, _⟩ := idx t
  blk_ext [gBlk, iblk, e]

/-- The other projection's block, off the array. -/
theorem uBlk_apply (c : Dev nD) (t : Fin cfg0.N) (f : Fin 1408) (d : Fin 1024) :
    uBlk m c t (ix3 0 f d) = weights m c (ix3 1 (col t f) d) := by
  obtain ⟨_, _, e, _⟩ := idx t
  blk_ext [uBlk, iblk, e]

/-- The output projection's block, off the array. -/
theorem dBlk_apply (c : Dev nD) (t : Fin cfg0.N) (f : Fin 1408) (d : Fin 1024) :
    dBlk m c t (ix3 0 f d) = weights m c (ix3 2 (col t f) d) := by
  obtain ⟨_, _, _, e⟩ := idx t
  blk_ext [dBlk, iblk, e]

/-- The first of the stacked weights is the gate projection, transposed. -/
theorem weights_gate (c : Dev nD) (f : Fin 2816) (d : Fin 1024) : weights m c (ix3 0 f d) = (mat (m ((c.tc : Thread nD τ).loc main_arg1))) d f := by
  unfold weights V
  after_reads_at
  after_reads_at

/-- The second of the stacked weights is the other projection, transposed. -/
theorem weights_up (c : Dev nD) (f : Fin 2816) (d : Fin 1024) : weights m c (ix3 1 f d) = (mat (m ((c.tc : Thread nD τ).loc main_arg2))) d f := by
  unfold weights V
  after_reads_at
  after_reads_at

/-- The third of the stacked weights is the output projection. -/
theorem weights_down (c : Dev nD) (f : Fin 2816) (d : Fin 1024) : weights m c (ix3 2 f d) = (mat (m ((c.tc : Thread nD τ).loc main_arg3))) f d := by
  unfold weights V
  after_reads_at
  after_reads_at

/-- The output projection's block is the layer's output projection. -/
theorem dBlk_eq (c : Dev nD) (t : Fin cfg0.N) (f : Fin 1408) (d : Fin 1024) :
    dBlk m c t (ix3 0 f d) = mat (m ((c.tc : Thread nD τ).loc main_arg3)) (col t f) d := by
  rw [dBlk_apply, weights_down]

/-- The gate projection of a block's tokens is the layer's. -/
theorem gTile_eq (c : Dev nD) (t : Fin cfg0.N) (a : Fin 768) (f : Fin 1408) : gTile m c t a f = proj (mat (m ((c.tc : Thread nD τ).loc main_arg0))) (mat (m ((c.tc : Thread nD τ).loc main_arg1))) (row t a) (col t f) := by
  refine Finset.sum_congr rfl fun d _ => ?_
  rw [xBlk_apply, gBlk_apply, weights_gate, tokens, V_main_arg0]

/-- The other projection of a block's tokens is the layer's. -/
theorem uTile_eq (c : Dev nD) (t : Fin cfg0.N) (a : Fin 768) (f : Fin 1408) : uTile m c t a f = proj (mat (m ((c.tc : Thread nD τ).loc main_arg0))) (mat (m ((c.tc : Thread nD τ).loc main_arg2))) (row t a) (col t f) := by
  refine Finset.sum_congr rfl fun d _ => ?_
  rw [xBlk_apply, uBlk_apply, weights_up, tokens, V_main_arg0]

/-- The first result array: the gate projection. -/
theorem G4_apply (c : Dev nD) (i : Fin 4608) (j : Fin 2816) : G4 m c (ix2 i j) = proj (mat (m ((c.tc : Thread nD τ).loc main_arg0))) (mat (m ((c.tc : Thread nD τ).loc main_arg1))) i j := by
  have hp : pt4Of (ix2 i j) = 2 * (i.val / 768) + j.val / 1408 := by
    show 2 * (i.val / 768 - 0) + 1 * (j.val / 1408 - 0) = _
    omega
  have h : pt4Of (ix2 i j) < cfg0.N := by rw [hp, show cfg0.N = 12 from N_0]; omega
  have hl : loc4Of (ix2 i j) = ix2 ⟨i.val % 768, by omega⟩ ⟨j.val % 1408, by omega⟩ := by
    funext a
    match a with
    | ⟨0, _⟩ => rfl
    | ⟨1, _⟩ => rfl
  unfold G4
  rw [dif_pos h, ← outsAt0_sweep, hl]
  refine (g_any m c ⟨_, h⟩ _ _).trans ?_
  rw [gTile_eq]
  congr 1 <;> (apply Fin.ext; dsimp only; omega)

/-- The second result array: the other projection. -/
theorem G5_apply (c : Dev nD) (i : Fin 4608) (j : Fin 2816) : G5 m c (ix2 i j) = proj (mat (m ((c.tc : Thread nD τ).loc main_arg0))) (mat (m ((c.tc : Thread nD τ).loc main_arg2))) i j := by
  have hp : pt5Of (ix2 i j) = 2 * (i.val / 768) + j.val / 1408 := by
    show 2 * (i.val / 768 - 0) + 1 * (j.val / 1408 - 0) = _
    omega
  have h : pt5Of (ix2 i j) < cfg0.N := by rw [hp, show cfg0.N = 12 from N_0]; omega
  have hl : loc5Of (ix2 i j) = ix2 ⟨i.val % 768, by omega⟩ ⟨j.val % 1408, by omega⟩ := by
    funext a
    match a with
    | ⟨0, _⟩ => rfl
    | ⟨1, _⟩ => rfl
  unfold G5
  rw [dif_pos h, ← outsAt0_sweep, hl]
  refine (u_any m c ⟨_, h⟩ _ _).trans ?_
  rw [uTile_eq]
  congr 1 <;> (apply Fin.ext; dsimp only; omega)

/-- The third result array: the layer's output. -/
theorem G6_apply (c : Dev nD) (i : Fin 4608) (j : Fin 1024) : G6 m c (ix2 i j) = out (mat (m ((c.tc : Thread nD τ).loc main_arg0))) (mat (m ((c.tc : Thread nD τ).loc main_arg1))) (mat (m ((c.tc : Thread nD τ).loc main_arg2))) (mat (m ((c.tc : Thread nD τ).loc main_arg3))) i j := by
  have hp : pt6Of (ix2 i j) = 2 * (i.val / 768) + 1 := by
    show 2 * (1 * (i.val / 768 - 0) + 1 * (j.val / 1024 - 0)) + 1 = _
    omega
  have h : pt6Of (ix2 i j) < cfg0.N := by rw [hp, show cfg0.N = 12 from N_0]; omega
  have hl : loc6Of (ix2 i j) = ix2 ⟨i.val % 768, by omega⟩ j := by
    funext a
    match a with
    | ⟨0, _⟩ => rfl
    | ⟨1, _⟩ => exact Fin.ext (Nat.mod_eq_of_lt j.isLt)
  unfold G6
  rw [dif_pos h, ← outsAt0_sweep, hl]
  refine (y_B m c ⟨_, h⟩ (by dsimp only; omega) (by dsimp only; omega) _ _).trans ?_
  rw [scratch_A m c ⟨pt6Of (ix2 i j) - 1, by omega⟩ (by dsimp only; omega) (by dsimp only; omega)]
  unfold yTile
  simp only [gTile_eq, uTile_eq, dBlk_eq]
  unfold out
  rw [Fin.sum_univ_two_halves 1408 1408 rfl]
  have r0 : row ⟨pt6Of (ix2 i j) - 1, by omega⟩ ⟨i.val % 768, by omega⟩ = i := Fin.ext (by dsimp only; omega)
  have r1 : row ⟨pt6Of (ix2 i j), h⟩ ⟨i.val % 768, by omega⟩ = i := Fin.ext (by dsimp only; omega)
  have c0 : ∀ f, col ⟨pt6Of (ix2 i j) - 1, by omega⟩ f = ⟨f.val, by omega⟩ := fun f => Fin.ext (by dsimp only; omega)
  have c1 : ∀ f, col ⟨pt6Of (ix2 i j), h⟩ f = ⟨1408 + f.val, by omega⟩ := fun f => Fin.ext (by dsimp only; omega)
  simp only [r0, r1, c0, c1]
  rfl

/-- The kernel ends with its three results at the layer's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v9_0) = (fun q => proj (mat (m ((c.tc : Thread nD τ).loc main_arg0))) (mat (m ((c.tc : Thread nD τ).loc main_arg1))) (q 0) (q 1))
      ∧ r.2.mem ((c.tc : Thread nD τ).loc main_v9_1) = (fun q => proj (mat (m ((c.tc : Thread nD τ).loc main_arg0))) (mat (m ((c.tc : Thread nD τ).loc main_arg2))) (q 0) (q 1))
      ∧ r.2.mem ((c.tc : Thread nD τ).loc main_v9_2) = (fun q => out (mat (m ((c.tc : Thread nD τ).loc main_arg0))) (mat (m ((c.tc : Thread nD τ).loc main_arg1))) (mat (m ((c.tc : Thread nD τ).loc main_arg2))) (mat (m ((c.tc : Thread nD τ).loc main_arg3))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext q; idx_vars q; exact G4_apply m c q0 q1),
    (h c).2.1.trans (by funext q; idx_vars q; exact G5_apply m c q0 q1),
    (h c).2.2.1.trans (by funext q; idx_vars q; exact G6_apply m c q0 q1), (h c).2.2.2⟩) (run m ρ)

end Cert.Kernel2Ideal.Value

namespace Cert.Reference2Ideal.Value

open Cert.Gated Cert.Reference2Ideal Cert.Reference2Ideal.Gen Idealize.ShloMosaic Idealize.ShloMosaic.TcCoe Idealize.SL.Sem
variable (m : (ℓ : Loc nD τ sig) → Buf (Elt Ideal) ℓ)

/-- The reference ends with its three results at the layer's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v2) = (fun q => proj (mat (m ((c.tc : Thread nD τ).loc main_arg0))) (mat (m ((c.tc : Thread nD τ).loc main_arg1))) (q 0) (q 1))
      ∧ r.2.mem ((c.tc : Thread nD τ).loc main_v4) = (fun q => proj (mat (m ((c.tc : Thread nD τ).loc main_arg0))) (mat (m ((c.tc : Thread nD τ).loc main_arg2))) (q 0) (q 1))
      ∧ r.2.mem ((c.tc : Thread nD τ).loc main_v10) = (fun q => out (mat (m ((c.tc : Thread nD τ).loc main_arg0))) (mat (m ((c.tc : Thread nD τ).loc main_arg1))) (mat (m ((c.tc : Thread nD τ).loc main_arg2))) (mat (m ((c.tc : Thread nD τ).loc main_arg3))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext q; idx_vars q; pointwise; rfl),
    (h c).2.1.trans (by funext q; idx_vars q; pointwise; rfl),
    (h c).2.2.1.trans (by funext q; idx_vars q; pointwise; rfl), (h c).2.2.2⟩) (run m ρ)

/-- The reference's run, its arguments kept and every counter at zero. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference2Ideal.Value

/-- The forward call and the reference compute one layer: from equal arguments they end with equal results. -/
theorem Cert.algebraic2 : Cert.algebraic_Kernel2Ideal_Reference2Ideal := by
  intro m g m' g' _ hagree
  refine ⟨_, _, _, Cert.Kernel2Ideal.Value.run_entries m g, ?_⟩
  refine (Idealize.ShloMosaic.θ_run _ _ _).mono (fun r h c => ?_) (Cert.Reference2Ideal.Value.run_entries m' g')
  obtain ⟨e0, e1, e2, e3⟩ := hagree c
  have := h c
  simp only [e0, e1, e2, e3] at this ⊢
  exact this

end
-- ==== Proof.Dw3.lean ====
/-
  The call that makes the gate projection's weight gradient: its result array, index by index, and the reference's.
-/
module

public import proofs.«01_k».proof.Proof.Gen.Kernel3Ideal.Value
public import proofs.«01_k».proof.Proof.Gen.Reference3Ideal.Run
public import proofs.«01_k».proof.Defs
public import proofs.«01_k».proof.Proof.Gated
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel3Ideal.Value

open Cert.Gated Cert.Kernel3Ideal Cert.Kernel3Ideal.Gen Idealize.ShloMosaic Idealize.ShloMosaic.TcCoe Idealize.SL.Sem

variable (m : (ℓ : Loc nD τ sig) → Buf (Elt Ideal) ℓ)

/-- The product's left operand as the region finds it: one row for each token, one column for each row of the result. -/
abbrev lhs (c : Dev nD) : Vec Ideal S4608x2816 .bf16 := V m c main_v11
/-- The product's right operand as the region finds it. -/
abbrev rhs (c : Dev nD) : Vec Ideal S4608x1024 .bf16 := V m c main_arg0

/-- The block of the left operand a grid point reads. -/
abbrev lhsBlk (c : Dev nD) (t : Fin cfg0.N) : Vec Ideal S2304x1408 .bf16 := iblk m c 0 t
/-- The block of the right operand a grid point reads. -/
abbrev rhsBlk (c : Dev nD) (t : Fin cfg0.N) : Vec Ideal S2304x1024 .bf16 := iblk m c 1 t

/-- The block indices of the three windows at a grid point: point `t` takes half `t % 2` of the tokens for half `t / 2`
    of the result's rows. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem point_lt (t : Fin cfg0.N) : t.val < 4 := lt_of_lt_of_eq t.isLt N_0

/-- A block of the left operand, off the array. -/
theorem lhsBlk_apply (c : Dev nD) (t : Fin cfg0.N) (k : Fin 2304) (a : Fin 1408) :
    lhsBlk m c t (ix2 k a)
      = lhs m c (ix2 ⟨t.val % 2 * 2304 + k.val, by omega⟩ ⟨t.val / 2 * 1408 + a.val, by have := point_lt t; omega⟩) := by
  obtain ⟨e0, _, _⟩ := idx t
  blk_ext [lhsBlk, iblk, e0]

/-- A block of the right operand, off the array. -/
theorem rhsBlk_apply (c : Dev nD) (t : Fin cfg0.N) (k : Fin 2304) (b : Fin 1024) :
    rhsBlk m c t (ix2 k b) = rhs m c (ix2 ⟨t.val % 2 * 2304 + k.val, by omega⟩ b) := by
  obtain ⟨_, e1, _⟩ := idx t
  blk_ext [rhsBlk, iblk, e1]

/-- What the first of a block's two grid points leaves in the accumulator: the product of its two tiles. -/
theorem scratch_A (c : Dev nD) (t : Fin cfg0.N) (h0 : t.val % 2 = 0) (h2 : ¬t.val % 2 = 1) (a : Fin 1408) (b : Fin 1024) :
    (outsAt0 m c t.val t.isLt).2 (ix2 a b)
      = ∑ k : Fin 2304, lhsBlk m c t (ix2 k a) * rhsBlk m c t (ix2 k b) := by
  rw [outsAt0_A m c t h0 h2]
  frame_out
  unfold_payloads
  pointwise

/-- What the second of a block's two grid points writes back: the accumulator and the product of its two tiles. -/
theorem out_B (c : Dev nD) (t : Fin cfg0.N) (h0 : ¬t.val % 2 = 0) (h2 : t.val % 2 = 1) (a : Fin 1408) (b : Fin 1024) :
    (outsAt0 m c t.val t.isLt).1 (ix2 a b)
      = (outsAt0 m c (t.val - 1) (Nat.lt_of_le_of_lt (Nat.sub_le _ _) t.isLt)).2 (ix2 a b)
        + ∑ k : Fin 2304, lhsBlk m c t (ix2 k a) * rhsBlk m c t (ix2 k b) := by
  rw [outsAt0_B m c t h0 h2]
  frame_out
  simp only [read_unread_whole]
  unfold_payloads
  pointwise

/-- The result array: at every index the product over all tokens. -/
theorem G2_apply (c : Dev nD) (i : Fin 2816) (j : Fin 1024) :
    G2 m c (ix2 i j) = ∑ k : Fin 4608, lhs m c (ix2 k i) * rhs m c (ix2 k j) := by
  have hp : pt2Of (ix2 i j) = 2 * (i.val / 1408) + 1 := by
    show 2 * (1 * (i.val / 1408 - 0) + 1 * (j.val / 1024 - 0)) + 1 = _
    omega
  have h : pt2Of (ix2 i j) < cfg0.N := by rw [hp, show cfg0.N = 4 from N_0]; omega
  have hl : loc2Of (ix2 i j) = ix2 ⟨i.val % 1408, by omega⟩ j := by
    funext a
    match a with
    | ⟨0, _⟩ => rfl
    | ⟨1, _⟩ => exact Fin.ext (Nat.mod_eq_of_lt j.isLt)
  unfold G2
  rw [dif_pos h, ← outsAt0_sweep, hl]
  refine (out_B m c ⟨_, h⟩ (by dsimp only; omega) (by dsimp only; omega) _ _).trans ?_
  rw [scratch_A m c ⟨pt2Of (ix2 i j) - 1, by omega⟩ (by dsimp only; omega) (by dsimp only; omega)]
  simp only [lhsBlk_apply, rhsBlk_apply]
  generalize lhs m c = L
  generalize rhs m c = R
  rw [Fin.sum_univ_two_halves 2304 2304 rfl]
  have d := i.isLt
  congr 1 <;> refine Finset.sum_congr rfl fun k _ => ?_ <;> congr 3 <;> (apply Fin.ext; dsimp only; omega)

/-- The left operand's entries are the derivative the host lines before the call compute. -/
theorem lhs_apply (c : Dev nD) (t : Fin 4608) (f : Fin 2816) : lhs m c (ix2 t f) = (dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4)))) t f := by
  unfold lhs V
  after_reads_at
  rfl

/-- The result array's entries are the gradient's. -/
theorem result_apply (c : Dev nD) (i : Fin 2816) (j : Fin 1024) : G2 m c (ix2 i j) = dweight (dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4)))) (mat (m ((c.tc : Thread nD τ).loc main_arg0))) i j := by
  exact (G2_apply m c i j).trans (sum_eq_dweight (fun k => lhs_apply m c k i) (fun k => congrFun (V_main_arg0 m c) _))

/-- The kernel ends with its result at the gradient's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v16) = (fun q => dweight (dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4)))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    funext q
    idx_vars q
    exact result_apply m c q0 q1), (h c).2⟩) (run m ρ)

end Cert.Kernel3Ideal.Value

namespace Cert.Reference3Ideal.Value

open Cert.Reference3Ideal Cert.Reference3Ideal.Gen Idealize.ShloMosaic Idealize.ShloMosaic.TcCoe Idealize.SL.Sem Cert.Gated
variable (m : (ℓ : Loc nD τ sig) → Buf (Elt Ideal) ℓ) (ρ : Dev nD → PrngReg)

/-- The reference ends with its result at the gradient's entries and its arguments unchanged. -/
theorem run_entries : θ_run defs (onTc (τ := τ) (main (F := Ideal))) ⟨m, fun _ => 0, ρ⟩ fun r => ∀ c : Dev nD,
      r.2.mem ((c.tc : Thread nD τ).loc main_v13) = (fun q => dweight (dgate (mat (m ((c.tc : Thread nD τ).loc main_arg0))) (mat (m ((c.tc : Thread nD τ).loc main_arg1))) (mat (m ((c.tc : Thread nD τ).loc main_arg2))) (mat (m ((c.tc : Thread nD τ).loc main_arg3))) (mat (m ((c.tc : Thread nD τ).loc main_arg4)))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (run m ρ)

end Cert.Reference3Ideal.Value

/-- The call and the reference compute one gradient: from equal arguments they end with equal results. -/
theorem Cert.algebraic3 : Cert.algebraic_Kernel3Ideal_Reference3Ideal := by
  intro m g m' g' _ hagree
  refine ⟨_, Cert.Kernel3Ideal.Value.run_entries m g, ?_⟩
  refine (Idealize.ShloMosaic.θ_run _ _ _).mono (fun r h c => ?_) (Cert.Reference3Ideal.Value.run_entries m' g')
  obtain ⟨e0, e1, e2, e3, e4⟩ := hagree c
  have := h c
  simp only [e0, e1, e2, e3, e4] at this ⊢
  exact this

end
-- ==== Proof.Dw4.lean ====
/-
  The call that makes the other projection's weight gradient: its result array, index by index, and the reference's.
-/
module

public import proofs.«01_k».proof.Proof.Gen.Kernel4Ideal.Value
public import proofs.«01_k».proof.Proof.Gen.Reference4Ideal.Run
public import proofs.«01_k».proof.Defs
public import proofs.«01_k».proof.Proof.Gated
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel4Ideal.Value

open Cert.Gated Cert.Kernel4Ideal Cert.Kernel4Ideal.Gen Idealize.ShloMosaic Idealize.ShloMosaic.TcCoe Idealize.SL.Sem

variable (m : (ℓ : Loc nD τ sig) → Buf (Elt Ideal) ℓ)

/-- The product's left operand as the region finds it: one row for each token, one column for each row of the result. -/
abbrev lhs (c : Dev nD) : Vec Ideal S4608x2816 .bf16 := V m c main_v12
/-- The product's right operand as the region finds it. -/
abbrev rhs (c : Dev nD) : Vec Ideal S4608x1024 .bf16 := V m c main_arg0

/-- The block of the left operand a grid point reads. -/
abbrev lhsBlk (c : Dev nD) (t : Fin cfg0.N) : Vec Ideal S2304x1408 .bf16 := iblk m c 0 t
/-- The block of the right operand a grid point reads. -/
abbrev rhsBlk (c : Dev nD) (t : Fin cfg0.N) : Vec Ideal S2304x1024 .bf16 := iblk m c 1 t

/-- The block indices of the three windows at a grid point: point `t` takes half `t % 2` of the tokens for half `t / 2`
    of the result's rows. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem point_lt (t : Fin cfg0.N) : t.val < 4 := lt_of_lt_of_eq t.isLt N_0

/-- A block of the left operand, off the array. -/
theorem lhsBlk_apply (c : Dev nD) (t : Fin cfg0.N) (k : Fin 2304) (a : Fin 1408) :
    lhsBlk m c t (ix2 k a)
      = lhs m c (ix2 ⟨t.val % 2 * 2304 + k.val, by omega⟩ ⟨t.val / 2 * 1408 + a.val, by have := point_lt t; omega⟩) := by
  obtain ⟨e0, _, _⟩ := idx t
  blk_ext [lhsBlk, iblk, e0]

/-- A block of the right operand, off the array. -/
theorem rhsBlk_apply (c : Dev nD) (t : Fin cfg0.N) (k : Fin 2304) (b : Fin 1024) :
    rhsBlk m c t (ix2 k b) = rhs m c (ix2 ⟨t.val % 2 * 2304 + k.val, by omega⟩ b) := by
  obtain ⟨_, e1, _⟩ := idx t
  blk_ext [rhsBlk, iblk, e1]

/-- What the first of a block's two grid points leaves in the accumulator: the product of its two tiles. -/
theorem scratch_A (c : Dev nD) (t : Fin cfg0.N) (h0 : t.val % 2 = 0) (h2 : ¬t.val % 2 = 1) (a : Fin 1408) (b : Fin 1024) :
    (outsAt0 m c t.val t.isLt).2 (ix2 a b)
      = ∑ k : Fin 2304, lhsBlk m c t (ix2 k a) * rhsBlk m c t (ix2 k b) := by
  rw [outsAt0_A m c t h0 h2]
  frame_out
  unfold_payloads
  pointwise

/-- What the second of a block's two grid points writes back: the accumulator and the product of its two tiles. -/
theorem out_B (c : Dev nD) (t : Fin cfg0.N) (h0 : ¬t.val % 2 = 0) (h2 : t.val % 2 = 1) (a : Fin 1408) (b : Fin 1024) :
    (outsAt0 m c t.val t.isLt).1 (ix2 a b)
      = (outsAt0 m c (t.val - 1) (Nat.lt_of_le_of_lt (Nat.sub_le _ _) t.isLt)).2 (ix2 a b)
        + ∑ k : Fin 2304, lhsBlk m c t (ix2 k a) * rhsBlk m c t (ix2 k b) := by
  rw [outsAt0_B m c t h0 h2]
  frame_out
  simp only [read_unread_whole]
  unfold_payloads
  pointwise

/-- The result array: at every index the product over all tokens. -/
theorem G2_apply (c : Dev nD) (i : Fin 2816) (j : Fin 1024) :
    G2 m c (ix2 i j) = ∑ k : Fin 4608, lhs m c (ix2 k i) * rhs m c (ix2 k j) := by
  have hp : pt2Of (ix2 i j) = 2 * (i.val / 1408) + 1 := by
    show 2 * (1 * (i.val / 1408 - 0) + 1 * (j.val / 1024 - 0)) + 1 = _
    omega
  have h : pt2Of (ix2 i j) < cfg0.N := by rw [hp, show cfg0.N = 4 from N_0]; omega
  have hl : loc2Of (ix2 i j) = ix2 ⟨i.val % 1408, by omega⟩ j := by
    funext a
    match a with
    | ⟨0, _⟩ => rfl
    | ⟨1, _⟩ => exact Fin.ext (Nat.mod_eq_of_lt j.isLt)
  unfold G2
  rw [dif_pos h, ← outsAt0_sweep, hl]
  refine (out_B m c ⟨_, h⟩ (by dsimp only; omega) (by dsimp only; omega) _ _).trans ?_
  rw [scratch_A m c ⟨pt2Of (ix2 i j) - 1, by omega⟩ (by dsimp only; omega) (by dsimp only; omega)]
  simp only [lhsBlk_apply, rhsBlk_apply]
  generalize lhs m c = L
  generalize rhs m c = R
  rw [Fin.sum_univ_two_halves 2304 2304 rfl]
  have d := i.isLt
  congr 1 <;> refine Finset.sum_congr rfl fun k _ => ?_ <;> congr 3 <;> (apply Fin.ext; dsimp only; omega)

/-- The left operand's entries are the derivative the host lines before the call compute. -/
theorem lhs_apply (c : Dev nD) (t : Fin 4608) (f : Fin 2816) : lhs m c (ix2 t f) = (dup (mat (m ((c.tc : Thread nD τ).loc main_arg0))) (mat (m ((c.tc : Thread nD τ).loc main_arg1))) (mat (m ((c.tc : Thread nD τ).loc main_arg3))) (mat (m ((c.tc : Thread nD τ).loc main_arg4)))) t f := by
  unfold lhs V
  after_reads_at
  rfl

/-- The result array's entries are the gradient's. -/
theorem result_apply (c : Dev nD) (i : Fin 2816) (j : Fin 1024) : G2 m c (ix2 i j) = dweight (dup (mat (m ((c.tc : Thread nD τ).loc main_arg0))) (mat (m ((c.tc : Thread nD τ).loc main_arg1))) (mat (m ((c.tc : Thread nD τ).loc main_arg3))) (mat (m ((c.tc : Thread nD τ).loc main_arg4)))) (mat (m ((c.tc : Thread nD τ).loc main_arg0))) i j := by
  exact (G2_apply m c i j).trans (sum_eq_dweight (fun k => lhs_apply m c k i) (fun k => congrFun (V_main_arg0 m c) _))

/-- The kernel ends with its result at the gradient's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v16) = (fun q => dweight (dup (mat (m ((c.tc : Thread nD τ).loc main_arg0))) (mat (m ((c.tc : Thread nD τ).loc main_arg1))) (mat (m ((c.tc : Thread nD τ).loc main_arg3))) (mat (m ((c.tc : Thread nD τ).loc main_arg4)))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    funext q
    idx_vars q
    exact result_apply m c q0 q1), (h c).2⟩) (run m ρ)

end Cert.Kernel4Ideal.Value

namespace Cert.Reference4Ideal.Value

open Cert.Reference4Ideal Cert.Reference4Ideal.Gen Idealize.ShloMosaic Idealize.ShloMosaic.TcCoe Idealize.SL.Sem Cert.Gated
variable (m : (ℓ : Loc nD τ sig) → Buf (Elt Ideal) ℓ) (ρ : Dev nD → PrngReg)

/-- The reference ends with its result at the gradient's entries and its arguments unchanged. -/
theorem run_entries : θ_run defs (onTc (τ := τ) (main (F := Ideal))) ⟨m, fun _ => 0, ρ⟩ fun r => ∀ c : Dev nD,
      r.2.mem ((c.tc : Thread nD τ).loc main_v12) = (fun q => dweight (dup (mat (m ((c.tc : Thread nD τ).loc main_arg0))) (mat (m ((c.tc : Thread nD τ).loc main_arg1))) (mat (m ((c.tc : Thread nD τ).loc main_arg3))) (mat (m ((c.tc : Thread nD τ).loc main_arg4)))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (run m ρ)

end Cert.Reference4Ideal.Value

/-- The call and the reference compute one gradient: from equal arguments they end with equal results. -/
theorem Cert.algebraic4 : Cert.algebraic_Kernel4Ideal_Reference4Ideal := by
  intro m g m' g' _ hagree
  refine ⟨_, Cert.Kernel4Ideal.Value.run_entries m g, ?_⟩
  refine (Idealize.ShloMosaic.θ_run _ _ _).mono (fun r h c => ?_) (Cert.Reference4Ideal.Value.run_entries m' g')
  obtain ⟨e0, e1, e2, e3, e4⟩ := hagree c
  have := h c
  simp only [e0, e1, e2, e3, e4] at this ⊢
  exact this

end
-- ==== Proof.Dw5.lean ====
/-
  The call that makes the output projection's weight gradient: its result array, index by index, and the reference's.
-/
module

public import proofs.«01_k».proof.Proof.Gen.Kernel5Ideal.Value
public import proofs.«01_k».proof.Proof.Gen.Reference5Ideal.Run
public import proofs.«01_k».proof.Defs
public import proofs.«01_k».proof.Proof.Gated
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel5Ideal.Value

open Cert.Gated Cert.Kernel5Ideal Cert.Kernel5Ideal.Gen Idealize.ShloMosaic Idealize.ShloMosaic.TcCoe Idealize.SL.Sem

variable (m : (ℓ : Loc nD τ sig) → Buf (Elt Ideal) ℓ)

/-- The product's left operand as the region finds it: one row for each token, one column for each row of the result. -/
abbrev lhs (c : Dev nD) : Vec Ideal S4608x2816 .bf16 := V m c main_v15
/-- The product's right operand as the region finds it. -/
abbrev rhs (c : Dev nD) : Vec Ideal S4608x1024 .bf16 := V m c main_arg4

/-- The block of the left operand a grid point reads. -/
abbrev lhsBlk (c : Dev nD) (t : Fin cfg0.N) : Vec Ideal S2304x1408 .bf16 := iblk m c 0 t
/-- The block of the right operand a grid point reads. -/
abbrev rhsBlk (c : Dev nD) (t : Fin cfg0.N) : Vec Ideal S2304x1024 .bf16 := iblk m c 1 t

/-- The block indices of the three windows at a grid point: point `t` takes half `t % 2` of the tokens for half `t / 2`
    of the result's rows. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem point_lt (t : Fin cfg0.N) : t.val < 4 := lt_of_lt_of_eq t.isLt N_0

/-- A block of the left operand, off the array. -/
theorem lhsBlk_apply (c : Dev nD) (t : Fin cfg0.N) (k : Fin 2304) (a : Fin 1408) :
    lhsBlk m c t (ix2 k a)
      = lhs m c (ix2 ⟨t.val % 2 * 2304 + k.val, by omega⟩ ⟨t.val / 2 * 1408 + a.val, by have := point_lt t; omega⟩) := by
  obtain ⟨e0, _, _⟩ := idx t
  blk_ext [lhsBlk, iblk, e0]

/-- A block of the right operand, off the array. -/
theorem rhsBlk_apply (c : Dev nD) (t : Fin cfg0.N) (k : Fin 2304) (b : Fin 1024) :
    rhsBlk m c t (ix2 k b) = rhs m c (ix2 ⟨t.val % 2 * 2304 + k.val, by omega⟩ b) := by
  obtain ⟨_, e1, _⟩ := idx t
  blk_ext [rhsBlk, iblk, e1]

/-- What the first of a block's two grid points leaves in the accumulator: the product of its two tiles. -/
theorem scratch_A (c : Dev nD) (t : Fin cfg0.N) (h0 : t.val % 2 = 0) (h2 : ¬t.val % 2 = 1) (a : Fin 1408) (b : Fin 1024) :
    (outsAt0 m c t.val t.isLt).2 (ix2 a b)
      = ∑ k : Fin 2304, lhsBlk m c t (ix2 k a) * rhsBlk m c t (ix2 k b) := by
  rw [outsAt0_A m c t h0 h2]
  frame_out
  unfold_payloads
  pointwise

/-- What the second of a block's two grid points writes back: the accumulator and the product of its two tiles. -/
theorem out_B (c : Dev nD) (t : Fin cfg0.N) (h0 : ¬t.val % 2 = 0) (h2 : t.val % 2 = 1) (a : Fin 1408) (b : Fin 1024) :
    (outsAt0 m c t.val t.isLt).1 (ix2 a b)
      = (outsAt0 m c (t.val - 1) (Nat.lt_of_le_of_lt (Nat.sub_le _ _) t.isLt)).2 (ix2 a b)
        + ∑ k : Fin 2304, lhsBlk m c t (ix2 k a) * rhsBlk m c t (ix2 k b) := by
  rw [outsAt0_B m c t h0 h2]
  frame_out
  simp only [read_unread_whole]
  unfold_payloads
  pointwise

/-- The result array: at every index the product over all tokens. -/
theorem G2_apply (c : Dev nD) (i : Fin 2816) (j : Fin 1024) :
    G2 m c (ix2 i j) = ∑ k : Fin 4608, lhs m c (ix2 k i) * rhs m c (ix2 k j) := by
  have hp : pt2Of (ix2 i j) = 2 * (i.val / 1408) + 1 := by
    show 2 * (1 * (i.val / 1408 - 0) + 1 * (j.val / 1024 - 0)) + 1 = _
    omega
  have h : pt2Of (ix2 i j) < cfg0.N := by rw [hp, show cfg0.N = 4 from N_0]; omega
  have hl : loc2Of (ix2 i j) = ix2 ⟨i.val % 1408, by omega⟩ j := by
    funext a
    match a with
    | ⟨0, _⟩ => rfl
    | ⟨1, _⟩ => exact Fin.ext (Nat.mod_eq_of_lt j.isLt)
  unfold G2
  rw [dif_pos h, ← outsAt0_sweep, hl]
  refine (out_B m c ⟨_, h⟩ (by dsimp only; omega) (by dsimp only; omega) _ _).trans ?_
  rw [scratch_A m c ⟨pt2Of (ix2 i j) - 1, by omega⟩ (by dsimp only; omega) (by dsimp only; omega)]
  simp only [lhsBlk_apply, rhsBlk_apply]
  generalize lhs m c = L
  generalize rhs m c = R
  rw [Fin.sum_univ_two_halves 2304 2304 rfl]
  have d := i.isLt
  congr 1 <;> refine Finset.sum_congr rfl fun k _ => ?_ <;> congr 3 <;> (apply Fin.ext; dsimp only; omega)

/-- The left operand's entries are the derivative the host lines before the call compute. -/
theorem lhs_apply (c : Dev nD) (t : Fin 4608) (f : Fin 2816) : lhs m c (ix2 t f) = (act (mat (m ((c.tc : Thread nD τ).loc main_arg0))) (mat (m ((c.tc : Thread nD τ).loc main_arg1))) (mat (m ((c.tc : Thread nD τ).loc main_arg2)))) t f := by
  unfold lhs V
  after_reads_at
  rfl

/-- The result array's entries are the gradient's. -/
theorem result_apply (c : Dev nD) (i : Fin 2816) (j : Fin 1024) : G2 m c (ix2 i j) = dweight (act (mat (m ((c.tc : Thread nD τ).loc main_arg0))) (mat (m ((c.tc : Thread nD τ).loc main_arg1))) (mat (m ((c.tc : Thread nD τ).loc main_arg2)))) (mat (m ((c.tc : Thread nD τ).loc main_arg4))) i j := by
  exact (G2_apply m c i j).trans (sum_eq_dweight (fun k => lhs_apply m c k i) (fun k => congrFun (V_main_arg4 m c) _))

/-- The kernel ends with its result at the gradient's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v16) = (fun q => dweight (act (mat (m ((c.tc : Thread nD τ).loc main_arg0))) (mat (m ((c.tc : Thread nD τ).loc main_arg1))) (mat (m ((c.tc : Thread nD τ).loc main_arg2)))) (mat (m ((c.tc : Thread nD τ).loc main_arg4))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    funext q
    idx_vars q
    exact result_apply m c q0 q1), (h c).2⟩) (run m ρ)

end Cert.Kernel5Ideal.Value

namespace Cert.Reference5Ideal.Value

open Cert.Reference5Ideal Cert.Reference5Ideal.Gen Idealize.ShloMosaic Idealize.ShloMosaic.TcCoe Idealize.SL.Sem Cert.Gated
variable (m : (ℓ : Loc nD τ sig) → Buf (Elt Ideal) ℓ) (ρ : Dev nD → PrngReg)

/-- The reference ends with its result at the gradient's entries and its arguments unchanged. -/
theorem run_entries : θ_run defs (onTc (τ := τ) (main (F := Ideal))) ⟨m, fun _ => 0, ρ⟩ fun r => ∀ c : Dev nD,
      r.2.mem ((c.tc : Thread nD τ).loc main_v9) = (fun q => dweight (act (mat (m ((c.tc : Thread nD τ).loc main_arg0))) (mat (m ((c.tc : Thread nD τ).loc main_arg1))) (mat (m ((c.tc : Thread nD τ).loc main_arg2)))) (mat (m ((c.tc : Thread nD τ).loc main_arg4))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext q; idx_vars q; pointwise; exact Finset.sum_congr rfl fun _ _ => mul_comm _ _), (h c).2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl r.2⟩) (run m ρ)

end Cert.Reference5Ideal.Value

/-- The call and the reference compute one gradient: from equal arguments they end with equal results. -/
theorem Cert.algebraic5 : Cert.algebraic_Kernel5Ideal_Reference5Ideal := by
  intro m g m' g' _ hagree
  refine ⟨_, Cert.Kernel5Ideal.Value.run_entries m g, ?_⟩
  refine (Idealize.ShloMosaic.θ_run _ _ _).mono (fun r h c => ?_) (Cert.Reference5Ideal.Value.run_entries m' g')
  obtain ⟨e0, e1, e2, e3, e4⟩ := hagree c
  have := h c
  simp only [e0, e1, e2, e3, e4] at this ⊢
  exact this

end
-- ==== Proof.Adam.lean ====
/-
  One step of AdamW at one entry: the new moments and the change of the weight.
-/
module

public import Idealize.ShloMosaic.Lib.Pipeline.ValueKit
public import Idealize.ShloMosaic.Lib.Pointwise
public import Idealize.ShloMosaic.Lib.Tactic

@[expose] public section

noncomputable section

namespace Cert.Adam

open Idealize.ShloMosaic

/-- A constant of the step, by its word. -/
abbrev lit (w : BitVec 32) : EReal := (Scalar.ofBits (F := Ideal) .f32 w : Ideal .f32)

/-- The new first moment: 0.9 times the old one and 0.1 times the gradient. -/
def newM (g m : EReal) : EReal := lit 0x3F666666#32 * m + lit 0x3DCCCCCD#32 * g

/-- The new second moment: 0.999 times the old one and 0.001 times the gradient's square. -/
def newV (g v : EReal) : EReal := lit 0x3F7FBE77#32 * v + lit 0x3A83126F#32 * (g * g)

/-- The change of the weight: both moments freed of their bias, and the weight's decay. -/
def delta (w g m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

end Cert.Adam

end
-- ==== Proof.Adam7.lean ====
/-
  AdamW's call on one device's part of w_mod, and its reference.
-/
module

public import proofs.«01_k».proof.Proof.Gen.Kernel7.Frame
public import proofs.«01_k».proof.Proof.Gen.Kernel7Ideal.Value
public import proofs.«01_k».proof.Proof.Gen.Reference7Ideal.Run
public import proofs.«01_k».proof.Defs
public import proofs.«01_k».proof.Proof.Adam
public import Idealize.ShloMosaic.Lib.Quiescent

@[expose] public section

set_option maxRecDepth 16384

noncomputable section

namespace Cert.Kernel7Ideal.Value

open Cert.Adam Cert.Kernel7Ideal Cert.Kernel7Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S2x1024x1152 .f32 := V m c main_arg0
abbrev gs : Vec Ideal S2x1024x1152 .f32 := V m c main_arg1
abbrev ms : Vec Ideal S2x1024x1152 .f32 := V m c main_arg2
abbrev vs : Vec Ideal S2x1024x1152 .f32 := V m c main_arg3

/-- The blocks of the four a grid point reads. -/
abbrev wBlk : Vec Ideal S1x256x1152 .f32 := iblk m c 0 t
abbrev gBlk : Vec Ideal S1x256x1152 .f32 := iblk m c 1 t
abbrev mBlk : Vec Ideal S1x256x1152 .f32 := iblk m c 2 t
abbrev vBlk : Vec Ideal S1x256x1152 .f32 := iblk m c 3 t

/-- What a grid point leaves of the weight's change. -/
theorem delta_block (y : S1x256x1152.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S2x1024x1152.Idx => delta (ws m c i) (gs m c i) (ms m c i) (vs m c i) := by
  refine (dats m 0 c).arrAt_eq_of_covers 4 _ (by decide +kernel) fun t hf y => ?_
  obtain ⟨y, rfl⟩ : ∃ z : S1x256x1152.Idx, z = y := ⟨y, rfl⟩
  blk_simp
  rw [after0_4]
  exact delta_block m c t y

/-- What a grid point leaves of the new first moment. -/
theorem newM_block (y : S1x256x1152.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S2x1024x1152.Idx => newM (gs m c i) (ms m c i) := by
  refine (dats m 0 c).arrAt_eq_of_covers 5 _ (by decide +kernel) fun t hf y => ?_
  obtain ⟨y, rfl⟩ : ∃ z : S1x256x1152.Idx, z = y := ⟨y, rfl⟩
  blk_simp
  rw [after0_5]
  exact newM_block m c t y

/-- What a grid point leaves of the new second moment. -/
theorem newV_block (y : S1x256x1152.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S2x1024x1152.Idx => newV (gs m c i) (vs m c i) := by
  refine (dats m 0 c).arrAt_eq_of_covers 6 _ (by decide +kernel) fun t hf y => ?_
  obtain ⟨y, rfl⟩ : ∃ z : S1x256x1152.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S2x1024x1152.Idx => delta ((m ((c.tc : Thread nD τ).loc main_arg0) : Vec Ideal S2x1024x1152 .f32) i) ((m ((c.tc : Thread nD τ).loc main_arg1) : Vec Ideal S2x1024x1152 .f32) i) ((m ((c.tc : Thread nD τ).loc main_arg2) : Vec Ideal S2x1024x1152 .f32) i) ((m ((c.tc : Thread nD τ).loc main_arg3) : Vec Ideal S2x1024x1152 .f32) i))
      ∧ r.2.mem ((c.tc : Thread nD τ).loc main_v0_1) = (fun i : S2x1024x1152.Idx => newM ((m ((c.tc : Thread nD τ).loc main_arg1) : Vec Ideal S2x1024x1152 .f32) i) ((m ((c.tc : Thread nD τ).loc main_arg2) : Vec Ideal S2x1024x1152 .f32) i))
      ∧ r.2.mem ((c.tc : Thread nD τ).loc main_v0_2) = (fun i : S2x1024x1152.Idx => newV ((m ((c.tc : Thread nD τ).loc main_arg1) : Vec Ideal S2x1024x1152 .f32) i) ((m ((c.tc : Thread nD τ).loc main_arg3) : Vec Ideal S2x1024x1152 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel7Ideal.Value

namespace Cert.Reference7Ideal.Value

open Cert.Adam Cert.Reference7Ideal Cert.Reference7Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S2x1024x1152.Idx => delta ((m ((c.tc : Thread nD τ).loc main_arg0) : Vec Ideal S2x1024x1152 .f32) i) ((m ((c.tc : Thread nD τ).loc main_arg1) : Vec Ideal S2x1024x1152 .f32) i) ((m ((c.tc : Thread nD τ).loc main_arg2) : Vec Ideal S2x1024x1152 .f32) i) ((m ((c.tc : Thread nD τ).loc main_arg3) : Vec Ideal S2x1024x1152 .f32) i))
      ∧ r.2.mem ((c.tc : Thread nD τ).loc main_v4) = (fun i : S2x1024x1152.Idx => newM ((m ((c.tc : Thread nD τ).loc main_arg1) : Vec Ideal S2x1024x1152 .f32) i) ((m ((c.tc : Thread nD τ).loc main_arg2) : Vec Ideal S2x1024x1152 .f32) i))
      ∧ r.2.mem ((c.tc : Thread nD τ).loc main_v10) = (fun i : S2x1024x1152.Idx => newV ((m ((c.tc : Thread nD τ).loc main_arg1) : Vec Ideal S2x1024x1152 .f32) i) ((m ((c.tc : Thread nD τ).loc main_arg3) : Vec Ideal S2x1024x1152 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference7Ideal.Value

/-- The call and the reference take one step: from equal arguments they end with equal results. -/
theorem Cert.algebraic7 : Cert.algebraic_Kernel7Ideal_Reference7Ideal := by
  intro m g m' g' _ hagree
  refine ⟨_, _, _, Cert.Kernel7Ideal.Value.run_entries m g, ?_⟩
  refine (Idealize.ShloMosaic.θ_run _ _ _).mono (fun r h c => ?_) (Cert.Reference7Ideal.Value.run_entries m' g')
  obtain ⟨e0, e1, e2, e3, e4⟩ := hagree c
  have := h c
  simp only [e0, e1, e2, e3, e4] at this ⊢
  exact this

end
-- ==== Proof.Adam8.lean ====
/-
  AdamW's call on the whole of b_mod, and its reference.
-/
module

public import proofs.«01_k».proof.Proof.Gen.Kernel8.Frame
public import proofs.«01_k».proof.Proof.Gen.Kernel8Ideal.Frame
public import proofs.«01_k».proof.Proof.Gen.Reference8Ideal.Run
public import proofs.«01_k».proof.Defs
public import proofs.«01_k».proof.Proof.Adam
public import Idealize.ShloMosaic.Lib.Quiescent

@[expose] public section

set_option maxRecDepth 16384

noncomputable section

namespace Cert.Kernel8Ideal.Value

open Cert.Adam Cert.Kernel8Ideal Cert.Kernel8Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S2x9216 .f32 := m ((c.tc : Thread nD τ).loc main_arg0)
abbrev a1 : Vec Ideal S2x9216 .f32 := m ((c.tc : Thread nD τ).loc main_arg1)
abbrev a2 : Vec Ideal S2x9216 .f32 := m ((c.tc : Thread nD τ).loc main_arg2)
abbrev a3 : Vec Ideal S2x9216 .f32 := m ((c.tc : Thread nD τ).loc main_arg3)

/-- An entry's place in the array of rank three. -/
abbrev at3 (i : S2x9216.Idx) : S1x2x9216.Idx := Shape.reshapeEquiv shapeCasts_S1x2x9216_S2x9216 i

/-- The weight, the gradient and the two moments as the region finds them. -/
abbrev ws : Vec Ideal S1x2x9216 .f32 := V m c main_v0
abbrev gs : Vec Ideal S1x2x9216 .f32 := V m c main_v1
abbrev ms : Vec Ideal S1x2x9216 .f32 := V m c main_v2
abbrev vs : Vec Ideal S1x2x9216 .f32 := V m c main_v3

/-- The blocks of the four a grid point reads. -/
abbrev wBlk : Vec Ideal S1x2x9216 .f32 := iblk m c 0 t
abbrev gBlk : Vec Ideal S1x2x9216 .f32 := iblk m c 1 t
abbrev mBlk : Vec Ideal S1x2x9216 .f32 := iblk m c 2 t
abbrev vBlk : Vec Ideal S1x2x9216 .f32 := iblk m c 3 t

/-- What a grid point leaves of the weight's change. -/
theorem delta_block (y : S1x2x9216.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S1x2x9216.Idx => delta (ws m c i) (gs m c i) (ms m c i) (vs m c i) := by
  refine (dats m 0 c).arrAt_eq_of_covers 4 _ (by decide +kernel) fun t hf y => ?_
  obtain ⟨y, rfl⟩ : ∃ z : S1x2x9216.Idx, z = y := ⟨y, rfl⟩
  blk_simp
  rw [after0_4]
  exact delta_block m c t y

/-- What a grid point leaves of the new first moment. -/
theorem newM_block (y : S1x2x9216.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S1x2x9216.Idx => newM (gs m c i) (ms m c i) := by
  refine (dats m 0 c).arrAt_eq_of_covers 5 _ (by decide +kernel) fun t hf y => ?_
  obtain ⟨y, rfl⟩ : ∃ z : S1x2x9216.Idx, z = y := ⟨y, rfl⟩
  blk_simp
  rw [after0_5]
  exact newM_block m c t y

/-- What a grid point leaves of the new second moment. -/
theorem newV_block (y : S1x2x9216.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S1x2x9216.Idx => newV (gs m c i) (vs m c i) := by
  refine (dats m 0 c).arrAt_eq_of_covers 6 _ (by decide +kernel) fun t hf y => ?_
  obtain ⟨y, rfl⟩ : ∃ z : S1x2x9216.Idx, z = y := ⟨y, rfl⟩
  blk_simp
  rw [after0_6]
  exact newV_block m c t y

theorem V_main_v0 : V m c main_v0 = shapeCast S1x2x9216 (a0 m c) shapeCasts_S2x9216_S1x2x9216 := by
  unfold V V0
  simp only [hostOps0, List.flatten_cons, List.flatten_nil, List.cons_append, List.nil_append]
  after_results_simp
  rfl

theorem ws_at (i : S2x9216.Idx) : ws m c (at3 i) = a0 m c i :=
  (congrFun (V_main_v0 m c) _).trans (congrFun (shapeCast_shapeCast (a0 m c) shapeCasts_S2x9216_S1x2x9216 shapeCasts_S1x2x9216_S2x9216) i)

theorem V_main_v1 : V m c main_v1 = shapeCast S1x2x9216 (a1 m c) shapeCasts_S2x9216_S1x2x9216 := by
  unfold V V0
  simp only [hostOps0, List.flatten_cons, List.flatten_nil, List.cons_append, List.nil_append]
  after_results_simp
  rfl

theorem gs_at (i : S2x9216.Idx) : gs m c (at3 i) = a1 m c i :=
  (congrFun (V_main_v1 m c) _).trans (congrFun (shapeCast_shapeCast (a1 m c) shapeCasts_S2x9216_S1x2x9216 shapeCasts_S1x2x9216_S2x9216) i)

theorem V_main_v2 : V m c main_v2 = shapeCast S1x2x9216 (a2 m c) shapeCasts_S2x9216_S1x2x9216 := by
  unfold V V0
  simp only [hostOps0, List.flatten_cons, List.flatten_nil, List.cons_append, List.nil_append]
  after_results_simp
  rfl

theorem ms_at (i : S2x9216.Idx) : ms m c (at3 i) = a2 m c i :=
  (congrFun (V_main_v2 m c) _).trans (congrFun (shapeCast_shapeCast (a2 m c) shapeCasts_S2x9216_S1x2x9216 shapeCasts_S1x2x9216_S2x9216) i)

theorem V_main_v3 : V m c main_v3 = shapeCast S1x2x9216 (a3 m c) shapeCasts_S2x9216_S1x2x9216 := by
  unfold V V0
  simp only [hostOps0, List.flatten_cons, List.flatten_nil, List.cons_append, List.nil_append]
  after_results_simp
  rfl

theorem vs_at (i : S2x9216.Idx) : vs m c (at3 i) = a3 m c i :=
  (congrFun (V_main_v3 m c) _).trans (congrFun (shapeCast_shapeCast (a3 m c) shapeCasts_S2x9216_S1x2x9216 shapeCasts_S1x2x9216_S2x9216) i)

/-- A result after the lines that follow the region: the region's array, reshaped. -/
theorem cast0 (W : Valuation τ sig (Elt Ideal)) : StableHlo.after [hostOps1].flatten W (Proc.devRef .tc main_v5) = shapeCast S2x9216 (W (Proc.devRef .tc main_v4_0) : Vec Ideal S1x2x9216 .f32) shapeCasts_S1x2x9216_S2x9216 := by
  simp only [hostOps1, List.flatten_cons, List.flatten_nil, List.cons_append, List.nil_append]
  after_results_simp
  rfl

theorem tail0 : Pipeline.afterTail₀ cfgs (dats m) 0 (V0 m) [hostOps1] c main_v5 = (fun i : S2x9216.Idx => delta (a0 m c i) (a1 m c i) (a2 m c i) (a3 m c i)) := by
  refine (cast0 _).trans ?_
  refine (congrArg (fun a => shapeCast S2x9216 a shapeCasts_S1x2x9216_S2x9216) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S2x9216 (W (Proc.devRef .tc main_v4_1) : Vec Ideal S1x2x9216 .f32) shapeCasts_S1x2x9216_S2x9216 := by
  simp only [hostOps1, List.flatten_cons, List.flatten_nil, List.cons_append, List.nil_append]
  after_results_simp
  rfl

theorem tail1 : Pipeline.afterTail₀ cfgs (dats m) 0 (V0 m) [hostOps1] c main_v6 = (fun i : S2x9216.Idx => newM (a1 m c i) (a2 m c i)) := by
  refine (cast1 _).trans ?_
  refine (congrArg (fun a => shapeCast S2x9216 a shapeCasts_S1x2x9216_S2x9216) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S2x9216 (W (Proc.devRef .tc main_v4_2) : Vec Ideal S1x2x9216 .f32) shapeCasts_S1x2x9216_S2x9216 := by
  simp only [hostOps1, List.flatten_cons, List.flatten_nil, List.cons_append, List.nil_append]
  after_results_simp
  rfl

theorem tail2 : Pipeline.afterTail₀ cfgs (dats m) 0 (V0 m) [hostOps1] c main_v7 = (fun i : S2x9216.Idx => newV (a1 m c i) (a3 m c i)) := by
  refine (cast2 _).trans ?_
  refine (congrArg (fun a => shapeCast S2x9216 a shapeCasts_S1x2x9216_S2x9216) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S2x9216.Idx => delta (a0 m c i) (a1 m c i) (a2 m c i) (a3 m c i))
      ∧ r.2.mem ((c.tc : Thread nD τ).loc main_v6) = (fun i : S2x9216.Idx => newM (a1 m c i) (a2 m c i))
      ∧ r.2.mem ((c.tc : Thread nD τ).loc main_v7) = (fun i : S2x9216.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel8Ideal.Value

namespace Cert.Reference8Ideal.Value

open Cert.Adam Cert.Reference8Ideal Cert.Reference8Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S2x9216.Idx => delta ((m ((c.tc : Thread nD τ).loc main_arg0) : Vec Ideal S2x9216 .f32) i) ((m ((c.tc : Thread nD τ).loc main_arg1) : Vec Ideal S2x9216 .f32) i) ((m ((c.tc : Thread nD τ).loc main_arg2) : Vec Ideal S2x9216 .f32) i) ((m ((c.tc : Thread nD τ).loc main_arg3) : Vec Ideal S2x9216 .f32) i))
      ∧ r.2.mem ((c.tc : Thread nD τ).loc main_v4) = (fun i : S2x9216.Idx => newM ((m ((c.tc : Thread nD τ).loc main_arg1) : Vec Ideal S2x9216 .f32) i) ((m ((c.tc : Thread nD τ).loc main_arg2) : Vec Ideal S2x9216 .f32) i))
      ∧ r.2.mem ((c.tc : Thread nD τ).loc main_v10) = (fun i : S2x9216.Idx => newV ((m ((c.tc : Thread nD τ).loc main_arg1) : Vec Ideal S2x9216 .f32) i) ((m ((c.tc : Thread nD τ).loc main_arg3) : Vec Ideal S2x9216 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference8Ideal.Value

/-- The call and the reference take one step: from equal arguments they end with equal results. -/
theorem Cert.algebraic8 : Cert.algebraic_Kernel8Ideal_Reference8Ideal := by
  intro m g m' g' _ hagree
  refine ⟨_, _, _, Cert.Kernel8Ideal.Value.run_entries m g, ?_⟩
  refine (Idealize.ShloMosaic.θ_run _ _ _).mono (fun r h c => ?_) (Cert.Reference8Ideal.Value.run_entries m' g')
  obtain ⟨e0, e1, e2, e3, e4⟩ := hagree c
  have := h c
  simp only [Cert.Kernel8Ideal.Value.a0, Cert.Kernel8Ideal.Value.a1, Cert.Kernel8Ideal.Value.a2, Cert.Kernel8Ideal.Value.a3, e0, e1, e2, e3, e4] at this ⊢
  exact this

end
-- ==== Proof.Adam9.lean ====
/-
  AdamW's call on one device's part of ffn_w_gate and of ffn_w_up, and its reference.
-/
module

public import proofs.«01_k».proof.Proof.Gen.Kernel9.Frame
public import proofs.«01_k».proof.Proof.Gen.Kernel9Ideal.Frame
public import proofs.«01_k».proof.Proof.Gen.Reference9Ideal.Run
public import proofs.«01_k».proof.Defs
public import proofs.«01_k».proof.Proof.Adam
public import Idealize.ShloMosaic.Lib.Quiescent

@[expose] public section

set_option maxRecDepth 16384

noncomputable section

namespace Cert.Kernel9Ideal.Value

open Cert.Adam Cert.Kernel9Ideal Cert.Kernel9Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S2x2x1024x352 .f32 := m ((c.tc : Thread nD τ).loc main_arg0)
abbrev a1 : Vec Ideal S2x2x1024x352 .f32 := m ((c.tc : Thread nD τ).loc main_arg1)
abbrev a2 : Vec Ideal S2x2x1024x352 .f32 := m ((c.tc : Thread nD τ).loc main_arg2)
abbrev a3 : Vec Ideal S2x2x1024x352 .f32 := m ((c.tc : Thread nD τ).loc main_arg3)

/-- An entry's place in the array of rank three. -/
abbrev at3 (i : S2x2x1024x352.Idx) : S4x1024x352.Idx := Shape.reshapeEquiv shapeCasts_S4x1024x352_S2x2x1024x352 i

/-- The weight, the gradient and the two moments as the region finds them. -/
abbrev ws : Vec Ideal S4x1024x352 .f32 := V m c main_v0
abbrev gs : Vec Ideal S4x1024x352 .f32 := V m c main_v1
abbrev ms : Vec Ideal S4x1024x352 .f32 := V m c main_v2
abbrev vs : Vec Ideal S4x1024x352 .f32 := V m c main_v3

/-- The blocks of the four a grid point reads. -/
abbrev wBlk : Vec Ideal S1x1024x352 .f32 := iblk m c 0 t
abbrev gBlk : Vec Ideal S1x1024x352 .f32 := iblk m c 1 t
abbrev mBlk : Vec Ideal S1x1024x352 .f32 := iblk m c 2 t
abbrev vBlk : Vec Ideal S1x1024x352 .f32 := iblk m c 3 t

/-- What a grid point leaves of the weight's change. -/
theorem delta_block (y : S1x1024x352.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S4x1024x352.Idx => delta (ws m c i) (gs m c i) (ms m c i) (vs m c i) := by
  refine (dats m 0 c).arrAt_eq_of_covers 4 _ (by decide +kernel) fun t hf y => ?_
  obtain ⟨y, rfl⟩ : ∃ z : S1x1024x352.Idx, z = y := ⟨y, rfl⟩
  blk_simp
  rw [after0_4]
  exact delta_block m c t y

/-- What a grid point leaves of the new first moment. -/
theorem newM_block (y : S1x1024x352.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S4x1024x352.Idx => newM (gs m c i) (ms m c i) := by
  refine (dats m 0 c).arrAt_eq_of_covers 5 _ (by decide +kernel) fun t hf y => ?_
  obtain ⟨y, rfl⟩ : ∃ z : S1x1024x352.Idx, z = y := ⟨y, rfl⟩
  blk_simp
  rw [after0_5]
  exact newM_block m c t y

/-- What a grid point leaves of the new second moment. -/
theorem newV_block (y : S1x1024x352.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S4x1024x352.Idx => newV (gs m c i) (vs m c i) := by
  refine (dats m 0 c).arrAt_eq_of_covers 6 _ (by decide +kernel) fun t hf y => ?_
  obtain ⟨y, rfl⟩ : ∃ z : S1x1024x352.Idx, z = y := ⟨y, rfl⟩
  blk_simp
  rw [after0_6]
  exact newV_block m c t y

theorem V_main_v0 : V m c main_v0 = shapeCast S4x1024x352 (a0 m c) shapeCasts_S2x2x1024x352_S4x1024x352 := by
  unfold V V0
  simp only [hostOps0, List.flatten_cons, List.flatten_nil, List.cons_append, List.nil_append]
  after_results_simp
  rfl

theorem ws_at (i : S2x2x1024x352.Idx) : ws m c (at3 i) = a0 m c i :=
  (congrFun (V_main_v0 m c) _).trans (congrFun (shapeCast_shapeCast (a0 m c) shapeCasts_S2x2x1024x352_S4x1024x352 shapeCasts_S4x1024x352_S2x2x1024x352) i)

theorem V_main_v1 : V m c main_v1 = shapeCast S4x1024x352 (a1 m c) shapeCasts_S2x2x1024x352_S4x1024x352 := by
  unfold V V0
  simp only [hostOps0, List.flatten_cons, List.flatten_nil, List.cons_append, List.nil_append]
  after_results_simp
  rfl

theorem gs_at (i : S2x2x1024x352.Idx) : gs m c (at3 i) = a1 m c i :=
  (congrFun (V_main_v1 m c) _).trans (congrFun (shapeCast_shapeCast (a1 m c) shapeCasts_S2x2x1024x352_S4x1024x352 shapeCasts_S4x1024x352_S2x2x1024x352) i)

theorem V_main_v2 : V m c main_v2 = shapeCast S4x1024x352 (a2 m c) shapeCasts_S2x2x1024x352_S4x1024x352 := by
  unfold V V0
  simp only [hostOps0, List.flatten_cons, List.flatten_nil, List.cons_append, List.nil_append]
  after_results_simp
  rfl

theorem ms_at (i : S2x2x1024x352.Idx) : ms m c (at3 i) = a2 m c i :=
  (congrFun (V_main_v2 m c) _).trans (congrFun (shapeCast_shapeCast (a2 m c) shapeCasts_S2x2x1024x352_S4x1024x352 shapeCasts_S4x1024x352_S2x2x1024x352) i)

theorem V_main_v3 : V m c main_v3 = shapeCast S4x1024x352 (a3 m c) shapeCasts_S2x2x1024x352_S4x1024x352 := by
  unfold V V0
  simp only [hostOps0, List.flatten_cons, List.flatten_nil, List.cons_append, List.nil_append]
  after_results_simp
  rfl

theorem vs_at (i : S2x2x1024x352.Idx) : vs m c (at3 i) = a3 m c i :=
  (congrFun (V_main_v3 m c) _).trans (congrFun (shapeCast_shapeCast (a3 m c) shapeCasts_S2x2x1024x352_S4x1024x352 shapeCasts_S4x1024x352_S2x2x1024x352) i)

/-- A result after the lines that follow the region: the region's array, reshaped. -/
theorem cast0 (W : Valuation τ sig (Elt Ideal)) : StableHlo.after [hostOps1].flatten W (Proc.devRef .tc main_v5) = shapeCast S2x2x1024x352 (W (Proc.devRef .tc main_v4_0) : Vec Ideal S4x1024x352 .f32) shapeCasts_S4x1024x352_S2x2x1024x352 := by
  simp only [hostOps1, List.flatten_cons, List.flatten_nil, List.cons_append, List.nil_append]
  after_results_simp
  rfl

theorem tail0 : Pipeline.afterTail₀ cfgs (dats m) 0 (V0 m) [hostOps1] c main_v5 = (fun i : S2x2x1024x352.Idx => delta (a0 m c i) (a1 m c i) (a2 m c i) (a3 m c i)) := by
  refine (cast0 _).trans ?_
  refine (congrArg (fun a => shapeCast S2x2x1024x352 a shapeCasts_S4x1024x352_S2x2x1024x352) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S2x2x1024x352 (W (Proc.devRef .tc main_v4_1) : Vec Ideal S4x1024x352 .f32) shapeCasts_S4x1024x352_S2x2x1024x352 := by
  simp only [hostOps1, List.flatten_cons, List.flatten_nil, List.cons_append, List.nil_append]
  after_results_simp
  rfl

theorem tail1 : Pipeline.afterTail₀ cfgs (dats m) 0 (V0 m) [hostOps1] c main_v6 = (fun i : S2x2x1024x352.Idx => newM (a1 m c i) (a2 m c i)) := by
  refine (cast1 _).trans ?_
  refine (congrArg (fun a => shapeCast S2x2x1024x352 a shapeCasts_S4x1024x352_S2x2x1024x352) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S2x2x1024x352 (W (Proc.devRef .tc main_v4_2) : Vec Ideal S4x1024x352 .f32) shapeCasts_S4x1024x352_S2x2x1024x352 := by
  simp only [hostOps1, List.flatten_cons, List.flatten_nil, List.cons_append, List.nil_append]
  after_results_simp
  rfl

theorem tail2 : Pipeline.afterTail₀ cfgs (dats m) 0 (V0 m) [hostOps1] c main_v7 = (fun i : S2x2x1024x352.Idx => newV (a1 m c i) (a3 m c i)) := by
  refine (cast2 _).trans ?_
  refine (congrArg (fun a => shapeCast S2x2x1024x352 a shapeCasts_S4x1024x352_S2x2x1024x352) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S2x2x1024x352.Idx => delta (a0 m c i) (a1 m c i) (a2 m c i) (a3 m c i))
      ∧ r.2.mem ((c.tc : Thread nD τ).loc main_v6) = (fun i : S2x2x1024x352.Idx => newM (a1 m c i) (a2 m c i))
      ∧ r.2.mem ((c.tc : Thread nD τ).loc main_v7) = (fun i : S2x2x1024x352.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel9Ideal.Value

namespace Cert.Reference9Ideal.Value

open Cert.Adam Cert.Reference9Ideal Cert.Reference9Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S2x2x1024x352.Idx => delta ((m ((c.tc : Thread nD τ).loc main_arg0) : Vec Ideal S2x2x1024x352 .f32) i) ((m ((c.tc : Thread nD τ).loc main_arg1) : Vec Ideal S2x2x1024x352 .f32) i) ((m ((c.tc : Thread nD τ).loc main_arg2) : Vec Ideal S2x2x1024x352 .f32) i) ((m ((c.tc : Thread nD τ).loc main_arg3) : Vec Ideal S2x2x1024x352 .f32) i))
      ∧ r.2.mem ((c.tc : Thread nD τ).loc main_v4) = (fun i : S2x2x1024x352.Idx => newM ((m ((c.tc : Thread nD τ).loc main_arg1) : Vec Ideal S2x2x1024x352 .f32) i) ((m ((c.tc : Thread nD τ).loc main_arg2) : Vec Ideal S2x2x1024x352 .f32) i))
      ∧ r.2.mem ((c.tc : Thread nD τ).loc main_v10) = (fun i : S2x2x1024x352.Idx => newV ((m ((c.tc : Thread nD τ).loc main_arg1) : Vec Ideal S2x2x1024x352 .f32) i) ((m ((c.tc : Thread nD τ).loc main_arg3) : Vec Ideal S2x2x1024x352 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference9Ideal.Value

/-- The call and the reference take one step: from equal arguments they end with equal results. -/
theorem Cert.algebraic9 : Cert.algebraic_Kernel9Ideal_Reference9Ideal := by
  intro m g m' g' _ hagree
  refine ⟨_, _, _, Cert.Kernel9Ideal.Value.run_entries m g, ?_⟩
  refine (Idealize.ShloMosaic.θ_run _ _ _).mono (fun r h c => ?_) (Cert.Reference9Ideal.Value.run_entries m' g')
  obtain ⟨e0, e1, e2, e3, e4⟩ := hagree c
  have := h c
  simp only [Cert.Kernel9Ideal.Value.a0, Cert.Kernel9Ideal.Value.a1, Cert.Kernel9Ideal.Value.a2, Cert.Kernel9Ideal.Value.a3, e0, e1, e2, e3, e4] at this ⊢
  exact this

end
-- ==== Proof.Adam10.lean ====
/-
  AdamW's call on one device's part of ffn_w_down, and its reference.
-/
module

public import proofs.«01_k».proof.Proof.Gen.Kernel10.Frame
public import proofs.«01_k».proof.Proof.Gen.Kernel10Ideal.Frame
public import proofs.«01_k».proof.Proof.Gen.Reference10Ideal.Run
public import proofs.«01_k».proof.Defs
public import proofs.«01_k».proof.Proof.Adam
public import Idealize.ShloMosaic.Lib.Quiescent

@[expose] public section

set_option maxRecDepth 16384

noncomputable section

namespace Cert.Kernel10Ideal.Value

open Cert.Adam Cert.Kernel10Ideal Cert.Kernel10Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S2x2x352x1024 .f32 := m ((c.tc : Thread nD τ).loc main_arg0)
abbrev a1 : Vec Ideal S2x2x352x1024 .f32 := m ((c.tc : Thread nD τ).loc main_arg1)
abbrev a2 : Vec Ideal S2x2x352x1024 .f32 := m ((c.tc : Thread nD τ).loc main_arg2)
abbrev a3 : Vec Ideal S2x2x352x1024 .f32 := m ((c.tc : Thread nD τ).loc main_arg3)

/-- An entry's place in the array of rank three. -/
abbrev at3 (i : S2x2x352x1024.Idx) : S4x352x1024.Idx := Shape.reshapeEquiv shapeCasts_S4x352x1024_S2x2x352x1024 i

/-- The weight, the gradient and the two moments as the region finds them. -/
abbrev ws : Vec Ideal S4x352x1024 .f32 := V m c main_v0
abbrev gs : Vec Ideal S4x352x1024 .f32 := V m c main_v1
abbrev ms : Vec Ideal S4x352x1024 .f32 := V m c main_v2
abbrev vs : Vec Ideal S4x352x1024 .f32 := V m c main_v3

/-- The blocks of the four a grid point reads. -/
abbrev wBlk : Vec Ideal S1x352x1024 .f32 := iblk m c 0 t
abbrev gBlk : Vec Ideal S1x352x1024 .f32 := iblk m c 1 t
abbrev mBlk : Vec Ideal S1x352x1024 .f32 := iblk m c 2 t
abbrev vBlk : Vec Ideal S1x352x1024 .f32 := iblk m c 3 t

/-- What a grid point leaves of the weight's change. -/
theorem delta_block (y : S1x352x1024.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S4x352x1024.Idx => delta (ws m c i) (gs m c i) (ms m c i) (vs m c i) := by
  refine (dats m 0 c).arrAt_eq_of_covers 4 _ (by decide +kernel) fun t hf y => ?_
  obtain ⟨y, rfl⟩ : ∃ z : S1x352x1024.Idx, z = y := ⟨y, rfl⟩
  blk_simp
  rw [after0_4]
  exact delta_block m c t y

/-- What a grid point leaves of the new first moment. -/
theorem newM_block (y : S1x352x1024.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S4x352x1024.Idx => newM (gs m c i) (ms m c i) := by
  refine (dats m 0 c).arrAt_eq_of_covers 5 _ (by decide +kernel) fun t hf y => ?_
  obtain ⟨y, rfl⟩ : ∃ z : S1x352x1024.Idx, z = y := ⟨y, rfl⟩
  blk_simp
  rw [after0_5]
  exact newM_block m c t y

/-- What a grid point leaves of the new second moment. -/
theorem newV_block (y : S1x352x1024.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S4x352x1024.Idx => newV (gs m c i) (vs m c i) := by
  refine (dats m 0 c).arrAt_eq_of_covers 6 _ (by decide +kernel) fun t hf y => ?_
  obtain ⟨y, rfl⟩ : ∃ z : S1x352x1024.Idx, z = y := ⟨y, rfl⟩
  blk_simp
  rw [after0_6]
  exact newV_block m c t y

theorem V_main_v0 : V m c main_v0 = shapeCast S4x352x1024 (a0 m c) shapeCasts_S2x2x352x1024_S4x352x1024 := by
  unfold V V0
  simp only [hostOps0, List.flatten_cons, List.flatten_nil, List.cons_append, List.nil_append]
  after_results_simp
  rfl

theorem ws_at (i : S2x2x352x1024.Idx) : ws m c (at3 i) = a0 m c i :=
  (congrFun (V_main_v0 m c) _).trans (congrFun (shapeCast_shapeCast (a0 m c) shapeCasts_S2x2x352x1024_S4x352x1024 shapeCasts_S4x352x1024_S2x2x352x1024) i)

theorem V_main_v1 : V m c main_v1 = shapeCast S4x352x1024 (a1 m c) shapeCasts_S2x2x352x1024_S4x352x1024 := by
  unfold V V0
  simp only [hostOps0, List.flatten_cons, List.flatten_nil, List.cons_append, List.nil_append]
  after_results_simp
  rfl

theorem gs_at (i : S2x2x352x1024.Idx) : gs m c (at3 i) = a1 m c i :=
  (congrFun (V_main_v1 m c) _).trans (congrFun (shapeCast_shapeCast (a1 m c) shapeCasts_S2x2x352x1024_S4x352x1024 shapeCasts_S4x352x1024_S2x2x352x1024) i)

theorem V_main_v2 : V m c main_v2 = shapeCast S4x352x1024 (a2 m c) shapeCasts_S2x2x352x1024_S4x352x1024 := by
  unfold V V0
  simp only [hostOps0, List.flatten_cons, List.flatten_nil, List.cons_append, List.nil_append]
  after_results_simp
  rfl

theorem ms_at (i : S2x2x352x1024.Idx) : ms m c (at3 i) = a2 m c i :=
  (congrFun (V_main_v2 m c) _).trans (congrFun (shapeCast_shapeCast (a2 m c) shapeCasts_S2x2x352x1024_S4x352x1024 shapeCasts_S4x352x1024_S2x2x352x1024) i)

theorem V_main_v3 : V m c main_v3 = shapeCast S4x352x1024 (a3 m c) shapeCasts_S2x2x352x1024_S4x352x1024 := by
  unfold V V0
  simp only [hostOps0, List.flatten_cons, List.flatten_nil, List.cons_append, List.nil_append]
  after_results_simp
  rfl

theorem vs_at (i : S2x2x352x1024.Idx) : vs m c (at3 i) = a3 m c i :=
  (congrFun (V_main_v3 m c) _).trans (congrFun (shapeCast_shapeCast (a3 m c) shapeCasts_S2x2x352x1024_S4x352x1024 shapeCasts_S4x352x1024_S2x2x352x1024) i)

/-- A result after the lines that follow the region: the region's array, reshaped. -/
theorem cast0 (W : Valuation τ sig (Elt Ideal)) : StableHlo.after [hostOps1].flatten W (Proc.devRef .tc main_v5) = shapeCast S2x2x352x1024 (W (Proc.devRef .tc main_v4_0) : Vec Ideal S4x352x1024 .f32) shapeCasts_S4x352x1024_S2x2x352x1024 := by
  simp only [hostOps1, List.flatten_cons, List.flatten_nil, List.cons_append, List.nil_append]
  after_results_simp
  rfl

theorem tail0 : Pipeline.afterTail₀ cfgs (dats m) 0 (V0 m) [hostOps1] c main_v5 = (fun i : S2x2x352x1024.Idx => delta (a0 m c i) (a1 m c i) (a2 m c i) (a3 m c i)) := by
  refine (cast0 _).trans ?_
  refine (congrArg (fun a => shapeCast S2x2x352x1024 a shapeCasts_S4x352x1024_S2x2x352x1024) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S2x2x352x1024 (W (Proc.devRef .tc main_v4_1) : Vec Ideal S4x352x1024 .f32) shapeCasts_S4x352x1024_S2x2x352x1024 := by
  simp only [hostOps1, List.flatten_cons, List.flatten_nil, List.cons_append, List.nil_append]
  after_results_simp
  rfl

theorem tail1 : Pipeline.afterTail₀ cfgs (dats m) 0 (V0 m) [hostOps1] c main_v6 = (fun i : S2x2x352x1024.Idx => newM (a1 m c i) (a2 m c i)) := by
  refine (cast1 _).trans ?_
  refine (congrArg (fun a => shapeCast S2x2x352x1024 a shapeCasts_S4x352x1024_S2x2x352x1024) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S2x2x352x1024 (W (Proc.devRef .tc main_v4_2) : Vec Ideal S4x352x1024 .f32) shapeCasts_S4x352x1024_S2x2x352x1024 := by
  simp only [hostOps1, List.flatten_cons, List.flatten_nil, List.cons_append, List.nil_append]
  after_results_simp
  rfl

theorem tail2 : Pipeline.afterTail₀ cfgs (dats m) 0 (V0 m) [hostOps1] c main_v7 = (fun i : S2x2x352x1024.Idx => newV (a1 m c i) (a3 m c i)) := by
  refine (cast2 _).trans ?_
  refine (congrArg (fun a => shapeCast S2x2x352x1024 a shapeCasts_S4x352x1024_S2x2x352x1024) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S2x2x352x1024.Idx => delta (a0 m c i) (a1 m c i) (a2 m c i) (a3 m c i))
      ∧ r.2.mem ((c.tc : Thread nD τ).loc main_v6) = (fun i : S2x2x352x1024.Idx => newM (a1 m c i) (a2 m c i))
      ∧ r.2.mem ((c.tc : Thread nD τ).loc main_v7) = (fun i : S2x2x352x1024.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel10Ideal.Value

namespace Cert.Reference10Ideal.Value

open Cert.Adam Cert.Reference10Ideal Cert.Reference10Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S2x2x352x1024.Idx => delta ((m ((c.tc : Thread nD τ).loc main_arg0) : Vec Ideal S2x2x352x1024 .f32) i) ((m ((c.tc : Thread nD τ).loc main_arg1) : Vec Ideal S2x2x352x1024 .f32) i) ((m ((c.tc : Thread nD τ).loc main_arg2) : Vec Ideal S2x2x352x1024 .f32) i) ((m ((c.tc : Thread nD τ).loc main_arg3) : Vec Ideal S2x2x352x1024 .f32) i))
      ∧ r.2.mem ((c.tc : Thread nD τ).loc main_v4) = (fun i : S2x2x352x1024.Idx => newM ((m ((c.tc : Thread nD τ).loc main_arg1) : Vec Ideal S2x2x352x1024 .f32) i) ((m ((c.tc : Thread nD τ).loc main_arg2) : Vec Ideal S2x2x352x1024 .f32) i))
      ∧ r.2.mem ((c.tc : Thread nD τ).loc main_v10) = (fun i : S2x2x352x1024.Idx => newV ((m ((c.tc : Thread nD τ).loc main_arg1) : Vec Ideal S2x2x352x1024 .f32) i) ((m ((c.tc : Thread nD τ).loc main_arg3) : Vec Ideal S2x2x352x1024 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference10Ideal.Value

/-- The call and the reference take one step: from equal arguments they end with equal results. -/
theorem Cert.algebraic10 : Cert.algebraic_Kernel10Ideal_Reference10Ideal := by
  intro m g m' g' _ hagree
  refine ⟨_, _, _, Cert.Kernel10Ideal.Value.run_entries m g, ?_⟩
  refine (Idealize.ShloMosaic.θ_run _ _ _).mono (fun r h c => ?_) (Cert.Reference10Ideal.Value.run_entries m' g')
  obtain ⟨e0, e1, e2, e3, e4⟩ := hagree c
  have := h c
  simp only [Cert.Kernel10Ideal.Value.a0, Cert.Kernel10Ideal.Value.a1, Cert.Kernel10Ideal.Value.a2, Cert.Kernel10Ideal.Value.a3, e0, e1, e2, e3, e4] at this ⊢
  exact this

end
-- ==== Proof.Adam11.lean ====
/-
  AdamW's call on one device's part of mix_ab_w_in, and its reference.
-/
module

public import proofs.«01_k».proof.Proof.Gen.Kernel11.Frame
public import proofs.«01_k».proof.Proof.Gen.Kernel11Ideal.Value
public import proofs.«01_k».proof.Proof.Gen.Reference11Ideal.Run
public import proofs.«01_k».proof.Defs
public import proofs.«01_k».proof.Proof.Adam
public import Idealize.ShloMosaic.Lib.Quiescent

@[expose] public section

set_option maxRecDepth 16384

noncomputable section

namespace Cert.Kernel11Ideal.Value

open Cert.Adam Cert.Kernel11Ideal Cert.Kernel11Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S1x1024x160 .f32 := V m c main_arg0
abbrev gs : Vec Ideal S1x1024x160 .f32 := V m c main_arg1
abbrev ms : Vec Ideal S1x1024x160 .f32 := V m c main_arg2
abbrev vs : Vec Ideal S1x1024x160 .f32 := V m c main_arg3

/-- The blocks of the four a grid point reads. -/
abbrev wBlk : Vec Ideal S1x1024x160 .f32 := iblk m c 0 t
abbrev gBlk : Vec Ideal S1x1024x160 .f32 := iblk m c 1 t
abbrev mBlk : Vec Ideal S1x1024x160 .f32 := iblk m c 2 t
abbrev vBlk : Vec Ideal S1x1024x160 .f32 := iblk m c 3 t

/-- What a grid point leaves of the weight's change. -/
theorem delta_block (y : S1x1024x160.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S1x1024x160.Idx => delta (ws m c i) (gs m c i) (ms m c i) (vs m c i) := by
  refine (dats m 0 c).arrAt_eq_of_covers 4 _ (by decide +kernel) fun t hf y => ?_
  obtain ⟨y, rfl⟩ : ∃ z : S1x1024x160.Idx, z = y := ⟨y, rfl⟩
  blk_simp
  rw [after0_4]
  exact delta_block m c t y

/-- What a grid point leaves of the new first moment. -/
theorem newM_block (y : S1x1024x160.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S1x1024x160.Idx => newM (gs m c i) (ms m c i) := by
  refine (dats m 0 c).arrAt_eq_of_covers 5 _ (by decide +kernel) fun t hf y => ?_
  obtain ⟨y, rfl⟩ : ∃ z : S1x1024x160.Idx, z = y := ⟨y, rfl⟩
  blk_simp
  rw [after0_5]
  exact newM_block m c t y

/-- What a grid point leaves of the new second moment. -/
theorem newV_block (y : S1x1024x160.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S1x1024x160.Idx => newV (gs m c i) (vs m c i) := by
  refine (dats m 0 c).arrAt_eq_of_covers 6 _ (by decide +kernel) fun t hf y => ?_
  obtain ⟨y, rfl⟩ : ∃ z : S1x1024x160.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S1x1024x160.Idx => delta ((m ((c.tc : Thread nD τ).loc main_arg0) : Vec Ideal S1x1024x160 .f32) i) ((m ((c.tc : Thread nD τ).loc main_arg1) : Vec Ideal S1x1024x160 .f32) i) ((m ((c.tc : Thread nD τ).loc main_arg2) : Vec Ideal S1x1024x160 .f32) i) ((m ((c.tc : Thread nD τ).loc main_arg3) : Vec Ideal S1x1024x160 .f32) i))
      ∧ r.2.mem ((c.tc : Thread nD τ).loc main_v0_1) = (fun i : S1x1024x160.Idx => newM ((m ((c.tc : Thread nD τ).loc main_arg1) : Vec Ideal S1x1024x160 .f32) i) ((m ((c.tc : Thread nD τ).loc main_arg2) : Vec Ideal S1x1024x160 .f32) i))
      ∧ r.2.mem ((c.tc : Thread nD τ).loc main_v0_2) = (fun i : S1x1024x160.Idx => newV ((m ((c.tc : Thread nD τ).loc main_arg1) : Vec Ideal S1x1024x160 .f32) i) ((m ((c.tc : Thread nD τ).loc main_arg3) : Vec Ideal S1x1024x160 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel11Ideal.Value

namespace Cert.Reference11Ideal.Value

open Cert.Adam Cert.Reference11Ideal Cert.Reference11Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x1024x160.Idx => delta ((m ((c.tc : Thread nD τ).loc main_arg0) : Vec Ideal S1x1024x160 .f32) i) ((m ((c.tc : Thread nD τ).loc main_arg1) : Vec Ideal S1x1024x160 .f32) i) ((m ((c.tc : Thread nD τ).loc main_arg2) : Vec Ideal S1x1024x160 .f32) i) ((m ((c.tc : Thread nD τ).loc main_arg3) : Vec Ideal S1x1024x160 .f32) i))
      ∧ r.2.mem ((c.tc : Thread nD τ).loc main_v4) = (fun i : S1x1024x160.Idx => newM ((m ((c.tc : Thread nD τ).loc main_arg1) : Vec Ideal S1x1024x160 .f32) i) ((m ((c.tc : Thread nD τ).loc main_arg2) : Vec Ideal S1x1024x160 .f32) i))
      ∧ r.2.mem ((c.tc : Thread nD τ).loc main_v10) = (fun i : S1x1024x160.Idx => newV ((m ((c.tc : Thread nD τ).loc main_arg1) : Vec Ideal S1x1024x160 .f32) i) ((m ((c.tc : Thread nD τ).loc main_arg3) : Vec Ideal S1x1024x160 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference11Ideal.Value

/-- The call and the reference take one step: from equal arguments they end with equal results. -/
theorem Cert.algebraic11 : Cert.algebraic_Kernel11Ideal_Reference11Ideal := by
  intro m g m' g' _ hagree
  refine ⟨_, _, _, Cert.Kernel11Ideal.Value.run_entries m g, ?_⟩
  refine (Idealize.ShloMosaic.θ_run _ _ _).mono (fun r h c => ?_) (Cert.Reference11Ideal.Value.run_entries m' g')
  obtain ⟨e0, e1, e2, e3, e4⟩ := hagree c
  have := h c
  simp only [e0, e1, e2, e3, e4] at this ⊢
  exact this

end
-- ==== Proof.Adam12.lean ====
/-
  AdamW's call on one device's part of mix_ab_w_out and of lru_w_out, and its reference.
-/
module

public import proofs.«01_k».proof.Proof.Gen.Kernel12.Frame
public import proofs.«01_k».proof.Proof.Gen.Kernel12Ideal.Value
public import proofs.«01_k».proof.Proof.Gen.Reference12Ideal.Run
public import proofs.«01_k».proof.Defs
public import proofs.«01_k».proof.Proof.Adam
public import Idealize.ShloMosaic.Lib.Quiescent

@[expose] public section

set_option maxRecDepth 16384

noncomputable section

namespace Cert.Kernel12Ideal.Value

open Cert.Adam Cert.Kernel12Ideal Cert.Kernel12Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S1x128x1024 .f32 := V m c main_arg0
abbrev gs : Vec Ideal S1x128x1024 .f32 := V m c main_arg1
abbrev ms : Vec Ideal S1x128x1024 .f32 := V m c main_arg2
abbrev vs : Vec Ideal S1x128x1024 .f32 := V m c main_arg3

/-- The blocks of the four a grid point reads. -/
abbrev wBlk : Vec Ideal S1x128x1024 .f32 := iblk m c 0 t
abbrev gBlk : Vec Ideal S1x128x1024 .f32 := iblk m c 1 t
abbrev mBlk : Vec Ideal S1x128x1024 .f32 := iblk m c 2 t
abbrev vBlk : Vec Ideal S1x128x1024 .f32 := iblk m c 3 t

/-- What a grid point leaves of the weight's change. -/
theorem delta_block (y : S1x128x1024.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S1x128x1024.Idx => delta (ws m c i) (gs m c i) (ms m c i) (vs m c i) := by
  refine (dats m 0 c).arrAt_eq_of_covers 4 _ (by decide +kernel) fun t hf y => ?_
  obtain ⟨y, rfl⟩ : ∃ z : S1x128x1024.Idx, z = y := ⟨y, rfl⟩
  blk_simp
  rw [after0_4]
  exact delta_block m c t y

/-- What a grid point leaves of the new first moment. -/
theorem newM_block (y : S1x128x1024.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S1x128x1024.Idx => newM (gs m c i) (ms m c i) := by
  refine (dats m 0 c).arrAt_eq_of_covers 5 _ (by decide +kernel) fun t hf y => ?_
  obtain ⟨y, rfl⟩ : ∃ z : S1x128x1024.Idx, z = y := ⟨y, rfl⟩
  blk_simp
  rw [after0_5]
  exact newM_block m c t y

/-- What a grid point leaves of the new second moment. -/
theorem newV_block (y : S1x128x1024.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S1x128x1024.Idx => newV (gs m c i) (vs m c i) := by
  refine (dats m 0 c).arrAt_eq_of_covers 6 _ (by decide +kernel) fun t hf y => ?_
  obtain ⟨y, rfl⟩ : ∃ z : S1x128x1024.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S1x128x1024.Idx => delta ((m ((c.tc : Thread nD τ).loc main_arg0) : Vec Ideal S1x128x1024 .f32) i) ((m ((c.tc : Thread nD τ).loc main_arg1) : Vec Ideal S1x128x1024 .f32) i) ((m ((c.tc : Thread nD τ).loc main_arg2) : Vec Ideal S1x128x1024 .f32) i) ((m ((c.tc : Thread nD τ).loc main_arg3) : Vec Ideal S1x128x1024 .f32) i))
      ∧ r.2.mem ((c.tc : Thread nD τ).loc main_v0_1) = (fun i : S1x128x1024.Idx => newM ((m ((c.tc : Thread nD τ).loc main_arg1) : Vec Ideal S1x128x1024 .f32) i) ((m ((c.tc : Thread nD τ).loc main_arg2) : Vec Ideal S1x128x1024 .f32) i))
      ∧ r.2.mem ((c.tc : Thread nD τ).loc main_v0_2) = (fun i : S1x128x1024.Idx => newV ((m ((c.tc : Thread nD τ).loc main_arg1) : Vec Ideal S1x128x1024 .f32) i) ((m ((c.tc : Thread nD τ).loc main_arg3) : Vec Ideal S1x128x1024 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel12Ideal.Value

namespace Cert.Reference12Ideal.Value

open Cert.Adam Cert.Reference12Ideal Cert.Reference12Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x128x1024.Idx => delta ((m ((c.tc : Thread nD τ).loc main_arg0) : Vec Ideal S1x128x1024 .f32) i) ((m ((c.tc : Thread nD τ).loc main_arg1) : Vec Ideal S1x128x1024 .f32) i) ((m ((c.tc : Thread nD τ).loc main_arg2) : Vec Ideal S1x128x1024 .f32) i) ((m ((c.tc : Thread nD τ).loc main_arg3) : Vec Ideal S1x128x1024 .f32) i))
      ∧ r.2.mem ((c.tc : Thread nD τ).loc main_v4) = (fun i : S1x128x1024.Idx => newM ((m ((c.tc : Thread nD τ).loc main_arg1) : Vec Ideal S1x128x1024 .f32) i) ((m ((c.tc : Thread nD τ).loc main_arg2) : Vec Ideal S1x128x1024 .f32) i))
      ∧ r.2.mem ((c.tc : Thread nD τ).loc main_v10) = (fun i : S1x128x1024.Idx => newV ((m ((c.tc : Thread nD τ).loc main_arg1) : Vec Ideal S1x128x1024 .f32) i) ((m ((c.tc : Thread nD τ).loc main_arg3) : Vec Ideal S1x128x1024 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference12Ideal.Value

/-- The call and the reference take one step: from equal arguments they end with equal results. -/
theorem Cert.algebraic12 : Cert.algebraic_Kernel12Ideal_Reference12Ideal := by
  intro m g m' g' _ hagree
  refine ⟨_, _, _, Cert.Kernel12Ideal.Value.run_entries m g, ?_⟩
  refine (Idealize.ShloMosaic.θ_run _ _ _).mono (fun r h c => ?_) (Cert.Reference12Ideal.Value.run_entries m' g')
  obtain ⟨e0, e1, e2, e3, e4⟩ := hagree c
  have := h c
  simp only [e0, e1, e2, e3, e4] at this ⊢
  exact this

end
-- ==== Proof.Adam13.lean ====
/-
  AdamW's call on one device's part of lru_w_in, and its reference.
-/
module

public import proofs.«01_k».proof.Proof.Gen.Kernel13.Frame
public import proofs.«01_k».proof.Proof.Gen.Kernel13Ideal.Value
public import proofs.«01_k».proof.Proof.Gen.Reference13Ideal.Run
public import proofs.«01_k».proof.Defs
public import proofs.«01_k».proof.Proof.Adam
public import Idealize.ShloMosaic.Lib.Quiescent

@[expose] public section

set_option maxRecDepth 16384

noncomputable section

namespace Cert.Kernel13Ideal.Value

open Cert.Adam Cert.Kernel13Ideal Cert.Kernel13Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S1x1024x256 .f32 := V m c main_arg0
abbrev gs : Vec Ideal S1x1024x256 .f32 := V m c main_arg1
abbrev ms : Vec Ideal S1x1024x256 .f32 := V m c main_arg2
abbrev vs : Vec Ideal S1x1024x256 .f32 := V m c main_arg3

/-- The blocks of the four a grid point reads. -/
abbrev wBlk : Vec Ideal S1x1024x256 .f32 := iblk m c 0 t
abbrev gBlk : Vec Ideal S1x1024x256 .f32 := iblk m c 1 t
abbrev mBlk : Vec Ideal S1x1024x256 .f32 := iblk m c 2 t
abbrev vBlk : Vec Ideal S1x1024x256 .f32 := iblk m c 3 t

/-- What a grid point leaves of the weight's change. -/
theorem delta_block (y : S1x1024x256.Idx) : (outsAt0 m c t).1 y = delta (wBlk m c t y) (gBlk m c t y) (mBlk m c t y) (vBlk m c t y) := by
  unfold outsAt0
  frame_out
  unfold_payloads
  idx_vars y
  obtain rfl : y0 = 0 := Subsingleton.elim _ _
  pointwise
  rfl

theorem arr4 : (dats m 0 c).arrAt 4 cfg0.N = fun i : S1x1024x256.Idx => delta (ws m c i) (gs m c i) (ms m c i) (vs m c i) := by
  refine (dats m 0 c).arrAt_eq_of_covers 4 _ (by decide +kernel) fun t hf y => ?_
  obtain ⟨y, rfl⟩ : ∃ z : S1x1024x256.Idx, z = y := ⟨y, rfl⟩
  blk_simp
  rw [after0_4]
  exact delta_block m c t y

/-- What a grid point leaves of the new first moment. -/
theorem newM_block (y : S1x1024x256.Idx) : (outsAt0 m c t).2.1 y = newM (gBlk m c t y) (mBlk m c t y) := by
  unfold outsAt0
  frame_out
  unfold_payloads
  idx_vars y
  obtain rfl : y0 = 0 := Subsingleton.elim _ _
  pointwise
  rfl

theorem arr5 : (dats m 0 c).arrAt 5 cfg0.N = fun i : S1x1024x256.Idx => newM (gs m c i) (ms m c i) := by
  refine (dats m 0 c).arrAt_eq_of_covers 5 _ (by decide +kernel) fun t hf y => ?_
  obtain ⟨y, rfl⟩ : ∃ z : S1x1024x256.Idx, z = y := ⟨y, rfl⟩
  blk_simp
  rw [after0_5]
  exact newM_block m c t y

/-- What a grid point leaves of the new second moment. -/
theorem newV_block (y : S1x1024x256.Idx) : (outsAt0 m c t).2.2 y = newV (gBlk m c t y) (vBlk m c t y) := by
  unfold outsAt0
  frame_out
  unfold_payloads
  idx_vars y
  obtain rfl : y0 = 0 := Subsingleton.elim _ _
  pointwise
  rfl

theorem arr6 : (dats m 0 c).arrAt 6 cfg0.N = fun i : S1x1024x256.Idx => newV (gs m c i) (vs m c i) := by
  refine (dats m 0 c).arrAt_eq_of_covers 6 _ (by decide +kernel) fun t hf y => ?_
  obtain ⟨y, rfl⟩ : ∃ z : S1x1024x256.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S1x1024x256.Idx => delta ((m ((c.tc : Thread nD τ).loc main_arg0) : Vec Ideal S1x1024x256 .f32) i) ((m ((c.tc : Thread nD τ).loc main_arg1) : Vec Ideal S1x1024x256 .f32) i) ((m ((c.tc : Thread nD τ).loc main_arg2) : Vec Ideal S1x1024x256 .f32) i) ((m ((c.tc : Thread nD τ).loc main_arg3) : Vec Ideal S1x1024x256 .f32) i))
      ∧ r.2.mem ((c.tc : Thread nD τ).loc main_v0_1) = (fun i : S1x1024x256.Idx => newM ((m ((c.tc : Thread nD τ).loc main_arg1) : Vec Ideal S1x1024x256 .f32) i) ((m ((c.tc : Thread nD τ).loc main_arg2) : Vec Ideal S1x1024x256 .f32) i))
      ∧ r.2.mem ((c.tc : Thread nD τ).loc main_v0_2) = (fun i : S1x1024x256.Idx => newV ((m ((c.tc : Thread nD τ).loc main_arg1) : Vec Ideal S1x1024x256 .f32) i) ((m ((c.tc : Thread nD τ).loc main_arg3) : Vec Ideal S1x1024x256 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel13Ideal.Value

namespace Cert.Reference13Ideal.Value

open Cert.Adam Cert.Reference13Ideal Cert.Reference13Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x1024x256.Idx => delta ((m ((c.tc : Thread nD τ).loc main_arg0) : Vec Ideal S1x1024x256 .f32) i) ((m ((c.tc : Thread nD τ).loc main_arg1) : Vec Ideal S1x1024x256 .f32) i) ((m ((c.tc : Thread nD τ).loc main_arg2) : Vec Ideal S1x1024x256 .f32) i) ((m ((c.tc : Thread nD τ).loc main_arg3) : Vec Ideal S1x1024x256 .f32) i))
      ∧ r.2.mem ((c.tc : Thread nD τ).loc main_v4) = (fun i : S1x1024x256.Idx => newM ((m ((c.tc : Thread nD τ).loc main_arg1) : Vec Ideal S1x1024x256 .f32) i) ((m ((c.tc : Thread nD τ).loc main_arg2) : Vec Ideal S1x1024x256 .f32) i))
      ∧ r.2.mem ((c.tc : Thread nD τ).loc main_v10) = (fun i : S1x1024x256.Idx => newV ((m ((c.tc : Thread nD τ).loc main_arg1) : Vec Ideal S1x1024x256 .f32) i) ((m ((c.tc : Thread nD τ).loc main_arg3) : Vec Ideal S1x1024x256 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (run m ρ)

end Cert.Reference13Ideal.Value

/-- The call and the reference take one step: from equal arguments they end with equal results. -/
theorem Cert.algebraic13 : Cert.algebraic_Kernel13Ideal_Reference13Ideal := by
  intro m g m' g' _ hagree
  refine ⟨_, _, _, Cert.Kernel13Ideal.Value.run_entries m g, ?_⟩
  refine (Idealize.ShloMosaic.θ_run _ _ _).mono (fun r h c => ?_) (Cert.Reference13Ideal.Value.run_entries m' g')
  obtain ⟨e0, e1, e2, e3, e4⟩ := hagree c
  have := h c
  simp only [e0, e1, e2, e3, e4] at this ⊢
  exact this

end
-- ==== Proof.Adam14.lean ====
/-
  AdamW's call on the whole of c_ctx, and its reference.
-/
module

public import proofs.«01_k».proof.Proof.Gen.Kernel14.Frame
public import proofs.«01_k».proof.Proof.Gen.Kernel14Ideal.Frame
public import proofs.«01_k».proof.Proof.Gen.Reference14Ideal.Run
public import proofs.«01_k».proof.Defs
public import proofs.«01_k».proof.Proof.Adam
public import Idealize.ShloMosaic.Lib.Quiescent

@[expose] public section

set_option maxRecDepth 16384

noncomputable section

namespace Cert.Kernel14Ideal.Value

open Cert.Adam Cert.Kernel14Ideal Cert.Kernel14Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S1024 .f32 := m ((c.tc : Thread nD τ).loc main_arg0)
abbrev a1 : Vec Ideal S1024 .f32 := m ((c.tc : Thread nD τ).loc main_arg1)
abbrev a2 : Vec Ideal S1024 .f32 := m ((c.tc : Thread nD τ).loc main_arg2)
abbrev a3 : Vec Ideal S1024 .f32 := m ((c.tc : Thread nD τ).loc main_arg3)

/-- An entry's place in the array of rank three. -/
abbrev at3 (i : S1024.Idx) : S1x1x1024.Idx := Shape.reshapeEquiv shapeCasts_S1x1x1024_S1024 i

/-- The weight, the gradient and the two moments as the region finds them. -/
abbrev ws : Vec Ideal S1x1x1024 .f32 := V m c main_v0
abbrev gs : Vec Ideal S1x1x1024 .f32 := V m c main_v1
abbrev ms : Vec Ideal S1x1x1024 .f32 := V m c main_v2
abbrev vs : Vec Ideal S1x1x1024 .f32 := V m c main_v3

/-- The blocks of the four a grid point reads. -/
abbrev wBlk : Vec Ideal S1x1x1024 .f32 := iblk m c 0 t
abbrev gBlk : Vec Ideal S1x1x1024 .f32 := iblk m c 1 t
abbrev mBlk : Vec Ideal S1x1x1024 .f32 := iblk m c 2 t
abbrev vBlk : Vec Ideal S1x1x1024 .f32 := iblk m c 3 t

/-- What a grid point leaves of the weight's change. -/
theorem delta_block (y : S1x1x1024.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  obtain rfl : y1 = 0 := Subsingleton.elim _ _
  pointwise
  rfl

theorem arr4 : (dats m 0 c).arrAt 4 cfg0.N = fun i : S1x1x1024.Idx => delta (ws m c i) (gs m c i) (ms m c i) (vs m c i) := by
  refine (dats m 0 c).arrAt_eq_of_covers 4 _ (by decide +kernel) fun t hf y => ?_
  obtain ⟨y, rfl⟩ : ∃ z : S1x1x1024.Idx, z = y := ⟨y, rfl⟩
  blk_simp
  rw [after0_4]
  exact delta_block m c t y

/-- What a grid point leaves of the new first moment. -/
theorem newM_block (y : S1x1x1024.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  obtain rfl : y1 = 0 := Subsingleton.elim _ _
  pointwise
  rfl

theorem arr5 : (dats m 0 c).arrAt 5 cfg0.N = fun i : S1x1x1024.Idx => newM (gs m c i) (ms m c i) := by
  refine (dats m 0 c).arrAt_eq_of_covers 5 _ (by decide +kernel) fun t hf y => ?_
  obtain ⟨y, rfl⟩ : ∃ z : S1x1x1024.Idx, z = y := ⟨y, rfl⟩
  blk_simp
  rw [after0_5]
  exact newM_block m c t y

/-- What a grid point leaves of the new second moment. -/
theorem newV_block (y : S1x1x1024.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  obtain rfl : y1 = 0 := Subsingleton.elim _ _
  pointwise
  rfl

theorem arr6 : (dats m 0 c).arrAt 6 cfg0.N = fun i : S1x1x1024.Idx => newV (gs m c i) (vs m c i) := by
  refine (dats m 0 c).arrAt_eq_of_covers 6 _ (by decide +kernel) fun t hf y => ?_
  obtain ⟨y, rfl⟩ : ∃ z : S1x1x1024.Idx, z = y := ⟨y, rfl⟩
  blk_simp
  rw [after0_6]
  exact newV_block m c t y

theorem V_main_v0 : V m c main_v0 = shapeCast S1x1x1024 (a0 m c) shapeCasts_S1024_S1x1x1024 := by
  unfold V V0
  simp only [hostOps0, List.flatten_cons, List.flatten_nil, List.cons_append, List.nil_append]
  after_results_simp
  rfl

theorem ws_at (i : S1024.Idx) : ws m c (at3 i) = a0 m c i :=
  (congrFun (V_main_v0 m c) _).trans (congrFun (shapeCast_shapeCast (a0 m c) shapeCasts_S1024_S1x1x1024 shapeCasts_S1x1x1024_S1024) i)

theorem V_main_v1 : V m c main_v1 = shapeCast S1x1x1024 (a1 m c) shapeCasts_S1024_S1x1x1024 := by
  unfold V V0
  simp only [hostOps0, List.flatten_cons, List.flatten_nil, List.cons_append, List.nil_append]
  after_results_simp
  rfl

theorem gs_at (i : S1024.Idx) : gs m c (at3 i) = a1 m c i :=
  (congrFun (V_main_v1 m c) _).trans (congrFun (shapeCast_shapeCast (a1 m c) shapeCasts_S1024_S1x1x1024 shapeCasts_S1x1x1024_S1024) i)

theorem V_main_v2 : V m c main_v2 = shapeCast S1x1x1024 (a2 m c) shapeCasts_S1024_S1x1x1024 := by
  unfold V V0
  simp only [hostOps0, List.flatten_cons, List.flatten_nil, List.cons_append, List.nil_append]
  after_results_simp
  rfl

theorem ms_at (i : S1024.Idx) : ms m c (at3 i) = a2 m c i :=
  (congrFun (V_main_v2 m c) _).trans (congrFun (shapeCast_shapeCast (a2 m c) shapeCasts_S1024_S1x1x1024 shapeCasts_S1x1x1024_S1024) i)

theorem V_main_v3 : V m c main_v3 = shapeCast S1x1x1024 (a3 m c) shapeCasts_S1024_S1x1x1024 := by
  unfold V V0
  simp only [hostOps0, List.flatten_cons, List.flatten_nil, List.cons_append, List.nil_append]
  after_results_simp
  rfl

theorem vs_at (i : S1024.Idx) : vs m c (at3 i) = a3 m c i :=
  (congrFun (V_main_v3 m c) _).trans (congrFun (shapeCast_shapeCast (a3 m c) shapeCasts_S1024_S1x1x1024 shapeCasts_S1x1x1024_S1024) i)

/-- A result after the lines that follow the region: the region's array, reshaped. -/
theorem cast0 (W : Valuation τ sig (Elt Ideal)) : StableHlo.after [hostOps1].flatten W (Proc.devRef .tc main_v5) = shapeCast S1024 (W (Proc.devRef .tc main_v4_0) : Vec Ideal S1x1x1024 .f32) shapeCasts_S1x1x1024_S1024 := by
  simp only [hostOps1, List.flatten_cons, List.flatten_nil, List.cons_append, List.nil_append]
  after_results_simp
  rfl

theorem tail0 : Pipeline.afterTail₀ cfgs (dats m) 0 (V0 m) [hostOps1] c main_v5 = (fun i : S1024.Idx => delta (a0 m c i) (a1 m c i) (a2 m c i) (a3 m c i)) := by
  refine (cast0 _).trans ?_
  refine (congrArg (fun a => shapeCast S1024 a shapeCasts_S1x1x1024_S1024) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S1024 (W (Proc.devRef .tc main_v4_1) : Vec Ideal S1x1x1024 .f32) shapeCasts_S1x1x1024_S1024 := by
  simp only [hostOps1, List.flatten_cons, List.flatten_nil, List.cons_append, List.nil_append]
  after_results_simp
  rfl

theorem tail1 : Pipeline.afterTail₀ cfgs (dats m) 0 (V0 m) [hostOps1] c main_v6 = (fun i : S1024.Idx => newM (a1 m c i) (a2 m c i)) := by
  refine (cast1 _).trans ?_
  refine (congrArg (fun a => shapeCast S1024 a shapeCasts_S1x1x1024_S1024) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S1024 (W (Proc.devRef .tc main_v4_2) : Vec Ideal S1x1x1024 .f32) shapeCasts_S1x1x1024_S1024 := by
  simp only [hostOps1, List.flatten_cons, List.flatten_nil, List.cons_append, List.nil_append]
  after_results_simp
  rfl

theorem tail2 : Pipeline.afterTail₀ cfgs (dats m) 0 (V0 m) [hostOps1] c main_v7 = (fun i : S1024.Idx => newV (a1 m c i) (a3 m c i)) := by
  refine (cast2 _).trans ?_
  refine (congrArg (fun a => shapeCast S1024 a shapeCasts_S1x1x1024_S1024) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S1024.Idx => delta (a0 m c i) (a1 m c i) (a2 m c i) (a3 m c i))
      ∧ r.2.mem ((c.tc : Thread nD τ).loc main_v6) = (fun i : S1024.Idx => newM (a1 m c i) (a2 m c i))
      ∧ r.2.mem ((c.tc : Thread nD τ).loc main_v7) = (fun i : S1024.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel14Ideal.Value

namespace Cert.Reference14Ideal.Value

open Cert.Adam Cert.Reference14Ideal Cert.Reference14Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1024.Idx => delta ((m ((c.tc : Thread nD τ).loc main_arg0) : Vec Ideal S1024 .f32) i) ((m ((c.tc : Thread nD τ).loc main_arg1) : Vec Ideal S1024 .f32) i) ((m ((c.tc : Thread nD τ).loc main_arg2) : Vec Ideal S1024 .f32) i) ((m ((c.tc : Thread nD τ).loc main_arg3) : Vec Ideal S1024 .f32) i))
      ∧ r.2.mem ((c.tc : Thread nD τ).loc main_v4) = (fun i : S1024.Idx => newM ((m ((c.tc : Thread nD τ).loc main_arg1) : Vec Ideal S1024 .f32) i) ((m ((c.tc : Thread nD τ).loc main_arg2) : Vec Ideal S1024 .f32) i))
      ∧ r.2.mem ((c.tc : Thread nD τ).loc main_v10) = (fun i : S1024.Idx => newV ((m ((c.tc : Thread nD τ).loc main_arg1) : Vec Ideal S1024 .f32) i) ((m ((c.tc : Thread nD τ).loc main_arg3) : Vec Ideal S1024 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference14Ideal.Value

/-- The call and the reference take one step: from equal arguments they end with equal results. -/
theorem Cert.algebraic14 : Cert.algebraic_Kernel14Ideal_Reference14Ideal := by
  intro m g m' g' _ hagree
  refine ⟨_, _, _, Cert.Kernel14Ideal.Value.run_entries m g, ?_⟩
  refine (Idealize.ShloMosaic.θ_run _ _ _).mono (fun r h c => ?_) (Cert.Reference14Ideal.Value.run_entries m' g')
  obtain ⟨e0, e1, e2, e3⟩ := hagree c
  have := h c
  simp only [Cert.Kernel14Ideal.Value.a0, Cert.Kernel14Ideal.Value.a1, Cert.Kernel14Ideal.Value.a2, Cert.Kernel14Ideal.Value.a3, e0, e1, e2, e3] at this ⊢
  exact this

end
-- ==== Proof.Adam15.lean ====
/-
  AdamW's call on one device's part of ln_g and of ln_b, and its reference.
-/
module

public import proofs.«01_k».proof.Proof.Gen.Kernel15.Frame
public import proofs.«01_k».proof.Proof.Gen.Kernel15Ideal.Value
public import proofs.«01_k».proof.Proof.Gen.Reference15Ideal.Run
public import proofs.«01_k».proof.Defs
public import proofs.«01_k».proof.Proof.Adam
public import Idealize.ShloMosaic.Lib.Quiescent

@[expose] public section

set_option maxRecDepth 16384

noncomputable section

namespace Cert.Kernel15Ideal.Value

open Cert.Adam Cert.Kernel15Ideal Cert.Kernel15Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S2x3x128 .f32 := V m c main_arg0
abbrev gs : Vec Ideal S2x3x128 .f32 := V m c main_arg1
abbrev ms : Vec Ideal S2x3x128 .f32 := V m c main_arg2
abbrev vs : Vec Ideal S2x3x128 .f32 := V m c main_arg3

/-- The blocks of the four a grid point reads. -/
abbrev wBlk : Vec Ideal S1x3x128 .f32 := iblk m c 0 t
abbrev gBlk : Vec Ideal S1x3x128 .f32 := iblk m c 1 t
abbrev mBlk : Vec Ideal S1x3x128 .f32 := iblk m c 2 t
abbrev vBlk : Vec Ideal S1x3x128 .f32 := iblk m c 3 t

/-- What a grid point leaves of the weight's change. -/
theorem delta_block (y : S1x3x128.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  pointwise
  rfl

theorem arr4 : (dats m 0 c).arrAt 4 cfg0.N = fun i : S2x3x128.Idx => delta (ws m c i) (gs m c i) (ms m c i) (vs m c i) := by
  refine (dats m 0 c).arrAt_eq_of_covers 4 _ (by decide +kernel) fun t hf y => ?_
  obtain ⟨y, rfl⟩ : ∃ z : S1x3x128.Idx, z = y := ⟨y, rfl⟩
  blk_simp
  rw [after0_4]
  exact delta_block m c t y

/-- What a grid point leaves of the new first moment. -/
theorem newM_block (y : S1x3x128.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  pointwise
  rfl

theorem arr5 : (dats m 0 c).arrAt 5 cfg0.N = fun i : S2x3x128.Idx => newM (gs m c i) (ms m c i) := by
  refine (dats m 0 c).arrAt_eq_of_covers 5 _ (by decide +kernel) fun t hf y => ?_
  obtain ⟨y, rfl⟩ : ∃ z : S1x3x128.Idx, z = y := ⟨y, rfl⟩
  blk_simp
  rw [after0_5]
  exact newM_block m c t y

/-- What a grid point leaves of the new second moment. -/
theorem newV_block (y : S1x3x128.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  pointwise
  rfl

theorem arr6 : (dats m 0 c).arrAt 6 cfg0.N = fun i : S2x3x128.Idx => newV (gs m c i) (vs m c i) := by
  refine (dats m 0 c).arrAt_eq_of_covers 6 _ (by decide +kernel) fun t hf y => ?_
  obtain ⟨y, rfl⟩ : ∃ z : S1x3x128.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S2x3x128.Idx => delta ((m ((c.tc : Thread nD τ).loc main_arg0) : Vec Ideal S2x3x128 .f32) i) ((m ((c.tc : Thread nD τ).loc main_arg1) : Vec Ideal S2x3x128 .f32) i) ((m ((c.tc : Thread nD τ).loc main_arg2) : Vec Ideal S2x3x128 .f32) i) ((m ((c.tc : Thread nD τ).loc main_arg3) : Vec Ideal S2x3x128 .f32) i))
      ∧ r.2.mem ((c.tc : Thread nD τ).loc main_v0_1) = (fun i : S2x3x128.Idx => newM ((m ((c.tc : Thread nD τ).loc main_arg1) : Vec Ideal S2x3x128 .f32) i) ((m ((c.tc : Thread nD τ).loc main_arg2) : Vec Ideal S2x3x128 .f32) i))
      ∧ r.2.mem ((c.tc : Thread nD τ).loc main_v0_2) = (fun i : S2x3x128.Idx => newV ((m ((c.tc : Thread nD τ).loc main_arg1) : Vec Ideal S2x3x128 .f32) i) ((m ((c.tc : Thread nD τ).loc main_arg3) : Vec Ideal S2x3x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel15Ideal.Value

namespace Cert.Reference15Ideal.Value

open Cert.Adam Cert.Reference15Ideal Cert.Reference15Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S2x3x128.Idx => delta ((m ((c.tc : Thread nD τ).loc main_arg0) : Vec Ideal S2x3x128 .f32) i) ((m ((c.tc : Thread nD τ).loc main_arg1) : Vec Ideal S2x3x128 .f32) i) ((m ((c.tc : Thread nD τ).loc main_arg2) : Vec Ideal S2x3x128 .f32) i) ((m ((c.tc : Thread nD τ).loc main_arg3) : Vec Ideal S2x3x128 .f32) i))
      ∧ r.2.mem ((c.tc : Thread nD τ).loc main_v4) = (fun i : S2x3x128.Idx => newM ((m ((c.tc : Thread nD τ).loc main_arg1) : Vec Ideal S2x3x128 .f32) i) ((m ((c.tc : Thread nD τ).loc main_arg2) : Vec Ideal S2x3x128 .f32) i))
      ∧ r.2.mem ((c.tc : Thread nD τ).loc main_v10) = (fun i : S2x3x128.Idx => newV ((m ((c.tc : Thread nD τ).loc main_arg1) : Vec Ideal S2x3x128 .f32) i) ((m ((c.tc : Thread nD τ).loc main_arg3) : Vec Ideal S2x3x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference15Ideal.Value

/-- The call and the reference take one step: from equal arguments they end with equal results. -/
theorem Cert.algebraic15 : Cert.algebraic_Kernel15Ideal_Reference15Ideal := by
  intro m g m' g' _ hagree
  refine ⟨_, _, _, Cert.Kernel15Ideal.Value.run_entries m g, ?_⟩
  refine (Idealize.ShloMosaic.θ_run _ _ _).mono (fun r h c => ?_) (Cert.Reference15Ideal.Value.run_entries m' g')
  obtain ⟨e0, e1, e2, e3⟩ := hagree c
  have := h c
  simp only [e0, e1, e2, e3] at this ⊢
  exact this

end
-- ==== Proof.Adam16.lean ====
/-
  AdamW's call on the whole of attn_sink, and its reference.
-/
module

public import proofs.«01_k».proof.Proof.Gen.Kernel16.Frame
public import proofs.«01_k».proof.Proof.Gen.Kernel16Ideal.Frame
public import proofs.«01_k».proof.Proof.Gen.Reference16Ideal.Run
public import proofs.«01_k».proof.Defs
public import proofs.«01_k».proof.Proof.Adam
public import Idealize.ShloMosaic.Lib.Quiescent

@[expose] public section

set_option maxRecDepth 16384

noncomputable section

namespace Cert.Kernel16Ideal.Value

open Cert.Adam Cert.Kernel16Ideal Cert.Kernel16Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S1x8 .f32 := m ((c.tc : Thread nD τ).loc main_arg0)
abbrev a1 : Vec Ideal S1x8 .f32 := m ((c.tc : Thread nD τ).loc main_arg1)
abbrev a2 : Vec Ideal S1x8 .f32 := m ((c.tc : Thread nD τ).loc main_arg2)
abbrev a3 : Vec Ideal S1x8 .f32 := m ((c.tc : Thread nD τ).loc main_arg3)

/-- An entry's place in the array of rank three. -/
abbrev at3 (i : S1x8.Idx) : S1x1x8.Idx := Shape.reshapeEquiv shapeCasts_S1x1x8_S1x8 i

/-- The weight, the gradient and the two moments as the region finds them. -/
abbrev ws : Vec Ideal S1x1x8 .f32 := V m c main_v0
abbrev gs : Vec Ideal S1x1x8 .f32 := V m c main_v1
abbrev ms : Vec Ideal S1x1x8 .f32 := V m c main_v2
abbrev vs : Vec Ideal S1x1x8 .f32 := V m c main_v3

/-- The blocks of the four a grid point reads. -/
abbrev wBlk : Vec Ideal S1x1x8 .f32 := iblk m c 0 t
abbrev gBlk : Vec Ideal S1x1x8 .f32 := iblk m c 1 t
abbrev mBlk : Vec Ideal S1x1x8 .f32 := iblk m c 2 t
abbrev vBlk : Vec Ideal S1x1x8 .f32 := iblk m c 3 t

/-- What a grid point leaves of the weight's change. -/
theorem delta_block (y : S1x1x8.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  obtain rfl : y1 = 0 := Subsingleton.elim _ _
  pointwise
  rfl

theorem arr4 : (dats m 0 c).arrAt 4 cfg0.N = fun i : S1x1x8.Idx => delta (ws m c i) (gs m c i) (ms m c i) (vs m c i) := by
  refine (dats m 0 c).arrAt_eq_of_covers 4 _ (by decide +kernel) fun t hf y => ?_
  obtain ⟨y, rfl⟩ : ∃ z : S1x1x8.Idx, z = y := ⟨y, rfl⟩
  blk_simp
  rw [after0_4]
  exact delta_block m c t y

/-- What a grid point leaves of the new first moment. -/
theorem newM_block (y : S1x1x8.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  obtain rfl : y1 = 0 := Subsingleton.elim _ _
  pointwise
  rfl

theorem arr5 : (dats m 0 c).arrAt 5 cfg0.N = fun i : S1x1x8.Idx => newM (gs m c i) (ms m c i) := by
  refine (dats m 0 c).arrAt_eq_of_covers 5 _ (by decide +kernel) fun t hf y => ?_
  obtain ⟨y, rfl⟩ : ∃ z : S1x1x8.Idx, z = y := ⟨y, rfl⟩
  blk_simp
  rw [after0_5]
  exact newM_block m c t y

/-- What a grid point leaves of the new second moment. -/
theorem newV_block (y : S1x1x8.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  obtain rfl : y1 = 0 := Subsingleton.elim _ _
  pointwise
  rfl

theorem arr6 : (dats m 0 c).arrAt 6 cfg0.N = fun i : S1x1x8.Idx => newV (gs m c i) (vs m c i) := by
  refine (dats m 0 c).arrAt_eq_of_covers 6 _ (by decide +kernel) fun t hf y => ?_
  obtain ⟨y, rfl⟩ : ∃ z : S1x1x8.Idx, z = y := ⟨y, rfl⟩
  blk_simp
  rw [after0_6]
  exact newV_block m c t y

theorem V_main_v0 : V m c main_v0 = shapeCast S1x1x8 (a0 m c) shapeCasts_S1x8_S1x1x8 := by
  unfold V V0
  simp only [hostOps0, List.flatten_cons, List.flatten_nil, List.cons_append, List.nil_append]
  after_results_simp
  rfl

theorem ws_at (i : S1x8.Idx) : ws m c (at3 i) = a0 m c i :=
  (congrFun (V_main_v0 m c) _).trans (congrFun (shapeCast_shapeCast (a0 m c) shapeCasts_S1x8_S1x1x8 shapeCasts_S1x1x8_S1x8) i)

theorem V_main_v1 : V m c main_v1 = shapeCast S1x1x8 (a1 m c) shapeCasts_S1x8_S1x1x8 := by
  unfold V V0
  simp only [hostOps0, List.flatten_cons, List.flatten_nil, List.cons_append, List.nil_append]
  after_results_simp
  rfl

theorem gs_at (i : S1x8.Idx) : gs m c (at3 i) = a1 m c i :=
  (congrFun (V_main_v1 m c) _).trans (congrFun (shapeCast_shapeCast (a1 m c) shapeCasts_S1x8_S1x1x8 shapeCasts_S1x1x8_S1x8) i)

theorem V_main_v2 : V m c main_v2 = shapeCast S1x1x8 (a2 m c) shapeCasts_S1x8_S1x1x8 := by
  unfold V V0
  simp only [hostOps0, List.flatten_cons, List.flatten_nil, List.cons_append, List.nil_append]
  after_results_simp
  rfl

theorem ms_at (i : S1x8.Idx) : ms m c (at3 i) = a2 m c i :=
  (congrFun (V_main_v2 m c) _).trans (congrFun (shapeCast_shapeCast (a2 m c) shapeCasts_S1x8_S1x1x8 shapeCasts_S1x1x8_S1x8) i)

theorem V_main_v3 : V m c main_v3 = shapeCast S1x1x8 (a3 m c) shapeCasts_S1x8_S1x1x8 := by
  unfold V V0
  simp only [hostOps0, List.flatten_cons, List.flatten_nil, List.cons_append, List.nil_append]
  after_results_simp
  rfl

theorem vs_at (i : S1x8.Idx) : vs m c (at3 i) = a3 m c i :=
  (congrFun (V_main_v3 m c) _).trans (congrFun (shapeCast_shapeCast (a3 m c) shapeCasts_S1x8_S1x1x8 shapeCasts_S1x1x8_S1x8) i)

/-- A result after the lines that follow the region: the region's array, reshaped. -/
theorem cast0 (W : Valuation τ sig (Elt Ideal)) : StableHlo.after [hostOps1].flatten W (Proc.devRef .tc main_v5) = shapeCast S1x8 (W (Proc.devRef .tc main_v4_0) : Vec Ideal S1x1x8 .f32) shapeCasts_S1x1x8_S1x8 := by
  simp only [hostOps1, List.flatten_cons, List.flatten_nil, List.cons_append, List.nil_append]
  after_results_simp
  rfl

theorem tail0 : Pipeline.afterTail₀ cfgs (dats m) 0 (V0 m) [hostOps1] c main_v5 = (fun i : S1x8.Idx => delta (a0 m c i) (a1 m c i) (a2 m c i) (a3 m c i)) := by
  refine (cast0 _).trans ?_
  refine (congrArg (fun a => shapeCast S1x8 a shapeCasts_S1x1x8_S1x8) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S1x8 (W (Proc.devRef .tc main_v4_1) : Vec Ideal S1x1x8 .f32) shapeCasts_S1x1x8_S1x8 := by
  simp only [hostOps1, List.flatten_cons, List.flatten_nil, List.cons_append, List.nil_append]
  after_results_simp
  rfl

theorem tail1 : Pipeline.afterTail₀ cfgs (dats m) 0 (V0 m) [hostOps1] c main_v6 = (fun i : S1x8.Idx => newM (a1 m c i) (a2 m c i)) := by
  refine (cast1 _).trans ?_
  refine (congrArg (fun a => shapeCast S1x8 a shapeCasts_S1x1x8_S1x8) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S1x8 (W (Proc.devRef .tc main_v4_2) : Vec Ideal S1x1x8 .f32) shapeCasts_S1x1x8_S1x8 := by
  simp only [hostOps1, List.flatten_cons, List.flatten_nil, List.cons_append, List.nil_append]
  after_results_simp
  rfl

theorem tail2 : Pipeline.afterTail₀ cfgs (dats m) 0 (V0 m) [hostOps1] c main_v7 = (fun i : S1x8.Idx => newV (a1 m c i) (a3 m c i)) := by
  refine (cast2 _).trans ?_
  refine (congrArg (fun a => shapeCast S1x8 a shapeCasts_S1x1x8_S1x8) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S1x8.Idx => delta (a0 m c i) (a1 m c i) (a2 m c i) (a3 m c i))
      ∧ r.2.mem ((c.tc : Thread nD τ).loc main_v6) = (fun i : S1x8.Idx => newM (a1 m c i) (a2 m c i))
      ∧ r.2.mem ((c.tc : Thread nD τ).loc main_v7) = (fun i : S1x8.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel16Ideal.Value

namespace Cert.Reference16Ideal.Value

open Cert.Adam Cert.Reference16Ideal Cert.Reference16Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x8.Idx => delta ((m ((c.tc : Thread nD τ).loc main_arg0) : Vec Ideal S1x8 .f32) i) ((m ((c.tc : Thread nD τ).loc main_arg1) : Vec Ideal S1x8 .f32) i) ((m ((c.tc : Thread nD τ).loc main_arg2) : Vec Ideal S1x8 .f32) i) ((m ((c.tc : Thread nD τ).loc main_arg3) : Vec Ideal S1x8 .f32) i))
      ∧ r.2.mem ((c.tc : Thread nD τ).loc main_v4) = (fun i : S1x8.Idx => newM ((m ((c.tc : Thread nD τ).loc main_arg1) : Vec Ideal S1x8 .f32) i) ((m ((c.tc : Thread nD τ).loc main_arg2) : Vec Ideal S1x8 .f32) i))
      ∧ r.2.mem ((c.tc : Thread nD τ).loc main_v10) = (fun i : S1x8.Idx => newV ((m ((c.tc : Thread nD τ).loc main_arg1) : Vec Ideal S1x8 .f32) i) ((m ((c.tc : Thread nD τ).loc main_arg3) : Vec Ideal S1x8 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference16Ideal.Value

/-- The call and the reference take one step: from equal arguments they end with equal results. -/
theorem Cert.algebraic16 : Cert.algebraic_Kernel16Ideal_Reference16Ideal := by
  intro m g m' g' _ hagree
  refine ⟨_, _, _, Cert.Kernel16Ideal.Value.run_entries m g, ?_⟩
  refine (Idealize.ShloMosaic.θ_run _ _ _).mono (fun r h c => ?_) (Cert.Reference16Ideal.Value.run_entries m' g')
  obtain ⟨e0, e1, e2, e3⟩ := hagree c
  have := h c
  simp only [Cert.Kernel16Ideal.Value.a0, Cert.Kernel16Ideal.Value.a1, Cert.Kernel16Ideal.Value.a2, Cert.Kernel16Ideal.Value.a3, e0, e1, e2, e3] at this ⊢
  exact this

end
-- ==== Proof.Adam17.lean ====
/-
  AdamW's call on the whole of pool_w, and its reference.
-/
module

public import proofs.«01_k».proof.Proof.Gen.Kernel17.Frame
public import proofs.«01_k».proof.Proof.Gen.Kernel17Ideal.Frame
public import proofs.«01_k».proof.Proof.Gen.Reference17Ideal.Run
public import proofs.«01_k».proof.Defs
public import proofs.«01_k».proof.Proof.Adam
public import Idealize.ShloMosaic.Lib.Quiescent

@[expose] public section

set_option maxRecDepth 16384

noncomputable section

namespace Cert.Kernel17Ideal.Value

open Cert.Adam Cert.Kernel17Ideal Cert.Kernel17Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S1x4x128x128 .f32 := m ((c.tc : Thread nD τ).loc main_arg0)
abbrev a1 : Vec Ideal S1x4x128x128 .f32 := m ((c.tc : Thread nD τ).loc main_arg1)
abbrev a2 : Vec Ideal S1x4x128x128 .f32 := m ((c.tc : Thread nD τ).loc main_arg2)
abbrev a3 : Vec Ideal S1x4x128x128 .f32 := m ((c.tc : Thread nD τ).loc main_arg3)

/-- An entry's place in the array of rank three. -/
abbrev at3 (i : S1x4x128x128.Idx) : S4x128x128.Idx := Shape.reshapeEquiv shapeCasts_S4x128x128_S1x4x128x128 i

/-- The weight, the gradient and the two moments as the region finds them. -/
abbrev ws : Vec Ideal S4x128x128 .f32 := V m c main_v0
abbrev gs : Vec Ideal S4x128x128 .f32 := V m c main_v1
abbrev ms : Vec Ideal S4x128x128 .f32 := V m c main_v2
abbrev vs : Vec Ideal S4x128x128 .f32 := V m c main_v3

/-- The blocks of the four a grid point reads. -/
abbrev wBlk : Vec Ideal S1x128x128 .f32 := iblk m c 0 t
abbrev gBlk : Vec Ideal S1x128x128 .f32 := iblk m c 1 t
abbrev mBlk : Vec Ideal S1x128x128 .f32 := iblk m c 2 t
abbrev vBlk : Vec Ideal S1x128x128 .f32 := iblk m c 3 t

/-- What a grid point leaves of the weight's change. -/
theorem delta_block (y : S1x128x128.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  pointwise
  rfl

theorem arr4 : (dats m 0 c).arrAt 4 cfg0.N = fun i : S4x128x128.Idx => delta (ws m c i) (gs m c i) (ms m c i) (vs m c i) := by
  refine (dats m 0 c).arrAt_eq_of_covers 4 _ (by decide +kernel) fun t hf y => ?_
  obtain ⟨y, rfl⟩ : ∃ z : S1x128x128.Idx, z = y := ⟨y, rfl⟩
  blk_simp
  rw [after0_4]
  exact delta_block m c t y

/-- What a grid point leaves of the new first moment. -/
theorem newM_block (y : S1x128x128.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  pointwise
  rfl

theorem arr5 : (dats m 0 c).arrAt 5 cfg0.N = fun i : S4x128x128.Idx => newM (gs m c i) (ms m c i) := by
  refine (dats m 0 c).arrAt_eq_of_covers 5 _ (by decide +kernel) fun t hf y => ?_
  obtain ⟨y, rfl⟩ : ∃ z : S1x128x128.Idx, z = y := ⟨y, rfl⟩
  blk_simp
  rw [after0_5]
  exact newM_block m c t y

/-- What a grid point leaves of the new second moment. -/
theorem newV_block (y : S1x128x128.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  pointwise
  rfl

theorem arr6 : (dats m 0 c).arrAt 6 cfg0.N = fun i : S4x128x128.Idx => newV (gs m c i) (vs m c i) := by
  refine (dats m 0 c).arrAt_eq_of_covers 6 _ (by decide +kernel) fun t hf y => ?_
  obtain ⟨y, rfl⟩ : ∃ z : S1x128x128.Idx, z = y := ⟨y, rfl⟩
  blk_simp
  rw [after0_6]
  exact newV_block m c t y

theorem V_main_v0 : V m c main_v0 = shapeCast S4x128x128 (a0 m c) shapeCasts_S1x4x128x128_S4x128x128 := by
  unfold V V0
  simp only [hostOps0, List.flatten_cons, List.flatten_nil, List.cons_append, List.nil_append]
  after_results_simp
  rfl

theorem ws_at (i : S1x4x128x128.Idx) : ws m c (at3 i) = a0 m c i :=
  (congrFun (V_main_v0 m c) _).trans (congrFun (shapeCast_shapeCast (a0 m c) shapeCasts_S1x4x128x128_S4x128x128 shapeCasts_S4x128x128_S1x4x128x128) i)

theorem V_main_v1 : V m c main_v1 = shapeCast S4x128x128 (a1 m c) shapeCasts_S1x4x128x128_S4x128x128 := by
  unfold V V0
  simp only [hostOps0, List.flatten_cons, List.flatten_nil, List.cons_append, List.nil_append]
  after_results_simp
  rfl

theorem gs_at (i : S1x4x128x128.Idx) : gs m c (at3 i) = a1 m c i :=
  (congrFun (V_main_v1 m c) _).trans (congrFun (shapeCast_shapeCast (a1 m c) shapeCasts_S1x4x128x128_S4x128x128 shapeCasts_S4x128x128_S1x4x128x128) i)

theorem V_main_v2 : V m c main_v2 = shapeCast S4x128x128 (a2 m c) shapeCasts_S1x4x128x128_S4x128x128 := by
  unfold V V0
  simp only [hostOps0, List.flatten_cons, List.flatten_nil, List.cons_append, List.nil_append]
  after_results_simp
  rfl

theorem ms_at (i : S1x4x128x128.Idx) : ms m c (at3 i) = a2 m c i :=
  (congrFun (V_main_v2 m c) _).trans (congrFun (shapeCast_shapeCast (a2 m c) shapeCasts_S1x4x128x128_S4x128x128 shapeCasts_S4x128x128_S1x4x128x128) i)

theorem V_main_v3 : V m c main_v3 = shapeCast S4x128x128 (a3 m c) shapeCasts_S1x4x128x128_S4x128x128 := by
  unfold V V0
  simp only [hostOps0, List.flatten_cons, List.flatten_nil, List.cons_append, List.nil_append]
  after_results_simp
  rfl

theorem vs_at (i : S1x4x128x128.Idx) : vs m c (at3 i) = a3 m c i :=
  (congrFun (V_main_v3 m c) _).trans (congrFun (shapeCast_shapeCast (a3 m c) shapeCasts_S1x4x128x128_S4x128x128 shapeCasts_S4x128x128_S1x4x128x128) i)

/-- A result after the lines that follow the region: the region's array, reshaped. -/
theorem cast0 (W : Valuation τ sig (Elt Ideal)) : StableHlo.after [hostOps1].flatten W (Proc.devRef .tc main_v5) = shapeCast S1x4x128x128 (W (Proc.devRef .tc main_v4_0) : Vec Ideal S4x128x128 .f32) shapeCasts_S4x128x128_S1x4x128x128 := by
  simp only [hostOps1, List.flatten_cons, List.flatten_nil, List.cons_append, List.nil_append]
  after_results_simp
  rfl

theorem tail0 : Pipeline.afterTail₀ cfgs (dats m) 0 (V0 m) [hostOps1] c main_v5 = (fun i : S1x4x128x128.Idx => delta (a0 m c i) (a1 m c i) (a2 m c i) (a3 m c i)) := by
  refine (cast0 _).trans ?_
  refine (congrArg (fun a => shapeCast S1x4x128x128 a shapeCasts_S4x128x128_S1x4x128x128) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S1x4x128x128 (W (Proc.devRef .tc main_v4_1) : Vec Ideal S4x128x128 .f32) shapeCasts_S4x128x128_S1x4x128x128 := by
  simp only [hostOps1, List.flatten_cons, List.flatten_nil, List.cons_append, List.nil_append]
  after_results_simp
  rfl

theorem tail1 : Pipeline.afterTail₀ cfgs (dats m) 0 (V0 m) [hostOps1] c main_v6 = (fun i : S1x4x128x128.Idx => newM (a1 m c i) (a2 m c i)) := by
  refine (cast1 _).trans ?_
  refine (congrArg (fun a => shapeCast S1x4x128x128 a shapeCasts_S4x128x128_S1x4x128x128) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S1x4x128x128 (W (Proc.devRef .tc main_v4_2) : Vec Ideal S4x128x128 .f32) shapeCasts_S4x128x128_S1x4x128x128 := by
  simp only [hostOps1, List.flatten_cons, List.flatten_nil, List.cons_append, List.nil_append]
  after_results_simp
  rfl

theorem tail2 : Pipeline.afterTail₀ cfgs (dats m) 0 (V0 m) [hostOps1] c main_v7 = (fun i : S1x4x128x128.Idx => newV (a1 m c i) (a3 m c i)) := by
  refine (cast2 _).trans ?_
  refine (congrArg (fun a => shapeCast S1x4x128x128 a shapeCasts_S4x128x128_S1x4x128x128) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S1x4x128x128.Idx => delta (a0 m c i) (a1 m c i) (a2 m c i) (a3 m c i))
      ∧ r.2.mem ((c.tc : Thread nD τ).loc main_v6) = (fun i : S1x4x128x128.Idx => newM (a1 m c i) (a2 m c i))
      ∧ r.2.mem ((c.tc : Thread nD τ).loc main_v7) = (fun i : S1x4x128x128.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel17Ideal.Value

namespace Cert.Reference17Ideal.Value

open Cert.Adam Cert.Reference17Ideal Cert.Reference17Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x4x128x128.Idx => delta ((m ((c.tc : Thread nD τ).loc main_arg0) : Vec Ideal S1x4x128x128 .f32) i) ((m ((c.tc : Thread nD τ).loc main_arg1) : Vec Ideal S1x4x128x128 .f32) i) ((m ((c.tc : Thread nD τ).loc main_arg2) : Vec Ideal S1x4x128x128 .f32) i) ((m ((c.tc : Thread nD τ).loc main_arg3) : Vec Ideal S1x4x128x128 .f32) i))
      ∧ r.2.mem ((c.tc : Thread nD τ).loc main_v4) = (fun i : S1x4x128x128.Idx => newM ((m ((c.tc : Thread nD τ).loc main_arg1) : Vec Ideal S1x4x128x128 .f32) i) ((m ((c.tc : Thread nD τ).loc main_arg2) : Vec Ideal S1x4x128x128 .f32) i))
      ∧ r.2.mem ((c.tc : Thread nD τ).loc main_v10) = (fun i : S1x4x128x128.Idx => newV ((m ((c.tc : Thread nD τ).loc main_arg1) : Vec Ideal S1x4x128x128 .f32) i) ((m ((c.tc : Thread nD τ).loc main_arg3) : Vec Ideal S1x4x128x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference17Ideal.Value

/-- The call and the reference take one step: from equal arguments they end with equal results. -/
theorem Cert.algebraic17 : Cert.algebraic_Kernel17Ideal_Reference17Ideal := by
  intro m g m' g' _ hagree
  refine ⟨_, _, _, Cert.Kernel17Ideal.Value.run_entries m g, ?_⟩
  refine (Idealize.ShloMosaic.θ_run _ _ _).mono (fun r h c => ?_) (Cert.Reference17Ideal.Value.run_entries m' g')
  obtain ⟨e0, e1, e2, e3⟩ := hagree c
  have := h c
  simp only [Cert.Kernel17Ideal.Value.a0, Cert.Kernel17Ideal.Value.a1, Cert.Kernel17Ideal.Value.a2, Cert.Kernel17Ideal.Value.a3, e0, e1, e2, e3] at this ⊢
  exact this

end
-- ==== Proof.Adam18.lean ====
/-
  AdamW's call on the whole of pool_scale, and its reference.
-/
module

public import proofs.«01_k».proof.Proof.Gen.Kernel18.Frame
public import proofs.«01_k».proof.Proof.Gen.Kernel18Ideal.Frame
public import proofs.«01_k».proof.Proof.Gen.Reference18Ideal.Run
public import proofs.«01_k».proof.Defs
public import proofs.«01_k».proof.Proof.Adam
public import Idealize.ShloMosaic.Lib.Quiescent

@[expose] public section

set_option maxRecDepth 16384

noncomputable section

namespace Cert.Kernel18Ideal.Value

open Cert.Adam Cert.Kernel18Ideal Cert.Kernel18Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S1x512 .f32 := m ((c.tc : Thread nD τ).loc main_arg0)
abbrev a1 : Vec Ideal S1x512 .f32 := m ((c.tc : Thread nD τ).loc main_arg1)
abbrev a2 : Vec Ideal S1x512 .f32 := m ((c.tc : Thread nD τ).loc main_arg2)
abbrev a3 : Vec Ideal S1x512 .f32 := m ((c.tc : Thread nD τ).loc main_arg3)

/-- An entry's place in the array of rank three. -/
abbrev at3 (i : S1x512.Idx) : S1x1x512.Idx := Shape.reshapeEquiv shapeCasts_S1x1x512_S1x512 i

/-- The weight, the gradient and the two moments as the region finds them. -/
abbrev ws : Vec Ideal S1x1x512 .f32 := V m c main_v0
abbrev gs : Vec Ideal S1x1x512 .f32 := V m c main_v1
abbrev ms : Vec Ideal S1x1x512 .f32 := V m c main_v2
abbrev vs : Vec Ideal S1x1x512 .f32 := V m c main_v3

/-- The blocks of the four a grid point reads. -/
abbrev wBlk : Vec Ideal S1x1x512 .f32 := iblk m c 0 t
abbrev gBlk : Vec Ideal S1x1x512 .f32 := iblk m c 1 t
abbrev mBlk : Vec Ideal S1x1x512 .f32 := iblk m c 2 t
abbrev vBlk : Vec Ideal S1x1x512 .f32 := iblk m c 3 t

/-- What a grid point leaves of the weight's change. -/
theorem delta_block (y : S1x1x512.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  obtain rfl : y1 = 0 := Subsingleton.elim _ _
  pointwise
  rfl

theorem arr4 : (dats m 0 c).arrAt 4 cfg0.N = fun i : S1x1x512.Idx => delta (ws m c i) (gs m c i) (ms m c i) (vs m c i) := by
  refine (dats m 0 c).arrAt_eq_of_covers 4 _ (by decide +kernel) fun t hf y => ?_
  obtain ⟨y, rfl⟩ : ∃ z : S1x1x512.Idx, z = y := ⟨y, rfl⟩
  blk_simp
  rw [after0_4]
  exact delta_block m c t y

/-- What a grid point leaves of the new first moment. -/
theorem newM_block (y : S1x1x512.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  obtain rfl : y1 = 0 := Subsingleton.elim _ _
  pointwise
  rfl

theorem arr5 : (dats m 0 c).arrAt 5 cfg0.N = fun i : S1x1x512.Idx => newM (gs m c i) (ms m c i) := by
  refine (dats m 0 c).arrAt_eq_of_covers 5 _ (by decide +kernel) fun t hf y => ?_
  obtain ⟨y, rfl⟩ : ∃ z : S1x1x512.Idx, z = y := ⟨y, rfl⟩
  blk_simp
  rw [after0_5]
  exact newM_block m c t y

/-- What a grid point leaves of the new second moment. -/
theorem newV_block (y : S1x1x512.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  obtain rfl : y1 = 0 := Subsingleton.elim _ _
  pointwise
  rfl

theorem arr6 : (dats m 0 c).arrAt 6 cfg0.N = fun i : S1x1x512.Idx => newV (gs m c i) (vs m c i) := by
  refine (dats m 0 c).arrAt_eq_of_covers 6 _ (by decide +kernel) fun t hf y => ?_
  obtain ⟨y, rfl⟩ : ∃ z : S1x1x512.Idx, z = y := ⟨y, rfl⟩
  blk_simp
  rw [after0_6]
  exact newV_block m c t y

theorem V_main_v0 : V m c main_v0 = shapeCast S1x1x512 (a0 m c) shapeCasts_S1x512_S1x1x512 := by
  unfold V V0
  simp only [hostOps0, List.flatten_cons, List.flatten_nil, List.cons_append, List.nil_append]
  after_results_simp
  rfl

theorem ws_at (i : S1x512.Idx) : ws m c (at3 i) = a0 m c i :=
  (congrFun (V_main_v0 m c) _).trans (congrFun (shapeCast_shapeCast (a0 m c) shapeCasts_S1x512_S1x1x512 shapeCasts_S1x1x512_S1x512) i)

theorem V_main_v1 : V m c main_v1 = shapeCast S1x1x512 (a1 m c) shapeCasts_S1x512_S1x1x512 := by
  unfold V V0
  simp only [hostOps0, List.flatten_cons, List.flatten_nil, List.cons_append, List.nil_append]
  after_results_simp
  rfl

theorem gs_at (i : S1x512.Idx) : gs m c (at3 i) = a1 m c i :=
  (congrFun (V_main_v1 m c) _).trans (congrFun (shapeCast_shapeCast (a1 m c) shapeCasts_S1x512_S1x1x512 shapeCasts_S1x1x512_S1x512) i)

theorem V_main_v2 : V m c main_v2 = shapeCast S1x1x512 (a2 m c) shapeCasts_S1x512_S1x1x512 := by
  unfold V V0
  simp only [hostOps0, List.flatten_cons, List.flatten_nil, List.cons_append, List.nil_append]
  after_results_simp
  rfl

theorem ms_at (i : S1x512.Idx) : ms m c (at3 i) = a2 m c i :=
  (congrFun (V_main_v2 m c) _).trans (congrFun (shapeCast_shapeCast (a2 m c) shapeCasts_S1x512_S1x1x512 shapeCasts_S1x1x512_S1x512) i)

theorem V_main_v3 : V m c main_v3 = shapeCast S1x1x512 (a3 m c) shapeCasts_S1x512_S1x1x512 := by
  unfold V V0
  simp only [hostOps0, List.flatten_cons, List.flatten_nil, List.cons_append, List.nil_append]
  after_results_simp
  rfl

theorem vs_at (i : S1x512.Idx) : vs m c (at3 i) = a3 m c i :=
  (congrFun (V_main_v3 m c) _).trans (congrFun (shapeCast_shapeCast (a3 m c) shapeCasts_S1x512_S1x1x512 shapeCasts_S1x1x512_S1x512) i)

/-- A result after the lines that follow the region: the region's array, reshaped. -/
theorem cast0 (W : Valuation τ sig (Elt Ideal)) : StableHlo.after [hostOps1].flatten W (Proc.devRef .tc main_v5) = shapeCast S1x512 (W (Proc.devRef .tc main_v4_0) : Vec Ideal S1x1x512 .f32) shapeCasts_S1x1x512_S1x512 := by
  simp only [hostOps1, List.flatten_cons, List.flatten_nil, List.cons_append, List.nil_append]
  after_results_simp
  rfl

theorem tail0 : Pipeline.afterTail₀ cfgs (dats m) 0 (V0 m) [hostOps1] c main_v5 = (fun i : S1x512.Idx => delta (a0 m c i) (a1 m c i) (a2 m c i) (a3 m c i)) := by
  refine (cast0 _).trans ?_
  refine (congrArg (fun a => shapeCast S1x512 a shapeCasts_S1x1x512_S1x512) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S1x512 (W (Proc.devRef .tc main_v4_1) : Vec Ideal S1x1x512 .f32) shapeCasts_S1x1x512_S1x512 := by
  simp only [hostOps1, List.flatten_cons, List.flatten_nil, List.cons_append, List.nil_append]
  after_results_simp
  rfl

theorem tail1 : Pipeline.afterTail₀ cfgs (dats m) 0 (V0 m) [hostOps1] c main_v6 = (fun i : S1x512.Idx => newM (a1 m c i) (a2 m c i)) := by
  refine (cast1 _).trans ?_
  refine (congrArg (fun a => shapeCast S1x512 a shapeCasts_S1x1x512_S1x512) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S1x512 (W (Proc.devRef .tc main_v4_2) : Vec Ideal S1x1x512 .f32) shapeCasts_S1x1x512_S1x512 := by
  simp only [hostOps1, List.flatten_cons, List.flatten_nil, List.cons_append, List.nil_append]
  after_results_simp
  rfl

theorem tail2 : Pipeline.afterTail₀ cfgs (dats m) 0 (V0 m) [hostOps1] c main_v7 = (fun i : S1x512.Idx => newV (a1 m c i) (a3 m c i)) := by
  refine (cast2 _).trans ?_
  refine (congrArg (fun a => shapeCast S1x512 a shapeCasts_S1x1x512_S1x512) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S1x512.Idx => delta (a0 m c i) (a1 m c i) (a2 m c i) (a3 m c i))
      ∧ r.2.mem ((c.tc : Thread nD τ).loc main_v6) = (fun i : S1x512.Idx => newM (a1 m c i) (a2 m c i))
      ∧ r.2.mem ((c.tc : Thread nD τ).loc main_v7) = (fun i : S1x512.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel18Ideal.Value

namespace Cert.Reference18Ideal.Value

open Cert.Adam Cert.Reference18Ideal Cert.Reference18Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x512.Idx => delta ((m ((c.tc : Thread nD τ).loc main_arg0) : Vec Ideal S1x512 .f32) i) ((m ((c.tc : Thread nD τ).loc main_arg1) : Vec Ideal S1x512 .f32) i) ((m ((c.tc : Thread nD τ).loc main_arg2) : Vec Ideal S1x512 .f32) i) ((m ((c.tc : Thread nD τ).loc main_arg3) : Vec Ideal S1x512 .f32) i))
      ∧ r.2.mem ((c.tc : Thread nD τ).loc main_v4) = (fun i : S1x512.Idx => newM ((m ((c.tc : Thread nD τ).loc main_arg1) : Vec Ideal S1x512 .f32) i) ((m ((c.tc : Thread nD τ).loc main_arg2) : Vec Ideal S1x512 .f32) i))
      ∧ r.2.mem ((c.tc : Thread nD τ).loc main_v10) = (fun i : S1x512.Idx => newV ((m ((c.tc : Thread nD τ).loc main_arg1) : Vec Ideal S1x512 .f32) i) ((m ((c.tc : Thread nD τ).loc main_arg3) : Vec Ideal S1x512 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference18Ideal.Value

/-- The call and the reference take one step: from equal arguments they end with equal results. -/
theorem Cert.algebraic18 : Cert.algebraic_Kernel18Ideal_Reference18Ideal := by
  intro m g m' g' _ hagree
  refine ⟨_, _, _, Cert.Kernel18Ideal.Value.run_entries m g, ?_⟩
  refine (Idealize.ShloMosaic.θ_run _ _ _).mono (fun r h c => ?_) (Cert.Reference18Ideal.Value.run_entries m' g')
  obtain ⟨e0, e1, e2, e3⟩ := hagree c
  have := h c
  simp only [Cert.Kernel18Ideal.Value.a0, Cert.Kernel18Ideal.Value.a1, Cert.Kernel18Ideal.Value.a2, Cert.Kernel18Ideal.Value.a3, e0, e1, e2, e3] at this ⊢
  exact this

end
-- ==== Proof.Adam19.lean ====
/-
  AdamW's call on one device's part of lru_conv_w, and its reference.
-/
module

public import proofs.«01_k».proof.Proof.Gen.Kernel19.Frame
public import proofs.«01_k».proof.Proof.Gen.Kernel19Ideal.Value
public import proofs.«01_k».proof.Proof.Gen.Reference19Ideal.Run
public import proofs.«01_k».proof.Defs
public import proofs.«01_k».proof.Proof.Adam
public import Idealize.ShloMosaic.Lib.Quiescent

@[expose] public section

set_option maxRecDepth 16384

noncomputable section

namespace Cert.Kernel19Ideal.Value

open Cert.Adam Cert.Kernel19Ideal Cert.Kernel19Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S1x4x128 .f32 := V m c main_arg0
abbrev gs : Vec Ideal S1x4x128 .f32 := V m c main_arg1
abbrev ms : Vec Ideal S1x4x128 .f32 := V m c main_arg2
abbrev vs : Vec Ideal S1x4x128 .f32 := V m c main_arg3

/-- The blocks of the four a grid point reads. -/
abbrev wBlk : Vec Ideal S1x4x128 .f32 := iblk m c 0 t
abbrev gBlk : Vec Ideal S1x4x128 .f32 := iblk m c 1 t
abbrev mBlk : Vec Ideal S1x4x128 .f32 := iblk m c 2 t
abbrev vBlk : Vec Ideal S1x4x128 .f32 := iblk m c 3 t

/-- What a grid point leaves of the weight's change. -/
theorem delta_block (y : S1x4x128.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  pointwise
  rfl

theorem arr4 : (dats m 0 c).arrAt 4 cfg0.N = fun i : S1x4x128.Idx => delta (ws m c i) (gs m c i) (ms m c i) (vs m c i) := by
  refine (dats m 0 c).arrAt_eq_of_covers 4 _ (by decide +kernel) fun t hf y => ?_
  obtain ⟨y, rfl⟩ : ∃ z : S1x4x128.Idx, z = y := ⟨y, rfl⟩
  blk_simp
  rw [after0_4]
  exact delta_block m c t y

/-- What a grid point leaves of the new first moment. -/
theorem newM_block (y : S1x4x128.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  pointwise
  rfl

theorem arr5 : (dats m 0 c).arrAt 5 cfg0.N = fun i : S1x4x128.Idx => newM (gs m c i) (ms m c i) := by
  refine (dats m 0 c).arrAt_eq_of_covers 5 _ (by decide +kernel) fun t hf y => ?_
  obtain ⟨y, rfl⟩ : ∃ z : S1x4x128.Idx, z = y := ⟨y, rfl⟩
  blk_simp
  rw [after0_5]
  exact newM_block m c t y

/-- What a grid point leaves of the new second moment. -/
theorem newV_block (y : S1x4x128.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  pointwise
  rfl

theorem arr6 : (dats m 0 c).arrAt 6 cfg0.N = fun i : S1x4x128.Idx => newV (gs m c i) (vs m c i) := by
  refine (dats m 0 c).arrAt_eq_of_covers 6 _ (by decide +kernel) fun t hf y => ?_
  obtain ⟨y, rfl⟩ : ∃ z : S1x4x128.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S1x4x128.Idx => delta ((m ((c.tc : Thread nD τ).loc main_arg0) : Vec Ideal S1x4x128 .f32) i) ((m ((c.tc : Thread nD τ).loc main_arg1) : Vec Ideal S1x4x128 .f32) i) ((m ((c.tc : Thread nD τ).loc main_arg2) : Vec Ideal S1x4x128 .f32) i) ((m ((c.tc : Thread nD τ).loc main_arg3) : Vec Ideal S1x4x128 .f32) i))
      ∧ r.2.mem ((c.tc : Thread nD τ).loc main_v0_1) = (fun i : S1x4x128.Idx => newM ((m ((c.tc : Thread nD τ).loc main_arg1) : Vec Ideal S1x4x128 .f32) i) ((m ((c.tc : Thread nD τ).loc main_arg2) : Vec Ideal S1x4x128 .f32) i))
      ∧ r.2.mem ((c.tc : Thread nD τ).loc main_v0_2) = (fun i : S1x4x128.Idx => newV ((m ((c.tc : Thread nD τ).loc main_arg1) : Vec Ideal S1x4x128 .f32) i) ((m ((c.tc : Thread nD τ).loc main_arg3) : Vec Ideal S1x4x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel19Ideal.Value

namespace Cert.Reference19Ideal.Value

open Cert.Adam Cert.Reference19Ideal Cert.Reference19Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x4x128.Idx => delta ((m ((c.tc : Thread nD τ).loc main_arg0) : Vec Ideal S1x4x128 .f32) i) ((m ((c.tc : Thread nD τ).loc main_arg1) : Vec Ideal S1x4x128 .f32) i) ((m ((c.tc : Thread nD τ).loc main_arg2) : Vec Ideal S1x4x128 .f32) i) ((m ((c.tc : Thread nD τ).loc main_arg3) : Vec Ideal S1x4x128 .f32) i))
      ∧ r.2.mem ((c.tc : Thread nD τ).loc main_v4) = (fun i : S1x4x128.Idx => newM ((m ((c.tc : Thread nD τ).loc main_arg1) : Vec Ideal S1x4x128 .f32) i) ((m ((c.tc : Thread nD τ).loc main_arg2) : Vec Ideal S1x4x128 .f32) i))
      ∧ r.2.mem ((c.tc : Thread nD τ).loc main_v10) = (fun i : S1x4x128.Idx => newV ((m ((c.tc : Thread nD τ).loc main_arg1) : Vec Ideal S1x4x128 .f32) i) ((m ((c.tc : Thread nD τ).loc main_arg3) : Vec Ideal S1x4x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference19Ideal.Value

/-- The call and the reference take one step: from equal arguments they end with equal results. -/
theorem Cert.algebraic19 : Cert.algebraic_Kernel19Ideal_Reference19Ideal := by
  intro m g m' g' _ hagree
  refine ⟨_, _, _, Cert.Kernel19Ideal.Value.run_entries m g, ?_⟩
  refine (Idealize.ShloMosaic.θ_run _ _ _).mono (fun r h c => ?_) (Cert.Reference19Ideal.Value.run_entries m' g')
  obtain ⟨e0, e1, e2, e3⟩ := hagree c
  have := h c
  simp only [e0, e1, e2, e3] at this ⊢
  exact this

end
-- ==== Proof.Adam20.lean ====
/-
  AdamW's call on one device's part of lru_conv_b, and its reference.
-/
module

public import proofs.«01_k».proof.Proof.Gen.Kernel20.Frame
public import proofs.«01_k».proof.Proof.Gen.Kernel20Ideal.Frame
public import proofs.«01_k».proof.Proof.Gen.Reference20Ideal.Run
public import proofs.«01_k».proof.Defs
public import proofs.«01_k».proof.Proof.Adam
public import Idealize.ShloMosaic.Lib.Quiescent

@[expose] public section

set_option maxRecDepth 16384

noncomputable section

namespace Cert.Kernel20Ideal.Value

open Cert.Adam Cert.Kernel20Ideal Cert.Kernel20Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S1x128 .f32 := m ((c.tc : Thread nD τ).loc main_arg0)
abbrev a1 : Vec Ideal S1x128 .f32 := m ((c.tc : Thread nD τ).loc main_arg1)
abbrev a2 : Vec Ideal S1x128 .f32 := m ((c.tc : Thread nD τ).loc main_arg2)
abbrev a3 : Vec Ideal S1x128 .f32 := m ((c.tc : Thread nD τ).loc main_arg3)

/-- An entry's place in the array of rank three. -/
abbrev at3 (i : S1x128.Idx) : S1x1x128.Idx := Shape.reshapeEquiv shapeCasts_S1x1x128_S1x128 i

/-- The weight, the gradient and the two moments as the region finds them. -/
abbrev ws : Vec Ideal S1x1x128 .f32 := V m c main_v0
abbrev gs : Vec Ideal S1x1x128 .f32 := V m c main_v1
abbrev ms : Vec Ideal S1x1x128 .f32 := V m c main_v2
abbrev vs : Vec Ideal S1x1x128 .f32 := V m c main_v3

/-- The blocks of the four a grid point reads. -/
abbrev wBlk : Vec Ideal S1x1x128 .f32 := iblk m c 0 t
abbrev gBlk : Vec Ideal S1x1x128 .f32 := iblk m c 1 t
abbrev mBlk : Vec Ideal S1x1x128 .f32 := iblk m c 2 t
abbrev vBlk : Vec Ideal S1x1x128 .f32 := iblk m c 3 t

/-- What a grid point leaves of the weight's change. -/
theorem delta_block (y : S1x1x128.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  obtain rfl : y1 = 0 := Subsingleton.elim _ _
  pointwise
  rfl

theorem arr4 : (dats m 0 c).arrAt 4 cfg0.N = fun i : S1x1x128.Idx => delta (ws m c i) (gs m c i) (ms m c i) (vs m c i) := by
  refine (dats m 0 c).arrAt_eq_of_covers 4 _ (by decide +kernel) fun t hf y => ?_
  obtain ⟨y, rfl⟩ : ∃ z : S1x1x128.Idx, z = y := ⟨y, rfl⟩
  blk_simp
  rw [after0_4]
  exact delta_block m c t y

/-- What a grid point leaves of the new first moment. -/
theorem newM_block (y : S1x1x128.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  obtain rfl : y1 = 0 := Subsingleton.elim _ _
  pointwise
  rfl

theorem arr5 : (dats m 0 c).arrAt 5 cfg0.N = fun i : S1x1x128.Idx => newM (gs m c i) (ms m c i) := by
  refine (dats m 0 c).arrAt_eq_of_covers 5 _ (by decide +kernel) fun t hf y => ?_
  obtain ⟨y, rfl⟩ : ∃ z : S1x1x128.Idx, z = y := ⟨y, rfl⟩
  blk_simp
  rw [after0_5]
  exact newM_block m c t y

/-- What a grid point leaves of the new second moment. -/
theorem newV_block (y : S1x1x128.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  obtain rfl : y1 = 0 := Subsingleton.elim _ _
  pointwise
  rfl

theorem arr6 : (dats m 0 c).arrAt 6 cfg0.N = fun i : S1x1x128.Idx => newV (gs m c i) (vs m c i) := by
  refine (dats m 0 c).arrAt_eq_of_covers 6 _ (by decide +kernel) fun t hf y => ?_
  obtain ⟨y, rfl⟩ : ∃ z : S1x1x128.Idx, z = y := ⟨y, rfl⟩
  blk_simp
  rw [after0_6]
  exact newV_block m c t y

theorem V_main_v0 : V m c main_v0 = shapeCast S1x1x128 (a0 m c) shapeCasts_S1x128_S1x1x128 := by
  unfold V V0
  simp only [hostOps0, List.flatten_cons, List.flatten_nil, List.cons_append, List.nil_append]
  after_results_simp
  rfl

theorem ws_at (i : S1x128.Idx) : ws m c (at3 i) = a0 m c i :=
  (congrFun (V_main_v0 m c) _).trans (congrFun (shapeCast_shapeCast (a0 m c) shapeCasts_S1x128_S1x1x128 shapeCasts_S1x1x128_S1x128) i)

theorem V_main_v1 : V m c main_v1 = shapeCast S1x1x128 (a1 m c) shapeCasts_S1x128_S1x1x128 := by
  unfold V V0
  simp only [hostOps0, List.flatten_cons, List.flatten_nil, List.cons_append, List.nil_append]
  after_results_simp
  rfl

theorem gs_at (i : S1x128.Idx) : gs m c (at3 i) = a1 m c i :=
  (congrFun (V_main_v1 m c) _).trans (congrFun (shapeCast_shapeCast (a1 m c) shapeCasts_S1x128_S1x1x128 shapeCasts_S1x1x128_S1x128) i)

theorem V_main_v2 : V m c main_v2 = shapeCast S1x1x128 (a2 m c) shapeCasts_S1x128_S1x1x128 := by
  unfold V V0
  simp only [hostOps0, List.flatten_cons, List.flatten_nil, List.cons_append, List.nil_append]
  after_results_simp
  rfl

theorem ms_at (i : S1x128.Idx) : ms m c (at3 i) = a2 m c i :=
  (congrFun (V_main_v2 m c) _).trans (congrFun (shapeCast_shapeCast (a2 m c) shapeCasts_S1x128_S1x1x128 shapeCasts_S1x1x128_S1x128) i)

theorem V_main_v3 : V m c main_v3 = shapeCast S1x1x128 (a3 m c) shapeCasts_S1x128_S1x1x128 := by
  unfold V V0
  simp only [hostOps0, List.flatten_cons, List.flatten_nil, List.cons_append, List.nil_append]
  after_results_simp
  rfl

theorem vs_at (i : S1x128.Idx) : vs m c (at3 i) = a3 m c i :=
  (congrFun (V_main_v3 m c) _).trans (congrFun (shapeCast_shapeCast (a3 m c) shapeCasts_S1x128_S1x1x128 shapeCasts_S1x1x128_S1x128) i)

/-- A result after the lines that follow the region: the region's array, reshaped. -/
theorem cast0 (W : Valuation τ sig (Elt Ideal)) : StableHlo.after [hostOps1].flatten W (Proc.devRef .tc main_v5) = shapeCast S1x128 (W (Proc.devRef .tc main_v4_0) : Vec Ideal S1x1x128 .f32) shapeCasts_S1x1x128_S1x128 := by
  simp only [hostOps1, List.flatten_cons, List.flatten_nil, List.cons_append, List.nil_append]
  after_results_simp
  rfl

theorem tail0 : Pipeline.afterTail₀ cfgs (dats m) 0 (V0 m) [hostOps1] c main_v5 = (fun i : S1x128.Idx => delta (a0 m c i) (a1 m c i) (a2 m c i) (a3 m c i)) := by
  refine (cast0 _).trans ?_
  refine (congrArg (fun a => shapeCast S1x128 a shapeCasts_S1x1x128_S1x128) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S1x128 (W (Proc.devRef .tc main_v4_1) : Vec Ideal S1x1x128 .f32) shapeCasts_S1x1x128_S1x128 := by
  simp only [hostOps1, List.flatten_cons, List.flatten_nil, List.cons_append, List.nil_append]
  after_results_simp
  rfl

theorem tail1 : Pipeline.afterTail₀ cfgs (dats m) 0 (V0 m) [hostOps1] c main_v6 = (fun i : S1x128.Idx => newM (a1 m c i) (a2 m c i)) := by
  refine (cast1 _).trans ?_
  refine (congrArg (fun a => shapeCast S1x128 a shapeCasts_S1x1x128_S1x128) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S1x128 (W (Proc.devRef .tc main_v4_2) : Vec Ideal S1x1x128 .f32) shapeCasts_S1x1x128_S1x128 := by
  simp only [hostOps1, List.flatten_cons, List.flatten_nil, List.cons_append, List.nil_append]
  after_results_simp
  rfl

theorem tail2 : Pipeline.afterTail₀ cfgs (dats m) 0 (V0 m) [hostOps1] c main_v7 = (fun i : S1x128.Idx => newV (a1 m c i) (a3 m c i)) := by
  refine (cast2 _).trans ?_
  refine (congrArg (fun a => shapeCast S1x128 a shapeCasts_S1x1x128_S1x128) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S1x128.Idx => delta (a0 m c i) (a1 m c i) (a2 m c i) (a3 m c i))
      ∧ r.2.mem ((c.tc : Thread nD τ).loc main_v6) = (fun i : S1x128.Idx => newM (a1 m c i) (a2 m c i))
      ∧ r.2.mem ((c.tc : Thread nD τ).loc main_v7) = (fun i : S1x128.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel20Ideal.Value

namespace Cert.Reference20Ideal.Value

open Cert.Adam Cert.Reference20Ideal Cert.Reference20Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x128.Idx => delta ((m ((c.tc : Thread nD τ).loc main_arg0) : Vec Ideal S1x128 .f32) i) ((m ((c.tc : Thread nD τ).loc main_arg1) : Vec Ideal S1x128 .f32) i) ((m ((c.tc : Thread nD τ).loc main_arg2) : Vec Ideal S1x128 .f32) i) ((m ((c.tc : Thread nD τ).loc main_arg3) : Vec Ideal S1x128 .f32) i))
      ∧ r.2.mem ((c.tc : Thread nD τ).loc main_v4) = (fun i : S1x128.Idx => newM ((m ((c.tc : Thread nD τ).loc main_arg1) : Vec Ideal S1x128 .f32) i) ((m ((c.tc : Thread nD τ).loc main_arg2) : Vec Ideal S1x128 .f32) i))
      ∧ r.2.mem ((c.tc : Thread nD τ).loc main_v10) = (fun i : S1x128.Idx => newV ((m ((c.tc : Thread nD τ).loc main_arg1) : Vec Ideal S1x128 .f32) i) ((m ((c.tc : Thread nD τ).loc main_arg3) : Vec Ideal S1x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference20Ideal.Value

/-- The call and the reference take one step: from equal arguments they end with equal results. -/
theorem Cert.algebraic20 : Cert.algebraic_Kernel20Ideal_Reference20Ideal := by
  intro m g m' g' _ hagree
  refine ⟨_, _, _, Cert.Kernel20Ideal.Value.run_entries m g, ?_⟩
  refine (Idealize.ShloMosaic.θ_run _ _ _).mono (fun r h c => ?_) (Cert.Reference20Ideal.Value.run_entries m' g')
  obtain ⟨e0, e1, e2, e3⟩ := hagree c
  have := h c
  simp only [Cert.Kernel20Ideal.Value.a0, Cert.Kernel20Ideal.Value.a1, Cert.Kernel20Ideal.Value.a2, Cert.Kernel20Ideal.Value.a3, e0, e1, e2, e3] at this ⊢
  exact this

end
-- ==== Proof.Adam21.lean ====
/-
  AdamW's call on the whole of lru_wa and of lru_wx, and its reference.
-/
module

public import proofs.«01_k».proof.Proof.Gen.Kernel21.Frame
public import proofs.«01_k».proof.Proof.Gen.Kernel21Ideal.Frame
public import proofs.«01_k».proof.Proof.Gen.Reference21Ideal.Run
public import proofs.«01_k».proof.Defs
public import proofs.«01_k».proof.Proof.Adam
public import Idealize.ShloMosaic.Lib.Quiescent

@[expose] public section

set_option maxRecDepth 16384

noncomputable section

namespace Cert.Kernel21Ideal.Value

open Cert.Adam Cert.Kernel21Ideal Cert.Kernel21Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as they are given. -/
abbrev a0 : Vec Ideal S1x2x8x128x128 .f32 := m ((c.tc : Thread nD τ).loc main_arg0)
abbrev a1 : Vec Ideal S1x2x8x128x128 .f32 := m ((c.tc : Thread nD τ).loc main_arg1)
abbrev a2 : Vec Ideal S1x2x8x128x128 .f32 := m ((c.tc : Thread nD τ).loc main_arg2)
abbrev a3 : Vec Ideal S1x2x8x128x128 .f32 := m ((c.tc : Thread nD τ).loc main_arg3)

/-- An entry's place in the array of rank three. -/
abbrev at3 (i : S1x2x8x128x128.Idx) : S16x128x128.Idx := Shape.reshapeEquiv shapeCasts_S16x128x128_S1x2x8x128x128 i

/-- The weight, the gradient and the two moments as the region finds them. -/
abbrev ws : Vec Ideal S16x128x128 .f32 := V m c main_v0
abbrev gs : Vec Ideal S16x128x128 .f32 := V m c main_v1
abbrev ms : Vec Ideal S16x128x128 .f32 := V m c main_v2
abbrev vs : Vec Ideal S16x128x128 .f32 := V m c main_v3

/-- The blocks of the four a grid point reads. -/
abbrev wBlk : Vec Ideal S1x128x128 .f32 := iblk m c 0 t
abbrev gBlk : Vec Ideal S1x128x128 .f32 := iblk m c 1 t
abbrev mBlk : Vec Ideal S1x128x128 .f32 := iblk m c 2 t
abbrev vBlk : Vec Ideal S1x128x128 .f32 := iblk m c 3 t

/-- What a grid point leaves of the weight's change. -/
theorem delta_block (y : S1x128x128.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  pointwise
  rfl

theorem arr4 : (dats m 0 c).arrAt 4 cfg0.N = fun i : S16x128x128.Idx => delta (ws m c i) (gs m c i) (ms m c i) (vs m c i) := by
  refine (dats m 0 c).arrAt_eq_of_covers 4 _ (by decide +kernel) fun t hf y => ?_
  obtain ⟨y, rfl⟩ : ∃ z : S1x128x128.Idx, z = y := ⟨y, rfl⟩
  blk_simp
  rw [after0_4]
  exact delta_block m c t y

/-- What a grid point leaves of the new first moment. -/
theorem newM_block (y : S1x128x128.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  pointwise
  rfl

theorem arr5 : (dats m 0 c).arrAt 5 cfg0.N = fun i : S16x128x128.Idx => newM (gs m c i) (ms m c i) := by
  refine (dats m 0 c).arrAt_eq_of_covers 5 _ (by decide +kernel) fun t hf y => ?_
  obtain ⟨y, rfl⟩ : ∃ z : S1x128x128.Idx, z = y := ⟨y, rfl⟩
  blk_simp
  rw [after0_5]
  exact newM_block m c t y

/-- What a grid point leaves of the new second moment. -/
theorem newV_block (y : S1x128x128.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  pointwise
  rfl

theorem arr6 : (dats m 0 c).arrAt 6 cfg0.N = fun i : S16x128x128.Idx => newV (gs m c i) (vs m c i) := by
  refine (dats m 0 c).arrAt_eq_of_covers 6 _ (by decide +kernel) fun t hf y => ?_
  obtain ⟨y, rfl⟩ : ∃ z : S1x128x128.Idx, z = y := ⟨y, rfl⟩
  blk_simp
  rw [after0_6]
  exact newV_block m c t y

theorem V_main_v0 : V m c main_v0 = shapeCast S16x128x128 (a0 m c) shapeCasts_S1x2x8x128x128_S16x128x128 := by
  unfold V V0
  simp only [hostOps0, List.flatten_cons, List.flatten_nil, List.cons_append, List.nil_append]
  after_results_simp
  rfl

theorem ws_at (i : S1x2x8x128x128.Idx) : ws m c (at3 i) = a0 m c i :=
  (congrFun (V_main_v0 m c) _).trans (congrFun (shapeCast_shapeCast (a0 m c) shapeCasts_S1x2x8x128x128_S16x128x128 shapeCasts_S16x128x128_S1x2x8x128x128) i)

theorem V_main_v1 : V m c main_v1 = shapeCast S16x128x128 (a1 m c) shapeCasts_S1x2x8x128x128_S16x128x128 := by
  unfold V V0
  simp only [hostOps0, List.flatten_cons, List.flatten_nil, List.cons_append, List.nil_append]
  after_results_simp
  rfl

theorem gs_at (i : S1x2x8x128x128.Idx) : gs m c (at3 i) = a1 m c i :=
  (congrFun (V_main_v1 m c) _).trans (congrFun (shapeCast_shapeCast (a1 m c) shapeCasts_S1x2x8x128x128_S16x128x128 shapeCasts_S16x128x128_S1x2x8x128x128) i)

theorem V_main_v2 : V m c main_v2 = shapeCast S16x128x128 (a2 m c) shapeCasts_S1x2x8x128x128_S16x128x128 := by
  unfold V V0
  simp only [hostOps0, List.flatten_cons, List.flatten_nil, List.cons_append, List.nil_append]
  after_results_simp
  rfl

theorem ms_at (i : S1x2x8x128x128.Idx) : ms m c (at3 i) = a2 m c i :=
  (congrFun (V_main_v2 m c) _).trans (congrFun (shapeCast_shapeCast (a2 m c) shapeCasts_S1x2x8x128x128_S16x128x128 shapeCasts_S16x128x128_S1x2x8x128x128) i)

theorem V_main_v3 : V m c main_v3 = shapeCast S16x128x128 (a3 m c) shapeCasts_S1x2x8x128x128_S16x128x128 := by
  unfold V V0
  simp only [hostOps0, List.flatten_cons, List.flatten_nil, List.cons_append, List.nil_append]
  after_results_simp
  rfl

theorem vs_at (i : S1x2x8x128x128.Idx) : vs m c (at3 i) = a3 m c i :=
  (congrFun (V_main_v3 m c) _).trans (congrFun (shapeCast_shapeCast (a3 m c) shapeCasts_S1x2x8x128x128_S16x128x128 shapeCasts_S16x128x128_S1x2x8x128x128) i)

/-- A result after the lines that follow the region: the region's array, reshaped. -/
theorem cast0 (W : Valuation τ sig (Elt Ideal)) : StableHlo.after [hostOps1].flatten W (Proc.devRef .tc main_v5) = shapeCast S1x2x8x128x128 (W (Proc.devRef .tc main_v4_0) : Vec Ideal S16x128x128 .f32) shapeCasts_S16x128x128_S1x2x8x128x128 := by
  simp only [hostOps1, List.flatten_cons, List.flatten_nil, List.cons_append, List.nil_append]
  after_results_simp
  rfl

theorem tail0 : Pipeline.afterTail₀ cfgs (dats m) 0 (V0 m) [hostOps1] c main_v5 = (fun i : S1x2x8x128x128.Idx => delta (a0 m c i) (a1 m c i) (a2 m c i) (a3 m c i)) := by
  refine (cast0 _).trans ?_
  refine (congrArg (fun a => shapeCast S1x2x8x128x128 a shapeCasts_S16x128x128_S1x2x8x128x128) ((Pipeline.withArrays_arr spec0 launch0.win.arr_inj c _ _ 4).trans (arr4 m c))).trans ?_
  funext i
  show delta (ws m c (at3 i)) (gs m c (at3 i)) (ms m c (at3 i)) (vs m c (at3 i)) = _
  rw [ws_at, gs_at, ms_at, vs_at]

/-- A result after the lines that follow the region: the region's array, reshaped. -/
theorem cast1 (W : Valuation τ sig (Elt Ideal)) : StableHlo.after [hostOps1].flatten W (Proc.devRef .tc main_v6) = shapeCast S1x2x8x128x128 (W (Proc.devRef .tc main_v4_1) : Vec Ideal S16x128x128 .f32) shapeCasts_S16x128x128_S1x2x8x128x128 := by
  simp only [hostOps1, List.flatten_cons, List.flatten_nil, List.cons_append, List.nil_append]
  after_results_simp
  rfl

theorem tail1 : Pipeline.afterTail₀ cfgs (dats m) 0 (V0 m) [hostOps1] c main_v6 = (fun i : S1x2x8x128x128.Idx => newM (a1 m c i) (a2 m c i)) := by
  refine (cast1 _).trans ?_
  refine (congrArg (fun a => shapeCast S1x2x8x128x128 a shapeCasts_S16x128x128_S1x2x8x128x128) ((Pipeline.withArrays_arr spec0 launch0.win.arr_inj c _ _ 5).trans (arr5 m c))).trans ?_
  funext i
  show newM (gs m c (at3 i)) (ms m c (at3 i)) = _
  rw [gs_at, ms_at]

/-- A result after the lines that follow the region: the region's array, reshaped. -/
theorem cast2 (W : Valuation τ sig (Elt Ideal)) : StableHlo.after [hostOps1].flatten W (Proc.devRef .tc main_v7) = shapeCast S1x2x8x128x128 (W (Proc.devRef .tc main_v4_2) : Vec Ideal S16x128x128 .f32) shapeCasts_S16x128x128_S1x2x8x128x128 := by
  simp only [hostOps1, List.flatten_cons, List.flatten_nil, List.cons_append, List.nil_append]
  after_results_simp
  rfl

theorem tail2 : Pipeline.afterTail₀ cfgs (dats m) 0 (V0 m) [hostOps1] c main_v7 = (fun i : S1x2x8x128x128.Idx => newV (a1 m c i) (a3 m c i)) := by
  refine (cast2 _).trans ?_
  refine (congrArg (fun a => shapeCast S1x2x8x128x128 a shapeCasts_S16x128x128_S1x2x8x128x128) ((Pipeline.withArrays_arr spec0 launch0.win.arr_inj c _ _ 6).trans (arr6 m c))).trans ?_
  funext i
  show newV (gs m c (at3 i)) (vs m c (at3 i)) = _
  rw [gs_at, vs_at]

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v5) = (fun i : S1x2x8x128x128.Idx => delta (a0 m c i) (a1 m c i) (a2 m c i) (a3 m c i))
      ∧ r.2.mem ((c.tc : Thread nD τ).loc main_v6) = (fun i : S1x2x8x128x128.Idx => newM (a1 m c i) (a2 m c i))
      ∧ r.2.mem ((c.tc : Thread nD τ).loc main_v7) = (fun i : S1x2x8x128x128.Idx => newV (a1 m c i) (a3 m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v5 (Pipeline.mem_restRefs_of main_v5 (by decide) (by decide))).trans (tail0 m c),
    ((h.1 c).2 main_v6 (Pipeline.mem_restRefs_of main_v6 (by decide) (by decide))).trans (tail1 m c),
    ((h.1 c).2 main_v7 (Pipeline.mem_restRefs_of main_v7 (by decide) (by decide))).trans (tail2 m c), h.2 c⟩)
    (θ_run_and (run_main m ρ) (unchanged m ρ))

end Cert.Kernel21Ideal.Value

namespace Cert.Reference21Ideal.Value

open Cert.Adam Cert.Reference21Ideal Cert.Reference21Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x2x8x128x128.Idx => delta ((m ((c.tc : Thread nD τ).loc main_arg0) : Vec Ideal S1x2x8x128x128 .f32) i) ((m ((c.tc : Thread nD τ).loc main_arg1) : Vec Ideal S1x2x8x128x128 .f32) i) ((m ((c.tc : Thread nD τ).loc main_arg2) : Vec Ideal S1x2x8x128x128 .f32) i) ((m ((c.tc : Thread nD τ).loc main_arg3) : Vec Ideal S1x2x8x128x128 .f32) i))
      ∧ r.2.mem ((c.tc : Thread nD τ).loc main_v4) = (fun i : S1x2x8x128x128.Idx => newM ((m ((c.tc : Thread nD τ).loc main_arg1) : Vec Ideal S1x2x8x128x128 .f32) i) ((m ((c.tc : Thread nD τ).loc main_arg2) : Vec Ideal S1x2x8x128x128 .f32) i))
      ∧ r.2.mem ((c.tc : Thread nD τ).loc main_v10) = (fun i : S1x2x8x128x128.Idx => newV ((m ((c.tc : Thread nD τ).loc main_arg1) : Vec Ideal S1x2x8x128x128 .f32) i) ((m ((c.tc : Thread nD τ).loc main_arg3) : Vec Ideal S1x2x8x128x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference21Ideal.Value

/-- The call and the reference take one step: from equal arguments they end with equal results. -/
theorem Cert.algebraic21 : Cert.algebraic_Kernel21Ideal_Reference21Ideal := by
  intro m g m' g' _ hagree
  refine ⟨_, _, _, Cert.Kernel21Ideal.Value.run_entries m g, ?_⟩
  refine (Idealize.ShloMosaic.θ_run _ _ _).mono (fun r h c => ?_) (Cert.Reference21Ideal.Value.run_entries m' g')
  obtain ⟨e0, e1, e2, e3⟩ := hagree c
  have := h c
  simp only [Cert.Kernel21Ideal.Value.a0, Cert.Kernel21Ideal.Value.a1, Cert.Kernel21Ideal.Value.a2, Cert.Kernel21Ideal.Value.a3, e0, e1, e2, e3] at this ⊢
  exact this

end
-- ==== Proof.Adam22.lean ====
/-
  AdamW's call on one device's part of lru_ba, of lru_bx and of lru_lambda, and its reference.
-/
module

public import proofs.«01_k».proof.Proof.Gen.Kernel22.Frame
public import proofs.«01_k».proof.Proof.Gen.Kernel22Ideal.Value
public import proofs.«01_k».proof.Proof.Gen.Reference22Ideal.Run
public import proofs.«01_k».proof.Defs
public import proofs.«01_k».proof.Proof.Adam
public import Idealize.ShloMosaic.Lib.Quiescent

@[expose] public section

set_option maxRecDepth 16384

noncomputable section

namespace Cert.Kernel22Ideal.Value

open Cert.Adam Cert.Kernel22Ideal Cert.Kernel22Ideal.Gen Idealize.ShloMosaic Idealize.ShloMosaic.TcCoe Idealize.SL.Sem

variable (m : (ℓ : Loc nD τ sig) → Buf (Elt Ideal) ℓ) (c : Dev nD) (t : Fin cfg0.N)

/-- The weight, the gradient and the two moments as the region finds them. -/
abbrev ws : Vec Ideal S1x2x128 .f32 := V m c main_arg0
abbrev gs : Vec Ideal S1x2x128 .f32 := V m c main_arg1
abbrev ms : Vec Ideal S1x2x128 .f32 := V m c main_arg2
abbrev vs : Vec Ideal S1x2x128 .f32 := V m c main_arg3

/-- The blocks of the four a grid point reads. -/
abbrev wBlk : Vec Ideal S1x2x128 .f32 := iblk m c 0 t
abbrev gBlk : Vec Ideal S1x2x128 .f32 := iblk m c 1 t
abbrev mBlk : Vec Ideal S1x2x128 .f32 := iblk m c 2 t
abbrev vBlk : Vec Ideal S1x2x128 .f32 := iblk m c 3 t

/-- What a grid point leaves of the weight's change. -/
theorem delta_block (y : S1x2x128.Idx) : out0_4 (wBlk m c t) (gBlk m c t) (mBlk m c t) (vBlk m c t) y = delta (wBlk m c t y) (gBlk m c t y) (mBlk m c t y) (vBlk m c t y) := by
  unfold out0_4
  frame_out
  unfold_payloads
  idx_vars y
  obtain rfl : y0 = 0 := Subsingleton.elim _ _
  pointwise
  rfl

theorem arr4 : (dats m 0 c).arrAt 4 cfg0.N = fun i : S1x2x128.Idx => delta (ws m c i) (gs m c i) (ms m c i) (vs m c i) := by
  refine (dats m 0 c).arrAt_eq_of_covers 4 _ (by decide +kernel) fun t hf y => ?_
  obtain ⟨y, rfl⟩ : ∃ z : S1x2x128.Idx, z = y := ⟨y, rfl⟩
  blk_simp
  rw [after0_4]
  exact delta_block m c t y

/-- What a grid point leaves of the new first moment. -/
theorem newM_block (y : S1x2x128.Idx) : out0_5 (wBlk m c t) (gBlk m c t) (mBlk m c t) (vBlk m c t) y = newM (gBlk m c t y) (mBlk m c t y) := by
  unfold out0_5
  frame_out
  unfold_payloads
  idx_vars y
  obtain rfl : y0 = 0 := Subsingleton.elim _ _
  pointwise
  rfl

theorem arr5 : (dats m 0 c).arrAt 5 cfg0.N = fun i : S1x2x128.Idx => newM (gs m c i) (ms m c i) := by
  refine (dats m 0 c).arrAt_eq_of_covers 5 _ (by decide +kernel) fun t hf y => ?_
  obtain ⟨y, rfl⟩ : ∃ z : S1x2x128.Idx, z = y := ⟨y, rfl⟩
  blk_simp
  rw [after0_5]
  exact newM_block m c t y

/-- What a grid point leaves of the new second moment. -/
theorem newV_block (y : S1x2x128.Idx) : out0_6 (wBlk m c t) (gBlk m c t) (mBlk m c t) (vBlk m c t) y = newV (gBlk m c t y) (vBlk m c t y) := by
  unfold out0_6
  frame_out
  unfold_payloads
  idx_vars y
  obtain rfl : y0 = 0 := Subsingleton.elim _ _
  pointwise
  rfl

theorem arr6 : (dats m 0 c).arrAt 6 cfg0.N = fun i : S1x2x128.Idx => newV (gs m c i) (vs m c i) := by
  refine (dats m 0 c).arrAt_eq_of_covers 6 _ (by decide +kernel) fun t hf y => ?_
  obtain ⟨y, rfl⟩ : ∃ z : S1x2x128.Idx, z = y := ⟨y, rfl⟩
  blk_simp
  rw [after0_6]
  exact newV_block m c t y

/-- The call ends with its results at the step's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun i : S1x2x128.Idx => delta ((m ((c.tc : Thread nD τ).loc main_arg0) : Vec Ideal S1x2x128 .f32) i) ((m ((c.tc : Thread nD τ).loc main_arg1) : Vec Ideal S1x2x128 .f32) i) ((m ((c.tc : Thread nD τ).loc main_arg2) : Vec Ideal S1x2x128 .f32) i) ((m ((c.tc : Thread nD τ).loc main_arg3) : Vec Ideal S1x2x128 .f32) i))
      ∧ r.2.mem ((c.tc : Thread nD τ).loc main_v0_1) = (fun i : S1x2x128.Idx => newM ((m ((c.tc : Thread nD τ).loc main_arg1) : Vec Ideal S1x2x128 .f32) i) ((m ((c.tc : Thread nD τ).loc main_arg2) : Vec Ideal S1x2x128 .f32) i))
      ∧ r.2.mem ((c.tc : Thread nD τ).loc main_v0_2) = (fun i : S1x2x128.Idx => newV ((m ((c.tc : Thread nD τ).loc main_arg1) : Vec Ideal S1x2x128 .f32) i) ((m ((c.tc : Thread nD τ).loc main_arg3) : Vec Ideal S1x2x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((arr4 m c).trans (by simp only [ws, gs, ms, vs, V_main_arg0, V_main_arg1, V_main_arg2, V_main_arg3])),
    (h c).2.1.trans ((arr5 m c).trans (by simp only [gs, ms, V_main_arg1, V_main_arg2])),
    (h c).2.2.1.trans ((arr6 m c).trans (by simp only [gs, vs, V_main_arg1, V_main_arg3])), (h c).2.2.2⟩) (run_blocks m ρ)

end Cert.Kernel22Ideal.Value

namespace Cert.Reference22Ideal.Value

open Cert.Adam Cert.Reference22Ideal Cert.Reference22Ideal.Gen Idealize.ShloMosaic Idealize.ShloMosaic.TcCoe Idealize.SL.Sem

variable (m : (ℓ : Loc nD τ sig) → Buf (Elt Ideal) ℓ) (ρ : Dev nD → PrngReg)

/-- The reference ends with its results at the step's entries and its arguments unchanged. -/
theorem run_entries : θ_run defs (onTc (τ := τ) (main (F := Ideal))) ⟨m, fun _ => 0, ρ⟩ fun r => ∀ c : Dev nD,
      r.2.mem ((c.tc : Thread nD τ).loc main_v23) = (fun i : S1x2x128.Idx => delta ((m ((c.tc : Thread nD τ).loc main_arg0) : Vec Ideal S1x2x128 .f32) i) ((m ((c.tc : Thread nD τ).loc main_arg1) : Vec Ideal S1x2x128 .f32) i) ((m ((c.tc : Thread nD τ).loc main_arg2) : Vec Ideal S1x2x128 .f32) i) ((m ((c.tc : Thread nD τ).loc main_arg3) : Vec Ideal S1x2x128 .f32) i))
      ∧ r.2.mem ((c.tc : Thread nD τ).loc main_v4) = (fun i : S1x2x128.Idx => newM ((m ((c.tc : Thread nD τ).loc main_arg1) : Vec Ideal S1x2x128 .f32) i) ((m ((c.tc : Thread nD τ).loc main_arg2) : Vec Ideal S1x2x128 .f32) i))
      ∧ r.2.mem ((c.tc : Thread nD τ).loc main_v10) = (fun i : S1x2x128.Idx => newV ((m ((c.tc : Thread nD τ).loc main_arg1) : Vec Ideal S1x2x128 .f32) i) ((m ((c.tc : Thread nD τ).loc main_arg3) : Vec Ideal S1x2x128 .f32) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by funext i; pointwise; rfl), (h c).2.1.trans (by funext i; pointwise; rfl),
    (h c).2.2.1.trans (by funext i; pointwise; rfl), (h c).2.2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems rfl r.2⟩) (run m ρ)

end Cert.Reference22Ideal.Value

/-- The call and the reference take one step: from equal arguments they end with equal results. -/
theorem Cert.algebraic22 : Cert.algebraic_Kernel22Ideal_Reference22Ideal := by
  intro m g m' g' _ hagree
  refine ⟨_, _, _, Cert.Kernel22Ideal.Value.run_entries m g, ?_⟩
  refine (Idealize.ShloMosaic.θ_run _ _ _).mono (fun r h c => ?_) (Cert.Reference22Ideal.Value.run_entries m' g')
  obtain ⟨e0, e1, e2, e3⟩ := hagree c
  have := h c
  simp only [e0, e1, e2, e3] at this ⊢
  exact this

end
-- ==== Proof.Mat.lean ====
/-
  The three products of two matrices over the extended reals, entry by entry, and the sum over the devices of their shares:
  what the projections' and the sums' calls and their references are both shown to compute.
-/
module

public import Idealize.ShloMosaic.Lib.Pointwise
public import Idealize.ShloMosaic.Lib.IdealHost

@[expose] public section

noncomputable section

namespace Cert.Mat

open Idealize.ShloMosaic

/-- The entries of an array with two axes. -/
abbrev mat {a b : ℕ} {α : Type} (v : (⟨2, ![a, b]⟩ : Shape).Idx → α) (i : Fin a) (j : Fin b) : α := v (ix2 i j)

variable {M N K : ℕ}

/-- The product of two matrices. -/
def nn (a : Fin M → Fin K → EReal) (b : Fin K → Fin N → EReal) (i : Fin M) (j : Fin N) : EReal := ∑ k, a i k * b k j

/-- The product with the second matrix transposed. -/
def nt (a : Fin M → Fin K → EReal) (b : Fin N → Fin K → EReal) (i : Fin M) (j : Fin N) : EReal := ∑ k, a i k * b j k

/-- The product with the first matrix transposed. -/
def tn (a : Fin K → Fin M → EReal) (b : Fin K → Fin N → EReal) (i : Fin M) (j : Fin N) : EReal := ∑ k, a k i * b k j

/-- The sum over the devices of their shares at an index. -/
def shares {d a b : ℕ} (x : (⟨3, ![d, a, b]⟩ : Shape).Idx → EReal) (i : Fin a) (j : Fin b) : EReal := ∑ k, x (ix3 k i j)

/-- A sum over `a + b` indices is the sum over the first `a` and the sum over the last `b`. -/
theorem sum_split {a b n : ℕ} (h : a + b = n) (f : Fin n → EReal) :
    ∑ k, f k = ∑ k : Fin a, f ⟨k.val, by omega⟩ + ∑ k : Fin b, f ⟨a + k.val, by omega⟩ := by
  subst h
  exact Fin.sum_univ_add f

/-- A sum over six times `n` indices is six sums. -/
theorem sum_six {n p : ℕ} (h : 6 * n = p) (f : Fin p → EReal) :
    ∑ k, f k = ((((∑ k : Fin n, f ⟨k.val, by omega⟩ + ∑ k : Fin n, f ⟨n + k.val, by omega⟩) + ∑ k : Fin n, f ⟨2 * n + k.val, by omega⟩)
      + ∑ k : Fin n, f ⟨3 * n + k.val, by omega⟩) + ∑ k : Fin n, f ⟨4 * n + k.val, by omega⟩) + ∑ k : Fin n, f ⟨5 * n + k.val, by omega⟩ := by
  rw [sum_split (a := 5 * n) (b := n) (by omega), sum_split (a := 4 * n) (b := n) (by omega), sum_split (a := 3 * n) (b := n) (by omega),
    sum_split (a := 2 * n) (b := n) (by omega), sum_split (a := n) (b := n) (by omega)]

end Cert.Mat

end
-- ==== Proof.Mat23.lean ====
/-
  The input projection of the attention and pooling mixer: its result array, entry by entry, and the reference's.
-/
module

public import proofs.«01_k».proof.Proof.Gen.Kernel23Ideal.Value
public import proofs.«01_k».proof.Proof.Gen.Reference23Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel23Ideal.Value

open Cert.Mat Cert.Kernel23Ideal Cert.Kernel23Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1024 .bf16 := V m c main_arg0
/-- The right matrix as the region finds it. -/
abbrev rhs : Vec Ideal S1280x1024 .bf16 := V m c main_v1
/-- The block of the left matrix a grid point reads. -/
abbrev lhsBlk : Vec Ideal S1536x1024 .bf16 := iblk m c 0 t
/-- The block of the right matrix a grid point reads. -/
abbrev rhsBlk : Vec Ideal S1280x1024 .bf16 := iblk m c 1 t

/-- The block indices of the three windows at a grid point. -/
theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 3 := lt_of_lt_of_eq t.isLt N_0

/-- A block of the left matrix, off the array. -/
theorem lhsBlk_apply (k : Fin 1024) (a : Fin 1536) : lhsBlk m c t (ix2 a k) = lhs m c (ix2 ⟨t.val * 1536 + a.val, by have := point_lt t; omega⟩ k) := by
  obtain ⟨e0, _, _⟩ := idx t
  blk_ext [lhsBlk, iblk, e0]

/-- A block of the right matrix, off the array. -/
theorem rhsBlk_apply (k : Fin 1024) (b : Fin 1280) : rhsBlk m c t (ix2 b k) = rhs m c (ix2 b k) := by
  obtain ⟨_, e1, _⟩ := idx t
  blk_ext [rhsBlk, iblk, e1]

/-- What a grid point writes back: the product of its two blocks. -/
theorem out_block (a : Fin 1536) (b : Fin 1280) : out0_2 (lhsBlk m c t) (rhsBlk m c t) (ix2 a b) = ∑ k : Fin 1024, lhsBlk m c t (ix2 a k) * rhsBlk m c t (ix2 b k) := by
  unfold out0_2
  frame_out
  unfold_payloads
  pointwise

/-- The result array: the product with the second matrix transposed of the two matrices as the region finds them. -/
theorem arr2 : (dats m 0 c).arrAt 2 cfg0.N = fun q : S4608x1280.Idx => nt (mat (lhs m c)) (mat (rhs m c)) (q 0) (q 1) := by
  refine (dats m 0 c).arrAt_eq_of_covers 2 _ (by decide +kernel) fun t hf y => ?_
  obtain ⟨y, rfl⟩ : ∃ z : S1536x1280.Idx, z = y := ⟨y, rfl⟩
  obtain ⟨_, _, e2⟩ := idx t
  idx_vars y
  rw [after0_2]
  have e : (win0_2.blk t).view.emb (ix2 y0 y1) = (ix2 ⟨t.val * 1536 + y0.val, by have := point_lt t; omega⟩ y1 : S4608x1280.Idx) := by
    blk_ext [e2]
  blk_simp
  refine (out_block m c t y0 y1).trans ?_
  simp only [lhsBlk_apply, rhsBlk_apply]
  exact Eq.trans rfl (congrArg (fun q : S4608x1280.Idx => nt (mat (lhs m c)) (mat (rhs m c)) (q 0) (q 1)) e).symm

/-- The left matrix's entries are the argument's. -/
theorem lhs_apply (i : Fin 4608) (k : Fin 1024) : lhs m c (ix2 i k) = (mat (m ((c.tc : Thread nD τ).loc main_arg0))) i k := congrFun (V_main_arg0 m c) _

/-- The right matrix's entries are the argument's. -/
theorem rhs_apply (j : Fin 1280) (k : Fin 1024) : rhs m c (ix2 j k) = (mat (m ((c.tc : Thread nD τ).loc main_arg1))) k j := by
  unfold rhs V
  after_reads_at
  all_goals rfl

/-- The product with the second matrix transposed of the matrices the region finds is the arguments'. -/
theorem result_apply (i : Fin 4608) (j : Fin 1280) : nt (mat (lhs m c)) (mat (rhs m c)) i j = nn (mat (m ((c.tc : Thread nD τ).loc main_arg0))) (mat (m ((c.tc : Thread nD τ).loc main_arg1))) i j :=
  Finset.sum_congr rfl fun k _ => congrArg₂ (· * ·) (lhs_apply m c i k) (rhs_apply m c j k)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v2) = (fun q : S4608x1280.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel23Ideal.Value

namespace Cert.Reference23Ideal.Value

open Cert.Mat Cert.Reference23Ideal Cert.Reference23Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v2) = (fun q : S4608x1280.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference23Ideal.Value

/-- The call and the reference compute one product: from equal arguments they end with equal results. -/
theorem Cert.algebraic23 : Cert.algebraic_Kernel23Ideal_Reference23Ideal := by
  intro m g m' g' _ hagree
  refine ⟨_, Cert.Kernel23Ideal.Value.run_entries m g, ?_⟩
  refine (Idealize.ShloMosaic.θ_run _ _ _).mono (fun r h c => ?_) (Cert.Reference23Ideal.Value.run_entries m' g')
  obtain ⟨e0, e1⟩ := hagree c
  have := h c
  simp only [e0, e1] at this ⊢
  exact this

end
-- ==== Proof.Mat24.lean ====
/-
  The input projection of the recurrent mixer: its result array, entry by entry, and the reference's.
-/
module

public import proofs.«01_k».proof.Proof.Gen.Kernel24Ideal.Value
public import proofs.«01_k».proof.Proof.Gen.Reference24Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel24Ideal.Value

open Cert.Mat Cert.Kernel24Ideal Cert.Kernel24Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1024 .bf16 := V m c main_arg0
/-- The right matrix as the region finds it. -/
abbrev rhs : Vec Ideal S2048x1024 .bf16 := V m c main_v1
/-- The block of the left matrix a grid point reads. -/
abbrev lhsBlk : Vec Ideal S1536x1024 .bf16 := iblk m c 0 t
/-- The block of the right matrix a grid point reads. -/
abbrev rhsBlk : Vec Ideal S1024x1024 .bf16 := iblk m c 1 t

/-- The block indices of the three windows at a grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point_lt (t : Fin cfg0.N) : t.val < 6 := lt_of_lt_of_eq t.isLt N_0

/-- A block of the left matrix, off the array. -/
theorem lhsBlk_apply (k : Fin 1024) (a : Fin 1536) : lhsBlk m c t (ix2 a k) = lhs m c (ix2 ⟨t.val / 2 * 1536 + a.val, by have := point_lt t; omega⟩ k) := by
  obtain ⟨e0, _, _⟩ := idx t
  blk_ext [lhsBlk, iblk, e0]

/-- A block of the right matrix, off the array. -/
theorem rhsBlk_apply (k : Fin 1024) (b : Fin 1024) : rhsBlk m c t (ix2 b k) = rhs m c (ix2 ⟨t.val % 2 * 1024 + b.val, by have := point_lt t; omega⟩ k) := by
  obtain ⟨_, e1, _⟩ := idx t
  blk_ext [rhsBlk, iblk, e1]

/-- What a grid point writes back: the product of its two blocks. -/
theorem out_block (a : Fin 1536) (b : Fin 1024) : out0_2 (lhsBlk m c t) (rhsBlk m c t) (ix2 a b) = ∑ k : Fin 1024, lhsBlk m c t (ix2 a k) * rhsBlk m c t (ix2 b k) := by
  unfold out0_2
  frame_out
  unfold_payloads
  pointwise

/-- The result array: the product with the second matrix transposed of the two matrices as the region finds them. -/
theorem arr2 : (dats m 0 c).arrAt 2 cfg0.N = fun q : S4608x2048.Idx => nt (mat (lhs m c)) (mat (rhs m c)) (q 0) (q 1) := by
  refine (dats m 0 c).arrAt_eq_of_covers 2 _ (by decide +kernel) fun t hf y => ?_
  obtain ⟨y, rfl⟩ : ∃ z : S1536x1024.Idx, z = y := ⟨y, rfl⟩
  obtain ⟨_, _, e2⟩ := idx t
  idx_vars y
  rw [after0_2]
  have e : (win0_2.blk t).view.emb (ix2 y0 y1) = (ix2 ⟨t.val / 2 * 1536 + y0.val, by have := point_lt t; omega⟩ ⟨t.val % 2 * 1024 + y1.val, by have := point_lt t; omega⟩ : S4608x2048.Idx) := by
    blk_ext [e2]
  blk_simp
  refine (out_block m c t y0 y1).trans ?_
  simp only [lhsBlk_apply, rhsBlk_apply]
  exact Eq.trans rfl (congrArg (fun q : S4608x2048.Idx => nt (mat (lhs m c)) (mat (rhs m c)) (q 0) (q 1)) e).symm

/-- The left matrix's entries are the argument's. -/
theorem lhs_apply (i : Fin 4608) (k : Fin 1024) : lhs m c (ix2 i k) = (mat (m ((c.tc : Thread nD τ).loc main_arg0))) i k := congrFun (V_main_arg0 m c) _

/-- The right matrix's entries are the argument's. -/
theorem rhs_apply (j : Fin 2048) (k : Fin 1024) : rhs m c (ix2 j k) = (mat (m ((c.tc : Thread nD τ).loc main_arg1))) k j := by
  unfold rhs V
  after_reads_at
  all_goals rfl

/-- The product with the second matrix transposed of the matrices the region finds is the arguments'. -/
theorem result_apply (i : Fin 4608) (j : Fin 2048) : nt (mat (lhs m c)) (mat (rhs m c)) i j = nn (mat (m ((c.tc : Thread nD τ).loc main_arg0))) (mat (m ((c.tc : Thread nD τ).loc main_arg1))) i j :=
  Finset.sum_congr rfl fun k _ => congrArg₂ (· * ·) (lhs_apply m c i k) (rhs_apply m c j k)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v2) = (fun q : S4608x2048.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel24Ideal.Value

namespace Cert.Reference24Ideal.Value

open Cert.Mat Cert.Reference24Ideal Cert.Reference24Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v2) = (fun q : S4608x2048.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference24Ideal.Value

/-- The call and the reference compute one product: from equal arguments they end with equal results. -/
theorem Cert.algebraic24 : Cert.algebraic_Kernel24Ideal_Reference24Ideal := by
  intro m g m' g' _ hagree
  refine ⟨_, Cert.Kernel24Ideal.Value.run_entries m g, ?_⟩
  refine (Idealize.ShloMosaic.θ_run _ _ _).mono (fun r h c => ?_) (Cert.Reference24Ideal.Value.run_entries m' g')
  obtain ⟨e0, e1⟩ := hagree c
  have := h c
  simp only [e0, e1] at this ⊢
  exact this

end
-- ==== Proof.Mat25.lean ====
/-
  The output projection of both mixers: its result array, entry by entry, and the reference's.
-/
module

public import proofs.«01_k».proof.Proof.Gen.Kernel25Ideal.Value
public import proofs.«01_k».proof.Proof.Gen.Reference25Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel25Ideal.Value

open Cert.Mat Cert.Kernel25Ideal Cert.Kernel25Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1024 .bf16 := V m c main_arg0
/-- The right matrix as the region finds it. -/
abbrev rhs : Vec Ideal S1024x1024 .bf16 := V m c main_v0
/-- The block of the left matrix a grid point reads. -/
abbrev lhsBlk : Vec Ideal S1536x1024 .bf16 := iblk m c 0 t
/-- The block of the right matrix a grid point reads. -/
abbrev rhsBlk : Vec Ideal S1024x1024 .bf16 := iblk m c 1 t

/-- The block indices of the three windows at a grid point. -/
theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 3 := lt_of_lt_of_eq t.isLt N_0

/-- A block of the left matrix, off the array. -/
theorem lhsBlk_apply (k : Fin 1024) (a : Fin 1536) : lhsBlk m c t (ix2 a k) = lhs m c (ix2 ⟨t.val * 1536 + a.val, by have := point_lt t; omega⟩ k) := by
  obtain ⟨e0, _, _⟩ := idx t
  blk_ext [lhsBlk, iblk, e0]

/-- A block of the right matrix, off the array. -/
theorem rhsBlk_apply (k : Fin 1024) (b : Fin 1024) : rhsBlk m c t (ix2 k b) = rhs m c (ix2 k b) := by
  obtain ⟨_, e1, _⟩ := idx t
  blk_ext [rhsBlk, iblk, e1]

/-- What a grid point writes back: the product of its two blocks. -/
theorem out_block (a : Fin 1536) (b : Fin 1024) : out0_2 (lhsBlk m c t) (rhsBlk m c t) (ix2 a b) = ∑ k : Fin 1024, lhsBlk m c t (ix2 a k) * rhsBlk m c t (ix2 k b) := by
  unfold out0_2
  frame_out
  unfold_payloads
  pointwise

/-- The result array: the product of the two matrices as the region finds them. -/
theorem arr2 : (dats m 0 c).arrAt 2 cfg0.N = fun q : S4608x1024.Idx => nn (mat (lhs m c)) (mat (rhs m c)) (q 0) (q 1) := by
  refine (dats m 0 c).arrAt_eq_of_covers 2 _ (by decide +kernel) fun t hf y => ?_
  obtain ⟨y, rfl⟩ : ∃ z : S1536x1024.Idx, z = y := ⟨y, rfl⟩
  obtain ⟨_, _, e2⟩ := idx t
  idx_vars y
  rw [after0_2]
  have e : (win0_2.blk t).view.emb (ix2 y0 y1) = (ix2 ⟨t.val * 1536 + y0.val, by have := point_lt t; omega⟩ y1 : S4608x1024.Idx) := by
    blk_ext [e2]
  blk_simp
  refine (out_block m c t y0 y1).trans ?_
  simp only [lhsBlk_apply, rhsBlk_apply]
  exact Eq.trans rfl (congrArg (fun q : S4608x1024.Idx => nn (mat (lhs m c)) (mat (rhs m c)) (q 0) (q 1)) e).symm

/-- The left matrix's entries are the argument's. -/
theorem lhs_apply (i : Fin 4608) (k : Fin 1024) : lhs m c (ix2 i k) = (mat (m ((c.tc : Thread nD τ).loc main_arg0))) i k := congrFun (V_main_arg0 m c) _

/-- The right matrix's entries are the argument's. -/
theorem rhs_apply (k : Fin 1024) (j : Fin 1024) : rhs m c (ix2 k j) = (mat (m ((c.tc : Thread nD τ).loc main_arg1))) k j := by
  unfold rhs V
  after_reads_at
  all_goals rfl

/-- The product of the matrices the region finds is the arguments'. -/
theorem result_apply (i : Fin 4608) (j : Fin 1024) : nn (mat (lhs m c)) (mat (rhs m c)) i j = nn (mat (m ((c.tc : Thread nD τ).loc main_arg0))) (mat (m ((c.tc : Thread nD τ).loc main_arg1))) i j :=
  Finset.sum_congr rfl fun k _ => congrArg₂ (· * ·) (lhs_apply m c i k) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v1) = (fun q : S4608x1024.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel25Ideal.Value

namespace Cert.Reference25Ideal.Value

open Cert.Mat Cert.Reference25Ideal Cert.Reference25Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v2) = (fun q : S4608x1024.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference25Ideal.Value

/-- The call and the reference compute one product: from equal arguments they end with equal results. -/
theorem Cert.algebraic25 : Cert.algebraic_Kernel25Ideal_Reference25Ideal := by
  intro m g m' g' _ hagree
  refine ⟨_, Cert.Kernel25Ideal.Value.run_entries m g, ?_⟩
  refine (Idealize.ShloMosaic.θ_run _ _ _).mono (fun r h c => ?_) (Cert.Reference25Ideal.Value.run_entries m' g')
  obtain ⟨e0, e1⟩ := hagree c
  have := h c
  simp only [e0, e1] at this ⊢
  exact this

end
-- ==== Proof.Mat26.lean ====
/-
  The cotangent of the output projection's input: its result array, entry by entry, and the reference's.
-/
module

public import proofs.«01_k».proof.Proof.Gen.Kernel26Ideal.Value
public import proofs.«01_k».proof.Proof.Gen.Reference26Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel26Ideal.Value

open Cert.Mat Cert.Kernel26Ideal Cert.Kernel26Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1024 .bf16 := V m c main_arg0
/-- The right matrix as the region finds it. -/
abbrev rhs : Vec Ideal S1024x1024 .bf16 := V m c main_v0
/-- The block of the left matrix a grid point reads. -/
abbrev lhsBlk : Vec Ideal S1536x1024 .bf16 := iblk m c 0 t
/-- The block of the right matrix a grid point reads. -/
abbrev rhsBlk : Vec Ideal S1024x1024 .bf16 := iblk m c 1 t

/-- The block indices of the three windows at a grid point. -/
theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 3 := lt_of_lt_of_eq t.isLt N_0

/-- A block of the left matrix, off the array. -/
theorem lhsBlk_apply (k : Fin 1024) (a : Fin 1536) : lhsBlk m c t (ix2 a k) = lhs m c (ix2 ⟨t.val * 1536 + a.val, by have := point_lt t; omega⟩ k) := by
  obtain ⟨e0, _, _⟩ := idx t
  blk_ext [lhsBlk, iblk, e0]

/-- A block of the right matrix, off the array. -/
theorem rhsBlk_apply (k : Fin 1024) (b : Fin 1024) : rhsBlk m c t (ix2 b k) = rhs m c (ix2 b k) := by
  obtain ⟨_, e1, _⟩ := idx t
  blk_ext [rhsBlk, iblk, e1]

/-- What a grid point writes back: the product of its two blocks. -/
theorem out_block (a : Fin 1536) (b : Fin 1024) : out0_2 (lhsBlk m c t) (rhsBlk m c t) (ix2 a b) = ∑ k : Fin 1024, lhsBlk m c t (ix2 a k) * rhsBlk m c t (ix2 b k) := by
  unfold out0_2
  frame_out
  unfold_payloads
  pointwise

/-- The result array: the product with the second matrix transposed of the two matrices as the region finds them. -/
theorem arr2 : (dats m 0 c).arrAt 2 cfg0.N = fun q : S4608x1024.Idx => nt (mat (lhs m c)) (mat (rhs m c)) (q 0) (q 1) := by
  refine (dats m 0 c).arrAt_eq_of_covers 2 _ (by decide +kernel) fun t hf y => ?_
  obtain ⟨y, rfl⟩ : ∃ z : S1536x1024.Idx, z = y := ⟨y, rfl⟩
  obtain ⟨_, _, e2⟩ := idx t
  idx_vars y
  rw [after0_2]
  have e : (win0_2.blk t).view.emb (ix2 y0 y1) = (ix2 ⟨t.val * 1536 + y0.val, by have := point_lt t; omega⟩ y1 : S4608x1024.Idx) := by
    blk_ext [e2]
  blk_simp
  refine (out_block m c t y0 y1).trans ?_
  simp only [lhsBlk_apply, rhsBlk_apply]
  exact Eq.trans rfl (congrArg (fun q : S4608x1024.Idx => nt (mat (lhs m c)) (mat (rhs m c)) (q 0) (q 1)) e).symm

/-- The left matrix's entries are the argument's. -/
theorem lhs_apply (i : Fin 4608) (k : Fin 1024) : lhs m c (ix2 i k) = (mat (m ((c.tc : Thread nD τ).loc main_arg0))) i k := congrFun (V_main_arg0 m c) _

/-- The right matrix's entries are the argument's. -/
theorem rhs_apply (j : Fin 1024) (k : Fin 1024) : rhs m c (ix2 j k) = (mat (m ((c.tc : Thread nD τ).loc main_arg1))) j k := by
  unfold rhs V
  after_reads_at
  all_goals rfl

/-- The product with the second matrix transposed of the matrices the region finds is the arguments'. -/
theorem result_apply (i : Fin 4608) (j : Fin 1024) : nt (mat (lhs m c)) (mat (rhs m c)) i j = nt (mat (m ((c.tc : Thread nD τ).loc main_arg0))) (mat (m ((c.tc : Thread nD τ).loc main_arg1))) i j :=
  Finset.sum_congr rfl fun k _ => congrArg₂ (· * ·) (lhs_apply m c i k) (rhs_apply m c j k)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v1) = (fun q : S4608x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel26Ideal.Value

namespace Cert.Reference26Ideal.Value

open Cert.Mat Cert.Reference26Ideal Cert.Reference26Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v4) = (fun q : S4608x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference26Ideal.Value

/-- The call and the reference compute one product: from equal arguments they end with equal results. -/
theorem Cert.algebraic26 : Cert.algebraic_Kernel26Ideal_Reference26Ideal := by
  intro m g m' g' _ hagree
  refine ⟨_, Cert.Kernel26Ideal.Value.run_entries m g, ?_⟩
  refine (Idealize.ShloMosaic.θ_run _ _ _).mono (fun r h c => ?_) (Cert.Reference26Ideal.Value.run_entries m' g')
  obtain ⟨e0, e1⟩ := hagree c
  have := h c
  simp only [e0, e1] at this ⊢
  exact this

end
-- ==== Proof.Mat27.lean ====
/-
  The cotangent of the input projection's input, attention and pooling mixer: its result array, entry by entry, and the reference's.
-/
module

public import proofs.«01_k».proof.Proof.Gen.Kernel27Ideal.Value
public import proofs.«01_k».proof.Proof.Gen.Reference27Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel27Ideal.Value

open Cert.Mat Cert.Kernel27Ideal Cert.Kernel27Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1280 .bf16 := V m c main_arg0
/-- The right matrix as the region finds it. -/
abbrev rhs : Vec Ideal S1280x1024 .bf16 := V m c main_v1
/-- The block of the left matrix a grid point reads. -/
abbrev lhsBlk : Vec Ideal S1536x640 .bf16 := iblk m c 0 t
/-- The block of the right matrix a grid point reads. -/
abbrev rhsBlk : Vec Ideal S640x1024 .bf16 := iblk m c 1 t

/-- The block indices of the three windows at a grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem point_lt (t : Fin cfg0.N) : t.val < 6 := lt_of_lt_of_eq t.isLt N_0

/-- A block of the left matrix, off the array. -/
theorem lhsBlk_apply (k : Fin 640) (a : Fin 1536) : lhsBlk m c t (ix2 a k) = lhs m c (ix2 ⟨t.val / 2 * 1536 + a.val, by have := point_lt t; omega⟩ ⟨t.val % 2 * 640 + k.val, by have := point_lt t; omega⟩) := by
  obtain ⟨e0, _, _⟩ := idx t
  blk_ext [lhsBlk, iblk, e0]

/-- A block of the right matrix, off the array. -/
theorem rhsBlk_apply (k : Fin 640) (b : Fin 1024) : rhsBlk m c t (ix2 k b) = rhs m c (ix2 ⟨t.val % 2 * 640 + k.val, by have := point_lt t; omega⟩ b) := by
  obtain ⟨_, e1, _⟩ := idx t
  blk_ext [rhsBlk, iblk, e1]

/-- What the first grid point of a block leaves in the accumulator: the product of its two blocks. -/
theorem scratch_A (h0 : t.val % 2 = 0) (h2 : ¬t.val % 2 = 1) (a : Fin 1536) (b : Fin 1024) :
    (outsAt0 m c t.val t.isLt).2 (ix2 a b) = ∑ k : Fin 640, lhsBlk m c t (ix2 a k) * rhsBlk m c t (ix2 k b) := by
  rw [outsAt0_A m c t h0 h2]
  frame_out
  unfold_payloads
  pointwise

/-- What the last grid point of a block writes back: what it found in the accumulator and the product of its two blocks. -/
theorem out_last (h0 : ¬t.val % 2 = 0) (h2 : t.val % 2 = 1) (a : Fin 1536) (b : Fin 1024) :
    (outsAt0 m c t.val t.isLt).1 (ix2 a b)
      = (outsAt0 m c (t.val - 1) (Nat.lt_of_le_of_lt (Nat.sub_le _ _) t.isLt)).2 (ix2 a b)
        + ∑ k : Fin 640, lhsBlk m c t (ix2 a k) * rhsBlk m c t (ix2 k b) := by
  rw [outsAt0_B m c t h0 h2]
  frame_out
  simp only [read_unread_whole]
  unfold_payloads
  pointwise

/-- The result array: the product of the two matrices as the region finds them. -/
theorem G2_apply (i : Fin 4608) (j : Fin 1024) : G2 m c (ix2 i j) = nn (mat (lhs m c)) (mat (rhs m c)) i j := by
  have hp : pt2Of (ix2 i j) = 2 * (i.val / 1536) + 1 := by
    show 2 * (1 * (i.val / 1536 - 0) + 1 * (j.val / 1024 - 0)) + 1 = _
    omega
  have h : pt2Of (ix2 i j) < cfg0.N := by rw [hp, show cfg0.N = 6 from N_0]; omega
  have hl : loc2Of (ix2 i j) = ix2 ⟨i.val % 1536, by omega⟩ j := by
    funext a
    match a with
    | ⟨0, _⟩ => rfl
    | ⟨1, _⟩ => exact Fin.ext (Nat.mod_eq_of_lt j.isLt)
  unfold G2
  rw [dif_pos h, ← outsAt0_sweep, hl]
  refine (out_last m c ⟨_, h⟩ (by dsimp only; omega) (by dsimp only; omega) _ _).trans ?_
  rw [scratch_A m c ⟨pt2Of (ix2 i j) - 1, by omega⟩ (by dsimp only; omega) (by dsimp only; omega)]
  simp only [lhsBlk_apply, rhsBlk_apply]
  unfold nn mat
  generalize lhs m c = L
  generalize rhs m c = R
  rw [sum_split (a := 640) (b := 640) rfl]
  have d := i.isLt
  congr 1 <;> refine Finset.sum_congr rfl fun k _ => ?_ <;> congr 3 <;> (apply Fin.ext; dsimp only; omega)

/-- The left matrix's entries are the argument's. -/
theorem lhs_apply (i : Fin 4608) (k : Fin 1280) : lhs m c (ix2 i k) = (mat (m ((c.tc : Thread nD τ).loc main_arg0))) i k := congrFun (V_main_arg0 m c) _

/-- The right matrix's entries are the argument's. -/
theorem rhs_apply (k : Fin 1280) (j : Fin 1024) : rhs m c (ix2 k j) = (mat (m ((c.tc : Thread nD τ).loc main_arg1))) j k := by
  unfold rhs V
  after_reads_at
  all_goals rfl

/-- The product of the matrices the region finds is the arguments'. -/
theorem result_apply (i : Fin 4608) (j : Fin 1024) : nn (mat (lhs m c)) (mat (rhs m c)) i j = nt (mat (m ((c.tc : Thread nD τ).loc main_arg0))) (mat (m ((c.tc : Thread nD τ).loc main_arg1))) i j :=
  Finset.sum_congr rfl fun k _ => congrArg₂ (· * ·) (lhs_apply m c i k) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v2) = (fun q : S4608x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; exact (G2_apply m c q0 q1).trans (result_apply m c q0 q1)), (h c).2⟩) (run m ρ)

end Cert.Kernel27Ideal.Value

namespace Cert.Reference27Ideal.Value

open Cert.Mat Cert.Reference27Ideal Cert.Reference27Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v4) = (fun q : S4608x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference27Ideal.Value

/-- The call and the reference compute one product: from equal arguments they end with equal results. -/
theorem Cert.algebraic27 : Cert.algebraic_Kernel27Ideal_Reference27Ideal := by
  intro m g m' g' _ hagree
  refine ⟨_, Cert.Kernel27Ideal.Value.run_entries m g, ?_⟩
  refine (Idealize.ShloMosaic.θ_run _ _ _).mono (fun r h c => ?_) (Cert.Reference27Ideal.Value.run_entries m' g')
  obtain ⟨e0, e1⟩ := hagree c
  have := h c
  simp only [e0, e1] at this ⊢
  exact this

end
-- ==== Proof.Mat28.lean ====
/-
  The cotangent of the input projection's input, recurrent mixer: its result array, entry by entry, and the reference's.
-/
module

public import proofs.«01_k».proof.Proof.Gen.Kernel28Ideal.Value
public import proofs.«01_k».proof.Proof.Gen.Reference28Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel28Ideal.Value

open Cert.Mat Cert.Kernel28Ideal Cert.Kernel28Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x2048 .bf16 := V m c main_arg0
/-- The right matrix as the region finds it. -/
abbrev rhs : Vec Ideal S2048x1024 .bf16 := V m c main_v1
/-- The block of the left matrix a grid point reads. -/
abbrev lhsBlk : Vec Ideal S1536x1024 .bf16 := iblk m c 0 t
/-- The block of the right matrix a grid point reads. -/
abbrev rhsBlk : Vec Ideal S1024x1024 .bf16 := iblk m c 1 t

/-- The block indices of the three windows at a grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

theorem point_lt (t : Fin cfg0.N) : t.val < 6 := lt_of_lt_of_eq t.isLt N_0

/-- A block of the left matrix, off the array. -/
theorem lhsBlk_apply (k : Fin 1024) (a : Fin 1536) : lhsBlk m c t (ix2 a k) = lhs m c (ix2 ⟨t.val / 2 * 1536 + a.val, by have := point_lt t; omega⟩ ⟨t.val % 2 * 1024 + k.val, by have := point_lt t; omega⟩) := by
  obtain ⟨e0, _, _⟩ := idx t
  blk_ext [lhsBlk, iblk, e0]

/-- A block of the right matrix, off the array. -/
theorem rhsBlk_apply (k : Fin 1024) (b : Fin 1024) : rhsBlk m c t (ix2 k b) = rhs m c (ix2 ⟨t.val % 2 * 1024 + k.val, by have := point_lt t; omega⟩ b) := by
  obtain ⟨_, e1, _⟩ := idx t
  blk_ext [rhsBlk, iblk, e1]

/-- What the first grid point of a block leaves in the accumulator: the product of its two blocks. -/
theorem scratch_A (h0 : t.val % 2 = 0) (h2 : ¬t.val % 2 = 1) (a : Fin 1536) (b : Fin 1024) :
    (outsAt0 m c t.val t.isLt).2 (ix2 a b) = ∑ k : Fin 1024, lhsBlk m c t (ix2 a k) * rhsBlk m c t (ix2 k b) := by
  rw [outsAt0_A m c t h0 h2]
  frame_out
  unfold_payloads
  pointwise

/-- What the last grid point of a block writes back: what it found in the accumulator and the product of its two blocks. -/
theorem out_last (h0 : ¬t.val % 2 = 0) (h2 : t.val % 2 = 1) (a : Fin 1536) (b : Fin 1024) :
    (outsAt0 m c t.val t.isLt).1 (ix2 a b)
      = (outsAt0 m c (t.val - 1) (Nat.lt_of_le_of_lt (Nat.sub_le _ _) t.isLt)).2 (ix2 a b)
        + ∑ k : Fin 1024, lhsBlk m c t (ix2 a k) * rhsBlk m c t (ix2 k b) := by
  rw [outsAt0_B m c t h0 h2]
  frame_out
  simp only [read_unread_whole]
  unfold_payloads
  pointwise

/-- The result array: the product of the two matrices as the region finds them. -/
theorem G2_apply (i : Fin 4608) (j : Fin 1024) : G2 m c (ix2 i j) = nn (mat (lhs m c)) (mat (rhs m c)) i j := by
  have hp : pt2Of (ix2 i j) = 2 * (i.val / 1536) + 1 := by
    show 2 * (1 * (i.val / 1536 - 0) + 1 * (j.val / 1024 - 0)) + 1 = _
    omega
  have h : pt2Of (ix2 i j) < cfg0.N := by rw [hp, show cfg0.N = 6 from N_0]; omega
  have hl : loc2Of (ix2 i j) = ix2 ⟨i.val % 1536, by omega⟩ j := by
    funext a
    match a with
    | ⟨0, _⟩ => rfl
    | ⟨1, _⟩ => exact Fin.ext (Nat.mod_eq_of_lt j.isLt)
  unfold G2
  rw [dif_pos h, ← outsAt0_sweep, hl]
  refine (out_last m c ⟨_, h⟩ (by dsimp only; omega) (by dsimp only; omega) _ _).trans ?_
  rw [scratch_A m c ⟨pt2Of (ix2 i j) - 1, by omega⟩ (by dsimp only; omega) (by dsimp only; omega)]
  simp only [lhsBlk_apply, rhsBlk_apply]
  unfold nn mat
  generalize lhs m c = L
  generalize rhs m c = R
  rw [sum_split (a := 1024) (b := 1024) rfl]
  have d := i.isLt
  congr 1 <;> refine Finset.sum_congr rfl fun k _ => ?_ <;> congr 3 <;> (apply Fin.ext; dsimp only; omega)

/-- The left matrix's entries are the argument's. -/
theorem lhs_apply (i : Fin 4608) (k : Fin 2048) : lhs m c (ix2 i k) = (mat (m ((c.tc : Thread nD τ).loc main_arg0))) i k := congrFun (V_main_arg0 m c) _

/-- The right matrix's entries are the argument's. -/
theorem rhs_apply (k : Fin 2048) (j : Fin 1024) : rhs m c (ix2 k j) = (mat (m ((c.tc : Thread nD τ).loc main_arg1))) j k := by
  unfold rhs V
  after_reads_at
  all_goals rfl

/-- The product of the matrices the region finds is the arguments'. -/
theorem result_apply (i : Fin 4608) (j : Fin 1024) : nn (mat (lhs m c)) (mat (rhs m c)) i j = nt (mat (m ((c.tc : Thread nD τ).loc main_arg0))) (mat (m ((c.tc : Thread nD τ).loc main_arg1))) i j :=
  Finset.sum_congr rfl fun k _ => congrArg₂ (· * ·) (lhs_apply m c i k) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v2) = (fun q : S4608x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; exact (G2_apply m c q0 q1).trans (result_apply m c q0 q1)), (h c).2⟩) (run m ρ)

end Cert.Kernel28Ideal.Value

namespace Cert.Reference28Ideal.Value

open Cert.Mat Cert.Reference28Ideal Cert.Reference28Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v4) = (fun q : S4608x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference28Ideal.Value

/-- The call and the reference compute one product: from equal arguments they end with equal results. -/
theorem Cert.algebraic28 : Cert.algebraic_Kernel28Ideal_Reference28Ideal := by
  intro m g m' g' _ hagree
  refine ⟨_, Cert.Kernel28Ideal.Value.run_entries m g, ?_⟩
  refine (Idealize.ShloMosaic.θ_run _ _ _).mono (fun r h c => ?_) (Cert.Reference28Ideal.Value.run_entries m' g')
  obtain ⟨e0, e1⟩ := hagree c
  have := h c
  simp only [e0, e1] at this ⊢
  exact this

end
-- ==== Proof.Mat29.lean ====
/-
  The output projection's weight gradient: its result array, entry by entry, and the reference's.
-/
module

public import proofs.«01_k».proof.Proof.Gen.Kernel29Ideal.Value
public import proofs.«01_k».proof.Proof.Gen.Reference29Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel29Ideal.Value

open Cert.Mat Cert.Kernel29Ideal Cert.Kernel29Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1024 .bf16 := V m c main_arg0
/-- The right matrix as the region finds it. -/
abbrev rhs : Vec Ideal S4608x1024 .bf16 := V m c main_arg1
/-- The block of the left matrix a grid point reads. -/
abbrev lhsBlk : Vec Ideal S768x1024 .bf16 := iblk m c 0 t
/-- The block of the right matrix a grid point reads. -/
abbrev rhsBlk : Vec Ideal S768x1024 .bf16 := iblk m c 1 t

/-- The block indices of the three windows at a grid point. -/
theorem idx : ∀ t : Fin cfg0.N, win0_0.index t = ![t.val % 6, 0] ∧ win0_1.index t = ![t.val % 6, 0] ∧ win0_2.index t = ![0, 0] :=
  (by decide +kernel : ∀ t : Fin grid0.N, _)

theorem point_lt (t : Fin cfg0.N) : t.val < 6 := lt_of_lt_of_eq t.isLt N_0

/-- A block of the left matrix, off the array. -/
theorem lhsBlk_apply (k : Fin 768) (a : Fin 1024) : lhsBlk m c t (ix2 k a) = lhs m c (ix2 ⟨t.val % 6 * 768 + k.val, by have := point_lt t; omega⟩ a) := by
  obtain ⟨e0, _, _⟩ := idx t
  blk_ext [lhsBlk, iblk, e0]

/-- A block of the right matrix, off the array. -/
theorem rhsBlk_apply (k : Fin 768) (b : Fin 1024) : rhsBlk m c t (ix2 k b) = rhs m c (ix2 ⟨t.val % 6 * 768 + k.val, by have := point_lt t; omega⟩ b) := by
  obtain ⟨_, e1, _⟩ := idx t
  blk_ext [rhsBlk, iblk, e1]

/-- What the first grid point of a block leaves in the accumulator: the product of its two blocks. -/
theorem scratch_A (h0 : t.val % 6 = 0) (h1 : ¬(1 ≤ t.val % 6 ∧ t.val % 6 ≤ 4)) (h2 : ¬t.val % 6 = 5) (a : Fin 1024) (b : Fin 1024) :
    (outsAt0 m c t.val t.isLt).2 (ix2 a b) = ∑ k : Fin 768, lhsBlk m c t (ix2 k a) * rhsBlk m c t (ix2 k b) := by
  rw [outsAt0_A m c t h0 h1 h2]
  frame_out
  unfold_payloads
  pointwise

/-- What a middle grid point leaves in the accumulator: what it found there and the product of its two blocks. -/
theorem scratch_B (h0 : ¬t.val % 6 = 0) (h1 : (1 ≤ t.val % 6 ∧ t.val % 6 ≤ 4)) (h2 : ¬t.val % 6 = 5) (a : Fin 1024) (b : Fin 1024) :
    (outsAt0 m c t.val t.isLt).2 (ix2 a b)
      = (outsAt0 m c (t.val - 1) (Nat.lt_of_le_of_lt (Nat.sub_le _ _) t.isLt)).2 (ix2 a b)
        + ∑ k : Fin 768, lhsBlk m c t (ix2 k a) * rhsBlk m c t (ix2 k b) := by
  rw [outsAt0_B m c t h0 h1 h2]
  frame_out
  simp only [read_unread_whole]
  unfold_payloads
  pointwise

/-- What the last grid point of a block writes back: what it found in the accumulator and the product of its two blocks. -/
theorem out_last (h0 : ¬t.val % 6 = 0) (h1 : ¬(1 ≤ t.val % 6 ∧ t.val % 6 ≤ 4)) (h2 : t.val % 6 = 5) (a : Fin 1024) (b : Fin 1024) :
    (outsAt0 m c t.val t.isLt).1 (ix2 a b)
      = (outsAt0 m c (t.val - 1) (Nat.lt_of_le_of_lt (Nat.sub_le _ _) t.isLt)).2 (ix2 a b)
        + ∑ k : Fin 768, lhsBlk m c t (ix2 k a) * rhsBlk m c t (ix2 k b) := by
  rw [outsAt0_C m c t h0 h1 h2]
  frame_out
  simp only [read_unread_whole]
  unfold_payloads
  pointwise

/-- One more point of the sweep: what a middle grid point adds to the accumulator, the points counted from the block's first. -/
theorem scratch_succ (p : ℕ) (hp : p + 1 < cfg0.N) (h : 1 ≤ (p + 1) % 6 ∧ (p + 1) % 6 ≤ 4) (a : Fin 1024) (b : Fin 1024) :
    (outsAt0 m c (p + 1) hp).2 (ix2 a b) = (outsAt0 m c p (Nat.lt_of_succ_lt hp)).2 (ix2 a b) + ∑ k : Fin 768, lhsBlk m c ⟨p + 1, hp⟩ (ix2 k a) * rhsBlk m c ⟨p + 1, hp⟩ (ix2 k b) :=
  scratch_B m c ⟨p + 1, hp⟩ (by dsimp only; omega) (by dsimp only; omega) (by dsimp only; omega) a b

/-- What the six grid points of a block leave in its result: the six products, added in order. -/
theorem out_sum (p : ℕ) (hp : p + 5 < cfg0.N) (h : p % 6 = 0) (a : Fin 1024) (b : Fin 1024) :
    (outsAt0 m c (p + 5) hp).1 (ix2 a b)
      = ((((((∑ k : Fin 768, lhsBlk m c ⟨p, by omega⟩ (ix2 k a) * rhsBlk m c ⟨p, by omega⟩ (ix2 k b)) + ∑ k : Fin 768, lhsBlk m c ⟨p + 1, by omega⟩ (ix2 k a) * rhsBlk m c ⟨p + 1, by omega⟩ (ix2 k b)) + ∑ k : Fin 768, lhsBlk m c ⟨p + 2, by omega⟩ (ix2 k a) * rhsBlk m c ⟨p + 2, by omega⟩ (ix2 k b)) + ∑ k : Fin 768, lhsBlk m c ⟨p + 3, by omega⟩ (ix2 k a) * rhsBlk m c ⟨p + 3, by omega⟩ (ix2 k b)) + ∑ k : Fin 768, lhsBlk m c ⟨p + 4, by omega⟩ (ix2 k a) * rhsBlk m c ⟨p + 4, by omega⟩ (ix2 k b)) + ∑ k : Fin 768, lhsBlk m c ⟨p + 5, by omega⟩ (ix2 k a) * rhsBlk m c ⟨p + 5, by omega⟩ (ix2 k b)) := by
  have e0 := scratch_A m c ⟨p, by omega⟩ (by dsimp only; omega) (by dsimp only; omega) (by dsimp only; omega) a b
  have e1 := scratch_succ m c p (by omega) (by omega) a b
  have e2 := scratch_succ m c (p + 1) (by omega) (by omega) a b
  have e3 := scratch_succ m c (p + 2) (by omega) (by omega) a b
  have e4 := scratch_succ m c (p + 3) (by omega) (by omega) a b
  have e5 := out_last m c ⟨p + 5, hp⟩ (by dsimp only; omega) (by dsimp only; omega) (by dsimp only; omega) a b
  exact e5.trans (congrArg (· + _) (e4.trans (congrArg (· + _) (e3.trans (congrArg (· + _) (e2.trans (congrArg (· + _) (e1.trans (congrArg (· + _) e0)))))))))

/-- The result array: the product with the first matrix transposed of the two matrices as the region finds them. -/
theorem G2_apply (i : Fin 1024) (j : Fin 1024) : G2 m c (ix2 i j) = tn (mat (lhs m c)) (mat (rhs m c)) i j := by
  have hp : pt2Of (ix2 i j) = 6 * (i.val / 1024) + 5 := by
    show 6 * (1 * (i.val / 1024 - 0) + 1 * (j.val / 1024 - 0)) + 5 = _
    omega
  have h : pt2Of (ix2 i j) < cfg0.N := by rw [hp, show cfg0.N = 6 from N_0]; omega
  have hl : loc2Of (ix2 i j) = ix2 ⟨i.val % 1024, by omega⟩ j := by
    funext a
    match a with
    | ⟨0, _⟩ => rfl
    | ⟨1, _⟩ => exact Fin.ext (Nat.mod_eq_of_lt j.isLt)
  unfold G2
  rw [dif_pos h, ← outsAt0_sweep, hl]
  suffices key : ∀ (P : ℕ) (hP : P < cfg0.N), P = 6 * (i.val / 1024) + 5 →
      (outsAt0 m c P hP).1 (ix2 ⟨i.val % 1024, Nat.mod_lt _ (by decide)⟩ j) = tn (mat (lhs m c)) (mat (rhs m c)) i j by
    exact key _ h hp
  clear hl h hp
  intro P h hp
  obtain ⟨p, rfl⟩ : ∃ p, P = p + 5 := ⟨P - 5, by omega⟩
  refine (out_sum m c p h (by omega) _ _).trans ?_
  simp only [lhsBlk_apply, rhsBlk_apply]
  unfold tn mat
  generalize lhs m c = L
  generalize rhs m c = R
  rw [sum_six (n := 768) rfl]
  have d := i.isLt
  refine congrArg₂ (· + ·) (congrArg₂ (· + ·) (congrArg₂ (· + ·) (congrArg₂ (· + ·) (congrArg₂ (· + ·) ?_ ?_) ?_) ?_) ?_) ?_
  all_goals
    exact Finset.sum_congr rfl fun k _ => congrArg₂ (· * ·)
      (congrArg L (congrArg₂ ix2 (Fin.ext (by dsimp only; omega)) (Fin.ext (by dsimp only; omega))))
      (congrArg R (congrArg₂ ix2 (Fin.ext (by dsimp only; omega)) rfl))

/-- The left matrix's entries are the argument's. -/
theorem lhs_apply (k : Fin 4608) (i : Fin 1024) : lhs m c (ix2 k i) = (mat (m ((c.tc : Thread nD τ).loc main_arg0))) k i := congrFun (V_main_arg0 m c) _

/-- The right matrix's entries are the argument's. -/
theorem rhs_apply (k : Fin 4608) (j : Fin 1024) : rhs m c (ix2 k j) = (mat (m ((c.tc : Thread nD τ).loc main_arg1))) k j := congrFun (V_main_arg1 m c) _

/-- The product with the first matrix transposed of the matrices the region finds is the arguments'. -/
theorem result_apply (i : Fin 1024) (j : Fin 1024) : tn (mat (lhs m c)) (mat (rhs m c)) i j = tn (mat (m ((c.tc : Thread nD τ).loc main_arg0))) (mat (m ((c.tc : Thread nD τ).loc main_arg1))) i j :=
  Finset.sum_congr rfl fun k _ => congrArg₂ (· * ·) (lhs_apply m c k i) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S1024x1024.Idx => tn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; exact (G2_apply m c q0 q1).trans (result_apply m c q0 q1)), (h c).2⟩) (run m ρ)

end Cert.Kernel29Ideal.Value

namespace Cert.Reference29Ideal.Value

open Cert.Mat Cert.Reference29Ideal Cert.Reference29Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v6) = (fun q : S1024x1024.Idx => tn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; exact Finset.sum_congr rfl fun k _ => mul_comm _ _), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference29Ideal.Value

/-- The call and the reference compute one product: from equal arguments they end with equal results. -/
theorem Cert.algebraic29 : Cert.algebraic_Kernel29Ideal_Reference29Ideal := by
  intro m g m' g' _ hagree
  refine ⟨_, Cert.Kernel29Ideal.Value.run_entries m g, ?_⟩
  refine (Idealize.ShloMosaic.θ_run _ _ _).mono (fun r h c => ?_) (Cert.Reference29Ideal.Value.run_entries m' g')
  obtain ⟨e0, e1⟩ := hagree c
  have := h c
  simp only [e0, e1] at this ⊢
  exact this

end
-- ==== Proof.Mat30.lean ====
/-
  The input projection's weight gradient, attention and pooling mixer: its result array, entry by entry, and the reference's.
-/
module

public import proofs.«01_k».proof.Proof.Gen.Kernel30Ideal.Value
public import proofs.«01_k».proof.Proof.Gen.Reference30Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel30Ideal.Value

open Cert.Mat Cert.Kernel30Ideal Cert.Kernel30Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x1280 .bf16 := V m c main_arg1
/-- The right matrix as the region finds it. -/
abbrev rhs : Vec Ideal S4608x1024 .bf16 := V m c main_arg0
/-- The block of the left matrix a grid point reads. -/
abbrev lhsBlk : Vec Ideal S768x1280 .bf16 := iblk m c 0 t
/-- The block of the right matrix a grid point reads. -/
abbrev rhsBlk : Vec Ideal S768x1024 .bf16 := iblk m c 1 t

/-- The block indices of the three windows at a grid point. -/
theorem idx : ∀ t : Fin cfg0.N, win0_0.index t = ![t.val % 6, 0] ∧ win0_1.index t = ![t.val % 6, 0] ∧ win0_2.index t = ![0, 0] :=
  (by decide +kernel : ∀ t : Fin grid0.N, _)

theorem point_lt (t : Fin cfg0.N) : t.val < 6 := lt_of_lt_of_eq t.isLt N_0

/-- A block of the left matrix, off the array. -/
theorem lhsBlk_apply (k : Fin 768) (a : Fin 1280) : lhsBlk m c t (ix2 k a) = lhs m c (ix2 ⟨t.val % 6 * 768 + k.val, by have := point_lt t; omega⟩ a) := by
  obtain ⟨e0, _, _⟩ := idx t
  blk_ext [lhsBlk, iblk, e0]

/-- A block of the right matrix, off the array. -/
theorem rhsBlk_apply (k : Fin 768) (b : Fin 1024) : rhsBlk m c t (ix2 k b) = rhs m c (ix2 ⟨t.val % 6 * 768 + k.val, by have := point_lt t; omega⟩ b) := by
  obtain ⟨_, e1, _⟩ := idx t
  blk_ext [rhsBlk, iblk, e1]

/-- What the first grid point of a block leaves in the accumulator: the product of its two blocks. -/
theorem scratch_A (h0 : t.val % 6 = 0) (h1 : ¬(1 ≤ t.val % 6 ∧ t.val % 6 ≤ 4)) (h2 : ¬t.val % 6 = 5) (a : Fin 1280) (b : Fin 1024) :
    (outsAt0 m c t.val t.isLt).2 (ix2 a b) = ∑ k : Fin 768, lhsBlk m c t (ix2 k a) * rhsBlk m c t (ix2 k b) := by
  rw [outsAt0_A m c t h0 h1 h2]
  frame_out
  unfold_payloads
  pointwise

/-- What a middle grid point leaves in the accumulator: what it found there and the product of its two blocks. -/
theorem scratch_B (h0 : ¬t.val % 6 = 0) (h1 : (1 ≤ t.val % 6 ∧ t.val % 6 ≤ 4)) (h2 : ¬t.val % 6 = 5) (a : Fin 1280) (b : Fin 1024) :
    (outsAt0 m c t.val t.isLt).2 (ix2 a b)
      = (outsAt0 m c (t.val - 1) (Nat.lt_of_le_of_lt (Nat.sub_le _ _) t.isLt)).2 (ix2 a b)
        + ∑ k : Fin 768, lhsBlk m c t (ix2 k a) * rhsBlk m c t (ix2 k b) := by
  rw [outsAt0_B m c t h0 h1 h2]
  frame_out
  simp only [read_unread_whole]
  unfold_payloads
  pointwise

/-- What the last grid point of a block writes back: what it found in the accumulator and the product of its two blocks. -/
theorem out_last (h0 : ¬t.val % 6 = 0) (h1 : ¬(1 ≤ t.val % 6 ∧ t.val % 6 ≤ 4)) (h2 : t.val % 6 = 5) (a : Fin 1280) (b : Fin 1024) :
    (outsAt0 m c t.val t.isLt).1 (ix2 a b)
      = (outsAt0 m c (t.val - 1) (Nat.lt_of_le_of_lt (Nat.sub_le _ _) t.isLt)).2 (ix2 a b)
        + ∑ k : Fin 768, lhsBlk m c t (ix2 k a) * rhsBlk m c t (ix2 k b) := by
  rw [outsAt0_C m c t h0 h1 h2]
  frame_out
  simp only [read_unread_whole]
  unfold_payloads
  pointwise

/-- One more point of the sweep: what a middle grid point adds to the accumulator, the points counted from the block's first. -/
theorem scratch_succ (p : ℕ) (hp : p + 1 < cfg0.N) (h : 1 ≤ (p + 1) % 6 ∧ (p + 1) % 6 ≤ 4) (a : Fin 1280) (b : Fin 1024) :
    (outsAt0 m c (p + 1) hp).2 (ix2 a b) = (outsAt0 m c p (Nat.lt_of_succ_lt hp)).2 (ix2 a b) + ∑ k : Fin 768, lhsBlk m c ⟨p + 1, hp⟩ (ix2 k a) * rhsBlk m c ⟨p + 1, hp⟩ (ix2 k b) :=
  scratch_B m c ⟨p + 1, hp⟩ (by dsimp only; omega) (by dsimp only; omega) (by dsimp only; omega) a b

/-- What the six grid points of a block leave in its result: the six products, added in order. -/
theorem out_sum (p : ℕ) (hp : p + 5 < cfg0.N) (h : p % 6 = 0) (a : Fin 1280) (b : Fin 1024) :
    (outsAt0 m c (p + 5) hp).1 (ix2 a b)
      = ((((((∑ k : Fin 768, lhsBlk m c ⟨p, by omega⟩ (ix2 k a) * rhsBlk m c ⟨p, by omega⟩ (ix2 k b)) + ∑ k : Fin 768, lhsBlk m c ⟨p + 1, by omega⟩ (ix2 k a) * rhsBlk m c ⟨p + 1, by omega⟩ (ix2 k b)) + ∑ k : Fin 768, lhsBlk m c ⟨p + 2, by omega⟩ (ix2 k a) * rhsBlk m c ⟨p + 2, by omega⟩ (ix2 k b)) + ∑ k : Fin 768, lhsBlk m c ⟨p + 3, by omega⟩ (ix2 k a) * rhsBlk m c ⟨p + 3, by omega⟩ (ix2 k b)) + ∑ k : Fin 768, lhsBlk m c ⟨p + 4, by omega⟩ (ix2 k a) * rhsBlk m c ⟨p + 4, by omega⟩ (ix2 k b)) + ∑ k : Fin 768, lhsBlk m c ⟨p + 5, by omega⟩ (ix2 k a) * rhsBlk m c ⟨p + 5, by omega⟩ (ix2 k b)) := by
  have e0 := scratch_A m c ⟨p, by omega⟩ (by dsimp only; omega) (by dsimp only; omega) (by dsimp only; omega) a b
  have e1 := scratch_succ m c p (by omega) (by omega) a b
  have e2 := scratch_succ m c (p + 1) (by omega) (by omega) a b
  have e3 := scratch_succ m c (p + 2) (by omega) (by omega) a b
  have e4 := scratch_succ m c (p + 3) (by omega) (by omega) a b
  have e5 := out_last m c ⟨p + 5, hp⟩ (by dsimp only; omega) (by dsimp only; omega) (by dsimp only; omega) a b
  exact e5.trans (congrArg (· + _) (e4.trans (congrArg (· + _) (e3.trans (congrArg (· + _) (e2.trans (congrArg (· + _) (e1.trans (congrArg (· + _) e0)))))))))

/-- The result array: the product with the first matrix transposed of the two matrices as the region finds them. -/
theorem G2_apply (i : Fin 1280) (j : Fin 1024) : G2 m c (ix2 i j) = tn (mat (lhs m c)) (mat (rhs m c)) i j := by
  have hp : pt2Of (ix2 i j) = 6 * (i.val / 1280) + 5 := by
    show 6 * (1 * (i.val / 1280 - 0) + 1 * (j.val / 1024 - 0)) + 5 = _
    omega
  have h : pt2Of (ix2 i j) < cfg0.N := by rw [hp, show cfg0.N = 6 from N_0]; omega
  have hl : loc2Of (ix2 i j) = ix2 ⟨i.val % 1280, by omega⟩ j := by
    funext a
    match a with
    | ⟨0, _⟩ => rfl
    | ⟨1, _⟩ => exact Fin.ext (Nat.mod_eq_of_lt j.isLt)
  unfold G2
  rw [dif_pos h, ← outsAt0_sweep, hl]
  suffices key : ∀ (P : ℕ) (hP : P < cfg0.N), P = 6 * (i.val / 1280) + 5 →
      (outsAt0 m c P hP).1 (ix2 ⟨i.val % 1280, Nat.mod_lt _ (by decide)⟩ j) = tn (mat (lhs m c)) (mat (rhs m c)) i j by
    exact key _ h hp
  clear hl h hp
  intro P h hp
  obtain ⟨p, rfl⟩ : ∃ p, P = p + 5 := ⟨P - 5, by omega⟩
  refine (out_sum m c p h (by omega) _ _).trans ?_
  simp only [lhsBlk_apply, rhsBlk_apply]
  unfold tn mat
  generalize lhs m c = L
  generalize rhs m c = R
  rw [sum_six (n := 768) rfl]
  have d := i.isLt
  refine congrArg₂ (· + ·) (congrArg₂ (· + ·) (congrArg₂ (· + ·) (congrArg₂ (· + ·) (congrArg₂ (· + ·) ?_ ?_) ?_) ?_) ?_) ?_
  all_goals
    exact Finset.sum_congr rfl fun k _ => congrArg₂ (· * ·)
      (congrArg L (congrArg₂ ix2 (Fin.ext (by dsimp only; omega)) (Fin.ext (by dsimp only; omega))))
      (congrArg R (congrArg₂ ix2 (Fin.ext (by dsimp only; omega)) rfl))

/-- The left matrix's entries are the argument's. -/
theorem lhs_apply (k : Fin 4608) (i : Fin 1280) : lhs m c (ix2 k i) = (mat (m ((c.tc : Thread nD τ).loc main_arg1))) k i := congrFun (V_main_arg1 m c) _

/-- The right matrix's entries are the argument's. -/
theorem rhs_apply (k : Fin 4608) (j : Fin 1024) : rhs m c (ix2 k j) = (mat (m ((c.tc : Thread nD τ).loc main_arg0))) k j := congrFun (V_main_arg0 m c) _

/-- The product with the first matrix transposed of the matrices the region finds is the arguments'. -/
theorem result_apply (i : Fin 1280) (j : Fin 1024) : tn (mat (lhs m c)) (mat (rhs m c)) i j = tn (mat (m ((c.tc : Thread nD τ).loc main_arg1))) (mat (m ((c.tc : Thread nD τ).loc main_arg0))) i j :=
  Finset.sum_congr rfl fun k _ => congrArg₂ (· * ·) (lhs_apply m c k i) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S1280x1024.Idx => tn (mat (m ((c.tc : Thread nD τ).loc main_arg1))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; exact (G2_apply m c q0 q1).trans (result_apply m c q0 q1)), (h c).2⟩) (run m ρ)

end Cert.Kernel30Ideal.Value

namespace Cert.Reference30Ideal.Value

open Cert.Mat Cert.Reference30Ideal Cert.Reference30Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v7) = (fun q : S1280x1024.Idx => tn (mat (m ((c.tc : Thread nD τ).loc main_arg1))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference30Ideal.Value

/-- The call and the reference compute one product: from equal arguments they end with equal results. -/
theorem Cert.algebraic30 : Cert.algebraic_Kernel30Ideal_Reference30Ideal := by
  intro m g m' g' _ hagree
  refine ⟨_, Cert.Kernel30Ideal.Value.run_entries m g, ?_⟩
  refine (Idealize.ShloMosaic.θ_run _ _ _).mono (fun r h c => ?_) (Cert.Reference30Ideal.Value.run_entries m' g')
  obtain ⟨e0, e1⟩ := hagree c
  have := h c
  simp only [e0, e1] at this ⊢
  exact this

end
-- ==== Proof.Mat31.lean ====
/-
  The input projection's weight gradient, recurrent mixer: its result array, entry by entry, and the reference's.
-/
module

public import proofs.«01_k».proof.Proof.Gen.Kernel31Ideal.Value
public import proofs.«01_k».proof.Proof.Gen.Reference31Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel31Ideal.Value

open Cert.Mat Cert.Kernel31Ideal Cert.Kernel31Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S4608x2048 .bf16 := V m c main_arg1
/-- The right matrix as the region finds it. -/
abbrev rhs : Vec Ideal S4608x1024 .bf16 := V m c main_arg0
/-- The block of the left matrix a grid point reads. -/
abbrev lhsBlk : Vec Ideal S768x1024 .bf16 := iblk m c 0 t
/-- The block of the right matrix a grid point reads. -/
abbrev rhsBlk : Vec Ideal S768x1024 .bf16 := iblk m c 1 t

/-- The block indices of the three windows at a grid point. -/
theorem idx : ∀ t : Fin cfg0.N, win0_0.index t = ![t.val % 6, t.val / 6] ∧ win0_1.index t = ![t.val % 6, 0] ∧ win0_2.index t = ![t.val / 6, 0] :=
  (by decide +kernel : ∀ t : Fin grid0.N, _)

theorem point_lt (t : Fin cfg0.N) : t.val < 12 := lt_of_lt_of_eq t.isLt N_0

/-- A block of the left matrix, off the array. -/
theorem lhsBlk_apply (k : Fin 768) (a : Fin 1024) : lhsBlk m c t (ix2 k a) = lhs m c (ix2 ⟨t.val % 6 * 768 + k.val, by have := point_lt t; omega⟩ ⟨t.val / 6 * 1024 + a.val, by have := point_lt t; omega⟩) := by
  obtain ⟨e0, _, _⟩ := idx t
  blk_ext [lhsBlk, iblk, e0]

/-- A block of the right matrix, off the array. -/
theorem rhsBlk_apply (k : Fin 768) (b : Fin 1024) : rhsBlk m c t (ix2 k b) = rhs m c (ix2 ⟨t.val % 6 * 768 + k.val, by have := point_lt t; omega⟩ b) := by
  obtain ⟨_, e1, _⟩ := idx t
  blk_ext [rhsBlk, iblk, e1]

/-- What the first grid point of a block leaves in the accumulator: the product of its two blocks. -/
theorem scratch_A (h0 : t.val % 6 = 0) (h1 : ¬(1 ≤ t.val % 6 ∧ t.val % 6 ≤ 4)) (h2 : ¬t.val % 6 = 5) (a : Fin 1024) (b : Fin 1024) :
    (outsAt0 m c t.val t.isLt).2 (ix2 a b) = ∑ k : Fin 768, lhsBlk m c t (ix2 k a) * rhsBlk m c t (ix2 k b) := by
  rw [outsAt0_A m c t h0 h1 h2]
  frame_out
  unfold_payloads
  pointwise

/-- What a middle grid point leaves in the accumulator: what it found there and the product of its two blocks. -/
theorem scratch_B (h0 : ¬t.val % 6 = 0) (h1 : (1 ≤ t.val % 6 ∧ t.val % 6 ≤ 4)) (h2 : ¬t.val % 6 = 5) (a : Fin 1024) (b : Fin 1024) :
    (outsAt0 m c t.val t.isLt).2 (ix2 a b)
      = (outsAt0 m c (t.val - 1) (Nat.lt_of_le_of_lt (Nat.sub_le _ _) t.isLt)).2 (ix2 a b)
        + ∑ k : Fin 768, lhsBlk m c t (ix2 k a) * rhsBlk m c t (ix2 k b) := by
  rw [outsAt0_B m c t h0 h1 h2]
  frame_out
  simp only [read_unread_whole]
  unfold_payloads
  pointwise

/-- What the last grid point of a block writes back: what it found in the accumulator and the product of its two blocks. -/
theorem out_last (h0 : ¬t.val % 6 = 0) (h1 : ¬(1 ≤ t.val % 6 ∧ t.val % 6 ≤ 4)) (h2 : t.val % 6 = 5) (a : Fin 1024) (b : Fin 1024) :
    (outsAt0 m c t.val t.isLt).1 (ix2 a b)
      = (outsAt0 m c (t.val - 1) (Nat.lt_of_le_of_lt (Nat.sub_le _ _) t.isLt)).2 (ix2 a b)
        + ∑ k : Fin 768, lhsBlk m c t (ix2 k a) * rhsBlk m c t (ix2 k b) := by
  rw [outsAt0_C m c t h0 h1 h2]
  frame_out
  simp only [read_unread_whole]
  unfold_payloads
  pointwise

/-- One more point of the sweep: what a middle grid point adds to the accumulator, the points counted from the block's first. -/
theorem scratch_succ (p : ℕ) (hp : p + 1 < cfg0.N) (h : 1 ≤ (p + 1) % 6 ∧ (p + 1) % 6 ≤ 4) (a : Fin 1024) (b : Fin 1024) :
    (outsAt0 m c (p + 1) hp).2 (ix2 a b) = (outsAt0 m c p (Nat.lt_of_succ_lt hp)).2 (ix2 a b) + ∑ k : Fin 768, lhsBlk m c ⟨p + 1, hp⟩ (ix2 k a) * rhsBlk m c ⟨p + 1, hp⟩ (ix2 k b) :=
  scratch_B m c ⟨p + 1, hp⟩ (by dsimp only; omega) (by dsimp only; omega) (by dsimp only; omega) a b

/-- What the six grid points of a block leave in its result: the six products, added in order. -/
theorem out_sum (p : ℕ) (hp : p + 5 < cfg0.N) (h : p % 6 = 0) (a : Fin 1024) (b : Fin 1024) :
    (outsAt0 m c (p + 5) hp).1 (ix2 a b)
      = ((((((∑ k : Fin 768, lhsBlk m c ⟨p, by omega⟩ (ix2 k a) * rhsBlk m c ⟨p, by omega⟩ (ix2 k b)) + ∑ k : Fin 768, lhsBlk m c ⟨p + 1, by omega⟩ (ix2 k a) * rhsBlk m c ⟨p + 1, by omega⟩ (ix2 k b)) + ∑ k : Fin 768, lhsBlk m c ⟨p + 2, by omega⟩ (ix2 k a) * rhsBlk m c ⟨p + 2, by omega⟩ (ix2 k b)) + ∑ k : Fin 768, lhsBlk m c ⟨p + 3, by omega⟩ (ix2 k a) * rhsBlk m c ⟨p + 3, by omega⟩ (ix2 k b)) + ∑ k : Fin 768, lhsBlk m c ⟨p + 4, by omega⟩ (ix2 k a) * rhsBlk m c ⟨p + 4, by omega⟩ (ix2 k b)) + ∑ k : Fin 768, lhsBlk m c ⟨p + 5, by omega⟩ (ix2 k a) * rhsBlk m c ⟨p + 5, by omega⟩ (ix2 k b)) := by
  have e0 := scratch_A m c ⟨p, by omega⟩ (by dsimp only; omega) (by dsimp only; omega) (by dsimp only; omega) a b
  have e1 := scratch_succ m c p (by omega) (by omega) a b
  have e2 := scratch_succ m c (p + 1) (by omega) (by omega) a b
  have e3 := scratch_succ m c (p + 2) (by omega) (by omega) a b
  have e4 := scratch_succ m c (p + 3) (by omega) (by omega) a b
  have e5 := out_last m c ⟨p + 5, hp⟩ (by dsimp only; omega) (by dsimp only; omega) (by dsimp only; omega) a b
  exact e5.trans (congrArg (· + _) (e4.trans (congrArg (· + _) (e3.trans (congrArg (· + _) (e2.trans (congrArg (· + _) (e1.trans (congrArg (· + _) e0)))))))))

/-- The result array: the product with the first matrix transposed of the two matrices as the region finds them. -/
theorem G2_apply (i : Fin 2048) (j : Fin 1024) : G2 m c (ix2 i j) = tn (mat (lhs m c)) (mat (rhs m c)) i j := by
  have hp : pt2Of (ix2 i j) = 6 * (i.val / 1024) + 5 := by
    show 6 * (1 * (i.val / 1024 - 0) + 1 * (j.val / 1024 - 0)) + 5 = _
    omega
  have h : pt2Of (ix2 i j) < cfg0.N := by rw [hp, show cfg0.N = 12 from N_0]; omega
  have hl : loc2Of (ix2 i j) = ix2 ⟨i.val % 1024, by omega⟩ j := by
    funext a
    match a with
    | ⟨0, _⟩ => rfl
    | ⟨1, _⟩ => exact Fin.ext (Nat.mod_eq_of_lt j.isLt)
  unfold G2
  rw [dif_pos h, ← outsAt0_sweep, hl]
  suffices key : ∀ (P : ℕ) (hP : P < cfg0.N), P = 6 * (i.val / 1024) + 5 →
      (outsAt0 m c P hP).1 (ix2 ⟨i.val % 1024, Nat.mod_lt _ (by decide)⟩ j) = tn (mat (lhs m c)) (mat (rhs m c)) i j by
    exact key _ h hp
  clear hl h hp
  intro P h hp
  obtain ⟨p, rfl⟩ : ∃ p, P = p + 5 := ⟨P - 5, by omega⟩
  refine (out_sum m c p h (by omega) _ _).trans ?_
  simp only [lhsBlk_apply, rhsBlk_apply]
  unfold tn mat
  generalize lhs m c = L
  generalize rhs m c = R
  rw [sum_six (n := 768) rfl]
  have d := i.isLt
  refine congrArg₂ (· + ·) (congrArg₂ (· + ·) (congrArg₂ (· + ·) (congrArg₂ (· + ·) (congrArg₂ (· + ·) ?_ ?_) ?_) ?_) ?_) ?_
  all_goals
    exact Finset.sum_congr rfl fun k _ => congrArg₂ (· * ·)
      (congrArg L (congrArg₂ ix2 (Fin.ext (by dsimp only; omega)) (Fin.ext (by dsimp only; omega))))
      (congrArg R (congrArg₂ ix2 (Fin.ext (by dsimp only; omega)) rfl))

/-- The left matrix's entries are the argument's. -/
theorem lhs_apply (k : Fin 4608) (i : Fin 2048) : lhs m c (ix2 k i) = (mat (m ((c.tc : Thread nD τ).loc main_arg1))) k i := congrFun (V_main_arg1 m c) _

/-- The right matrix's entries are the argument's. -/
theorem rhs_apply (k : Fin 4608) (j : Fin 1024) : rhs m c (ix2 k j) = (mat (m ((c.tc : Thread nD τ).loc main_arg0))) k j := congrFun (V_main_arg0 m c) _

/-- The product with the first matrix transposed of the matrices the region finds is the arguments'. -/
theorem result_apply (i : Fin 2048) (j : Fin 1024) : tn (mat (lhs m c)) (mat (rhs m c)) i j = tn (mat (m ((c.tc : Thread nD τ).loc main_arg1))) (mat (m ((c.tc : Thread nD τ).loc main_arg0))) i j :=
  Finset.sum_congr rfl fun k _ => congrArg₂ (· * ·) (lhs_apply m c k i) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S2048x1024.Idx => tn (mat (m ((c.tc : Thread nD τ).loc main_arg1))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; exact (G2_apply m c q0 q1).trans (result_apply m c q0 q1)), (h c).2⟩) (run m ρ)

end Cert.Kernel31Ideal.Value

namespace Cert.Reference31Ideal.Value

open Cert.Mat Cert.Reference31Ideal Cert.Reference31Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v7) = (fun q : S2048x1024.Idx => tn (mat (m ((c.tc : Thread nD τ).loc main_arg1))) (mat (m ((c.tc : Thread nD τ).loc main_arg0))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference31Ideal.Value

/-- The call and the reference compute one product: from equal arguments they end with equal results. -/
theorem Cert.algebraic31 : Cert.algebraic_Kernel31Ideal_Reference31Ideal := by
  intro m g m' g' _ hagree
  refine ⟨_, Cert.Kernel31Ideal.Value.run_entries m g, ?_⟩
  refine (Idealize.ShloMosaic.θ_run _ _ _).mono (fun r h c => ?_) (Cert.Reference31Ideal.Value.run_entries m' g')
  obtain ⟨e0, e1⟩ := hagree c
  have := h c
  simp only [e0, e1] at this ⊢
  exact this

end
-- ==== Proof.Mat32.lean ====
/-
  The modulation of a layer: the conditioning rows by the device's columns of the weight: its result array, entry by entry, and the reference's.
-/
module

public import proofs.«01_k».proof.Proof.Gen.Kernel32Ideal.Value
public import proofs.«01_k».proof.Proof.Gen.Reference32Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel32Ideal.Value

open Cert.Mat Cert.Kernel32Ideal Cert.Kernel32Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S32x1024 .bf16 := V m c main_arg0
/-- The right matrix as the region finds it. -/
abbrev rhs : Vec Ideal S1024x1152 .f32 := V m c main_arg1
/-- The block of the left matrix a grid point reads. -/
abbrev lhsBlk : Vec Ideal S32x1024 .bf16 := iblk m c 0 t
/-- The block of the right matrix a grid point reads. -/
abbrev rhsBlk : Vec Ideal S1024x1152 .f32 := iblk m c 1 t

/-- The block indices of the three windows at a grid point. -/
theorem idx : ∀ t : Fin cfg0.N, win0_0.index t = ![0, 0] ∧ win0_1.index t = ![0, 0] ∧ win0_2.index t = ![0, 0] :=
  (by decide +kernel : ∀ t : Fin grid0.N, _)

theorem point_lt (t : Fin cfg0.N) : t.val < 1 := lt_of_lt_of_eq t.isLt N_0

/-- A block of the left matrix, off the array. -/
theorem lhsBlk_apply (k : Fin 1024) (a : Fin 32) : lhsBlk m c t (ix2 a k) = lhs m c (ix2 a k) := by
  obtain ⟨e0, _, _⟩ := idx t
  blk_ext [lhsBlk, iblk, e0]

/-- A block of the right matrix, off the array. -/
theorem rhsBlk_apply (k : Fin 1024) (b : Fin 1152) : rhsBlk m c t (ix2 k b) = rhs m c (ix2 k b) := by
  obtain ⟨_, e1, _⟩ := idx t
  blk_ext [rhsBlk, iblk, e1]

/-- What a grid point writes back: the product of its two blocks. -/
theorem out_block (a : Fin 32) (b : Fin 1152) : out0_2 (lhsBlk m c t) (rhsBlk m c t) (ix2 a b) = ∑ k : Fin 1024, lhsBlk m c t (ix2 a k) * rhsBlk m c t (ix2 k b) := by
  unfold out0_2
  frame_out
  unfold_payloads
  pointwise

/-- The result array: the product of the two matrices as the region finds them. -/
theorem arr2 : (dats m 0 c).arrAt 2 cfg0.N = fun q : S32x1152.Idx => nn (mat (lhs m c)) (mat (rhs m c)) (q 0) (q 1) := by
  refine (dats m 0 c).arrAt_eq_of_covers 2 _ (by decide +kernel) fun t hf y => ?_
  obtain ⟨y, rfl⟩ : ∃ z : S32x1152.Idx, z = y := ⟨y, rfl⟩
  obtain ⟨_, _, e2⟩ := idx t
  idx_vars y
  rw [after0_2]
  have e : (win0_2.blk t).view.emb (ix2 y0 y1) = (ix2 y0 y1 : S32x1152.Idx) := by
    blk_ext [e2]
  blk_simp
  refine (out_block m c t y0 y1).trans ?_
  simp only [lhsBlk_apply, rhsBlk_apply]
  exact Eq.trans rfl (congrArg (fun q : S32x1152.Idx => nn (mat (lhs m c)) (mat (rhs m c)) (q 0) (q 1)) e).symm

/-- The left matrix's entries are the argument's. -/
theorem lhs_apply (i : Fin 32) (k : Fin 1024) : lhs m c (ix2 i k) = (mat (m ((c.tc : Thread nD τ).loc main_arg0))) i k := congrFun (V_main_arg0 m c) _

/-- The right matrix's entries are the argument's. -/
theorem rhs_apply (k : Fin 1024) (j : Fin 1152) : rhs m c (ix2 k j) = (mat (m ((c.tc : Thread nD τ).loc main_arg1))) k j := congrFun (V_main_arg1 m c) _

/-- The product of the matrices the region finds is the arguments'. -/
theorem result_apply (i : Fin 32) (j : Fin 1152) : nn (mat (lhs m c)) (mat (rhs m c)) i j = nn (mat (m ((c.tc : Thread nD τ).loc main_arg0))) (mat (m ((c.tc : Thread nD τ).loc main_arg1))) i j :=
  Finset.sum_congr rfl fun k _ => congrArg₂ (· * ·) (lhs_apply m c i k) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S32x1152.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel32Ideal.Value

namespace Cert.Reference32Ideal.Value

open Cert.Mat Cert.Reference32Ideal Cert.Reference32Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v1) = (fun q : S32x1152.Idx => nn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference32Ideal.Value

/-- The call and the reference compute one product: from equal arguments they end with equal results. -/
theorem Cert.algebraic32 : Cert.algebraic_Kernel32Ideal_Reference32Ideal := by
  intro m g m' g' _ hagree
  refine ⟨_, Cert.Kernel32Ideal.Value.run_entries m g, ?_⟩
  refine (Idealize.ShloMosaic.θ_run _ _ _).mono (fun r h c => ?_) (Cert.Reference32Ideal.Value.run_entries m' g')
  obtain ⟨e0, e1⟩ := hagree c
  have := h c
  simp only [e0, e1] at this ⊢
  exact this

end
-- ==== Proof.Mat33.lean ====
/-
  The modulation weight's gradient: its result array, entry by entry, and the reference's.
-/
module

public import proofs.«01_k».proof.Proof.Gen.Kernel33Ideal.Value
public import proofs.«01_k».proof.Proof.Gen.Reference33Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel33Ideal.Value

open Cert.Mat Cert.Kernel33Ideal Cert.Kernel33Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S32x1024 .bf16 := V m c main_arg0
/-- The right matrix as the region finds it. -/
abbrev rhs : Vec Ideal S32x1152 .bf16 := V m c main_arg1
/-- The block of the left matrix a grid point reads. -/
abbrev lhsBlk : Vec Ideal S32x1024 .bf16 := iblk m c 0 t
/-- The block of the right matrix a grid point reads. -/
abbrev rhsBlk : Vec Ideal S32x1152 .bf16 := iblk m c 1 t

/-- The block indices of the three windows at a grid point. -/
theorem idx : ∀ t : Fin cfg0.N, win0_0.index t = ![0, 0] ∧ win0_1.index t = ![0, 0] ∧ win0_2.index t = ![0, 0] :=
  (by decide +kernel : ∀ t : Fin grid0.N, _)

theorem point_lt (t : Fin cfg0.N) : t.val < 1 := lt_of_lt_of_eq t.isLt N_0

/-- A block of the left matrix, off the array. -/
theorem lhsBlk_apply (k : Fin 32) (a : Fin 1024) : lhsBlk m c t (ix2 k a) = lhs m c (ix2 k a) := by
  obtain ⟨e0, _, _⟩ := idx t
  blk_ext [lhsBlk, iblk, e0]

/-- A block of the right matrix, off the array. -/
theorem rhsBlk_apply (k : Fin 32) (b : Fin 1152) : rhsBlk m c t (ix2 k b) = rhs m c (ix2 k b) := by
  obtain ⟨_, e1, _⟩ := idx t
  blk_ext [rhsBlk, iblk, e1]

/-- What a grid point writes back: the product of its two blocks. -/
theorem out_block (a : Fin 1024) (b : Fin 1152) : out0_2 (lhsBlk m c t) (rhsBlk m c t) (ix2 a b) = ∑ k : Fin 32, lhsBlk m c t (ix2 k a) * rhsBlk m c t (ix2 k b) := by
  unfold out0_2
  frame_out
  unfold_payloads
  pointwise

/-- The result array: the product with the first matrix transposed of the two matrices as the region finds them. -/
theorem arr2 : (dats m 0 c).arrAt 2 cfg0.N = fun q : S1024x1152.Idx => tn (mat (lhs m c)) (mat (rhs m c)) (q 0) (q 1) := by
  refine (dats m 0 c).arrAt_eq_of_covers 2 _ (by decide +kernel) fun t hf y => ?_
  obtain ⟨y, rfl⟩ : ∃ z : S1024x1152.Idx, z = y := ⟨y, rfl⟩
  obtain ⟨_, _, e2⟩ := idx t
  idx_vars y
  rw [after0_2]
  have e : (win0_2.blk t).view.emb (ix2 y0 y1) = (ix2 y0 y1 : S1024x1152.Idx) := by
    blk_ext [e2]
  blk_simp
  refine (out_block m c t y0 y1).trans ?_
  simp only [lhsBlk_apply, rhsBlk_apply]
  exact Eq.trans rfl (congrArg (fun q : S1024x1152.Idx => tn (mat (lhs m c)) (mat (rhs m c)) (q 0) (q 1)) e).symm

/-- The left matrix's entries are the argument's. -/
theorem lhs_apply (k : Fin 32) (i : Fin 1024) : lhs m c (ix2 k i) = (mat (m ((c.tc : Thread nD τ).loc main_arg0))) k i := congrFun (V_main_arg0 m c) _

/-- The right matrix's entries are the argument's. -/
theorem rhs_apply (k : Fin 32) (j : Fin 1152) : rhs m c (ix2 k j) = (mat (m ((c.tc : Thread nD τ).loc main_arg1))) k j := congrFun (V_main_arg1 m c) _

/-- The product with the first matrix transposed of the matrices the region finds is the arguments'. -/
theorem result_apply (i : Fin 1024) (j : Fin 1152) : tn (mat (lhs m c)) (mat (rhs m c)) i j = tn (mat (m ((c.tc : Thread nD τ).loc main_arg0))) (mat (m ((c.tc : Thread nD τ).loc main_arg1))) i j :=
  Finset.sum_congr rfl fun k _ => congrArg₂ (· * ·) (lhs_apply m c k i) (rhs_apply m c k j)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S1024x1152.Idx => tn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel33Ideal.Value

namespace Cert.Reference33Ideal.Value

open Cert.Mat Cert.Reference33Ideal Cert.Reference33Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v5) = (fun q : S1024x1152.Idx => tn (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; exact Finset.sum_congr rfl fun k _ => mul_comm _ _), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference33Ideal.Value

/-- The call and the reference compute one product: from equal arguments they end with equal results. -/
theorem Cert.algebraic33 : Cert.algebraic_Kernel33Ideal_Reference33Ideal := by
  intro m g m' g' _ hagree
  refine ⟨_, Cert.Kernel33Ideal.Value.run_entries m g, ?_⟩
  refine (Idealize.ShloMosaic.θ_run _ _ _).mono (fun r h c => ?_) (Cert.Reference33Ideal.Value.run_entries m' g')
  obtain ⟨e0, e1⟩ := hagree c
  have := h c
  simp only [e0, e1] at this ⊢
  exact this

end
-- ==== Proof.Mat34.lean ====
/-
  The cotangent of the conditioning rows of the modulation: its result array, entry by entry, and the reference's.
-/
module

public import proofs.«01_k».proof.Proof.Gen.Kernel34Ideal.Value
public import proofs.«01_k».proof.Proof.Gen.Reference34Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Kernel34Ideal.Value

open Cert.Mat Cert.Kernel34Ideal Cert.Kernel34Ideal.Gen Idealize.ShloMosaic Idealize.ShloMosaic.TcCoe Idealize.SL.Sem

variable (m : (ℓ : Loc nD τ sig) → Buf (Elt Ideal) ℓ) (c : Dev nD) (t : Fin cfg0.N)

/-- The left matrix as the region finds it. -/
abbrev lhs : Vec Ideal S16x1152 .bf16 := V m c main_arg0
/-- The right matrix as the region finds it. -/
abbrev rhs : Vec Ideal S1024x1152 .f32 := V m c main_arg1
/-- The block of the left matrix a grid point reads. -/
abbrev lhsBlk : Vec Ideal S16x1152 .bf16 := iblk m c 0 t
/-- The block of the right matrix a grid point reads. -/
abbrev rhsBlk : Vec Ideal S1024x1152 .f32 := iblk m c 1 t

/-- The block indices of the three windows at a grid point. -/
theorem idx : ∀ t : Fin cfg0.N, win0_0.index t = ![0, 0] ∧ win0_1.index t = ![0, 0] ∧ win0_2.index t = ![0, 0] :=
  (by decide +kernel : ∀ t : Fin grid0.N, _)

theorem point_lt (t : Fin cfg0.N) : t.val < 1 := lt_of_lt_of_eq t.isLt N_0

/-- A block of the left matrix, off the array. -/
theorem lhsBlk_apply (k : Fin 1152) (a : Fin 16) : lhsBlk m c t (ix2 a k) = lhs m c (ix2 a k) := by
  obtain ⟨e0, _, _⟩ := idx t
  blk_ext [lhsBlk, iblk, e0]

/-- A block of the right matrix, off the array. -/
theorem rhsBlk_apply (k : Fin 1152) (b : Fin 1024) : rhsBlk m c t (ix2 b k) = rhs m c (ix2 b k) := by
  obtain ⟨_, e1, _⟩ := idx t
  blk_ext [rhsBlk, iblk, e1]

/-- What a grid point writes back: the product of its two blocks. -/
theorem out_block (a : Fin 16) (b : Fin 1024) : out0_2 (lhsBlk m c t) (rhsBlk m c t) (ix2 a b) = ∑ k : Fin 1152, lhsBlk m c t (ix2 a k) * rhsBlk m c t (ix2 b k) := by
  unfold out0_2
  frame_out
  unfold_payloads
  pointwise

/-- The result array: the product with the second matrix transposed of the two matrices as the region finds them. -/
theorem arr2 : (dats m 0 c).arrAt 2 cfg0.N = fun q : S16x1024.Idx => nt (mat (lhs m c)) (mat (rhs m c)) (q 0) (q 1) := by
  refine (dats m 0 c).arrAt_eq_of_covers 2 _ (by decide +kernel) fun t hf y => ?_
  obtain ⟨y, rfl⟩ : ∃ z : S16x1024.Idx, z = y := ⟨y, rfl⟩
  obtain ⟨_, _, e2⟩ := idx t
  idx_vars y
  rw [after0_2]
  have e : (win0_2.blk t).view.emb (ix2 y0 y1) = (ix2 y0 y1 : S16x1024.Idx) := by
    blk_ext [e2]
  blk_simp
  refine (out_block m c t y0 y1).trans ?_
  simp only [lhsBlk_apply, rhsBlk_apply]
  exact Eq.trans rfl (congrArg (fun q : S16x1024.Idx => nt (mat (lhs m c)) (mat (rhs m c)) (q 0) (q 1)) e).symm

/-- The left matrix's entries are the argument's. -/
theorem lhs_apply (i : Fin 16) (k : Fin 1152) : lhs m c (ix2 i k) = (mat (m ((c.tc : Thread nD τ).loc main_arg0))) i k := congrFun (V_main_arg0 m c) _

/-- The right matrix's entries are the argument's. -/
theorem rhs_apply (j : Fin 1024) (k : Fin 1152) : rhs m c (ix2 j k) = (mat (m ((c.tc : Thread nD τ).loc main_arg1))) j k := congrFun (V_main_arg1 m c) _

/-- The product with the second matrix transposed of the matrices the region finds is the arguments'. -/
theorem result_apply (i : Fin 16) (j : Fin 1024) : nt (mat (lhs m c)) (mat (rhs m c)) i j = nt (mat (m ((c.tc : Thread nD τ).loc main_arg0))) (mat (m ((c.tc : Thread nD τ).loc main_arg1))) i j :=
  Finset.sum_congr rfl fun k _ => congrArg₂ (· * ·) (lhs_apply m c i k) (rhs_apply m c j k)

/-- The call ends with its result at the product's entries and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S16x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((arr2 m c).trans (by funext q; exact result_apply m c (q 0) (q 1))), (h c).2⟩) (run_blocks m ρ)

end Cert.Kernel34Ideal.Value

namespace Cert.Reference34Ideal.Value

open Cert.Mat Cert.Reference34Ideal Cert.Reference34Ideal.Gen Idealize.ShloMosaic Idealize.ShloMosaic.TcCoe Idealize.SL.Sem

variable (m : (ℓ : Loc nD τ sig) → Buf (Elt Ideal) ℓ) (ρ : Dev nD → PrngReg)

/-- The reference ends with its result at the product's entries and its arguments unchanged. -/
theorem run_entries : θ_run defs (onTc (τ := τ) (main (F := Ideal))) ⟨m, fun _ => 0, ρ⟩ fun r => ∀ c : Dev nD,
      r.2.mem ((c.tc : Thread nD τ).loc main_v3) = (fun q : S16x1024.Idx => nt (mat (m ((c.tc : Thread nD τ).loc main_arg0))) (mat (m ((c.tc : Thread nD τ).loc main_arg1))) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference34Ideal.Value

/-- The call and the reference compute one product: from equal arguments they end with equal results. -/
theorem Cert.algebraic34 : Cert.algebraic_Kernel34Ideal_Reference34Ideal := by
  intro m g m' g' _ hagree
  refine ⟨_, Cert.Kernel34Ideal.Value.run_entries m g, ?_⟩
  refine (Idealize.ShloMosaic.θ_run _ _ _).mono (fun r h c => ?_) (Cert.Reference34Ideal.Value.run_entries m' g')
  obtain ⟨e0, e1⟩ := hagree c
  have := h c
  simp only [e0, e1] at this ⊢
  exact this

end
-- ==== Proof.Sum35.lean ====
/-
  The sum over the devices of the feed-forward weights' gradients: the call's result array, entry by entry, and the reference's.
-/
module

public import proofs.«01_k».proof.Proof.Gen.Kernel35Ideal.Value
public import proofs.«01_k».proof.Proof.Gen.Reference35Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel35Ideal.Value

open Cert.Mat Cert.Kernel35Ideal Cert.Kernel35Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x352x1024 .bf16) (i : Fin 352) (j : Fin 1024) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S352x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel35Ideal.Value

namespace Cert.Reference35Ideal.Value

open Cert.Mat Cert.Reference35Ideal Cert.Reference35Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v1) = (fun q : S352x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference35Ideal.Value

/-- The call and the reference add the same shares: from equal arguments they end with equal results. -/
theorem Cert.algebraic35 : Cert.algebraic_Kernel35Ideal_Reference35Ideal := by
  intro m g m' g' _ hagree
  refine ⟨_, Cert.Kernel35Ideal.Value.run_entries m g, ?_⟩
  refine (Idealize.ShloMosaic.θ_run _ _ _).mono (fun r h c => ?_) (Cert.Reference35Ideal.Value.run_entries m' g')
  have e0 := hagree c
  have := h c
  simp only [e0] at this ⊢
  exact this

end
-- ==== Proof.Sum36.lean ====
/-
  The sum over the devices of the input projection's weight gradient, attention and pooling mixer: the call's result array, entry by entry, and the reference's.
-/
module

public import proofs.«01_k».proof.Proof.Gen.Kernel36Ideal.Value
public import proofs.«01_k».proof.Proof.Gen.Reference36Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel36Ideal.Value

open Cert.Mat Cert.Kernel36Ideal Cert.Kernel36Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x160x1024 .bf16) (i : Fin 160) (j : Fin 1024) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S160x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel36Ideal.Value

namespace Cert.Reference36Ideal.Value

open Cert.Mat Cert.Reference36Ideal Cert.Reference36Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v1) = (fun q : S160x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference36Ideal.Value

/-- The call and the reference add the same shares: from equal arguments they end with equal results. -/
theorem Cert.algebraic36 : Cert.algebraic_Kernel36Ideal_Reference36Ideal := by
  intro m g m' g' _ hagree
  refine ⟨_, Cert.Kernel36Ideal.Value.run_entries m g, ?_⟩
  refine (Idealize.ShloMosaic.θ_run _ _ _).mono (fun r h c => ?_) (Cert.Reference36Ideal.Value.run_entries m' g')
  have e0 := hagree c
  have := h c
  simp only [e0] at this ⊢
  exact this

end
-- ==== Proof.Sum37.lean ====
/-
  The sum over the devices of the output projections' weight gradients: the call's result array, entry by entry, and the reference's.
-/
module

public import proofs.«01_k».proof.Proof.Gen.Kernel37Ideal.Value
public import proofs.«01_k».proof.Proof.Gen.Reference37Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel37Ideal.Value

open Cert.Mat Cert.Kernel37Ideal Cert.Kernel37Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x128x1024 .bf16) (i : Fin 128) (j : Fin 1024) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S128x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel37Ideal.Value

namespace Cert.Reference37Ideal.Value

open Cert.Mat Cert.Reference37Ideal Cert.Reference37Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v1) = (fun q : S128x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference37Ideal.Value

/-- The call and the reference add the same shares: from equal arguments they end with equal results. -/
theorem Cert.algebraic37 : Cert.algebraic_Kernel37Ideal_Reference37Ideal := by
  intro m g m' g' _ hagree
  refine ⟨_, Cert.Kernel37Ideal.Value.run_entries m g, ?_⟩
  refine (Idealize.ShloMosaic.θ_run _ _ _).mono (fun r h c => ?_) (Cert.Reference37Ideal.Value.run_entries m' g')
  have e0 := hagree c
  have := h c
  simp only [e0] at this ⊢
  exact this

end
-- ==== Proof.Sum38.lean ====
/-
  The sum over the devices of the input projection's weight gradient, recurrent mixer: the call's result array, entry by entry, and the reference's.
-/
module

public import proofs.«01_k».proof.Proof.Gen.Kernel38Ideal.Value
public import proofs.«01_k».proof.Proof.Gen.Reference38Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel38Ideal.Value

open Cert.Mat Cert.Kernel38Ideal Cert.Kernel38Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x256x1024 .bf16) (i : Fin 256) (j : Fin 1024) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S256x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel38Ideal.Value

namespace Cert.Reference38Ideal.Value

open Cert.Mat Cert.Reference38Ideal Cert.Reference38Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v1) = (fun q : S256x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference38Ideal.Value

/-- The call and the reference add the same shares: from equal arguments they end with equal results. -/
theorem Cert.algebraic38 : Cert.algebraic_Kernel38Ideal_Reference38Ideal := by
  intro m g m' g' _ hagree
  refine ⟨_, Cert.Kernel38Ideal.Value.run_entries m g, ?_⟩
  refine (Idealize.ShloMosaic.θ_run _ _ _).mono (fun r h c => ?_) (Cert.Reference38Ideal.Value.run_entries m' g')
  have e0 := hagree c
  have := h c
  simp only [e0] at this ⊢
  exact this

end
-- ==== Proof.Sum39.lean ====
/-
  The sum over the devices of the gradients of the recurrence's gates: the call's result array, entry by entry, and the reference's.
-/
module

public import proofs.«01_k».proof.Proof.Gen.Kernel39Ideal.Value
public import proofs.«01_k».proof.Proof.Gen.Reference39Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel39Ideal.Value

open Cert.Mat Cert.Kernel39Ideal Cert.Kernel39Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x32x1024 .f32) (i : Fin 32) (j : Fin 1024) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S32x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel39Ideal.Value

namespace Cert.Reference39Ideal.Value

open Cert.Mat Cert.Reference39Ideal Cert.Reference39Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v0) = (fun q : S32x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference39Ideal.Value

/-- The call and the reference add the same shares: from equal arguments they end with equal results. -/
theorem Cert.algebraic39 : Cert.algebraic_Kernel39Ideal_Reference39Ideal := by
  intro m g m' g' _ hagree
  refine ⟨_, Cert.Kernel39Ideal.Value.run_entries m g, ?_⟩
  refine (Idealize.ShloMosaic.θ_run _ _ _).mono (fun r h c => ?_) (Cert.Reference39Ideal.Value.run_entries m' g')
  have e0 := hagree c
  have := h c
  simp only [e0] at this ⊢
  exact this

end
-- ==== Proof.Sum40.lean ====
/-
  The sum over the devices of the gradient of the pooling weight: the call's result array, entry by entry, and the reference's.
-/
module

public import proofs.«01_k».proof.Proof.Gen.Kernel40Ideal.Value
public import proofs.«01_k».proof.Proof.Gen.Reference40Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel40Ideal.Value

open Cert.Mat Cert.Kernel40Ideal Cert.Kernel40Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x8x1024 .f32) (i : Fin 8) (j : Fin 1024) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S8x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel40Ideal.Value

namespace Cert.Reference40Ideal.Value

open Cert.Mat Cert.Reference40Ideal Cert.Reference40Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v0) = (fun q : S8x1024.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference40Ideal.Value

/-- The call and the reference add the same shares: from equal arguments they end with equal results. -/
theorem Cert.algebraic40 : Cert.algebraic_Kernel40Ideal_Reference40Ideal := by
  intro m g m' g' _ hagree
  refine ⟨_, Cert.Kernel40Ideal.Value.run_entries m g, ?_⟩
  refine (Idealize.ShloMosaic.θ_run _ _ _).mono (fun r h c => ?_) (Cert.Reference40Ideal.Value.run_entries m' g')
  have e0 := hagree c
  have := h c
  simp only [e0] at this ⊢
  exact this

end
-- ==== Proof.Sum41.lean ====
/-
  The gradient of b_mod, off the devices' cotangents of the modulation: the call's sum over the devices and the host's sum
  of the three conditioning rows, entry by entry, and the reference's.
-/
module

public import proofs.«01_k».proof.Proof.Gen.Kernel41.Frame
public import proofs.«01_k».proof.Proof.Gen.Kernel41Ideal.Frame
public import proofs.«01_k».proof.Proof.Gen.Reference41Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.StableHlo.ReadAt
public import Idealize.ShloMosaic.Lib.Tactic

@[expose] public section

set_option maxRecDepth 16384

noncomputable section

namespace Cert.BMod

open Idealize.ShloMosaic

/-- Where entry `j` of row `k` of layer `i` stands in the packed rows of one device. -/
abbrev at3 (i : Fin 2) (k : Fin 3) (j : Fin 9216) : (⟨2, ![432, 128]⟩ : Shape).Idx :=
  ix2 ⟨((i.val * 3 + k.val) * 9216 + j.val) / 128, by omega⟩ ⟨((i.val * 3 + k.val) * 9216 + j.val) % 128, by omega⟩

/-- The gradient: the devices' shares at an index added, for each of the three rows, and the three sums added. -/
def grad (x : (⟨3, ![8, 432, 128]⟩ : Shape).Idx → EReal) (i : Fin 2) (j : Fin 9216) : EReal :=
  ∑ k : Fin 3, Cert.Mat.shares x (at3 i k j 0) (at3 i k j 1)

end Cert.BMod

namespace Cert.Kernel41Ideal.Value

open Cert.Mat Cert.BMod Cert.Kernel41Ideal Cert.Kernel41Ideal.Gen Idealize.ShloMosaic Idealize.ShloMosaic.TcCoe Idealize.SL.Sem

variable (m : (ℓ : Loc nD τ sig) → Buf (Elt Ideal) ℓ) (c : Dev nD)

/-- What the call's one grid point leaves: the eight shares at each index, added. -/
theorem out_block (x : Vec Ideal S8x432x128 .f32) (i : Fin 432) (j : Fin 128) : out0_1 x (ix2 i j) = shares x i j := by
  unfold out0_1
  frame_out
  unfold_payloads
  pointwise
  unfold shares
  rw [Fin.sum_univ_eight]

theorem idx : ∀ t : Fin cfg0.N, win0_0.index t = ![0, 0, 0] ∧ win0_1.index t = ![0, 0] :=
  (by decide +kernel : ∀ t : Fin grid0.N, _)

theorem iblk_eq (t : Fin cfg0.N) : (iblk m c 0 t : Vec Ideal S8x432x128 .f32) = m ((c.tc : Thread nD τ).loc main_arg0) := by
  obtain ⟨e0, _⟩ := idx t
  funext y
  idx_vars y
  blk_ext [iblk, e0]

/-- The call's array. -/
theorem arr1 : (dats m 0 c).arrAt 1 cfg0.N = fun q : S432x128.Idx => shares (m ((c.tc : Thread nD τ).loc main_arg0)) (q 0) (q 1) := by
  refine (dats m 0 c).arrAt_eq_of_covers 1 _ (by decide +kernel) fun t hf y => ?_
  obtain ⟨y, rfl⟩ : ∃ z : S432x128.Idx, z = y := ⟨y, rfl⟩
  obtain ⟨_, e1⟩ := idx t
  idx_vars y
  rw [after0_1, iblk_eq]
  have e : (win0_1.blk t).view.emb (ix2 y0 y1) = (ix2 y0 y1 : S432x128.Idx) := by
    blk_ext [e1]
  blk_simp
  refine (out_block _ y0 y1).trans ?_
  exact Eq.trans rfl (congrArg (fun q : S432x128.Idx => shares (m ((c.tc : Thread nD τ).loc main_arg0)) (q 0) (q 1)) e).symm

/-- The host lines after the call, on any array: three rows cut out of it and added. -/
def rows3 (x : FVec Ideal S432x128 .f32) : FVec Ideal S2x9216 .f32 :=
  addf (addf (shapeCast S2x9216 (extractStridedSlice S2x1x9216 ![0, 0, 0] (shapeCast S2x3x9216 x shapeCasts_S432x128_S2x3x9216) slices_S2x3x9216_S2x1x9216_0_0_0) shapeCasts_S2x1x9216_S2x9216)
    (shapeCast S2x9216 (extractStridedSlice S2x1x9216 ![0, 1, 0] (shapeCast S2x3x9216 x shapeCasts_S432x128_S2x3x9216) slices_S2x3x9216_S2x1x9216_0_1_0) shapeCasts_S2x1x9216_S2x9216))
    (shapeCast S2x9216 (extractStridedSlice S2x1x9216 ![0, 2, 0] (shapeCast S2x3x9216 x shapeCasts_S432x128_S2x3x9216) slices_S2x3x9216_S2x1x9216_0_2_0) shapeCasts_S2x1x9216_S2x9216)

theorem rows3_apply (x : FVec Ideal S432x128 .f32) (i : Fin 2) (j : Fin 9216) : rows3 x (ix2 i j) = ∑ k : Fin 3, x (at3 i k j) := by
  rw [Fin.sum_univ_three]
  unfold rows3
  pointwise
  refine congrArg₂ (· + ·) (congrArg₂ (· + ·) ?_ ?_) ?_
  all_goals exact congrArg x (congrArg₂ ix2 (Fin.ext (by dsimp only; omega)) (Fin.ext (by dsimp only; omega)))

theorem after_rows3 (W : Valuation τ sig (Elt Ideal)) : StableHlo.after [hostOps1].flatten W (Proc.devRef .tc main_v9) = rows3 (W (Proc.devRef .tc main_v0) : FVec Ideal S432x128 .f32) := by
  simp only [hostOps1, List.flatten_cons, List.flatten_nil, List.cons_append, List.nil_append]
  after_results_simp
  rfl

theorem tail : Pipeline.afterTail₀ cfgs (dats m) 0 (V0 m) [hostOps1] c main_v9 = fun q : S2x9216.Idx => grad (m ((c.tc : Thread nD τ).loc main_arg0)) (q 0) (q 1) := by
  refine (after_rows3 _).trans ?_
  refine (congrArg (fun a => rows3 a) ((Pipeline.withArrays_arr spec0 launch0.win.arr_inj c _ _ 1).trans (arr1 m c))).trans ?_
  funext q
  idx_vars q
  exact rows3_apply _ q0 q1

/-- The call and the lines after it end with the result at the sums and the argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v9) = (fun q : S2x9216.Idx => grad (m ((c.tc : Thread nD τ).loc main_arg0)) (q 0) (q 1))
      ∧ r.2.mem ((c.tc : Thread nD τ).loc main_arg0) = m ((c.tc : Thread nD τ).loc main_arg0) :=
  (θ_run defs _ _).mono (fun r h c => ⟨((h.1 c).2 main_v9 (Pipeline.mem_restRefs_of main_v9 (by decide) (by decide))).trans (tail m c), h.2 c⟩)
    (θ_run_and (run_main m ρ) (unchanged m ρ))

end Cert.Kernel41Ideal.Value

namespace Cert.Reference41Ideal.Value

open Cert.Mat Cert.BMod Cert.Reference41Ideal Cert.Reference41Ideal.Gen Idealize.ShloMosaic Idealize.ShloMosaic.TcCoe Idealize.SL.Sem

variable (m : (ℓ : Loc nD τ sig) → Buf (Elt Ideal) ℓ) (ρ : Dev nD → PrngReg)

/-- The reference ends with its result at the sums and its argument unchanged. -/
theorem run_entries : θ_run defs (onTc (τ := τ) (main (F := Ideal))) ⟨m, fun _ => 0, ρ⟩ fun r => ∀ c : Dev nD,
      r.2.mem ((c.tc : Thread nD τ).loc main_v2) = (fun q : S2x9216.Idx => grad (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; exact Finset.sum_congr rfl fun k _ => Finset.sum_congr rfl fun p _ => congrArg (m ((c.tc : Thread nD τ).loc main_arg0)) (congrArg₂ (ix3 p) (Fin.ext (by change _ = ((q0.val * 3 + k.val) * 9216 + q1.val) / 128; dsimp only; omega)) (Fin.ext (by change _ = ((q0.val * 3 + k.val) * 9216 + q1.val) % 128; dsimp only; omega)))), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference41Ideal.Value

/-- The call and the reference add the same shares: from equal arguments they end with equal results. -/
theorem Cert.algebraic41 : Cert.algebraic_Kernel41Ideal_Reference41Ideal := by
  intro m g m' g' _ hagree
  refine ⟨_, Cert.Kernel41Ideal.Value.run_entries m g, ?_⟩
  refine (Idealize.ShloMosaic.θ_run _ _ _).mono (fun r h c => ?_) (Cert.Reference41Ideal.Value.run_entries m' g')
  have e0 := hagree c
  have := h c
  simp only [e0] at this ⊢
  exact this

end
-- ==== Proof.Sum42.lean ====
/-
  The sum over the devices of the packed gradients of the small weights: the call's result array, entry by entry, and the reference's.
-/
module

public import proofs.«01_k».proof.Proof.Gen.Kernel42Ideal.Value
public import proofs.«01_k».proof.Proof.Gen.Reference42Ideal.Run
public import proofs.«01_k».proof.Defs
public import proofs.«01_k».proof.Proof.Mat
public import Idealize.ShloMosaic.Lib.Pipeline.ValueKit
public import Idealize.ShloMosaic.Lib.Quiescent
public import Idealize.ShloMosaic.Lib.Pointwise
public import Idealize.ShloMosaic.Lib.Tactic

@[expose] public section

set_option maxRecDepth 16384

noncomputable section

namespace Cert.Kernel42Ideal.Value

open Cert.Mat Cert.Kernel42Ideal Cert.Kernel42Ideal.Gen Idealize.ShloMosaic Idealize.ShloMosaic.TcCoe Idealize.SL.Sem

variable (m : (ℓ : Loc nD τ sig) → Buf (Elt Ideal) ℓ)

/-- The call's result at an index: the eight shares there, added. -/
theorem G1_apply (x : Vec Ideal S8x784x128 .f32) (i : Fin 784) (j : Fin 128) : G1 x (ix2 i j) = shares x i j := by
  unfold G1
  unfold_payloads
  pointwise
  unfold shares
  rw [Fin.sum_univ_eight]

/-- The call ends with its result at the shares' sums and its argument unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0) = (fun q : S784x128.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; exact G1_apply _ q0 q1), (h c).2⟩) (run m ρ)

end Cert.Kernel42Ideal.Value

namespace Cert.Reference42Ideal.Value

open Cert.Mat Cert.Reference42Ideal Cert.Reference42Ideal.Gen Idealize.ShloMosaic Idealize.ShloMosaic.TcCoe Idealize.SL.Sem

variable (m : (ℓ : Loc nD τ sig) → Buf (Elt Ideal) ℓ) (ρ : Dev nD → PrngReg)

/-- The reference ends with its result at the shares' sums and its argument unchanged. -/
theorem run_entries : θ_run defs (onTc (τ := τ) (main (F := Ideal))) ⟨m, fun _ => 0, ρ⟩ fun r => ∀ c : Dev nD,
      r.2.mem ((c.tc : Thread nD τ).loc main_v0) = (fun q : S784x128.Idx => shares (m ((c.tc : Thread nD τ).loc main_arg0)) (q 0) (q 1))
      ∧ r.2.mem ((c.tc : Thread nD τ).loc main_arg0) = m ((c.tc : Thread nD τ).loc main_arg0) :=
  (θ_run defs _ _).mono (fun r h c => ⟨(h c).1.trans (by funext q; idx_vars q; pointwise; rfl), (h c).2⟩) (run m ρ)

/-- The reference's run, its argument kept and every counter at zero. -/
theorem frame : θ_run defs (onTc (τ := τ) (main (F := Ideal))) ⟨m, fun _ => 0, ρ⟩ (fun r => (∀ c : Dev nD,
       r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (run m ρ)

end Cert.Reference42Ideal.Value

/-- The call and the reference add the same shares: from equal arguments they end with equal results. -/
theorem Cert.algebraic42 : Cert.algebraic_Kernel42Ideal_Reference42Ideal := by
  intro m g m' g' _ hagree
  refine ⟨_, Cert.Kernel42Ideal.Value.run_entries m g, ?_⟩
  refine (Idealize.ShloMosaic.θ_run _ _ _).mono (fun r h c => ?_) (Cert.Reference42Ideal.Value.run_entries m' g')
  have e0 := hagree c
  have := h c
  simp only [e0] at this ⊢
  exact this

end
-- ==== Proof.Mod.lean ====
/-
  The call of the derivative of the first shift and scale at the ideal numbers: what its body leaves at each grid point, its run, and that it leaves its arguments as they were.
-/
module

public import proofs.«01_k».proof.Proof.Gen.Kernel43Ideal.Frame
public import proofs.«01_k».proof.Proof.Gen.Kernel43Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.ReadBack

@[expose] public section

set_option maxRecDepth 16384

noncomputable section

namespace Cert.Kernel43Ideal.Hand

open Cert.Kernel43Ideal Cert.Kernel43Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rows : Rect S512x1024 := Rect.unit (s := S512x1024) ![0, 0] S512x1024.size inb_S512x1024_S512x1024_0_0
abbrev sc : Rect S1x9x1024 := Rect.unit (s := S1x9x1024) ![0, 1, 0] S1x1x1024.size inb_S1x9x1024_S1x1x1024_0_1_0
abbrev row3 : Rect S1x8x1024 := Rect.unit (s := S1x8x1024) ![0, 3, 0] S1x1x1024.size inb_S1x8x1024_S1x1x1024_0_3_0
abbrev row4 : Rect S1x8x1024 := Rect.unit (s := S1x8x1024) ![0, 4, 0] S1x1x1024.size inb_S1x8x1024_S1x1x1024_0_4_0

theorem cover_rows (p : Vec F S512x1024 .f32) (y : S512x1024.Idx) : ∃ pc ∈ ([⟨rows, p⟩] : List (View.Piece (Elt F) S512x1024 .f32)), y ∈ pc.1.set :=
  View.cover_of_tiled [⟨rows, p⟩] S512x1024.size (by rfl) y

/-- The block of derivatives at a point of the latents, from the blocks of the arguments. -/
def dhOut (x0 : Vec F S512x1024 .f32) (x1 : Vec F S512x1024 .bf16) (x3 : Vec F S1x9x1024 .f32) : Vec F S512x1024 .f32 :=
  View.canon [⟨rows, k0_pay5 (View.ld x1 rows) (View.ld x3 sc) (View.ld x0 rows)⟩]

/-- The tile after a point, from the blocks and what it held: rows 3 and 4 have sums added. -/
def statOut (x1 : Vec F S512x1024 .bf16) (x2 : Vec F S512x1024 .f32) (a : Vec F S1x8x1024 .f32) : Vec F S1x8x1024 .f32 :=
  VecWindow.put (VecWindow.put a ![0, 3, 0] S1x1x1024.size (k0_pay1 (k0_pay6 (View.ld x1 rows) (View.ld a row3) (View.ld x2 rows))))
    ![0, 4, 0] S1x1x1024.size (k0_pay2 (k0_pay4 (View.ld x1 rows)) (View.ld a row4))

/-- Whether a point is the first of its segment, as the body computes it. -/
abbrev isFirst (i : grid0.Coords) : BitVec 1 :=
  Scalar.cmpi .ne (Scalar.extui (Scalar.select (Scalar.cmpi .slt (BitVec.ofNat 32 (i 0).val) 8#32)
    (Scalar.cmpi .eq (Scalar.select (Scalar.andi (Scalar.xori
        (Scalar.cmpi .slt (Scalar.remsi (BitVec.ofNat 32 (i 0).val) (Scalar.select (Scalar.cmpi .eq 4#32 0#32) 1#32 4#32)) 0#32)
        (Scalar.cmpi .slt (Scalar.select (Scalar.cmpi .eq 4#32 0#32) 1#32 4#32) 0#32))
        (Scalar.cmpi .ne (Scalar.remsi (BitVec.ofNat 32 (i 0).val) (Scalar.select (Scalar.cmpi .eq 4#32 0#32) 1#32 4#32)) 0#32))
      (Scalar.addi (Scalar.remsi (BitVec.ofNat 32 (i 0).val) (Scalar.select (Scalar.cmpi .eq 4#32 0#32) 1#32 4#32)) (Scalar.select (Scalar.cmpi .eq 4#32 0#32) 1#32 4#32))
      (Scalar.remsi (BitVec.ofNat 32 (i 0).val) (Scalar.select (Scalar.cmpi .eq 4#32 0#32) 1#32 4#32))) 0#32)
    (Scalar.cmpi .eq (BitVec.ofNat 32 (i 0).val) 8#32))) 0#32

set_option maxHeartbeats 1000000 in
/-- The body at the first point of a segment of the latents. -/
theorem body_first (c : Dev nD) (E : Set ℕ) (i : grid0.Coords) (arg1 : Memref sig .tc .vmem S512x1024 .f32) (harg1 : arg1.IsWhole)
  (arg2 : Memref sig .tc .vmem S512x1024 .bf16) (harg2 : arg2.IsWhole) (arg3 : Memref sig .tc .vmem S512x1024 .f32) (harg3 : arg3.IsWhole)
  (arg4 : Memref sig .tc .vmem S1x9x1024 .f32) (harg4 : arg4.IsWhole) (arg5 : Memref sig .tc .vmem S512x1024 .f32) (harg5 : arg5.IsWhole)
  (arg6 : Memref sig .tc .vmem S1x8x1024 .f32) (harg6 : arg6.IsWhole) (x0 : Vec F S512x1024 .f32) (x1 : Vec F S512x1024 .bf16) (x2 : Vec F S512x1024 .f32) (x3 : Vec F S1x9x1024 .f32) (K : PUnit → sProp 𝕄)
    (h1 : isFirst i = 1#1) (h2 : k0_cond2 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (dhOut x0 x1 x3) ∗ owns (c : Thread nD τ) arg6 fullShare (statOut x1 x2 (k0_pay3 (F := F)))) -∗ K ⟨⟩))
      ⊢ wp frame (wpE (defs₀ (F := F)) Variants.none c none) E (cc0_modulate_bwd i arg1 harg1 arg2 harg2 arg3 harg3 arg4 harg4 arg5 harg5 arg6 harg6) K := by
  simp only [cc0_modulate_bwd_eq_skeleton]; unfold cc0_modulate_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rows _)
  iexists _; isplitr
  swap; · iexact H5
  ipureintro
  refine (View.read_writes_cons_put _ _ _ _ _ rfl).trans ?_
  unfold body_first.sl.v33 body_first.sl.H5_2 body_first.sl.v23 body_first.sl.H5_1
  rw [View.readCov_fill _ _ _ _ _ (by decide), View.readCov_skip _ _ _ _ _ (by decide), View.readCov_fill _ _ _ _ _ (by decide),
    View.read_writes_cons_put _ _ _ _ _ rfl, View.read_writes_full]
  rfl

set_option maxHeartbeats 1000000 in
/-- The body at a later point of a segment. -/
theorem body_next (c : Dev nD) (E : Set ℕ) (i : grid0.Coords) (arg1 : Memref sig .tc .vmem S512x1024 .f32) (harg1 : arg1.IsWhole)
  (arg2 : Memref sig .tc .vmem S512x1024 .bf16) (harg2 : arg2.IsWhole) (arg3 : Memref sig .tc .vmem S512x1024 .f32) (harg3 : arg3.IsWhole)
  (arg4 : Memref sig .tc .vmem S1x9x1024 .f32) (harg4 : arg4.IsWhole) (arg5 : Memref sig .tc .vmem S512x1024 .f32) (harg5 : arg5.IsWhole)
  (arg6 : Memref sig .tc .vmem S1x8x1024 .f32) (harg6 : arg6.IsWhole) (x0 : Vec F S512x1024 .f32) (x1 : Vec F S512x1024 .bf16) (x2 : Vec F S512x1024 .f32) (x3 : Vec F S1x9x1024 .f32) (a : Vec F S1x8x1024 .f32) (K : PUnit → sProp 𝕄)
    (h1 : ¬isFirst i = 1#1) (h2 : k0_cond2 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (dhOut x0 x1 x3) ∗ owns (c : Thread nD τ) arg6 fullShare (statOut x1 x2 a)) -∗ K ⟨⟩))
      ⊢ wp frame (wpE (defs₀ (F := F)) Variants.none c none) E (cc0_modulate_bwd i arg1 harg1 arg2 harg2 arg3 harg3 arg4 harg4 arg5 harg5 arg6 harg6) K := by
  simp only [cc0_modulate_bwd_eq_skeleton]; unfold cc0_modulate_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_rows _)
  iexists _; isplitr
  swap; · iexact H5
  ipureintro
  refine (View.read_writes_cons_put _ _ _ _ _ rfl).trans ?_
  unfold body_next.sl.v33
  rw [View.read_writes_cons_put _ _ _ _ _ rfl, View.writes_nil]
  rfl

set_option maxHeartbeats 1000000 in
/-- The body at the context's point. -/
theorem body_last (c : Dev nD) (E : Set ℕ) (i : grid0.Coords) (arg1 : Memref sig .tc .vmem S512x1024 .f32) (harg1 : arg1.IsWhole)
  (arg2 : Memref sig .tc .vmem S512x1024 .bf16) (harg2 : arg2.IsWhole) (arg3 : Memref sig .tc .vmem S512x1024 .f32) (harg3 : arg3.IsWhole)
  (arg4 : Memref sig .tc .vmem S1x9x1024 .f32) (harg4 : arg4.IsWhole) (arg5 : Memref sig .tc .vmem S512x1024 .f32) (harg5 : arg5.IsWhole)
  (arg6 : Memref sig .tc .vmem S1x8x1024 .f32) (harg6 : arg6.IsWhole) (x0 : Vec F S512x1024 .f32) (x1 : Vec F S512x1024 .bf16) (x2 : Vec F S512x1024 .f32) (x3 : Vec F S1x9x1024 .f32) (b : Vec F S512x1024 .f32) (K : PUnit → sProp 𝕄)
    (h1 : isFirst i = 1#1) (h2 : ¬k0_cond2 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare b ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare b ∗ owns (c : Thread nD τ) arg6 fullShare (statOut x1 x2 (k0_pay3 (F := F)))) -∗ K ⟨⟩))
      ⊢ wp frame (wpE (defs₀ (F := F)) Variants.none c none) E (cc0_modulate_bwd i arg1 harg1 arg2 harg2 arg3 harg3 arg4 harg4 arg5 harg5 arg6 harg6) K := by
  simp only [cc0_modulate_bwd_eq_skeleton]; unfold cc0_modulate_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_cons_put _ _ _ _ _ rfl).trans ?_
  unfold body_last.sl.v33 body_last.sl.H5_2 body_last.sl.v23 body_last.sl.H5_1
  rw [View.readCov_fill _ _ _ _ _ (by decide), View.readCov_skip _ _ _ _ _ (by decide), View.readCov_fill _ _ _ _ _ (by decide),
    View.read_writes_cons_put _ _ _ _ _ rfl, View.read_writes_full]
  rfl

/-- The tile after point `n`. -/
def stat (c : Dev nD) : (n : ℕ) → n < cfg0.N → Vec F S1x8x1024 .f32
  | 0, h => statOut (iblk m c 1 ⟨0, h⟩) (iblk m c 2 ⟨0, h⟩) (k0_pay3 (F := F))
  | n + 1, h => statOut (iblk m c 1 ⟨n + 1, h⟩) (iblk m c 2 ⟨n + 1, h⟩) (if (n + 1) % 4 = 0 then k0_pay3 (F := F) else stat c n (Nat.lt_of_succ_lt h))

/-- The last point of the latents, up to point `t`. -/
def lat (t : Fin cfg0.N) : Fin cfg0.N := ⟨min t.val 7, Nat.lt_of_le_of_lt (Nat.min_le_left _ _) t.isLt⟩

theorem lat_eq (t : Fin cfg0.N) (h : t.val < 8) : lat t = t := Fin.ext (Nat.min_eq_left (by omega))

theorem lat_pred (t : Fin cfg0.N) (h : ¬t.val < 8) : lat ⟨t.val - 1, Nat.lt_of_le_of_lt (Nat.sub_le _ _) t.isLt⟩ = lat t :=
  Fin.ext ((Nat.min_eq_right (by change 7 ≤ t.val - 1; omega)).trans (Nat.min_eq_right (by omega)).symm)

/-- The block of derivatives after point `t`. -/
def dh (c : Dev nD) (t : Fin cfg0.N) : Vec F S512x1024 .f32 := dhOut (iblk m c 0 t) (iblk m c 1 t) (iblk m c 3 t)

/-- What the pipeline's buffers hold after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dh m c (lat t)
    | ⟨5, _⟩ => stat m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dh m c (lat t) := by dsimp only [dats]
theorem after0_5 (c : Dev nD) (t : Fin cfg0.N) : (dats m 0 c).after 5 t = stat m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem conds : ∀ t : Fin cfg0.N, (isFirst (grid0.coords t) = 1#1 ↔ t.val % 4 = 0) ∧ (k0_cond2 (grid0.coords t) = 1#1 ↔ t.val < 8)
    ∧ cfg0.idle 5 (grid0.coords t) = false ∧ (t.val < 8 → cfg0.idle 4 (grid0.coords t) = false)
    ∧ (¬t.val < 8 → cfg0.idle 4 (grid0.coords t) = true ∧ (cfg0.win 4).flush t = true) ∧ (t.val = 7 → (cfg0.win 4).flush t = false)
    ∧ ((t.val + 1) % 4 ≠ 0 → t.val < 8 → (cfg0.win 5).flush t = false) := by decide +kernel

/-- Within a segment the body finds the tile as the point before left it. -/
theorem before0_5 (c : Dev nD) (t : Fin cfg0.N) (ht : t.val % 4 ≠ 0) (d) :
    (dats m 0 c).before 5 t d = stat m c (t.val - 1) (Nat.lt_of_le_of_lt (Nat.sub_le _ _) t.isLt) := by
  have hN : t.val < 9 := t.isLt
  obtain ⟨-, -, hi, -, -, -, h⟩ := conds ⟨t.val - 1, Nat.lt_of_le_of_lt (Nat.sub_le _ _) t.isLt⟩
  have hf := h (by change (t.val - 1 + 1) % 4 ≠ 0; omega) (by change t.val - 1 < 8; omega)
  rw [(dats m 0 c).before_of_pos 5 t (by omega) ((cfg0.win 5).fetch_out rfl t), hf, if_neg Bool.false_ne_true]
  unfold Dat.left
  rw [hi]
  unfold Dat.kept
  dsimp only [dats]
  rfl

/-- At the context's point the body finds the last block of derivatives of the latents. -/
theorem before0_4 (c : Dev nD) (t : Fin cfg0.N) (ht : ¬t.val < 8) (d) : (dats m 0 c).before 4 t d = dh m c (lat t) := by
  have hN : t.val < 9 := t.isLt
  have h7 : t.val - 1 = 7 := by omega
  obtain ⟨-, -, -, hi, -, hf, -⟩ := conds ⟨t.val - 1, Nat.lt_of_le_of_lt (Nat.sub_le _ _) t.isLt⟩
  have hi := hi (Nat.lt_of_le_of_lt (Nat.le_of_eq h7) (Nat.lt_succ_self 7))
  rw [(dats m 0 c).before_of_pos 4 t (by omega) ((cfg0.win 4).fetch_out rfl t), hf h7, if_neg Bool.false_ne_true]
  unfold Dat.left
  rw [hi]
  exact Eq.trans (show (dats m 0 c).kept 4 ⟨t.val - 1, Nat.lt_of_le_of_lt (Nat.sub_le _ _) t.isLt⟩ d = (dats m 0 c).after 4 ⟨t.val - 1, Nat.lt_of_le_of_lt (Nat.sub_le _ _) t.isLt⟩ from rfl)
    ((after0_4 m c _).trans (congrArg (dh m c) (lat_pred t ht)))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves_eq (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 3 t = owns (c : Thread nD τ) (st0_3 t) fullShare (iblk m c 3 t)
    ∧ (dats m 0 c).leavesExact 4 t = owns (c : Thread nD τ) (st0_4 t) fullShare (dh m c (lat t))
    ∧ (dats m 0 c).leavesExact 5 t = owns (c : Thread nD τ) (st0_5 t) fullShare (stat m c t.val t.isLt) := by
  obtain ⟨-, -, h5, h, h', -⟩ := conds t
  refine ⟨by unfold Dat.leavesExact; rw [show cfg0.idle 0 (grid0.coords t) = false from rfl, after0_0], by unfold Dat.leavesExact; rw [show cfg0.idle 1 (grid0.coords t) = false from rfl, after0_1], by unfold Dat.leavesExact; rw [show cfg0.idle 2 (grid0.coords t) = false from rfl, after0_2], by unfold Dat.leavesExact; rw [show cfg0.idle 3 (grid0.coords t) = false from rfl, after0_3], ?_,
    by unfold Dat.leavesExact; rw [h5, after0_5]⟩
  unfold Dat.leavesExact
  by_cases ht : t.val < 8
  · rw [h ht, after0_4]
  · rw [(h' ht).1, (h' ht).2, after0_4]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨l0, l1, l2, l3, l4, l5⟩ := leaves_eq m c t
  obtain ⟨h1, h2, -⟩ := conds t
  simp only [before0_0, before0_1, before0_2, before0_3]
  rw [show (dats m 0 c).Φ t.succ = (dats m 0 c).Φ t.castSucc from rfl, show (dats m 0 c).owesAt () t.succ = (dats m 0 c).owesAt () t.castSucc from rfl, l0, l1, l2, l3, l4, l5]
  have hN : t.val < 9 := t.isLt
  by_cases hz : t.val % 4 = 0
  · have e : stat m c t.val t.isLt = statOut (iblk m c 1 t) (iblk m c 2 t) (k0_pay3 (F := F)) := by
      obtain ⟨n, hn⟩ := t
      cases n with
      | zero => rfl
      | succ n => exact congrArg (statOut _ _) (if_pos hz)
    rw [e]
    by_cases h8 : t.val < 8
    · rw [lat_eq t h8]
      iintro ⟨HΦ, Ho, ⟨%d0, H0⟩, ⟨%d1, H1⟩, ⟨%d2, H2⟩, ⟨%d3, H3⟩, ⟨%d4, H4⟩, ⟨%d5, H5⟩⟩
      iapply (body_first c Set.univ (grid0.coords t) _ _ _ _ _ _ _ _ _ _ _ _ (iblk m c 0 t) (iblk m c 1 t) (iblk m c 2 t) (iblk m c 3 t) _ (h1.mpr hz) (h2.mpr h8))
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · simp only [before0_4 m c t h8]
      iintro ⟨HΦ, Ho, ⟨%d0, H0⟩, ⟨%d1, H1⟩, ⟨%d2, H2⟩, ⟨%d3, H3⟩, ⟨%d4, H4⟩, ⟨%d5, H5⟩⟩
      iapply (body_last c Set.univ (grid0.coords t) _ _ _ _ _ _ _ _ _ _ _ _ (iblk m c 0 t) (iblk m c 1 t) (iblk m c 2 t) (iblk m c 3 t) (dh m c (lat t)) _ (h1.mpr hz) (fun h => h8 (h2.mp h)))
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · simp only [before0_5 m c t hz]
    have e : stat m c t.val t.isLt = statOut (iblk m c 1 t) (iblk m c 2 t) (stat m c (t.val - 1) (Nat.lt_of_le_of_lt (Nat.sub_le _ _) t.isLt)) := by
      obtain ⟨n, hn⟩ := t
      cases n with
      | zero => exact absurd rfl hz
      | succ n => exact congrArg (statOut _ _) (if_neg hz)
    have h8 : t.val < 8 := by omega
    rw [e, lat_eq t h8]
    iintro ⟨HΦ, Ho, ⟨%d0, H0⟩, ⟨%d1, H1⟩, ⟨%d2, H2⟩, ⟨%d3, H3⟩, ⟨%d4, H4⟩, ⟨%d5, H5⟩⟩
    iapply (body_next c Set.univ (grid0.coords t) _ _ _ _ _ _ _ _ _ _ _ _ (iblk m c 0 t) (iblk m c 1 t) (iblk m c 2 t) (iblk m c 3 t) _ _ (fun h => hz (h1.mp h)) (h2.mpr h8))
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
set_option maxHeartbeats 800000 in
/-- The call's run: its arrays end as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The call leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel43Ideal.Hand

end
-- ==== Proof.ModBits.lean ====
/-
  The call of the derivative of the first shift and scale leaves its arguments as they were: the body is the one at the ideal numbers, on any float values.
-/
module

public import proofs.«01_k».proof.Proof.Gen.Kernel43.Launch
public import proofs.«01_k».proof.Proof.Mod

@[expose] public section

set_option maxRecDepth 16384

noncomputable section

namespace Cert.Kernel43.Hand

open Cert.Kernel43 Cert.Kernel43.Gen Idealize.ShloMosaic Idealize.ShloMosaic.TcCoe Idealize.SL.Sem

variable {F : FTy → Type} [FloatOps F] (m : (ℓ : Loc nD τ sig) → Buf (Elt F) ℓ) (ρ : Dev nD → PrngReg)

/-- The two body tables are the same, -/
theorem bodies_eq : @defs₀ F _ _ = @Cert.Kernel43Ideal.defs₀ F _ _ := by
  refine congrArg Defs.onTc (funext fun l => funext fun a => ?_)
  match l, a with
  | 0, (t, s) => rfl

/-- and so are the tables of the programs. -/
theorem defs_eq : @defs F _ _ = @Cert.Kernel43Ideal.defs F _ _ := congrArg (Pipeline.defs (pcfgs (F := F))) bodies_eq

set_option maxHeartbeats 4000000 in
/-- The call leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel43Ideal.Hand.frame (F := F) m ρ

end Cert.Kernel43.Hand

end
-- ==== Proof.Loss.lean ====
/-
  The loss call at the ideal numbers: what its body leaves at each grid point, its run, and that it leaves its arguments as they were.
-/
module

public import proofs.«01_k».proof.Proof.Gen.Kernel44Ideal.Frame
public import proofs.«01_k».proof.Proof.Gen.Kernel44Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel44Ideal.Hand

open Cert.Kernel44Ideal Cert.Kernel44Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rows : Rect S512x1024 := Rect.unit (s := S512x1024) ![0, 0] S512x1024.size inb_S512x1024_S512x1024_0_0
abbrev cell : Rect S8x128 := Rect.unit (s := S8x128) ![0, 0] S8x128.size inb_S8x128_S8x128_0_0

theorem cover_rows (p : Vec F S512x1024 .f32) (y : S512x1024.Idx) : ∃ pc ∈ ([⟨rows, p⟩] : List (View.Piece (Elt F) S512x1024 .f32)), y ∈ pc.1.set :=
  View.cover_of_tiled [⟨rows, p⟩] S512x1024.size (by rfl) y

theorem cover_cell (p : Vec F S8x128 .f32) (y : S8x128.Idx) : ∃ pc ∈ ([⟨cell, p⟩] : List (View.Piece (Elt F) S8x128 .f32)), y ∈ pc.1.set :=
  View.cover_of_tiled [⟨cell, p⟩] S8x128.size (by rfl) y

/-- The block of derivatives at a point with targets, from the blocks of the two arguments. -/
def errOut (x0 x1 : Vec F S512x1024 .f32) : Vec F S512x1024 .f32 := View.canon [⟨rows, k0_pay3 (View.ld x0 rows) (View.ld x1 rows)⟩]

/-- The block of derivatives at a point without targets. -/
def zeroOut : Vec F S512x1024 .f32 := View.canon [⟨rows, k0_pay5 (F := F)⟩]

/-- The tile after a point with targets, from the blocks and what it held. -/
def tileOut (x0 x1 : Vec F S512x1024 .f32) (a : Vec F S8x128 .f32) : Vec F S8x128 .f32 := View.canon [⟨cell, k0_pay4 (View.ld x0 rows) (View.ld x1 rows) (View.ld a cell)⟩]

/-- The tile after the first point. -/
def tileFirst (x0 x1 : Vec F S512x1024 .f32) : Vec F S8x128 .f32 := View.canon [⟨cell, k0_pay4 (View.ld x0 rows) (View.ld x1 rows) (k0_pay1 (F := F))⟩, ⟨cell, k0_pay1 (F := F)⟩]

set_option maxHeartbeats 1000000 in
/-- The body at the first point. -/
theorem body_first (c : Dev nD) (E : Set ℕ) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S8x128 .f32) (harg4 : arg4.IsWhole) (x0 x1 : Vec F S512x1024 .f32) (K : PUnit → sProp 𝕄)
    (h1 : k0_cond1 i = 1#1) (h2 : k0_cond2 i = 1#1) (h3 : ¬k0_cond3 i = 1#1) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (errOut x0 x1) ∗ owns (c : Thread nD τ) arg4 fullShare (tileFirst x0 x1)) -∗ K ⟨⟩))
      ⊢ wp frame (wpE (defs₀ (F := F)) Variants.none c none) E (cc0_loss i arg1 harg1 arg2 harg2 arg3 harg3 arg4 harg4) K := by
  simp only [cc0_loss_eq_skeleton]; unfold cc0_loss_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_rows _)
  iexists _; isplitr
  swap; · iexact H3
  ipureintro
  refine (View.read_writes_eq_canon _ _ _ fun y => ?_).trans ?_
  · obtain ⟨pc, hm, hy⟩ := cover_cell (F := F) (k0_pay1 (F := F)) y
    exact ⟨_, List.mem_cons_self, by rw [List.mem_singleton.mp hm] at hy; exact hy⟩
  · unfold body_first.sl.v22 body_first.sl.H3_1
    rw [View.readCov_cons_toLoadRect]; rfl

set_option maxHeartbeats 1000000 in
/-- The body at a later point with targets. -/
theorem body_next (c : Dev nD) (E : Set ℕ) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S8x128 .f32) (harg4 : arg4.IsWhole) (x0 x1 : Vec F S512x1024 .f32) (a : Vec F S8x128 .f32) (K : PUnit → sProp 𝕄)
    (h1 : ¬k0_cond1 i = 1#1) (h2 : k0_cond2 i = 1#1) (h3 : ¬k0_cond3 i = 1#1) :
    iprop(owns (c : Thread nD τ) arg1 fullShare x0 ∗ owns (c : Thread nD τ) arg2 fullShare x1 ∗ (∃ d, owns (c : Thread nD τ) arg3 fullShare d) ∗ owns (c : Thread nD τ) arg4 fullShare a
        ∗ (iprop(owns (c : Thread nD τ) arg1 fullShare x0 ∗ owns (c : Thread nD τ) arg2 fullShare x1 ∗ owns (c : Thread nD τ) arg3 fullShare (errOut x0 x1) ∗ owns (c : Thread nD τ) arg4 fullShare (tileOut x0 x1 a)) -∗ K ⟨⟩))
      ⊢ wp frame (wpE (defs₀ (F := F)) Variants.none c none) E (cc0_loss i arg1 harg1 arg2 harg2 arg3 harg3 arg4 harg4) K := by
  simp only [cc0_loss_eq_skeleton]; unfold cc0_loss_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_rows _)
  iexists _; isplitr
  swap; · iexact H3
  ipureintro
  exact View.read_writes_eq_canon _ _ _ (cover_cell _)

set_option maxHeartbeats 1000000 in
/-- The body at the point without targets. -/
theorem body_rest (c : Dev nD) (E : Set ℕ) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S8x128 .f32) (harg4 : arg4.IsWhole) (x0 x1 : Vec F S512x1024 .f32) (a : Vec F S8x128 .f32) (K : PUnit → sProp 𝕄)
    (h1 : ¬k0_cond1 i = 1#1) (h2 : ¬k0_cond2 i = 1#1) (h3 : k0_cond3 i = 1#1) :
    iprop(owns (c : Thread nD τ) arg1 fullShare x0 ∗ owns (c : Thread nD τ) arg2 fullShare x1 ∗ (∃ d, owns (c : Thread nD τ) arg3 fullShare d) ∗ owns (c : Thread nD τ) arg4 fullShare a
        ∗ (iprop(owns (c : Thread nD τ) arg1 fullShare x0 ∗ owns (c : Thread nD τ) arg2 fullShare x1 ∗ owns (c : Thread nD τ) arg3 fullShare (zeroOut (F := F)) ∗ owns (c : Thread nD τ) arg4 fullShare a) -∗ K ⟨⟩))
      ⊢ wp frame (wpE (defs₀ (F := F)) Variants.none c none) E (cc0_loss i arg1 harg1 arg2 harg2 arg3 harg3 arg4 harg4) K := by
  simp only [cc0_loss_eq_skeleton]; unfold cc0_loss_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_rows _)
  iexists f3; isplitr
  · ipureintro; rfl
  iexact H3

/-- The tile after point `n`. -/
def tile (c : Dev nD) : (n : ℕ) → n < cfg0.N → Vec F S8x128 .f32
  | 0, h => tileFirst (iblk m c 0 ⟨0, h⟩) (iblk m c 1 ⟨0, h⟩)
  | n + 1, h => if n + 1 < 8 then tileOut (iblk m c 0 ⟨n + 1, h⟩) (iblk m c 1 ⟨n + 1, h⟩) (tile c n (Nat.lt_of_succ_lt h)) else tile c n (Nat.lt_of_succ_lt h)

/-- What the pipeline's buffers hold after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => if t.val < 8 then errOut (iblk m c 0 t) (iblk m c 1 t) else zeroOut (F := F)
    | ⟨3, _⟩ => tile m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = if t.val < 8 then errOut (iblk m c 0 t) (iblk m c 1 t) else zeroOut (F := F) := by dsimp only [dats]
theorem after0_3 (c : Dev nD) (t : Fin cfg0.N) : (dats m 0 c).after 3 t = tile m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem conds : ∀ t : Fin cfg0.N, (k0_cond1 (grid0.coords t) = 1#1 ↔ t.val = 0) ∧ (k0_cond2 (grid0.coords t) = 1#1 ↔ t.val < 8) ∧ (k0_cond3 (grid0.coords t) = 1#1 ↔ ¬t.val < 8)
    ∧ cfg0.idle 2 (grid0.coords t) = false ∧ (t.val < 8 → cfg0.idle 3 (grid0.coords t) = false ∧ (cfg0.win 3).flush t = false)
    ∧ (¬t.val < 8 → cfg0.idle 3 (grid0.coords t) = true ∧ (cfg0.win 3).flush t = true) := by decide +kernel

/-- After the first point the body finds the tile as the point before left it. -/
theorem before0_3 (c : Dev nD) (t : Fin cfg0.N) (ht : t.val ≠ 0) (d) :
    (dats m 0 c).before 3 t d = tile m c (t.val - 1) (Nat.lt_of_le_of_lt (Nat.sub_le _ _) t.isLt) := by
  have hN : t.val < 9 := t.isLt
  obtain ⟨-, -, -, -, h, -⟩ := conds ⟨t.val - 1, Nat.lt_of_le_of_lt (Nat.sub_le _ _) t.isLt⟩
  obtain ⟨hi, hf⟩ := h (by change t.val - 1 < 8; omega)
  rw [(dats m 0 c).before_of_pos 3 t ht ((cfg0.win 3).fetch_out rfl t), hf, if_neg Bool.false_ne_true]
  unfold Dat.left
  rw [hi]
  unfold Dat.kept
  dsimp only [dats]
  rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_eq (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (if t.val < 8 then errOut (iblk m c 0 t) (iblk m c 1 t) else zeroOut (F := F))
    ∧ (dats m 0 c).leavesExact 3 t = owns (c : Thread nD τ) (st0_3 t) fullShare (tile m c t.val t.isLt) := by
  obtain ⟨-, -, -, h2, h, h'⟩ := conds t
  refine ⟨by unfold Dat.leavesExact; rw [show cfg0.idle 0 (grid0.coords t) = false from rfl, after0_0], by unfold Dat.leavesExact; rw [show cfg0.idle 1 (grid0.coords t) = false from rfl, after0_1],
    by unfold Dat.leavesExact; rw [h2, after0_2], ?_⟩
  unfold Dat.leavesExact
  by_cases ht : t.val < 8
  · rw [(h ht).1, after0_3]
  · rw [(h' ht).1, (h' ht).2, after0_3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨l0, l1, l2, l3⟩ := leaves_eq m c t
  obtain ⟨h1, h2, h3, -⟩ := conds t
  simp only [before0_0, before0_1]
  rw [show (dats m 0 c).Φ t.succ = (dats m 0 c).Φ t.castSucc from rfl, show (dats m 0 c).owesAt () t.succ = (dats m 0 c).owesAt () t.castSucc from rfl, l0, l1, l2, l3]
  have hN : t.val < 9 := t.isLt
  by_cases hz : t.val = 0
  · have e : tile m c t.val t.isLt = tileFirst (iblk m c 0 t) (iblk m c 1 t) := by
      obtain ⟨n, hn⟩ := t
      cases hz
      rfl
    rw [e, if_pos (by omega)]
    iintro ⟨HΦ, Ho, ⟨%d0, H0⟩, ⟨%d1, H1⟩, ⟨%d2, H2⟩, ⟨%d3, H3⟩⟩
    iapply (body_first c Set.univ (grid0.coords t) _ _ _ _ _ _ _ _ (iblk m c 0 t) (iblk m c 1 t) _ (h1.mpr hz) (h2.mpr (by omega)) (fun h => h3.mp h (by omega)))
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 m c t hz]
    by_cases h8 : t.val < 8
    · have e : tile m c t.val t.isLt = tileOut (iblk m c 0 t) (iblk m c 1 t) (tile m c (t.val - 1) (Nat.lt_of_le_of_lt (Nat.sub_le _ _) t.isLt)) := by
        obtain ⟨n, hn⟩ := t
        cases n with
        | zero => exact absurd rfl hz
        | succ n => exact if_pos h8
      rw [e, if_pos h8]
      iintro ⟨HΦ, Ho, ⟨%d0, H0⟩, ⟨%d1, H1⟩, ⟨%d2, H2⟩, ⟨%d3, H3⟩⟩
      iapply (body_next c Set.univ (grid0.coords t) _ _ _ _ _ _ _ _ (iblk m c 0 t) (iblk m c 1 t) _ _ (fun h => hz (h1.mp h)) (h2.mpr h8) (fun h => h3.mp h h8))
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · have e : tile m c t.val t.isLt = tile m c (t.val - 1) (Nat.lt_of_le_of_lt (Nat.sub_le _ _) t.isLt) := by
        obtain ⟨n, hn⟩ := t
        cases n with
        | zero => exact absurd rfl hz
        | succ n => exact if_neg h8
      rw [e, if_neg h8]
      iintro ⟨HΦ, Ho, ⟨%d0, H0⟩, ⟨%d1, H1⟩, ⟨%d2, H2⟩, ⟨%d3, H3⟩⟩
      iapply (body_rest c Set.univ (grid0.coords t) _ _ _ _ _ _ _ _ (iblk m c 0 t) (iblk m c 1 t) _ _ (fun h => hz (h1.mp h)) (fun h => h8 (h2.mp h)) (h3.mpr h8))
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
set_option maxHeartbeats 800000 in
/-- The call's run: its arrays end as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The call leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel44Ideal.Hand

end
-- ==== Proof.LossValue.lean ====
/-
  The value of the loss call: the loss on one device's tokens and its derivative, at every entry, and the reference's.
-/
module

public import proofs.«01_k».proof.Proof.Loss
public import proofs.«01_k».proof.Proof.Gen.Reference44Ideal.Run
public import proofs.«01_k».proof.Defs
public import proofs.«01_k».proof.Proof.Gated
public import Idealize.ShloMosaic.Lib.Pipeline.ValueKit
public import Idealize.ShloMosaic.Lib.Quiescent
public import Idealize.ShloMosaic.Lib.KernelVsHost
public import Idealize.ShloMosaic.Lib.Pointwise
public import Idealize.ShloMosaic.Lib.Tactic

@[expose] public section

set_option maxRecDepth 16384

noncomputable section

namespace Cert.Loss

open Idealize.ShloMosaic

variable (h : (⟨2, ![4608, 1024]⟩ : Shape).Idx → EReal) (y : (⟨2, ![4096, 1024]⟩ : Shape).Idx → EReal)

/-- The error at a target. -/
def err (t : Fin 4096) (d : Fin 1024) : EReal := h (ix2 ⟨t.val, by omega⟩ d) - y (ix2 t d)

/-- The squares of a row's errors, added. -/
def row (t : Fin 4096) : EReal := ∑ d, err h y t d * err h y t d

/-- The loss: the squares of all the errors, added, over 2048. -/
def value : EReal := (∑ t, row h y t) * ((1 / 2048 : ℝ) : EReal)

/-- Its derivative: the errors over 1024, and zero at the rows without targets. -/
def dloss (t : Fin 4608) (d : Fin 1024) : EReal := if ht : t.val < 4096 then err h y ⟨t.val, ht⟩ d * ((1 / 1024 : ℝ) : EReal) else 0

/-- The squares of the errors in the `k`-th 512 rows. -/
def blk (k : Fin 8) : EReal := ∑ r : Fin 512, row h y ⟨k.val * 512 + r.val, by omega⟩

theorem sq_nonneg (e : EReal) : 0 ≤ e * e := by
  induction e with
  | bot => simp
  | top => simp
  | coe r => exact_mod_cast mul_self_nonneg r

theorem row_nonneg (t : Fin 4096) : 0 ≤ row h y t := Finset.sum_nonneg fun _ _ => sq_nonneg _

theorem sum_mul {ι : Type} (s : Finset ι) (f : ι → EReal) (hf : ∀ k, 0 ≤ f k) (c : EReal) : (∑ k ∈ s, f k) * c = ∑ k ∈ s, f k * c := by
  classical
  induction s using Finset.induction_on with
  | empty => simp
  | insert a s ha ih => rw [Finset.sum_insert ha, Finset.sum_insert ha, EReal.right_distrib_of_nonneg (hf a) (Finset.sum_nonneg fun k _ => hf k), ih]

/-- A sum over `a * b` indices, in `a` stretches of `b`. -/
theorem sum_blocks {a b n : ℕ} (h : a * b = n) (f : Fin n → EReal) :
    ∑ t, f t = ∑ k : Fin a, ∑ r : Fin b, f ⟨k.val * b + r.val, h ▸ Nat.lt_of_lt_of_le (Nat.add_lt_add_left r.isLt _) ((Nat.succ_mul k.val b).symm ▸ Nat.mul_le_mul_right b k.isLt)⟩ := by
  subst h
  rw [← Fintype.sum_prod_type']
  exact (Fintype.sum_equiv finProdFinEquiv _ _ fun p => congrArg f (Fin.ext (by change p.1.val * b + p.2.val = p.2.val + b * p.1.val; rw [Nat.mul_comm, Nat.add_comm]))).symm

/-- The loss, by blocks of 512 rows. -/
theorem value_blocks : value h y = ∑ k : Fin 8, blk h y k * ((1 / 2048 : ℝ) : EReal) := by
  unfold value
  refine Eq.trans ?_ (sum_mul Finset.univ (blk h y) (fun k => Finset.sum_nonneg fun r _ => row_nonneg h y _) _)
  exact congrArg (· * _) (sum_blocks (a := 8) (b := 512) rfl _)

theorem w_2048 : Ideal.ofBits .f32 0x3A000000#32 = ((1 / 2048 : ℝ) : EReal) := by
  simp [Ideal.ofBits, Ideal.ieee, -EReal.coe_mul]; norm_num
theorem w_1024 : Ideal.ofBits .f32 0x3A800000#32 = ((1 / 1024 : ℝ) : EReal) := by
  simp [Ideal.ofBits, Ideal.ieee, -EReal.coe_mul]; norm_num
theorem w_k : Ideal.ofBits .f32 0x44800000#32 = ((1024 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem div_k (e : EReal) : Ideal.div e ((1024 : ℝ) : EReal) = e * ((1 / 1024 : ℝ) : EReal) := by
  unfold Ideal.div
  rw [if_neg (by norm_num), ← EReal.coe_inv, one_div]

/-- The reference's spelling of the derivative. -/
theorem deriv_spelt (e : EReal) : Ideal.div (Ideal.ofBits .f32 0x3F000000#32) (Ideal.ofBits .f32 0x44800000#32) * (Ideal.ofBits .f32 0x40000000#32 * e)
    = e * ((1 / 1024 : ℝ) : EReal) := by
  rw [Cert.Gated.ofBits_half, w_k, w_two, div_k, ← mul_assoc, ← EReal.coe_mul, ← EReal.coe_mul, mul_comm]
  norm_num

/-- The reference's spelling of the loss. -/
theorem value_spelt : Ideal.ofBits .f32 0x3F000000#32 * ∑ t, Ideal.div (row h y t) (Ideal.ofBits .f32 0x44800000#32) = value h y := by
  simp only [Cert.Gated.ofBits_half, w_k, div_k]
  rw [← sum_mul Finset.univ _ (row_nonneg h y), mul_comm, mul_assoc, ← EReal.coe_mul]
  unfold value
  norm_num

end Cert.Loss

namespace Cert.Kernel44Ideal.Hand

open Cert.Loss Cert.Kernel44Ideal Cert.Kernel44Ideal.Gen Idealize.ShloMosaic Idealize.ShloMosaic.TcCoe Idealize.SL.Sem

variable (m : (ℓ : Loc nD τ sig) → Buf (Elt Ideal) ℓ) (c : Dev nD)

/-- The tokens. -/
abbrev tok : S4608x1024.Idx → EReal := m ((c.tc : Thread nD τ).loc main_arg0)
/-- The targets. -/
abbrev tgt : S4096x1024.Idx → EReal := m ((c.tc : Thread nD τ).loc main_arg1)

theorem idx : ∀ t : Fin cfg0.N, win0_0.index t = ![t.val, 0] ∧ (t.val < 8 → win0_1.index t = ![t.val, 0]) ∧ win0_2.index t = ![t.val, 0] ∧ win0_3.index t = ![0, 0] :=
  (by decide +kernel : ∀ t : Fin grid0.N, _)

theorem tok_blk (t : Fin cfg0.N) (r : Fin 512) (d : Fin 1024) : (iblk m c 0 t : Vec Ideal S512x1024 .f32) (ix2 r d) = tok m c (ix2 ⟨t.val * 512 + r.val, by have : t.val < 9 := t.isLt; omega⟩ d) := by
  obtain ⟨e0, _⟩ := idx t
  blk_ext [iblk, e0]

theorem tgt_blk (t : Fin cfg0.N) (ht : t.val < 8) (r : Fin 512) (d : Fin 1024) : (iblk m c 1 t : Vec Ideal S512x1024 .f32) (ix2 r d) = tgt m c (ix2 ⟨t.val * 512 + r.val, by omega⟩ d) := by
  obtain ⟨_, e1, _⟩ := idx t
  have e1 := e1 ht
  blk_ext [iblk, e1]

/-- The block of derivatives at a point with targets. -/
theorem errOut_apply (x0 x1 : Vec Ideal S512x1024 .f32) (r : Fin 512) (d : Fin 1024) : errOut x0 x1 (ix2 r d) = (x0 (ix2 r d) - x1 (ix2 r d)) * Ideal.ofBits .f32 0x3A800000#32 := by
  unfold errOut
  frame_out
  unfold_payloads
  pointwise

theorem zeroOut_apply (r : Fin 512) (d : Fin 1024) : (zeroOut (F := Ideal)) (ix2 r d) = Ideal.ofBits .f32 0x00000000#32 := by
  unfold zeroOut
  frame_out
  unfold_payloads
  pointwise

/-- The squares of the differences of two blocks, added. -/
def sqs (x0 x1 : Vec Ideal S512x1024 .f32) : EReal := ∑ r : Fin 512, ∑ d : Fin 1024, (x0 (ix2 r d) - x1 (ix2 r d)) * (x0 (ix2 r d) - x1 (ix2 r d))

/-- The tile after a point with targets. -/
theorem tileOut_apply (x0 x1 : Vec Ideal S512x1024 .f32) (a : Vec Ideal S8x128 .f32) (p : Fin 8) (q : Fin 128) : tileOut x0 x1 a (ix2 p q)
    = a (ix2 p q) + sqs x0 x1 * Ideal.ofBits .f32 0x3A000000#32 := by
  unfold tileOut sqs
  frame_out
  unfold_payloads
  pointwise

theorem tileFirst_apply (x0 x1 : Vec Ideal S512x1024 .f32) (p : Fin 8) (q : Fin 128) : tileFirst x0 x1 (ix2 p q)
    = sqs x0 x1 * Ideal.ofBits .f32 0x3A000000#32 := by
  unfold tileFirst sqs
  frame_out
  unfold_payloads
  pointwise

/-- A block's contribution to the loss. -/
def part (k : ℕ) : EReal := if hk : k < 8 then blk (tok m c) (tgt m c) ⟨k, hk⟩ * ((1 / 2048 : ℝ) : EReal) else 0

theorem part_eq (t : Fin cfg0.N) (ht : t.val < 8) : sqs (iblk m c 0 t) (iblk m c 1 t) * Ideal.ofBits .f32 0x3A000000#32 = part m c t.val := by
  unfold part sqs
  rw [dif_pos ht, w_2048]
  refine congrArg (· * _) ?_
  simp only [tok_blk m c t, tgt_blk m c t ht]
  rfl

/-- The tile after point `n`: the contributions of the blocks so far. -/
theorem tile_apply (p : Fin 8) (q : Fin 128) : ∀ (n : ℕ) (hn : n < cfg0.N), tile m c n hn (ix2 p q) = ∑ k ∈ Finset.range (n + 1), part m c k
  | 0, hn => by
    unfold tile
    rw [Finset.sum_range_one]
    exact (tileFirst_apply _ _ p q).trans (part_eq m c ⟨0, hn⟩ (Nat.zero_lt_succ 7))
  | n + 1, hn => by
    rw [Finset.sum_range_succ, ← tile_apply p q n (Nat.lt_of_succ_lt hn), tile]
    split
    case isTrue h8 => exact (tileOut_apply _ _ _ p q).trans (congrArg (tile m c n _ (ix2 p q) + ·) (part_eq m c ⟨n + 1, hn⟩ h8))
    case isFalse h8 => rw [show part m c (n + 1) = 0 from dif_neg h8, add_zero]

theorem tile_last (p : Fin 8) (q : Fin 128) (hn : 8 < cfg0.N) : tile m c 8 hn (ix2 p q) = value (tok m c) (tgt m c) := by
  rw [tile_apply, Finset.sum_range_succ, show part m c 8 = 0 from dif_neg (by decide), add_zero, Finset.sum_range, value_blocks]
  exact Finset.sum_congr rfl fun k _ => dif_pos k.isLt

theorem dloss_blk (t : Fin cfg0.N) (r : Fin 512) (d : Fin 1024) :
    (if t.val < 8 then errOut (iblk m c 0 t) (iblk m c 1 t) else zeroOut (F := Ideal)) (ix2 r d) = dloss (tok m c) (tgt m c) ⟨t.val * 512 + r.val, by have : t.val < 9 := t.isLt; omega⟩ d := by
  unfold dloss
  by_cases h8 : t.val < 8
  · rw [if_pos h8, dif_pos (show (t.val * 512 + r.val) < 4096 by omega), ← w_1024]
    refine (errOut_apply _ _ r d).trans ?_
    rw [tok_blk, tgt_blk m c t h8]
    rfl
  · rw [if_neg h8, dif_neg (show ¬(t.val * 512 + r.val) < 4096 by omega)]
    exact (zeroOut_apply r d).trans (by simp [Ideal.ofBits, Ideal.ieee])

/-- The array of derivatives. -/
theorem arr2 : (dats m 0 c).arrAt 2 cfg0.N = fun q : S4608x1024.Idx => dloss (tok m c) (tgt m c) (q 0) (q 1) := by
  refine (dats m 0 c).arrAt_eq_of_covers 2 _ (by decide +kernel) fun t hf y => ?_
  obtain ⟨y, rfl⟩ : ∃ z : S512x1024.Idx, z = y := ⟨y, rfl⟩
  obtain ⟨_, _, e2, _⟩ := idx t
  have hN : t.val < 9 := t.isLt
  idx_vars y
  rw [after0_2]
  have e : (win0_2.blk t).view.emb (ix2 y0 y1) = (ix2 ⟨t.val * 512 + y0.val, by omega⟩ y1 : S4608x1024.Idx) := by
    blk_ext [e2]
  blk_simp
  refine (dloss_blk m c t y0 y1).trans ?_
  exact Eq.trans rfl (congrArg (fun q : S4608x1024.Idx => dloss (tok m c) (tgt m c) (q 0) (q 1)) e).symm

/-- The tile. -/
theorem arr3 : (dats m 0 c).arrAt 3 cfg0.N = fun q : S8x128.Idx => value (tok m c) (tgt m c) := by
  refine (dats m 0 c).arrAt_eq_of_covers 3 _ (by decide +kernel) fun t hf y => ?_
  obtain ⟨y, rfl⟩ : ∃ z : S8x128.Idx, z = y := ⟨y, rfl⟩
  have hN : t.val < 9 := t.isLt
  have h8 : t = ⟨8, by decide⟩ := Fin.ext (by have := (flush0_3 t).mp hf; dsimp only; omega)
  subst h8
  idx_vars y
  rw [after0_3]
  blk_simp
  exact tile_last m c y0 y1 _

/-- The call ends with the derivative and the loss, and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun q : S4608x1024.Idx => dloss (m ((c.tc : Thread nD τ).loc main_arg0)) (m ((c.tc : Thread nD τ).loc main_arg1)) (q 0) (q 1))
      ∧ r.2.mem ((c.tc : Thread nD τ).loc main_v0_1) = (fun q : S8x128.Idx => value (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (arr2 m c), ((h.1 c).1 3).trans (arr3 m c), h.2.1 c⟩)
    (θ_run_and (run_main m ρ) (frame m ρ))

end Cert.Kernel44Ideal.Hand

namespace Cert.Reference44Ideal.Value

open Cert.Loss Cert.Reference44Ideal Cert.Reference44Ideal.Gen Idealize.ShloMosaic Idealize.ShloMosaic.TcCoe Idealize.SL.Sem

variable (m : (ℓ : Loc nD τ sig) → Buf (Elt Ideal) ℓ) (ρ : Dev nD → PrngReg)

/-- The reference's derivative at a row with targets. -/
theorem deriv_apply (x : FVec Ideal S4608x1024 .f32) (y : FVec Ideal S4096x1024 .f32) (t : Fin 4608) (d : Fin 1024) : pad S4608x1024 ![0, 0] ![512, 0] ![0, 0] (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (extractStridedSlice S4096x1024 ![0, 0] x slices_S4608x1024_S4096x1024_0_0) y))) (constant S_ .f32 0x00000000#32) pads_S4096x1024_S4608x1024_05120_000 h_S_ (ix2 t d) = dloss x y t d := by
  unfold dloss
  split
  case isTrue ht =>
    refine (pad_apply_of_inside _ _ _ _ _ _ _ (ix2 t d) (ix2 (⟨t.val, ht⟩ : Fin 4096) d) (fun a => by fin_cases a <;> simp)).trans ?_
    pointwise
    exact deriv_spelt _
  case isFalse ht =>
    refine (pad_apply_of_not_inside _ _ _ _ _ _ _ (ix2 t d) (0 : Fin 2) (fun hh => ht (by simpa using hh.2.2))).trans ?_
    show Ideal.ofBits .f32 0x00000000#32 = 0
    simp [Ideal.ofBits, Ideal.ieee]

/-- The reference's loss. -/
theorem value_apply (x : FVec Ideal S4608x1024 .f32) (y : FVec Ideal S4096x1024 .f32) (p : Fin 8) (q : Fin 128) : broadcastInDim S8x128 ![] bcast_S_S8x128 (mulf (constant S_ .f32 0x3F000000#32) (Host.reduceAdd (Host.divf (Host.reduceAdd (mulf (subf (extractStridedSlice S4096x1024 ![0, 0] x slices_S4608x1024_S4096x1024_0_0) y) (subf (extractStridedSlice S4096x1024 ![0, 0] x slices_S4608x1024_S4096x1024_0_0) y)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) (ix2 p q) = value x y := by
  pointwise
  exact value_spelt x y

/-- The reference ends with the derivative and the loss, and its arguments unchanged. -/
theorem run_entries : θ_run defs (onTc (τ := τ) (main (F := Ideal))) ⟨m, fun _ => 0, ρ⟩ fun r => ∀ c : Dev nD,
      r.2.mem ((c.tc : Thread nD τ).loc main_v16) = (fun q : S4608x1024.Idx => dloss (m ((c.tc : Thread nD τ).loc main_arg0)) (m ((c.tc : Thread nD τ).loc main_arg1)) (q 0) (q 1))
      ∧ r.2.mem ((c.tc : Thread nD τ).loc main_v17) = (fun q : S8x128.Idx => value (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; exact deriv_apply _ _ q0 q1), (h c).2.1.trans (by funext q; idx_vars q; exact value_apply _ _ q0 q1), (h c).2.2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems rfl r.2⟩) (run m ρ)

end Cert.Reference44Ideal.Value

/-- The call and the reference have the same loss and derivative: from equal arguments they end with equal results. -/
theorem Cert.algebraic44 : Cert.algebraic_Kernel44Ideal_Reference44Ideal := by
  intro m g m' g' _ hagree
  refine ⟨_, _, Cert.Kernel44Ideal.Hand.run_entries m g, ?_⟩
  refine (Idealize.ShloMosaic.θ_run _ _ _).mono (fun r h c => ?_) (Cert.Reference44Ideal.Value.run_entries m' g')
  obtain ⟨e0, e1⟩ := hagree c
  have := h c
  simp only [e0, e1] at this ⊢
  exact this

end
-- ==== Proof.ModValue.lean ====
/-
  The value of the call of the derivative of the first shift and scale, at every entry, and the reference's.
-/
module

public import proofs.«01_k».proof.Proof.Mod
public import proofs.«01_k».proof.Proof.LossValue
public import proofs.«01_k».proof.Proof.Gen.Reference43Ideal.Run
public import proofs.«01_k».proof.Defs
public import Idealize.ShloMosaic.Lib.Pipeline.ValueKit
public import Idealize.ShloMosaic.Lib.Quiescent
public import Idealize.ShloMosaic.Lib.KernelVsHost
public import Idealize.ShloMosaic.Lib.Pointwise
public import Idealize.ShloMosaic.Lib.Tactic

@[expose] public section

set_option maxRecDepth 16384

noncomputable section

namespace Cert.Mod

open Idealize.ShloMosaic

variable (dres dxin h : (⟨2, ![4608, 1024]⟩ : Shape).Idx → EReal) (mod : (⟨3, ![3, 9, 1024]⟩ : Shape).Idx → EReal)

/-- The derivative at a latent. -/
def dx (t : Fin 4096) (d : Fin 1024) : EReal :=
  dres (ix2 ⟨t.val, by omega⟩ d) + dxin (ix2 ⟨t.val, by omega⟩ d) * (1 + mod (ix3 ⟨t.val / 2048, by omega⟩ 1 d))

/-- A sum over the rows of a segment: two of 2048 latents and the context. -/
def seg (f : Fin 4608 → EReal) (k : Fin 3) : EReal :=
  if hk : k.val < 2 then ∑ r : Fin 2048, f ⟨k.val * 2048 + r.val, by omega⟩ else ∑ r : Fin 512, f ⟨4096 + r.val, by omega⟩

/-- The sums of every segment, eight rows to each: the scale's in row 3, the shift's in row 4. -/
def stats (k : Fin 3) (p : Fin 8) (d : Fin 1024) : EReal :=
  if p.val = 3 then seg (fun t => dxin (ix2 t d) * h (ix2 t d)) k else if p.val = 4 then seg (fun t => dxin (ix2 t d)) k else 0

/-- A sum over the `n`-th 512 rows. -/
def blk (f : Fin 4608 → EReal) (n : ℕ) : EReal := if hn : n < 9 then ∑ r : Fin 512, f ⟨n * 512 + r.val, by omega⟩ else 0

/-- What adds up over the blocks of a segment. -/
def acc (g : ℕ → EReal) : ℕ → EReal
  | 0 => 0 + g 0
  | n + 1 => (if (n + 1) % 4 = 0 then 0 else acc g n) + g (n + 1)

theorem acc_seg (f : Fin 4608 → EReal) (k : Fin 3) : acc (blk f) (min (4 * k.val + 3) 8) = seg f k := by
  unfold seg
  split
  case isTrue hk =>
    rw [Cert.Loss.sum_blocks (a := 4) (b := 512) rfl]
    have hk' : k.val = 0 ∨ k.val = 1 := by omega
    rcases hk' with e | e
    · simp only [e, Fin.sum_univ_four]
      simp [acc, blk]
    · simp only [e, Fin.sum_univ_four]
      simp [acc, blk, ← add_assoc]
  case isFalse hk =>
    have e : k.val = 2 := by omega
    simp only [e]
    simp [acc, blk]

end Cert.Mod

namespace Cert.Kernel43Ideal.Hand

open Cert.Mod Cert.Kernel43Ideal Cert.Kernel43Ideal.Gen Idealize.ShloMosaic Idealize.ShloMosaic.TcCoe Idealize.SL.Sem

variable (m : (ℓ : Loc nD τ sig) → Buf (Elt Ideal) ℓ) (c : Dev nD)

abbrev a0 : S4608x1024.Idx → EReal := m ((c.tc : Thread nD τ).loc main_arg0)
abbrev a1 : S4608x1024.Idx → EReal := m ((c.tc : Thread nD τ).loc main_arg1)
abbrev a2 : S4608x1024.Idx → EReal := m ((c.tc : Thread nD τ).loc main_arg2)
abbrev a3 : S3x9x1024.Idx → EReal := m ((c.tc : Thread nD τ).loc main_arg3)

theorem idx : ∀ t : Fin cfg0.N, win0_0.index t = ![t.val, 0] ∧ win0_1.index t = ![t.val, 0] ∧ win0_2.index t = ![t.val, 0] ∧ win0_3.index t = ![t.val / 4, 0, 0]
    ∧ win0_4.index t = ![min t.val 7, 0] ∧ win0_5.index t = ![t.val / 4, 0, 0] ∧ ((cfg0.win 5).flush t = true → t.val = min (4 * (t.val / 4) + 3) 8) :=
  (by decide +kernel : ∀ t : Fin grid0.N, _)

theorem b0 (t : Fin cfg0.N) (r : Fin 512) (d : Fin 1024) : (iblk m c 0 t : Vec Ideal S512x1024 .f32) (ix2 r d) = a0 m c (ix2 ⟨t.val * 512 + r.val, by have : t.val < 9 := t.isLt; omega⟩ d) := by
  obtain ⟨e, _⟩ := idx t
  blk_ext [iblk, e]
theorem b1 (t : Fin cfg0.N) (r : Fin 512) (d : Fin 1024) : (iblk m c 1 t : Vec Ideal S512x1024 .bf16) (ix2 r d) = a1 m c (ix2 ⟨t.val * 512 + r.val, by have : t.val < 9 := t.isLt; omega⟩ d) := by
  obtain ⟨_, e, _⟩ := idx t
  blk_ext [iblk, e]
theorem b2 (t : Fin cfg0.N) (r : Fin 512) (d : Fin 1024) : (iblk m c 2 t : Vec Ideal S512x1024 .f32) (ix2 r d) = a2 m c (ix2 ⟨t.val * 512 + r.val, by have : t.val < 9 := t.isLt; omega⟩ d) := by
  obtain ⟨_, _, e, _⟩ := idx t
  blk_ext [iblk, e]
theorem b3 (t : Fin cfg0.N) (p : Fin 9) (d : Fin 1024) : (iblk m c 3 t : Vec Ideal S1x9x1024 .f32) (ix3 0 p d) = a3 m c (ix3 ⟨t.val / 4, by have : t.val < 9 := t.isLt; omega⟩ p d) := by
  obtain ⟨_, _, _, e, _⟩ := idx t
  blk_ext [iblk, e]

theorem dhOut_apply (x0 : Vec Ideal S512x1024 .f32) (x1 : Vec Ideal S512x1024 .bf16) (x3 : Vec Ideal S1x9x1024 .f32) (r : Fin 512) (d : Fin 1024) :
    dhOut x0 x1 x3 (ix2 r d) = x0 (ix2 r d) + x1 (ix2 r d) * (1 + x3 (ix3 0 1 d)) := by
  unfold dhOut
  frame_out
  unfold_payloads
  pointwise

theorem pay3_apply (p : Fin 8) (d : Fin 1024) : (k0_pay3 (F := Ideal)) (ix3 0 p d) = 0 := by
  unfold_payloads
  pointwise

theorem new3 (x1 : Vec Ideal S512x1024 .bf16) (x2 : Vec Ideal S512x1024 .f32) (a : Vec Ideal S1x8x1024 .f32) (d : Fin 1024) :
    k0_pay1 (k0_pay6 (View.ld x1 rows) (View.ld a row3) (View.ld x2 rows)) (ix3 0 0 d) = a (ix3 0 3 d) + ∑ r : Fin 512, x1 (ix2 r d) * x2 (ix2 r d) := by
  unfold_payloads
  pointwise

theorem new4 (x1 : Vec Ideal S512x1024 .bf16) (a : Vec Ideal S1x8x1024 .f32) (d : Fin 1024) :
    k0_pay2 (k0_pay4 (View.ld x1 rows)) (View.ld a row4) (ix3 0 0 d) = a (ix3 0 4 d) + ∑ r : Fin 512, x1 (ix2 r d) := by
  unfold_payloads
  pointwise

theorem put_in {α : Type} (x : S1x8x1024.Idx → α) (o : ℕ) (w : ((b : Fin 3) → Fin (S1x1x1024.size b)) → α) (p : Fin 8) (d : Fin 1024) (h : p.val = o) :
    VecWindow.put (s := S1x8x1024) x ![0, o, 0] S1x1x1024.size w (ix3 0 p d) = w (ix3 0 0 d) := by
  unfold VecWindow.put
  rw [dif_pos (fun b => by fin_cases b <;> simp [h])]
  exact congrArg w (funext fun b => Fin.ext (by rw [Rect.unitLocal_val]; fin_cases b <;> simp [h]))

theorem put_out {α : Type} (x : S1x8x1024.Idx → α) (o : ℕ) (w : ((b : Fin 3) → Fin (S1x1x1024.size b)) → α) (p : Fin 8) (d : Fin 1024) (h : p.val ≠ o) :
    VecWindow.put (s := S1x8x1024) x ![0, o, 0] S1x1x1024.size w (ix3 0 p d) = x (ix3 0 p d) :=
  dif_neg fun hh => h (by have := hh 1; simp at this; omega)

/-- What a point adds to row `p` of the tile. -/
def add (t : Fin cfg0.N) (p : Fin 8) (d : Fin 1024) : EReal :=
  blk (fun u => if p.val = 3 then a1 m c (ix2 u d) * a2 m c (ix2 u d) else if p.val = 4 then a1 m c (ix2 u d) else 0) t.val

theorem statOut_apply (t : Fin cfg0.N) (a : Vec Ideal S1x8x1024 .f32) (p : Fin 8) (d : Fin 1024) :
    statOut (iblk m c 1 t) (iblk m c 2 t) a (ix3 0 p d) = a (ix3 0 p d) + add m c t p d := by
  have hN : t.val < 9 := t.isLt
  unfold statOut add blk
  rw [dif_pos hN]
  by_cases h4 : p.val = 4
  · obtain rfl : p = 4 := Fin.ext h4
    rw [put_in _ 4 _ 4 d rfl, new4]
    simp only [b1 m c t]
    rfl
  · rw [put_out _ _ _ _ _ h4]
    by_cases h3 : p.val = 3
    · obtain rfl : p = 3 := Fin.ext h3
      rw [put_in _ 3 _ 3 d rfl, new3]
      simp only [b1 m c t, b2 m c t]
      rfl
    · rw [put_out _ _ _ _ _ h3]
      simp only [if_neg h3, if_neg h4, Finset.sum_const_zero, add_zero]

/-- The tile after point `n`. -/
theorem stat_apply (p : Fin 8) (d : Fin 1024) : ∀ (n : ℕ) (hn : n < cfg0.N), stat m c n hn (ix3 0 p d)
    = acc (blk fun u => if p.val = 3 then a1 m c (ix2 u d) * a2 m c (ix2 u d) else if p.val = 4 then a1 m c (ix2 u d) else 0) n
  | 0, hn => by
    unfold stat acc
    exact (statOut_apply m c ⟨0, hn⟩ _ p d).trans (congrArg (· + _) (pay3_apply p d))
  | n + 1, hn => by
    rw [stat, acc, ← stat_apply p d n (Nat.lt_of_succ_lt hn)]
    refine (statOut_apply m c ⟨n + 1, hn⟩ _ p d).trans (congrArg (· + _) ?_)
    split
    · exact pay3_apply p d
    · rfl

theorem stat_last (k : Fin 3) (p : Fin 8) (d : Fin 1024) (hn : min (4 * k.val + 3) 8 < cfg0.N) : stat m c (min (4 * k.val + 3) 8) hn (ix3 0 p d) = stats (a1 m c) (a2 m c) k p d := by
  rw [stat_apply, acc_seg]
  unfold stats
  by_cases h3 : p.val = 3
  · simp only [if_pos h3]
  · by_cases h4 : p.val = 4
    · simp only [if_neg h3, if_pos h4]
    · simp only [if_neg h3, if_neg h4]
      unfold seg
      split <;> exact Finset.sum_const_zero

theorem dh_apply (t : Fin cfg0.N) (ht : t.val < 8) (r : Fin 512) (d : Fin 1024) :
    dh m c t (ix2 r d) = dx (a0 m c) (a1 m c) (a3 m c) ⟨t.val * 512 + r.val, by omega⟩ d := by
  unfold dh dx
  rw [dhOut_apply, b0, b1, b3]
  have e : (⟨t.val / 4, by omega⟩ : Fin 3) = ⟨(t.val * 512 + r.val) / 2048, by omega⟩ := Fin.ext (by dsimp only; omega)
  exact congrArg (fun k : Fin 3 => _ + _ * (1 + a3 m c (ix3 k 1 d))) e

/-- The array of derivatives. -/
theorem arr4 : (dats m 0 c).arrAt 4 cfg0.N = fun q : S4096x1024.Idx => dx (a0 m c) (a1 m c) (a3 m c) (q 0) (q 1) := by
  refine (dats m 0 c).arrAt_eq_of_covers 4 _ (by decide +kernel) fun t hf y => ?_
  obtain ⟨y, rfl⟩ : ∃ z : S512x1024.Idx, z = y := ⟨y, rfl⟩
  obtain ⟨_, _, _, _, e4, _⟩ := idx t
  have hl : (lat t).val = min t.val 7 := rfl
  have hN : (lat t).val < 8 := by omega
  idx_vars y
  rw [after0_4]
  have e : (win0_4.blk t).view.emb (ix2 y0 y1) = (ix2 ⟨(lat t).val * 512 + y0.val, by omega⟩ y1 : S4096x1024.Idx) := by
    rw [← hl] at e4
    blk_ext [e4]
  blk_simp
  refine (dh_apply m c (lat t) hN y0 y1).trans ?_
  exact Eq.trans rfl (congrArg (fun q : S4096x1024.Idx => dx (a0 m c) (a1 m c) (a3 m c) (q 0) (q 1)) e).symm

/-- The array of sums. -/
theorem arr5 : (dats m 0 c).arrAt 5 cfg0.N = fun q : S3x8x1024.Idx => stats (a1 m c) (a2 m c) (q 0) (q 1) (q 2) := by
  refine (dats m 0 c).arrAt_eq_of_covers 5 _ (by decide +kernel) fun t hf y => ?_
  obtain ⟨y, rfl⟩ : ∃ z : S1x8x1024.Idx, z = y := ⟨y, rfl⟩
  obtain ⟨_, _, _, _, _, e5, hl⟩ := idx t
  have hN : t.val < 9 := t.isLt
  obtain ⟨k, hk⟩ : ∃ k : Fin 3, k.val = t.val / 4 := ⟨⟨t.val / 4, by omega⟩, rfl⟩
  have hl := hl hf
  rw [← hk] at hl
  idx_vars y
  rw [after0_5]
  have e : (win0_5.blk t).view.emb (ix3 y0 y1 y2) = (ix3 k y1 y2 : S3x8x1024.Idx) := by
    rw [← hk] at e5
    blk_ext [e5]
  blk_simp
  obtain rfl : y0 = 0 := Fin.ext (by omega)
  refine Eq.trans ?_ (congrArg (fun q : S3x8x1024.Idx => stats (a1 m c) (a2 m c) (q 0) (q 1) (q 2)) e).symm
  refine Eq.trans ?_ (stat_last m c k y1 y2 (hl ▸ t.isLt))
  exact congrArg (fun s : Fin cfg0.N => stat m c s.val s.isLt (ix3 0 y1 y2)) (Fin.ext hl : t = ⟨min (4 * k.val + 3) 8, hl ▸ t.isLt⟩)

/-- The call ends with the derivatives and the sums, and its arguments unchanged. -/
theorem run_entries (ρ : Dev nD → PrngReg) : θ_run defs (onTc (τ := τ) (main (F := Ideal))) ⟨m, fun _ => 0, ρ⟩ fun r => ∀ c : Dev nD,
      r.2.mem ((c.tc : Thread nD τ).loc main_v0_0) = (fun q : S4096x1024.Idx => dx (m ((c.tc : Thread nD τ).loc main_arg0)) (m ((c.tc : Thread nD τ).loc main_arg1)) (m ((c.tc : Thread nD τ).loc main_arg3)) (q 0) (q 1))
      ∧ r.2.mem ((c.tc : Thread nD τ).loc main_v0_1) = (fun q : S3x8x1024.Idx => stats (m ((c.tc : Thread nD τ).loc main_arg1)) (m ((c.tc : Thread nD τ).loc main_arg2)) (q 0) (q 1) (q 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (arr4 m c), ((h.1 c).1 5).trans (arr5 m c), h.2.1 c⟩)
    (θ_run_and (run_main m ρ) (frame m ρ))

end Cert.Kernel43Ideal.Hand

namespace Cert.Reference43Ideal.Value

open Cert.Mod Cert.Reference43Ideal Cert.Reference43Ideal.Gen Idealize.ShloMosaic Idealize.ShloMosaic.TcCoe Idealize.SL.Sem

variable (m : (ℓ : Loc nD τ sig) → Buf (Elt Ideal) ℓ) (ρ : Dev nD → PrngReg)

/-- The sums of the latents' segments next to the context's. -/
theorem segs {x : FVec Ideal S2x1x1024 .f32} {y : FVec Ideal S1x1x1024 .f32} (f : Fin 4608 → EReal) (k : Fin 3) (d : Fin 1024)
    (hx : ∀ k : Fin 2, x (ix3 k 0 d) = ∑ r : Fin 2048, f ⟨k.val * 2048 + r.val, by omega⟩) (hy : y (ix3 0 0 d) = ∑ r : Fin 512, f ⟨4096 + r.val, by omega⟩) :
    concatenate S3x1x1024 0 [⟨S2x1x1024, x⟩, ⟨S1x1x1024, y⟩] concatenates_S2x1x1024_S1x1x1024_S3x1x1024_d0 (ix3 k 0 d) = seg f k := by
  unfold seg
  split
  case isTrue hk =>
    exact (concatenate_pair_apply_left (t := S3x1x1024) (s₁ := S2x1x1024) (s₂ := S1x1x1024) _ _ _ _ (ix3 k 0 d) rfl (ix3 (⟨k.val, hk⟩ : Fin 2) 0 d) (fun b => by fin_cases b <;> rfl)).trans (hx ⟨k.val, hk⟩)
  case isFalse hk =>
    refine (concatenate_pair_apply_right (t := S3x1x1024) (s₁ := S2x1x1024) (s₂ := S1x1x1024) _ _ _ _ (ix3 k 0 d) rfl rfl (ix3 0 0 d) (fun b hb => ?_) ?_).trans hy
    · fin_cases b
      · exact absurd rfl hb
      · rfl
      · rfl
    · show 0 + 2 = k.val
      omega

/-- The two rows of sums, one above the other. -/
theorem rows2 {x y : FVec Ideal S3x1x1024 .f32} (k : Fin 3) (d : Fin 1024) :
    concatenate S3x2x1024 1 [⟨S3x1x1024, x⟩, ⟨S3x1x1024, y⟩] concatenates_S3x1x1024_S3x1x1024_S3x2x1024_d1 (ix3 k 0 d) = x (ix3 k 0 d)
    ∧ concatenate S3x2x1024 1 [⟨S3x1x1024, x⟩, ⟨S3x1x1024, y⟩] concatenates_S3x1x1024_S3x1x1024_S3x2x1024_d1 (ix3 k 1 d) = y (ix3 k 0 d) := by
  refine ⟨concatenate_pair_apply_left (t := S3x2x1024) (s₁ := S3x1x1024) (s₂ := S3x1x1024) _ _ _ _ (ix3 k 0 d) rfl (ix3 k 0 d) (fun b => by fin_cases b <;> rfl),
    concatenate_pair_apply_right (t := S3x2x1024) (s₁ := S3x1x1024) (s₂ := S3x1x1024) _ _ _ _ (ix3 k 1 d) rfl rfl (ix3 k 0 d) (fun b hb => ?_) rfl⟩
  fin_cases b
  · rfl
  · exact absurd rfl hb
  · rfl

/-- The reference ends with the derivatives and the sums, and its arguments unchanged. -/
theorem run_entries : θ_run defs (onTc (τ := τ) (main (F := Ideal))) ⟨m, fun _ => 0, ρ⟩ fun r => ∀ c : Dev nD,
      r.2.mem ((c.tc : Thread nD τ).loc main_v51) = (fun q : S4096x1024.Idx => dx (m ((c.tc : Thread nD τ).loc main_arg0)) (m ((c.tc : Thread nD τ).loc main_arg1)) (m ((c.tc : Thread nD τ).loc main_arg3)) (q 0) (q 1))
      ∧ r.2.mem ((c.tc : Thread nD τ).loc main_v53) = (fun q : S3x8x1024.Idx => stats (m ((c.tc : Thread nD τ).loc main_arg1)) (m ((c.tc : Thread nD τ).loc main_arg2)) (q 0) (q 1) (q 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (run m ρ)
  · clear h
    generalize (m ((c.tc : Thread nD τ).loc main_arg0) : FVec Ideal S4608x1024 .f32) = x0
    generalize (m ((c.tc : Thread nD τ).loc main_arg1) : FVec Ideal S4608x1024 .bf16) = x1
    generalize (m ((c.tc : Thread nD τ).loc main_arg3) : FVec Ideal S3x9x1024 .f32) = x3
    funext q
    idx_vars q
    show _ = dx x0 x1 x3 q0 q1
    unfold dx
    pointwise
  · clear h
    generalize (m ((c.tc : Thread nD τ).loc main_arg1) : FVec Ideal S4608x1024 .bf16) = x1
    generalize (m ((c.tc : Thread nD τ).loc main_arg2) : FVec Ideal S4608x1024 .f32) = x2
    funext q
    idx_vars q
    show _ = stats x1 x2 q0 q1 q2
    unfold stats
    by_cases h3 : q1.val = 3
    · rw [if_pos h3]
      refine (pad_apply_of_inside _ _ _ _ _ _ _ (ix3 q0 q1 q2) (ix3 q0 (0 : Fin 2) q2) (fun a => by fin_cases a <;> simp [h3])).trans ?_
      refine (rows2 q0 q2).1.trans ?_
      refine segs _ q0 q2 (fun k => ?_) ?_
      · pointwise
        exact Finset.sum_congr rfl fun _ _ => mul_comm _ _
      · pointwise
        exact Finset.sum_congr rfl fun _ _ => mul_comm _ _
    · rw [if_neg h3]
      by_cases h4 : q1.val = 4
      · rw [if_pos h4]
        refine (pad_apply_of_inside _ _ _ _ _ _ _ (ix3 q0 q1 q2) (ix3 q0 (1 : Fin 2) q2) (fun a => by fin_cases a <;> simp [h4])).trans ?_
        refine (rows2 q0 q2).2.trans ?_
        refine segs _ q0 q2 (fun k => ?_) ?_
        · pointwise
        · pointwise
      · rw [if_neg h4]
        refine (pad_apply_of_not_inside _ _ _ _ _ _ _ (ix3 q0 q1 q2) (1 : Fin 3) (fun hh => ?_)).trans ?_
        · have := hh.1
          have := hh.2.2
          simp at *
          omega
        · show (((0#32 : BitVec 32).toInt : ℝ) : EReal) = 0
          simp

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems rfl r.2⟩) (run m ρ)

end Cert.Reference43Ideal.Value

/-- The call and the reference have the same derivatives and sums: from equal arguments they end with equal results. -/
theorem Cert.algebraic43 : Cert.algebraic_Kernel43Ideal_Reference43Ideal := by
  intro m g m' g' _ hagree
  refine ⟨_, _, Cert.Kernel43Ideal.Hand.run_entries m g, ?_⟩
  refine (Idealize.ShloMosaic.θ_run _ _ _).mono (fun r h c => ?_) (Cert.Reference43Ideal.Value.run_entries m' g')
  obtain ⟨e0, e1, e2, e3⟩ := hagree c
  have := h c
  simp only [e0, e1, e2, e3] at this ⊢
  exact this

end
-- ==== Proof.LossBits.lean ====
/-
  The loss call leaves its arguments as they were: the body is the one at the ideal numbers, on any float values.
-/
module

public import proofs.«01_k».proof.Proof.Gen.Kernel44.Launch
public import proofs.«01_k».proof.Proof.Loss

@[expose] public section

set_option maxRecDepth 16384

noncomputable section

namespace Cert.Kernel44.Hand

open Cert.Kernel44 Cert.Kernel44.Gen Idealize.ShloMosaic Idealize.ShloMosaic.TcCoe Idealize.SL.Sem

variable {F : FTy → Type} [FloatOps F] (m : (ℓ : Loc nD τ sig) → Buf (Elt F) ℓ) (ρ : Dev nD → PrngReg)

/-- The two body tables are the same, -/
theorem bodies_eq : @defs₀ F _ _ = @Cert.Kernel44Ideal.defs₀ F _ _ := by
  refine congrArg Defs.onTc (funext fun l => funext fun a => ?_)
  match l, a with
  | 0, (t, s) => rfl

/-- and so are the tables of the programs. -/
theorem defs_eq : @defs F _ _ = @Cert.Kernel44Ideal.defs F _ _ := congrArg (Pipeline.defs (pcfgs (F := F))) bodies_eq

set_option maxHeartbeats 4000000 in
/-- The call leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.Kernel44Ideal.Hand.frame (F := F) m ρ

end Cert.Kernel44.Hand

end
-- ==== Proof.Sum45.lean ====
/-
  The gradient of the vector the context is conditioned on, off the devices' packed shares: the call's sum over the
  devices and the lines after it, entry by entry, and the reference's.
-/
module

public import proofs.«01_k».proof.Proof.Gen.Kernel45.Frame
public import proofs.«01_k».proof.Proof.Gen.Kernel45Ideal.Frame
public import proofs.«01_k».proof.Proof.Gen.Reference45Ideal.Run
public import proofs.«01_k».proof.Defs
public import proofs.«01_k».proof.Proof.Mat
public import proofs.«01_k».proof.Proof.Gated
public import Idealize.ShloMosaic.Lib.Pipeline.ValueKit
public import Idealize.ShloMosaic.Lib.Quiescent
public import Idealize.ShloMosaic.Lib.ReduceAll
public import Idealize.ShloMosaic.Lib.Pointwise
public import Idealize.ShloMosaic.Lib.StableHlo.ReadAt
public import Idealize.ShloMosaic.Lib.Tactic

@[expose] public section

set_option maxRecDepth 16384

noncomputable section

namespace Cert.CCtx

open Idealize.ShloMosaic

open Cert.Gated

/-- The devices' shares of entry `j`, added. -/
def total (x : (⟨3, ![8, 784, 128]⟩ : Shape).Idx → EReal) (j : Fin 1024) : EReal :=
  Cert.Mat.shares x ⟨760 + j.val / 128, by omega⟩ ⟨j.val % 128, by omega⟩

/-- The gradient: the derivative of the product of the vector and its logistic function, at the total. -/
def grad (x : (⟨3, ![8, 784, 128]⟩ : Shape).Idx → EReal) (v : (⟨1, ![1024]⟩ : Shape).Idx → EReal) (j : Fin 1024) : EReal :=
  total x j * logi (v (ix1 j)) + v (ix1 j) * total x j * (logi (v (ix1 j)) * (1 - logi (v (ix1 j))))

/-- The kernel's spelling of the derivative is the reference's where the total is real. -/
theorem factored {a g : EReal} (ha : IsReal a) : a * (logi g * (1 + g * (1 - logi g))) = a * logi g + g * a * (logi g * (1 - logi g)) := by
  obtain ⟨a, rfl⟩ := ha
  induction g with
  | bot => rw [logi_bot]; simp
  | top =>
    have e : (1 : EReal) - 1 = 0 := by rw [show (1 : EReal) = ((1 : ℝ) : EReal) from rfl, ← EReal.coe_sub]; norm_num
    rw [logi_top, e]; simp
  | coe g =>
    rw [logi_coe, show (1 : EReal) = ((1 : ℝ) : EReal) from rfl]
    norm_cast
    ring

/-- A sum of real numbers is real. -/
theorem total_real {x : (⟨3, ![8, 784, 128]⟩ : Shape).Idx → EReal} {j : Fin 1024} (hx : ∀ p, IsReal (x (ix3 p ⟨760 + j.val / 128, by omega⟩ ⟨j.val % 128, by omega⟩))) : IsReal (total x j) := by
  unfold total Cert.Mat.shares
  refine Finset.sum_induction _ IsReal ?_ ⟨0, rfl⟩ fun k _ => hx k
  rintro _ _ ⟨a, rfl⟩ ⟨b, rfl⟩
  exact ⟨a + b, rfl⟩

end Cert.CCtx

namespace Cert.Kernel45Ideal.Value

open Cert.Mat Cert.Gated Cert.CCtx Cert.Kernel45Ideal Cert.Kernel45Ideal.Gen Idealize.ShloMosaic Idealize.ShloMosaic.TcCoe Idealize.SL.Sem

variable (m : (ℓ : Loc nD τ sig) → Buf (Elt Ideal) ℓ) (c : Dev nD)

/-- What the call's one grid point leaves: the eight shares at each index, added. -/
theorem out_block (x : Vec Ideal S8x784x128 .f32) (i : Fin 784) (j : Fin 128) : out0_1 x (ix2 i j) = shares x i j := by
  unfold out0_1
  frame_out
  unfold_payloads
  pointwise
  unfold shares
  rw [Fin.sum_univ_eight]

theorem idx : ∀ t : Fin cfg0.N, win0_0.index t = ![0, 0, 0] ∧ win0_1.index t = ![0, 0] :=
  (by decide +kernel : ∀ t : Fin grid0.N, _)

theorem iblk_eq (t : Fin cfg0.N) : (iblk m c 0 t : Vec Ideal S8x784x128 .f32) = m ((c.tc : Thread nD τ).loc main_arg0) := by
  obtain ⟨e0, _⟩ := idx t
  funext y
  idx_vars y
  blk_ext [iblk, e0]

/-- The call's array. -/
theorem arr1 : (dats m 0 c).arrAt 1 cfg0.N = fun q : S784x128.Idx => shares (m ((c.tc : Thread nD τ).loc main_arg0)) (q 0) (q 1) := by
  refine (dats m 0 c).arrAt_eq_of_covers 1 _ (by decide +kernel) fun t hf y => ?_
  obtain ⟨y, rfl⟩ : ∃ z : S784x128.Idx, z = y := ⟨y, rfl⟩
  obtain ⟨_, e1⟩ := idx t
  idx_vars y
  rw [after0_1, iblk_eq]
  have e : (win0_1.blk t).view.emb (ix2 y0 y1) = (ix2 y0 y1 : S784x128.Idx) := by
    blk_ext [e1]
  blk_simp
  refine (out_block _ y0 y1).trans ?_
  exact Eq.trans rfl (congrArg (fun q : S784x128.Idx => shares (m ((c.tc : Thread nD τ).loc main_arg0)) (q 0) (q 1)) e).symm

/-- The host's spelling of the logistic function, -/
def sg (v : FVec Ideal S1024 .f32) : FVec Ideal S1024 .f32 :=
  Host.divf (broadcastInDim S1024 ![] bcast_S_S1024 (constant S_ .f32 0x3F800000#32)) (addf (broadcastInDim S1024 ![] bcast_S_S1024 (constant S_ .f32 0x3F800000#32)) (Host.exp (Host.negf v)))

/-- and its lines after the call, on any array. -/
def lines (x : FVec Ideal S784x128 .f32) (v : FVec Ideal S1024 .f32) : FVec Ideal S1024 .f32 :=
  mulf (shapeCast S1024 (extractStridedSlice S8x128 ![760, 0] x slices_S784x128_S8x128_760_0) shapeCasts_S8x128_S1024)
    (mulf (sg v) (addf (broadcastInDim S1024 ![] bcast_S_S1024 (constant S_ .f32 0x3F800000#32)) (mulf v (subf (broadcastInDim S1024 ![] bcast_S_S1024 (constant S_ .f32 0x3F800000#32)) (sg v)))))

theorem lines_apply (x : FVec Ideal S784x128 .f32) (v : FVec Ideal S1024 .f32) (j : Fin 1024) :
    lines x v (ix1 j) = x (ix2 ⟨760 + j.val / 128, by omega⟩ ⟨j.val % 128, by omega⟩) * (logi (v (ix1 j)) * (1 + v (ix1 j) * (1 - logi (v (ix1 j))))) := by
  unfold lines sg logi
  pointwise

theorem after_lines (W : Valuation τ sig (Elt Ideal)) : StableHlo.after [hostOps1].flatten W (Proc.devRef .tc main_v15) = lines (W (Proc.devRef .tc main_v0) : FVec Ideal S784x128 .f32) (W (Proc.devRef .tc main_arg1) : FVec Ideal S1024 .f32) := by
  simp only [hostOps1, List.flatten_cons, List.flatten_nil, List.cons_append, List.nil_append]
  after_results_simp
  rfl

theorem tail (hr : ∀ j, IsReal (total (m ((c.tc : Thread nD τ).loc main_arg0)) j)) : Pipeline.afterTail₀ cfgs (dats m) 0 (V0 m) [hostOps1] c main_v15
    = fun q : S1024.Idx => grad (m ((c.tc : Thread nD τ).loc main_arg0)) (m ((c.tc : Thread nD τ).loc main_arg1)) (q 0) := by
  refine (after_lines _).trans ?_
  refine (congrArg₂ lines ((Pipeline.withArrays_arr spec0 launch0.win.arr_inj c _ _ 1).trans (arr1 m c))
    ((Pipeline.withArrays_of_ne _ c (V0 m c) _ main_arg1 (by exact (by decide : ∀ w, Pipeline.arrRef spec0 w ≠ main_arg1))).trans (V_main_arg1 m c))).trans ?_
  funext q
  idx_vars q
  exact (lines_apply _ _ q0).trans (factored (hr q0))

/-- What the precondition says of the shares. -/
theorem real_totals [Cert.Pre_finite_shares.Facts] (h : Cert.Pre_Kernel45Ideal_finite_shares m) (j : Fin 1024) : IsReal (total (m ((c.tc : Thread nD τ).loc main_arg0)) j) := by
  have h := congrFun (h c) (fun a => a.elim0)
  haveI : Subsingleton Cert.Pre_finite_shares.S_.Idx := ⟨fun _ _ => funext fun a => a.elim0⟩
  refine total_real fun p => ?_
  have e : extractStridedSlice Cert.Pre_finite_shares.S8x8x128 ![0, 760, 0] (m ((c.tc : Thread nD τ).loc main_arg0)) Cert.Pre_finite_shares.Facts.slices_S8x784x128_S8x8x128_0_760_0 (ix3 p ⟨j.val / 128, by omega⟩ ⟨j.val % 128, by omega⟩)
      = m ((c.tc : Thread nD τ).loc main_arg0) (ix3 p ⟨760 + j.val / 128, by omega⟩ ⟨j.val % 128, by omega⟩) := by pointwise
  rw [← e]
  exact isReal_of_abs_lt (Host.reduce_andi_all _ _ _ _ _ h (ix3 p ⟨j.val / 128, by omega⟩ ⟨j.val % 128, by omega⟩))

omit c in
/-- The call and the lines after it end with the gradient and the arguments unchanged, where the shares are real. -/
theorem run_entries (hr : ∀ (c : Dev nD) (j : Fin 1024), IsReal (total (m ((c.tc : Thread nD τ).loc main_arg0)) j)) (ρ : Dev nD → PrngReg) : θ_run defs (onTc (τ := τ) (main (F := Ideal))) ⟨m, fun _ => 0, ρ⟩ fun r => ∀ c : Dev nD,
      r.2.mem ((c.tc : Thread nD τ).loc main_v15) = (fun q : S1024.Idx => grad (m ((c.tc : Thread nD τ).loc main_arg0)) (m ((c.tc : Thread nD τ).loc main_arg1)) (q 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v15 (Pipeline.mem_restRefs_of main_v15 (by decide) (by decide))).trans (tail m c (hr c)), h.2 c⟩)
    (θ_run_and (run_main m ρ) (unchanged m ρ))

end Cert.Kernel45Ideal.Value

namespace Cert.Reference45Ideal.Value

open Cert.Mat Cert.Gated Cert.CCtx Cert.Reference45Ideal Cert.Reference45Ideal.Gen Idealize.ShloMosaic Idealize.ShloMosaic.TcCoe Idealize.SL.Sem

variable (m : (ℓ : Loc nD τ sig) → Buf (Elt Ideal) ℓ) (ρ : Dev nD → PrngReg)

/-- The reference ends with the gradient and its arguments unchanged. -/
theorem run_entries : θ_run defs (onTc (τ := τ) (main (F := Ideal))) ⟨m, fun _ => 0, ρ⟩ fun r => ∀ c : Dev nD,
      r.2.mem ((c.tc : Thread nD τ).loc main_v4) = (fun q : S1024.Idx => grad (m ((c.tc : Thread nD τ).loc main_arg0)) (m ((c.tc : Thread nD τ).loc main_arg1)) (q 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by funext q; idx_vars q; pointwise; rfl), (h c).2⟩) (run m ρ)

/-- The reference's run, its arguments kept and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (run m ρ)

end Cert.Reference45Ideal.Value

/-- The call and the reference have the same gradient where the shares are real: from equal arguments they end with equal results. -/
theorem Cert.algebraic45 [Cert.Pre_finite_shares.Facts] : Cert.algebraic_Kernel45Ideal_Reference45Ideal_pre_finite_shares := by
  intro m g m' g' hpre hagree
  refine ⟨_, Cert.Kernel45Ideal.Value.run_entries m (fun c => Cert.Kernel45Ideal.Value.real_totals m c hpre) g, ?_⟩
  refine (Idealize.ShloMosaic.θ_run _ _ _).mono (fun r h c => ?_) (Cert.Reference45Ideal.Value.run_entries m' g')
  obtain ⟨e0, e1⟩ := hagree c
  have := h c
  simp only [e0, e1] at this ⊢
  exact this

end
-- ==== Proof.lean ====
module

public import proofs.«01_k».proof.Defs
public import proofs.«01_k».proof.Proof.Pool
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Reference41Ideal
public import proofs.«01_k».proof.Proof.Gen.Reference41Ideal.Run
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Kernel43
public import proofs.«01_k».proof.Proof.Gen.Kernel43Ideal
public import proofs.«01_k».proof.Proof.Gen.Reference43Ideal
public import proofs.«01_k».proof.Proof.Gen.Kernel44
public import proofs.«01_k».proof.Proof.Gen.Kernel44Ideal
public import proofs.«01_k».proof.Proof.Gen.Reference44Ideal
public import proofs.«01_k».proof.Proof.Gen.Kernel45
public import proofs.«01_k».proof.Proof.Gen.Kernel45Ideal
public import proofs.«01_k».proof.Proof.Gen.Reference45Ideal
public import proofs.«01_k».proof.Proof.Gen.Pre_finite
public import proofs.«01_k».proof.Proof.Gen.Pre_finite_shares
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.B
public import proofs.«01_k».proof.Proof.F
public import proofs.«01_k».proof.Proof.Dw3
public import proofs.«01_k».proof.Proof.Dw4
public import proofs.«01_k».proof.Proof.Dw5
public import proofs.«01_k».proof.Proof.Adam7
public import proofs.«01_k».proof.Proof.Adam8
public import proofs.«01_k».proof.Proof.Adam9
public import proofs.«01_k».proof.Proof.Adam10
public import proofs.«01_k».proof.Proof.Adam11
public import proofs.«01_k».proof.Proof.Adam12
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.Adam18
public import proofs.«01_k».proof.Proof.Adam19
public import proofs.«01_k».proof.Proof.Adam20
public import proofs.«01_k».proof.Proof.Adam21
public import proofs.«01_k».proof.Proof.Adam22
public import proofs.«01_k».proof.Proof.Mat23
public import proofs.«01_k».proof.Proof.Mat24
public import proofs.«01_k».proof.Proof.Mat25
public import proofs.«01_k».proof.Proof.Mat26
public import proofs.«01_k».proof.Proof.Mat27
public import proofs.«01_k».proof.Proof.Mat28
public import proofs.«01_k».proof.Proof.Mat29
public import proofs.«01_k».proof.Proof.Mat30
public import proofs.«01_k».proof.Proof.Mat31
public import proofs.«01_k».proof.Proof.Mat32
public import proofs.«01_k».proof.Proof.Mat33
public import proofs.«01_k».proof.Proof.Mat34
public import proofs.«01_k».proof.Proof.Sum35
public import proofs.«01_k».proof.Proof.Sum36
public import proofs.«01_k».proof.Proof.Sum37
public import proofs.«01_k».proof.Proof.Sum38
public import proofs.«01_k».proof.Proof.Sum39
public import proofs.«01_k».proof.Proof.Sum40
public import proofs.«01_k».proof.Proof.Sum41
public import proofs.«01_k».proof.Proof.Sum42
public import proofs.«01_k».proof.Proof.ModBits
public import proofs.«01_k».proof.Proof.ModValue
public import proofs.«01_k».proof.Proof.LossBits
public import proofs.«01_k».proof.Proof.LossValue
public import proofs.«01_k».proof.Proof.Sum45
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Pre_finite.Gen.facts, Cert.Pre_finite_shares.Gen.facts, fun m ρ _ => Cert.Kernel.Gen.frame m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    fun m ρ _ => Cert.Kernel2.Gen.frame m ρ,
    fun m ρ _ => Cert.Kernel2Ideal.Gen.frame m ρ,
    fun m ρ _ => Cert.Reference2Ideal.Value.frame m ρ,
    fun m ρ _ => Cert.Kernel3.Gen.frame m ρ,
    fun m ρ _ => Cert.Kernel3Ideal.Gen.frame m ρ,
    fun m ρ _ => Cert.Reference3Ideal.Value.frame m ρ,
    fun m ρ _ => Cert.Kernel4.Gen.frame m ρ,
    fun m ρ _ => Cert.Kernel4Ideal.Gen.frame m ρ,
    fun m ρ _ => Cert.Reference4Ideal.Value.frame m ρ,
    fun m ρ _ => Cert.Kernel5.Gen.frame m ρ,
    fun m ρ _ => Cert.Kernel5Ideal.Gen.frame m ρ,
    fun m ρ _ => Cert.Reference5Ideal.Value.frame m ρ,
    fun m ρ _ => Cert.Kernel6.Gen.frame m ρ,
    fun m ρ _ => Cert.Kernel6Ideal.Gen.frame m ρ,
    fun m ρ _ => Cert.Reference6Ideal.Value.frame m ρ,
    fun m ρ _ => Cert.Kernel7.Gen.frame m ρ,
    fun m ρ _ => Cert.Kernel7Ideal.Gen.frame m ρ,
    fun m ρ _ => Cert.Reference7Ideal.Value.frame m ρ,
    fun m ρ _ => Cert.Kernel8.Gen.frame m ρ,
    fun m ρ _ => Cert.Kernel8Ideal.Gen.frame m ρ,
    fun m ρ _ => Cert.Reference8Ideal.Value.frame m ρ,
    fun m ρ _ => Cert.Kernel9.Gen.frame m ρ,
    fun m ρ _ => Cert.Kernel9Ideal.Gen.frame m ρ,
    fun m ρ _ => Cert.Reference9Ideal.Value.frame m ρ,
    fun m ρ _ => Cert.Kernel10.Gen.frame m ρ,
    fun m ρ _ => Cert.Kernel10Ideal.Gen.frame m ρ,
    fun m ρ _ => Cert.Reference10Ideal.Value.frame m ρ,
    fun m ρ _ => Cert.Kernel11.Gen.frame m ρ,
    fun m ρ _ => Cert.Kernel11Ideal.Gen.frame m ρ,
    fun m ρ _ => Cert.Reference11Ideal.Value.frame m ρ,
    fun m ρ _ => Cert.Kernel12.Gen.frame m ρ,
    fun m ρ _ => Cert.Kernel12Ideal.Gen.frame m ρ,
    fun m ρ _ => Cert.Reference12Ideal.Value.frame m ρ,
    fun m ρ _ => Cert.Kernel13.Gen.frame m ρ,
    fun m ρ _ => Cert.Kernel13Ideal.Gen.frame m ρ,
    fun m ρ _ => Cert.Reference13Ideal.Value.frame m ρ,
    fun m ρ _ => Cert.Kernel14.Gen.frame m ρ,
    fun m ρ _ => Cert.Kernel14Ideal.Gen.frame m ρ,
    fun m ρ _ => Cert.Reference14Ideal.Value.frame m ρ,
    fun m ρ _ => Cert.Kernel15.Gen.frame m ρ,
    fun m ρ _ => Cert.Kernel15Ideal.Gen.frame m ρ,
    fun m ρ _ => Cert.Reference15Ideal.Value.frame m ρ,
    fun m ρ _ => Cert.Kernel16.Gen.frame m ρ,
    fun m ρ _ => Cert.Kernel16Ideal.Gen.frame m ρ,
    fun m ρ _ => Cert.Reference16Ideal.Value.frame m ρ,
    fun m ρ _ => Cert.Kernel17.Gen.frame m ρ,
    fun m ρ _ => Cert.Kernel17Ideal.Gen.frame m ρ,
    fun m ρ _ => Cert.Reference17Ideal.Value.frame m ρ,
    fun m ρ _ => Cert.Kernel18.Gen.frame m ρ,
    fun m ρ _ => Cert.Kernel18Ideal.Gen.frame m ρ,
    fun m ρ _ => Cert.Reference18Ideal.Value.frame m ρ,
    fun m ρ _ => Cert.Kernel19.Gen.frame m ρ,
    fun m ρ _ => Cert.Kernel19Ideal.Gen.frame m ρ,
    fun m ρ _ => Cert.Reference19Ideal.Value.frame m ρ,
    fun m ρ _ => Cert.Kernel20.Gen.frame m ρ,
    fun m ρ _ => Cert.Kernel20Ideal.Gen.frame m ρ,
    fun m ρ _ => Cert.Reference20Ideal.Value.frame m ρ,
    fun m ρ _ => Cert.Kernel21.Gen.frame m ρ,
    fun m ρ _ => Cert.Kernel21Ideal.Gen.frame m ρ,
    fun m ρ _ => Cert.Reference21Ideal.Value.frame m ρ,
    fun m ρ _ => Cert.Kernel22.Gen.frame m ρ,
    fun m ρ _ => Cert.Kernel22Ideal.Gen.frame m ρ,
    fun m ρ _ => Cert.Reference22Ideal.Value.frame m ρ,
    fun m ρ _ => Cert.Kernel23.Gen.frame m ρ,
    fun m ρ _ => Cert.Kernel23Ideal.Gen.frame m ρ,
    fun m ρ _ => Cert.Reference23Ideal.Value.frame m ρ,
    fun m ρ _ => Cert.Kernel24.Gen.frame m ρ,
    fun m ρ _ => Cert.Kernel24Ideal.Gen.frame m ρ,
    fun m ρ _ => Cert.Reference24Ideal.Value.frame m ρ,
    fun m ρ _ => Cert.Kernel25.Gen.frame m ρ,
    fun m ρ _ => Cert.Kernel25Ideal.Gen.frame m ρ,
    fun m ρ _ => Cert.Reference25Ideal.Value.frame m ρ,
    fun m ρ _ => Cert.Kernel26.Gen.frame m ρ,
    fun m ρ _ => Cert.Kernel26Ideal.Gen.frame m ρ,
    fun m ρ _ => Cert.Reference26Ideal.Value.frame m ρ,
    fun m ρ _ => Cert.Kernel27.Gen.frame m ρ,
    fun m ρ _ => Cert.Kernel27Ideal.Gen.frame m ρ,
    fun m ρ _ => Cert.Reference27Ideal.Value.frame m ρ,
    fun m ρ _ => Cert.Kernel28.Gen.frame m ρ,
    fun m ρ _ => Cert.Kernel28Ideal.Gen.frame m ρ,
    fun m ρ _ => Cert.Reference28Ideal.Value.frame m ρ,
    fun m ρ _ => Cert.Kernel29.Gen.frame m ρ,
    fun m ρ _ => Cert.Kernel29Ideal.Gen.frame m ρ,
    fun m ρ _ => Cert.Reference29Ideal.Value.frame m ρ,
    fun m ρ _ => Cert.Kernel30.Gen.frame m ρ,
    fun m ρ _ => Cert.Kernel30Ideal.Gen.frame m ρ,
    fun m ρ _ => Cert.Reference30Ideal.Value.frame m ρ,
    fun m ρ _ => Cert.Kernel31.Gen.frame m ρ,
    fun m ρ _ => Cert.Kernel31Ideal.Gen.frame m ρ,
    fun m ρ _ => Cert.Reference31Ideal.Value.frame m ρ,
    fun m ρ _ => Cert.Kernel32.Gen.frame m ρ,
    fun m ρ _ => Cert.Kernel32Ideal.Gen.frame m ρ,
    fun m ρ _ => Cert.Reference32Ideal.Value.frame m ρ,
    fun m ρ _ => Cert.Kernel33.Gen.frame m ρ,
    fun m ρ _ => Cert.Kernel33Ideal.Gen.frame m ρ,
    fun m ρ _ => Cert.Reference33Ideal.Value.frame m ρ,
    fun m ρ _ => Cert.Kernel34.Gen.frame m ρ,
    fun m ρ _ => Cert.Kernel34Ideal.Gen.frame m ρ,
    fun m ρ _ => Cert.Reference34Ideal.Value.frame m ρ,
    fun m ρ _ => Cert.Kernel35.Gen.frame m ρ,
    fun m ρ _ => Cert.Kernel35Ideal.Gen.frame m ρ,
    fun m ρ _ => Cert.Reference35Ideal.Value.frame m ρ,
    fun m ρ _ => Cert.Kernel36.Gen.frame m ρ,
    fun m ρ _ => Cert.Kernel36Ideal.Gen.frame m ρ,
    fun m ρ _ => Cert.Reference36Ideal.Value.frame m ρ,
    fun m ρ _ => Cert.Kernel37.Gen.frame m ρ,
    fun m ρ _ => Cert.Kernel37Ideal.Gen.frame m ρ,
    fun m ρ _ => Cert.Reference37Ideal.Value.frame m ρ,
    fun m ρ _ => Cert.Kernel38.Gen.frame m ρ,
    fun m ρ _ => Cert.Kernel38Ideal.Gen.frame m ρ,
    fun m ρ _ => Cert.Reference38Ideal.Value.frame m ρ,
    fun m ρ _ => Cert.Kernel39.Gen.frame m ρ,
    fun m ρ _ => Cert.Kernel39Ideal.Gen.frame m ρ,
    fun m ρ _ => Cert.Reference39Ideal.Value.frame m ρ,
    fun m ρ _ => Cert.Kernel40.Gen.frame m ρ,
    fun m ρ _ => Cert.Kernel40Ideal.Gen.frame m ρ,
    fun m ρ _ => Cert.Reference40Ideal.Value.frame m ρ,
    fun m ρ _ => Cert.Kernel41.Gen.frame m ρ,
    fun m ρ _ => Cert.Kernel41Ideal.Gen.frame m ρ,
    fun m ρ _ => Cert.Reference41Ideal.Value.frame m ρ,
    fun m ρ _ => Cert.Kernel42.Gen.frame m ρ,
    fun m ρ _ => Cert.Kernel42Ideal.Gen.frame m ρ,
    fun m ρ _ => Cert.Reference42Ideal.Value.frame m ρ,
    fun m ρ _ => Cert.Kernel43.Hand.frame m ρ,
    fun m ρ _ => Cert.Kernel43Ideal.Hand.frame m ρ,
    fun m ρ _ => Cert.Reference43Ideal.Value.frame m ρ,
    fun m ρ _ => Cert.Kernel44.Hand.frame m ρ,
    fun m ρ _ => Cert.Kernel44Ideal.Hand.frame m ρ,
    fun m ρ _ => Cert.Reference44Ideal.Value.frame m ρ,
    fun m ρ _ => Cert.Kernel45.Gen.frame m ρ,
    fun m ρ _ => Cert.Kernel45Ideal.Gen.frame m ρ,
    fun m ρ _ => Cert.Kernel45Ideal.Gen.frame m ρ,
    fun m ρ _ => Cert.Reference45Ideal.Value.frame m ρ,
    fun m ρ _ => Cert.Reference45Ideal.Value.frame m ρ,
    trivial,
    Cert.algebraic1,
    trivial,
    Cert.algebraic2,
    trivial,
    Cert.algebraic3,
    trivial,
    Cert.algebraic4,
    trivial,
    Cert.algebraic5,
    trivial,
    Cert.algebraic6,
    trivial,
    Cert.algebraic7,
    trivial,
    Cert.algebraic8,
    trivial,
    Cert.algebraic9,
    trivial,
    Cert.algebraic10,
    trivial,
    Cert.algebraic11,
    trivial,
    Cert.algebraic12,
    trivial,
    Cert.algebraic13,
    trivial,
    Cert.algebraic14,
    trivial,
    Cert.algebraic15,
    trivial,
    Cert.algebraic16,
    trivial,
    Cert.algebraic17,
    trivial,
    Cert.algebraic18,
    trivial,
    Cert.algebraic19,
    trivial,
    Cert.algebraic20,
    trivial,
    Cert.algebraic21,
    trivial,
    Cert.algebraic22,
    trivial, Cert.algebraic23,
    trivial, Cert.algebraic24,
    trivial, Cert.algebraic25,
    trivial, Cert.algebraic26,
    trivial, Cert.algebraic27,
    trivial, Cert.algebraic28,
    trivial, Cert.algebraic29,
    trivial, Cert.algebraic30,
    trivial, Cert.algebraic31,
    trivial, Cert.algebraic32,
    trivial, Cert.algebraic33,
    trivial, Cert.algebraic34,
    trivial, Cert.algebraic35,
    trivial, Cert.algebraic36,
    trivial, Cert.algebraic37,
    trivial, Cert.algebraic38,
    trivial, Cert.algebraic39,
    trivial, Cert.algebraic40,
    trivial, Cert.algebraic41,
    trivial, Cert.algebraic42,
    trivial,
    Cert.algebraic43,
    trivial,
    Cert.algebraic44,
    trivial,
    Cert.algebraic45⟩

end Cert.Proof

end
